-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_c [hPre_finite_c : Cert.Pre_finite_c.Facts] (m : (ℓ : Loc Cert.KernelIdeal.nD Cert.KernelIdeal.τ Cert.KernelIdeal.sig) → Buf (Elt Ideal) ℓ) : Prop :=
  ∀ c : Dev Cert.KernelIdeal.nD,
    (Cert.Pre_finite_c.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_c [hPre_finite_c : Cert.Pre_finite_c.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_c.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_KernelB (m : (ℓ : Loc Cert.KernelB.nD Cert.KernelB.τ Cert.KernelB.sig) → Buf (Elt Bits) ℓ) : Prop :=
  True

def Pre_KernelBIdeal (m : (ℓ : Loc Cert.KernelBIdeal.nD Cert.KernelBIdeal.τ Cert.KernelBIdeal.sig) → Buf (Elt Ideal) ℓ) : Prop :=
  True

def Pre_KernelBIdeal_finite_b [hPre_finite_b : Cert.Pre_finite_b.Facts] (m : (ℓ : Loc Cert.KernelBIdeal.nD Cert.KernelBIdeal.τ Cert.KernelBIdeal.sig) → Buf (Elt Ideal) ℓ) : Prop :=
  ∀ c : Dev Cert.KernelBIdeal.nD,
    (Cert.Pre_finite_b.fn (F := Ideal) (m ((c.tc : Thread Cert.KernelBIdeal.nD Cert.KernelBIdeal.τ).loc Cert.KernelBIdeal.main_arg0)) (m ((c.tc : Thread Cert.KernelBIdeal.nD Cert.KernelBIdeal.τ).loc Cert.KernelBIdeal.main_arg1)) (m ((c.tc : Thread Cert.KernelBIdeal.nD Cert.KernelBIdeal.τ).loc Cert.KernelBIdeal.main_arg2)) (m ((c.tc : Thread Cert.KernelBIdeal.nD Cert.KernelBIdeal.τ).loc Cert.KernelBIdeal.main_arg3)) (m ((c.tc : Thread Cert.KernelBIdeal.nD Cert.KernelBIdeal.τ).loc Cert.KernelBIdeal.main_arg4))) = (fun _ => 1#1)

def Pre_ReferenceBIdeal (m : (ℓ : Loc Cert.ReferenceBIdeal.nD Cert.ReferenceBIdeal.τ Cert.ReferenceBIdeal.sig) → Buf (Elt Ideal) ℓ) : Prop :=
  True

def Pre_ReferenceBIdeal_finite_b [hPre_finite_b : Cert.Pre_finite_b.Facts] (m : (ℓ : Loc Cert.ReferenceBIdeal.nD Cert.ReferenceBIdeal.τ Cert.ReferenceBIdeal.sig) → Buf (Elt Ideal) ℓ) : Prop :=
  ∀ c : Dev Cert.ReferenceBIdeal.nD,
    (Cert.Pre_finite_b.fn (F := Ideal) (m ((c.tc : Thread Cert.ReferenceBIdeal.nD Cert.ReferenceBIdeal.τ).loc Cert.ReferenceBIdeal.main_arg0)) (m ((c.tc : Thread Cert.ReferenceBIdeal.nD Cert.ReferenceBIdeal.τ).loc Cert.ReferenceBIdeal.main_arg1)) (m ((c.tc : Thread Cert.ReferenceBIdeal.nD Cert.ReferenceBIdeal.τ).loc Cert.ReferenceBIdeal.main_arg2)) (m ((c.tc : Thread Cert.ReferenceBIdeal.nD Cert.ReferenceBIdeal.τ).loc Cert.ReferenceBIdeal.main_arg3)) (m ((c.tc : Thread Cert.ReferenceBIdeal.nD Cert.ReferenceBIdeal.τ).loc Cert.ReferenceBIdeal.main_arg4))) = (fun _ => 1#1)

def Pre_KernelA (m : (ℓ : Loc Cert.KernelA.nD Cert.KernelA.τ Cert.KernelA.sig) → Buf (Elt Bits) ℓ) : Prop :=
  True

def Pre_KernelAIdeal (m : (ℓ : Loc Cert.KernelAIdeal.nD Cert.KernelAIdeal.τ Cert.KernelAIdeal.sig) → Buf (Elt Ideal) ℓ) : Prop :=
  True

def Pre_ReferenceAIdeal (m : (ℓ : Loc Cert.ReferenceAIdeal.nD Cert.ReferenceAIdeal.τ Cert.ReferenceAIdeal.sig) → Buf (Elt Ideal) ℓ) : Prop :=
  True

def Pre_KernelM (m : (ℓ : Loc Cert.KernelM.nD Cert.KernelM.τ Cert.KernelM.sig) → Buf (Elt Bits) ℓ) : Prop :=
  True

def Pre_KernelMIdeal (m : (ℓ : Loc Cert.KernelMIdeal.nD Cert.KernelMIdeal.τ Cert.KernelMIdeal.sig) → Buf (Elt Ideal) ℓ) : Prop :=
  True

def Pre_ReferenceMIdeal (m : (ℓ : Loc Cert.ReferenceMIdeal.nD Cert.ReferenceMIdeal.τ Cert.ReferenceMIdeal.sig) → Buf (Elt Ideal) ℓ) : Prop :=
  True

def Pre_KernelI (m : (ℓ : Loc Cert.KernelI.nD Cert.KernelI.τ Cert.KernelI.sig) → Buf (Elt Bits) ℓ) : Prop :=
  True

def Pre_KernelIIdeal (m : (ℓ : Loc Cert.KernelIIdeal.nD Cert.KernelIIdeal.τ Cert.KernelIIdeal.sig) → Buf (Elt Ideal) ℓ) : Prop :=
  True

def Pre_KernelIIdeal_finite_i [hPre_finite_i : Cert.Pre_finite_i.Facts] (m : (ℓ : Loc Cert.KernelIIdeal.nD Cert.KernelIIdeal.τ Cert.KernelIIdeal.sig) → Buf (Elt Ideal) ℓ) : Prop :=
  ∀ c : Dev Cert.KernelIIdeal.nD,
    (Cert.Pre_finite_i.fn (F := Ideal) (m ((c.tc : Thread Cert.KernelIIdeal.nD Cert.KernelIIdeal.τ).loc Cert.KernelIIdeal.main_arg0)) (m ((c.tc : Thread Cert.KernelIIdeal.nD Cert.KernelIIdeal.τ).loc Cert.KernelIIdeal.main_arg1)) (m ((c.tc : Thread Cert.KernelIIdeal.nD Cert.KernelIIdeal.τ).loc Cert.KernelIIdeal.main_arg2)) (m ((c.tc : Thread Cert.KernelIIdeal.nD Cert.KernelIIdeal.τ).loc Cert.KernelIIdeal.main_arg3)) (m ((c.tc : Thread Cert.KernelIIdeal.nD Cert.KernelIIdeal.τ).loc Cert.KernelIIdeal.main_arg4)) (m ((c.tc : Thread Cert.KernelIIdeal.nD Cert.KernelIIdeal.τ).loc Cert.KernelIIdeal.main_arg5)) (m ((c.tc : Thread Cert.KernelIIdeal.nD Cert.KernelIIdeal.τ).loc Cert.KernelIIdeal.main_arg6)) (m ((c.tc : Thread Cert.KernelIIdeal.nD Cert.KernelIIdeal.τ).loc Cert.KernelIIdeal.main_arg7)) (m ((c.tc : Thread Cert.KernelIIdeal.nD Cert.KernelIIdeal.τ).loc Cert.KernelIIdeal.main_arg8)) (m ((c.tc : Thread Cert.KernelIIdeal.nD Cert.KernelIIdeal.τ).loc Cert.KernelIIdeal.main_arg9))) = (fun _ => 1#1)

def Pre_ReferenceIIdeal (m : (ℓ : Loc Cert.ReferenceIIdeal.nD Cert.ReferenceIIdeal.τ Cert.ReferenceIIdeal.sig) → Buf (Elt Ideal) ℓ) : Prop :=
  True

def Pre_ReferenceIIdeal_finite_i [hPre_finite_i : Cert.Pre_finite_i.Facts] (m : (ℓ : Loc Cert.ReferenceIIdeal.nD Cert.ReferenceIIdeal.τ Cert.ReferenceIIdeal.sig) → Buf (Elt Ideal) ℓ) : Prop :=
  ∀ c : Dev Cert.ReferenceIIdeal.nD,
    (Cert.Pre_finite_i.fn (F := Ideal) (m ((c.tc : Thread Cert.ReferenceIIdeal.nD Cert.ReferenceIIdeal.τ).loc Cert.ReferenceIIdeal.main_arg0)) (m ((c.tc : Thread Cert.ReferenceIIdeal.nD Cert.ReferenceIIdeal.τ).loc Cert.ReferenceIIdeal.main_arg1)) (m ((c.tc : Thread Cert.ReferenceIIdeal.nD Cert.ReferenceIIdeal.τ).loc Cert.ReferenceIIdeal.main_arg2)) (m ((c.tc : Thread Cert.ReferenceIIdeal.nD Cert.ReferenceIIdeal.τ).loc Cert.ReferenceIIdeal.main_arg3)) (m ((c.tc : Thread Cert.ReferenceIIdeal.nD Cert.ReferenceIIdeal.τ).loc Cert.ReferenceIIdeal.main_arg4)) (m ((c.tc : Thread Cert.ReferenceIIdeal.nD Cert.ReferenceIIdeal.τ).loc Cert.ReferenceIIdeal.main_arg5)) (m ((c.tc : Thread Cert.ReferenceIIdeal.nD Cert.ReferenceIIdeal.τ).loc Cert.ReferenceIIdeal.main_arg6)) (m ((c.tc : Thread Cert.ReferenceIIdeal.nD Cert.ReferenceIIdeal.τ).loc Cert.ReferenceIIdeal.main_arg7)) (m ((c.tc : Thread Cert.ReferenceIIdeal.nD Cert.ReferenceIIdeal.τ).loc Cert.ReferenceIIdeal.main_arg8)) (m ((c.tc : Thread Cert.ReferenceIIdeal.nD Cert.ReferenceIIdeal.τ).loc Cert.ReferenceIIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_c [hKernelIdeal : Cert.KernelIdeal.Facts] [hPre_finite_c : Cert.Pre_finite_c.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_c m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_c [hReferenceIdeal : Cert.ReferenceIdeal.Facts] [hPre_finite_c : Cert.Pre_finite_c.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_c m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_KernelB [hKernelB : Cert.KernelB.Facts] : Prop :=
  ∀ (m : (ℓ : Loc Cert.KernelB.nD Cert.KernelB.τ Cert.KernelB.sig) → Buf (Elt Bits) ℓ) (g : Dev Cert.KernelB.nD → PrngReg), Pre_KernelB m →
    θ_run (Cert.KernelB.defs (F := Bits)) (onTc (τ := Cert.KernelB.τ) (Cert.KernelB.main (F := Bits))) ⟨m, fun _ => 0, g⟩ (fun r => (∀ c : Dev Cert.KernelB.nD,
      r.2.mem ((c.tc : Thread Cert.KernelB.nD Cert.KernelB.τ).loc Cert.KernelB.main_arg0) = m ((c.tc : Thread Cert.KernelB.nD Cert.KernelB.τ).loc Cert.KernelB.main_arg0)
      ∧ r.2.mem ((c.tc : Thread Cert.KernelB.nD Cert.KernelB.τ).loc Cert.KernelB.main_arg1) = m ((c.tc : Thread Cert.KernelB.nD Cert.KernelB.τ).loc Cert.KernelB.main_arg1)
      ∧ r.2.mem ((c.tc : Thread Cert.KernelB.nD Cert.KernelB.τ).loc Cert.KernelB.main_arg2) = m ((c.tc : Thread Cert.KernelB.nD Cert.KernelB.τ).loc Cert.KernelB.main_arg2)
      ∧ r.2.mem ((c.tc : Thread Cert.KernelB.nD Cert.KernelB.τ).loc Cert.KernelB.main_arg3) = m ((c.tc : Thread Cert.KernelB.nD Cert.KernelB.τ).loc Cert.KernelB.main_arg3)
      ∧ r.2.mem ((c.tc : Thread Cert.KernelB.nD Cert.KernelB.τ).loc Cert.KernelB.main_arg4) = m ((c.tc : Thread Cert.KernelB.nD Cert.KernelB.τ).loc Cert.KernelB.main_arg4))
      ∧ r.2.sem = fun _ => 0)

def quiescent_KernelBIdeal [hKernelBIdeal : Cert.KernelBIdeal.Facts] : Prop :=
  ∀ (m : (ℓ : Loc Cert.KernelBIdeal.nD Cert.KernelBIdeal.τ Cert.KernelBIdeal.sig) → Buf (Elt Ideal) ℓ) (g : Dev Cert.KernelBIdeal.nD → PrngReg), Pre_KernelBIdeal m →
    θ_run (Cert.KernelBIdeal.defs (F := Ideal)) (onTc (τ := Cert.KernelBIdeal.τ) (Cert.KernelBIdeal.main (F := Ideal))) ⟨m, fun _ => 0, g⟩ (fun r => (∀ c : Dev Cert.KernelBIdeal.nD,
      r.2.mem ((c.tc : Thread Cert.KernelBIdeal.nD Cert.KernelBIdeal.τ).loc Cert.KernelBIdeal.main_arg0) = m ((c.tc : Thread Cert.KernelBIdeal.nD Cert.KernelBIdeal.τ).loc Cert.KernelBIdeal.main_arg0)
      ∧ r.2.mem ((c.tc : Thread Cert.KernelBIdeal.nD Cert.KernelBIdeal.τ).loc Cert.KernelBIdeal.main_arg1) = m ((c.tc : Thread Cert.KernelBIdeal.nD Cert.KernelBIdeal.τ).loc Cert.KernelBIdeal.main_arg1)
      ∧ r.2.mem ((c.tc : Thread Cert.KernelBIdeal.nD Cert.KernelBIdeal.τ).loc Cert.KernelBIdeal.main_arg2) = m ((c.tc : Thread Cert.KernelBIdeal.nD Cert.KernelBIdeal.τ).loc Cert.KernelBIdeal.main_arg2)
      ∧ r.2.mem ((c.tc : Thread Cert.KernelBIdeal.nD Cert.KernelBIdeal.τ).loc Cert.KernelBIdeal.main_arg3) = m ((c.tc : Thread Cert.KernelBIdeal.nD Cert.KernelBIdeal.τ).loc Cert.KernelBIdeal.main_arg3)
      ∧ r.2.mem ((c.tc : Thread Cert.KernelBIdeal.nD Cert.KernelBIdeal.τ).loc Cert.KernelBIdeal.main_arg4) = m ((c.tc : Thread Cert.KernelBIdeal.nD Cert.KernelBIdeal.τ).loc Cert.KernelBIdeal.main_arg4))
      ∧ r.2.sem = fun _ => 0)

def quiescent_KernelBIdeal_pre_finite_b [hKernelBIdeal : Cert.KernelBIdeal.Facts] [hPre_finite_b : Cert.Pre_finite_b.Facts] : Prop :=
  ∀ (m : (ℓ : Loc Cert.KernelBIdeal.nD Cert.KernelBIdeal.τ Cert.KernelBIdeal.sig) → Buf (Elt Ideal) ℓ) (g : Dev Cert.KernelBIdeal.nD → PrngReg), Pre_KernelBIdeal_finite_b m →
    θ_run (Cert.KernelBIdeal.defs (F := Ideal)) (onTc (τ := Cert.KernelBIdeal.τ) (Cert.KernelBIdeal.main (F := Ideal))) ⟨m, fun _ => 0, g⟩ (fun r => (∀ c : Dev Cert.KernelBIdeal.nD,
      r.2.mem ((c.tc : Thread Cert.KernelBIdeal.nD Cert.KernelBIdeal.τ).loc Cert.KernelBIdeal.main_arg0) = m ((c.tc : Thread Cert.KernelBIdeal.nD Cert.KernelBIdeal.τ).loc Cert.KernelBIdeal.main_arg0)
      ∧ r.2.mem ((c.tc : Thread Cert.KernelBIdeal.nD Cert.KernelBIdeal.τ).loc Cert.KernelBIdeal.main_arg1) = m ((c.tc : Thread Cert.KernelBIdeal.nD Cert.KernelBIdeal.τ).loc Cert.KernelBIdeal.main_arg1)
      ∧ r.2.mem ((c.tc : Thread Cert.KernelBIdeal.nD Cert.KernelBIdeal.τ).loc Cert.KernelBIdeal.main_arg2) = m ((c.tc : Thread Cert.KernelBIdeal.nD Cert.KernelBIdeal.τ).loc Cert.KernelBIdeal.main_arg2)
      ∧ r.2.mem ((c.tc : Thread Cert.KernelBIdeal.nD Cert.KernelBIdeal.τ).loc Cert.KernelBIdeal.main_arg3) = m ((c.tc : Thread Cert.KernelBIdeal.nD Cert.KernelBIdeal.τ).loc Cert.KernelBIdeal.main_arg3)
      ∧ r.2.mem ((c.tc : Thread Cert.KernelBIdeal.nD Cert.KernelBIdeal.τ).loc Cert.KernelBIdeal.main_arg4) = m ((c.tc : Thread Cert.KernelBIdeal.nD Cert.KernelBIdeal.τ).loc Cert.KernelBIdeal.main_arg4))
      ∧ r.2.sem = fun _ => 0)

def quiescent_ReferenceBIdeal [hReferenceBIdeal : Cert.ReferenceBIdeal.Facts] : Prop :=
  ∀ (m : (ℓ : Loc Cert.ReferenceBIdeal.nD Cert.ReferenceBIdeal.τ Cert.ReferenceBIdeal.sig) → Buf (Elt Ideal) ℓ) (g : Dev Cert.ReferenceBIdeal.nD → PrngReg), Pre_ReferenceBIdeal m →
    θ_run (Cert.ReferenceBIdeal.defs (F := Ideal)) (onTc (τ := Cert.ReferenceBIdeal.τ) (Cert.ReferenceBIdeal.main (F := Ideal))) ⟨m, fun _ => 0, g⟩ (fun r => (∀ c : Dev Cert.ReferenceBIdeal.nD,
      r.2.mem ((c.tc : Thread Cert.ReferenceBIdeal.nD Cert.ReferenceBIdeal.τ).loc Cert.ReferenceBIdeal.main_arg0) = m ((c.tc : Thread Cert.ReferenceBIdeal.nD Cert.ReferenceBIdeal.τ).loc Cert.ReferenceBIdeal.main_arg0)
      ∧ r.2.mem ((c.tc : Thread Cert.ReferenceBIdeal.nD Cert.ReferenceBIdeal.τ).loc Cert.ReferenceBIdeal.main_arg1) = m ((c.tc : Thread Cert.ReferenceBIdeal.nD Cert.ReferenceBIdeal.τ).loc Cert.ReferenceBIdeal.main_arg1)
      ∧ r.2.mem ((c.tc : Thread Cert.ReferenceBIdeal.nD Cert.ReferenceBIdeal.τ).loc Cert.ReferenceBIdeal.main_arg2) = m ((c.tc : Thread Cert.ReferenceBIdeal.nD Cert.ReferenceBIdeal.τ).loc Cert.ReferenceBIdeal.main_arg2)
      ∧ r.2.mem ((c.tc : Thread Cert.ReferenceBIdeal.nD Cert.ReferenceBIdeal.τ).loc Cert.ReferenceBIdeal.main_arg3) = m ((c.tc : Thread Cert.ReferenceBIdeal.nD Cert.ReferenceBIdeal.τ).loc Cert.ReferenceBIdeal.main_arg3)
      ∧ r.2.mem ((c.tc : Thread Cert.ReferenceBIdeal.nD Cert.ReferenceBIdeal.τ).loc Cert.ReferenceBIdeal.main_arg4) = m ((c.tc : Thread Cert.ReferenceBIdeal.nD Cert.ReferenceBIdeal.τ).loc Cert.ReferenceBIdeal.main_arg4))
      ∧ r.2.sem = fun _ => 0)

def quiescent_ReferenceBIdeal_pre_finite_b [hReferenceBIdeal : Cert.ReferenceBIdeal.Facts] [hPre_finite_b : Cert.Pre_finite_b.Facts] : Prop :=
  ∀ (m : (ℓ : Loc Cert.ReferenceBIdeal.nD Cert.ReferenceBIdeal.τ Cert.ReferenceBIdeal.sig) → Buf (Elt Ideal) ℓ) (g : Dev Cert.ReferenceBIdeal.nD → PrngReg), Pre_ReferenceBIdeal_finite_b m →
    θ_run (Cert.ReferenceBIdeal.defs (F := Ideal)) (onTc (τ := Cert.ReferenceBIdeal.τ) (Cert.ReferenceBIdeal.main (F := Ideal))) ⟨m, fun _ => 0, g⟩ (fun r => (∀ c : Dev Cert.ReferenceBIdeal.nD,
      r.2.mem ((c.tc : Thread Cert.ReferenceBIdeal.nD Cert.ReferenceBIdeal.τ).loc Cert.ReferenceBIdeal.main_arg0) = m ((c.tc : Thread Cert.ReferenceBIdeal.nD Cert.ReferenceBIdeal.τ).loc Cert.ReferenceBIdeal.main_arg0)
      ∧ r.2.mem ((c.tc : Thread Cert.ReferenceBIdeal.nD Cert.ReferenceBIdeal.τ).loc Cert.ReferenceBIdeal.main_arg1) = m ((c.tc : Thread Cert.ReferenceBIdeal.nD Cert.ReferenceBIdeal.τ).loc Cert.ReferenceBIdeal.main_arg1)
      ∧ r.2.mem ((c.tc : Thread Cert.ReferenceBIdeal.nD Cert.ReferenceBIdeal.τ).loc Cert.ReferenceBIdeal.main_arg2) = m ((c.tc : Thread Cert.ReferenceBIdeal.nD Cert.ReferenceBIdeal.τ).loc Cert.ReferenceBIdeal.main_arg2)
      ∧ r.2.mem ((c.tc : Thread Cert.ReferenceBIdeal.nD Cert.ReferenceBIdeal.τ).loc Cert.ReferenceBIdeal.main_arg3) = m ((c.tc : Thread Cert.ReferenceBIdeal.nD Cert.ReferenceBIdeal.τ).loc Cert.ReferenceBIdeal.main_arg3)
      ∧ r.2.mem ((c.tc : Thread Cert.ReferenceBIdeal.nD Cert.ReferenceBIdeal.τ).loc Cert.ReferenceBIdeal.main_arg4) = m ((c.tc : Thread Cert.ReferenceBIdeal.nD Cert.ReferenceBIdeal.τ).loc Cert.ReferenceBIdeal.main_arg4))
      ∧ r.2.sem = fun _ => 0)

def quiescent_KernelA [hKernelA : Cert.KernelA.Facts] : Prop :=
  ∀ (m : (ℓ : Loc Cert.KernelA.nD Cert.KernelA.τ Cert.KernelA.sig) → Buf (Elt Bits) ℓ) (g : Dev Cert.KernelA.nD → PrngReg), Pre_KernelA m →
    θ_run (Cert.KernelA.defs (F := Bits)) (onTc (τ := Cert.KernelA.τ) (Cert.KernelA.main (F := Bits))) ⟨m, fun _ => 0, g⟩ (fun r => (∀ c : Dev Cert.KernelA.nD,
      r.2.mem ((c.tc : Thread Cert.KernelA.nD Cert.KernelA.τ).loc Cert.KernelA.main_arg0) = m ((c.tc : Thread Cert.KernelA.nD Cert.KernelA.τ).loc Cert.KernelA.main_arg0)
      ∧ r.2.mem ((c.tc : Thread Cert.KernelA.nD Cert.KernelA.τ).loc Cert.KernelA.main_arg1) = m ((c.tc : Thread Cert.KernelA.nD Cert.KernelA.τ).loc Cert.KernelA.main_arg1)
      ∧ r.2.mem ((c.tc : Thread Cert.KernelA.nD Cert.KernelA.τ).loc Cert.KernelA.main_arg2) = m ((c.tc : Thread Cert.KernelA.nD Cert.KernelA.τ).loc Cert.KernelA.main_arg2)
      ∧ r.2.mem ((c.tc : Thread Cert.KernelA.nD Cert.KernelA.τ).loc Cert.KernelA.main_arg3) = m ((c.tc : Thread Cert.KernelA.nD Cert.KernelA.τ).loc Cert.KernelA.main_arg3)
      ∧ r.2.mem ((c.tc : Thread Cert.KernelA.nD Cert.KernelA.τ).loc Cert.KernelA.main_arg4) = m ((c.tc : Thread Cert.KernelA.nD Cert.KernelA.τ).loc Cert.KernelA.main_arg4)
      ∧ r.2.mem ((c.tc : Thread Cert.KernelA.nD Cert.KernelA.τ).loc Cert.KernelA.main_arg5) = m ((c.tc : Thread Cert.KernelA.nD Cert.KernelA.τ).loc Cert.KernelA.main_arg5))
      ∧ r.2.sem = fun _ => 0)

def quiescent_KernelAIdeal [hKernelAIdeal : Cert.KernelAIdeal.Facts] : Prop :=
  ∀ (m : (ℓ : Loc Cert.KernelAIdeal.nD Cert.KernelAIdeal.τ Cert.KernelAIdeal.sig) → Buf (Elt Ideal) ℓ) (g : Dev Cert.KernelAIdeal.nD → PrngReg), Pre_KernelAIdeal m →
    θ_run (Cert.KernelAIdeal.defs (F := Ideal)) (onTc (τ := Cert.KernelAIdeal.τ) (Cert.KernelAIdeal.main (F := Ideal))) ⟨m, fun _ => 0, g⟩ (fun r => (∀ c : Dev Cert.KernelAIdeal.nD,
      r.2.mem ((c.tc : Thread Cert.KernelAIdeal.nD Cert.KernelAIdeal.τ).loc Cert.KernelAIdeal.main_arg0) = m ((c.tc : Thread Cert.KernelAIdeal.nD Cert.KernelAIdeal.τ).loc Cert.KernelAIdeal.main_arg0)
      ∧ r.2.mem ((c.tc : Thread Cert.KernelAIdeal.nD Cert.KernelAIdeal.τ).loc Cert.KernelAIdeal.main_arg1) = m ((c.tc : Thread Cert.KernelAIdeal.nD Cert.KernelAIdeal.τ).loc Cert.KernelAIdeal.main_arg1)
      ∧ r.2.mem ((c.tc : Thread Cert.KernelAIdeal.nD Cert.KernelAIdeal.τ).loc Cert.KernelAIdeal.main_arg2) = m ((c.tc : Thread Cert.KernelAIdeal.nD Cert.KernelAIdeal.τ).loc Cert.KernelAIdeal.main_arg2)
      ∧ r.2.mem ((c.tc : Thread Cert.KernelAIdeal.nD Cert.KernelAIdeal.τ).loc Cert.KernelAIdeal.main_arg3) = m ((c.tc : Thread Cert.KernelAIdeal.nD Cert.KernelAIdeal.τ).loc Cert.KernelAIdeal.main_arg3)
      ∧ r.2.mem ((c.tc : Thread Cert.KernelAIdeal.nD Cert.KernelAIdeal.τ).loc Cert.KernelAIdeal.main_arg4) = m ((c.tc : Thread Cert.KernelAIdeal.nD Cert.KernelAIdeal.τ).loc Cert.KernelAIdeal.main_arg4)
      ∧ r.2.mem ((c.tc : Thread Cert.KernelAIdeal.nD Cert.KernelAIdeal.τ).loc Cert.KernelAIdeal.main_arg5) = m ((c.tc : Thread Cert.KernelAIdeal.nD Cert.KernelAIdeal.τ).loc Cert.KernelAIdeal.main_arg5))
      ∧ r.2.sem = fun _ => 0)

def quiescent_ReferenceAIdeal [hReferenceAIdeal : Cert.ReferenceAIdeal.Facts] : Prop :=
  ∀ (m : (ℓ : Loc Cert.ReferenceAIdeal.nD Cert.ReferenceAIdeal.τ Cert.ReferenceAIdeal.sig) → Buf (Elt Ideal) ℓ) (g : Dev Cert.ReferenceAIdeal.nD → PrngReg), Pre_ReferenceAIdeal m →
    θ_run (Cert.ReferenceAIdeal.defs (F := Ideal)) (onTc (τ := Cert.ReferenceAIdeal.τ) (Cert.ReferenceAIdeal.main (F := Ideal))) ⟨m, fun _ => 0, g⟩ (fun r => (∀ c : Dev Cert.ReferenceAIdeal.nD,
      r.2.mem ((c.tc : Thread Cert.ReferenceAIdeal.nD Cert.ReferenceAIdeal.τ).loc Cert.ReferenceAIdeal.main_arg0) = m ((c.tc : Thread Cert.ReferenceAIdeal.nD Cert.ReferenceAIdeal.τ).loc Cert.ReferenceAIdeal.main_arg0)
      ∧ r.2.mem ((c.tc : Thread Cert.ReferenceAIdeal.nD Cert.ReferenceAIdeal.τ).loc Cert.ReferenceAIdeal.main_arg1) = m ((c.tc : Thread Cert.ReferenceAIdeal.nD Cert.ReferenceAIdeal.τ).loc Cert.ReferenceAIdeal.main_arg1)
      ∧ r.2.mem ((c.tc : Thread Cert.ReferenceAIdeal.nD Cert.ReferenceAIdeal.τ).loc Cert.ReferenceAIdeal.main_arg2) = m ((c.tc : Thread Cert.ReferenceAIdeal.nD Cert.ReferenceAIdeal.τ).loc Cert.ReferenceAIdeal.main_arg2)
      ∧ r.2.mem ((c.tc : Thread Cert.ReferenceAIdeal.nD Cert.ReferenceAIdeal.τ).loc Cert.ReferenceAIdeal.main_arg3) = m ((c.tc : Thread Cert.ReferenceAIdeal.nD Cert.ReferenceAIdeal.τ).loc Cert.ReferenceAIdeal.main_arg3)
      ∧ r.2.mem ((c.tc : Thread Cert.ReferenceAIdeal.nD Cert.ReferenceAIdeal.τ).loc Cert.ReferenceAIdeal.main_arg4) = m ((c.tc : Thread Cert.ReferenceAIdeal.nD Cert.ReferenceAIdeal.τ).loc Cert.ReferenceAIdeal.main_arg4)
      ∧ r.2.mem ((c.tc : Thread Cert.ReferenceAIdeal.nD Cert.ReferenceAIdeal.τ).loc Cert.ReferenceAIdeal.main_arg5) = m ((c.tc : Thread Cert.ReferenceAIdeal.nD Cert.ReferenceAIdeal.τ).loc Cert.ReferenceAIdeal.main_arg5))
      ∧ r.2.sem = fun _ => 0)

def quiescent_KernelM [hKernelM : Cert.KernelM.Facts] : Prop :=
  ∀ (m : (ℓ : Loc Cert.KernelM.nD Cert.KernelM.τ Cert.KernelM.sig) → Buf (Elt Bits) ℓ) (g : Dev Cert.KernelM.nD → PrngReg), Pre_KernelM m →
    θ_run (Cert.KernelM.defs (F := Bits)) (onTc (τ := Cert.KernelM.τ) (Cert.KernelM.main (F := Bits))) ⟨m, fun _ => 0, g⟩ (fun r => (∀ c : Dev Cert.KernelM.nD,
      r.2.mem ((c.tc : Thread Cert.KernelM.nD Cert.KernelM.τ).loc Cert.KernelM.main_arg0) = m ((c.tc : Thread Cert.KernelM.nD Cert.KernelM.τ).loc Cert.KernelM.main_arg0)
      ∧ r.2.mem ((c.tc : Thread Cert.KernelM.nD Cert.KernelM.τ).loc Cert.KernelM.main_arg1) = m ((c.tc : Thread Cert.KernelM.nD Cert.KernelM.τ).loc Cert.KernelM.main_arg1)
      ∧ r.2.mem ((c.tc : Thread Cert.KernelM.nD Cert.KernelM.τ).loc Cert.KernelM.main_arg2) = m ((c.tc : Thread Cert.KernelM.nD Cert.KernelM.τ).loc Cert.KernelM.main_arg2)
      ∧ r.2.mem ((c.tc : Thread Cert.KernelM.nD Cert.KernelM.τ).loc Cert.KernelM.main_arg3) = m ((c.tc : Thread Cert.KernelM.nD Cert.KernelM.τ).loc Cert.KernelM.main_arg3)
      ∧ r.2.mem ((c.tc : Thread Cert.KernelM.nD Cert.KernelM.τ).loc Cert.KernelM.main_arg4) = m ((c.tc : Thread Cert.KernelM.nD Cert.KernelM.τ).loc Cert.KernelM.main_arg4)
      ∧ r.2.mem ((c.tc : Thread Cert.KernelM.nD Cert.KernelM.τ).loc Cert.KernelM.main_arg5) = m ((c.tc : Thread Cert.KernelM.nD Cert.KernelM.τ).loc Cert.KernelM.main_arg5)
      ∧ r.2.mem ((c.tc : Thread Cert.KernelM.nD Cert.KernelM.τ).loc Cert.KernelM.main_arg6) = m ((c.tc : Thread Cert.KernelM.nD Cert.KernelM.τ).loc Cert.KernelM.main_arg6)
      ∧ r.2.mem ((c.tc : Thread Cert.KernelM.nD Cert.KernelM.τ).loc Cert.KernelM.main_arg7) = m ((c.tc : Thread Cert.KernelM.nD Cert.KernelM.τ).loc Cert.KernelM.main_arg7)
      ∧ r.2.mem ((c.tc : Thread Cert.KernelM.nD Cert.KernelM.τ).loc Cert.KernelM.main_arg8) = m ((c.tc : Thread Cert.KernelM.nD Cert.KernelM.τ).loc Cert.KernelM.main_arg8)
      ∧ r.2.mem ((c.tc : Thread Cert.KernelM.nD Cert.KernelM.τ).loc Cert.KernelM.main_arg9) = m ((c.tc : Thread Cert.KernelM.nD Cert.KernelM.τ).loc Cert.KernelM.main_arg9)
      ∧ r.2.mem ((c.tc : Thread Cert.KernelM.nD Cert.KernelM.τ).loc Cert.KernelM.main_arg10) = m ((c.tc : Thread Cert.KernelM.nD Cert.KernelM.τ).loc Cert.KernelM.main_arg10)
      ∧ r.2.mem ((c.tc : Thread Cert.KernelM.nD Cert.KernelM.τ).loc Cert.KernelM.main_arg11) = m ((c.tc : Thread Cert.KernelM.nD Cert.KernelM.τ).loc Cert.KernelM.main_arg11)
      ∧ r.2.mem ((c.tc : Thread Cert.KernelM.nD Cert.KernelM.τ).loc Cert.KernelM.main_arg12) = m ((c.tc : Thread Cert.KernelM.nD Cert.KernelM.τ).loc Cert.KernelM.main_arg12)
      ∧ r.2.mem ((c.tc : Thread Cert.KernelM.nD Cert.KernelM.τ).loc Cert.KernelM.main_arg13) = m ((c.tc : Thread Cert.KernelM.nD Cert.KernelM.τ).loc Cert.KernelM.main_arg13)
      ∧ r.2.mem ((c.tc : Thread Cert.KernelM.nD Cert.KernelM.τ).loc Cert.KernelM.main_arg14) = m ((c.tc : Thread Cert.KernelM.nD Cert.KernelM.τ).loc Cert.KernelM.main_arg14))
      ∧ r.2.sem = fun _ => 0)

def quiescent_KernelMIdeal [hKernelMIdeal : Cert.KernelMIdeal.Facts] : Prop :=
  ∀ (m : (ℓ : Loc Cert.KernelMIdeal.nD Cert.KernelMIdeal.τ Cert.KernelMIdeal.sig) → Buf (Elt Ideal) ℓ) (g : Dev Cert.KernelMIdeal.nD → PrngReg), Pre_KernelMIdeal m →
    θ_run (Cert.KernelMIdeal.defs (F := Ideal)) (onTc (τ := Cert.KernelMIdeal.τ) (Cert.KernelMIdeal.main (F := Ideal))) ⟨m, fun _ => 0, g⟩ (fun r => (∀ c : Dev Cert.KernelMIdeal.nD,
      r.2.mem ((c.tc : Thread Cert.KernelMIdeal.nD Cert.KernelMIdeal.τ).loc Cert.KernelMIdeal.main_arg0) = m ((c.tc : Thread Cert.KernelMIdeal.nD Cert.KernelMIdeal.τ).loc Cert.KernelMIdeal.main_arg0)
      ∧ r.2.mem ((c.tc : Thread Cert.KernelMIdeal.nD Cert.KernelMIdeal.τ).loc Cert.KernelMIdeal.main_arg1) = m ((c.tc : Thread Cert.KernelMIdeal.nD Cert.KernelMIdeal.τ).loc Cert.KernelMIdeal.main_arg1)
      ∧ r.2.mem ((c.tc : Thread Cert.KernelMIdeal.nD Cert.KernelMIdeal.τ).loc Cert.KernelMIdeal.main_arg2) = m ((c.tc : Thread Cert.KernelMIdeal.nD Cert.KernelMIdeal.τ).loc Cert.KernelMIdeal.main_arg2)
      ∧ r.2.mem ((c.tc : Thread Cert.KernelMIdeal.nD Cert.KernelMIdeal.τ).loc Cert.KernelMIdeal.main_arg3) = m ((c.tc : Thread Cert.KernelMIdeal.nD Cert.KernelMIdeal.τ).loc Cert.KernelMIdeal.main_arg3)
      ∧ r.2.mem ((c.tc : Thread Cert.KernelMIdeal.nD Cert.KernelMIdeal.τ).loc Cert.KernelMIdeal.main_arg4) = m ((c.tc : Thread Cert.KernelMIdeal.nD Cert.KernelMIdeal.τ).loc Cert.KernelMIdeal.main_arg4)
      ∧ r.2.mem ((c.tc : Thread Cert.KernelMIdeal.nD Cert.KernelMIdeal.τ).loc Cert.KernelMIdeal.main_arg5) = m ((c.tc : Thread Cert.KernelMIdeal.nD Cert.KernelMIdeal.τ).loc Cert.KernelMIdeal.main_arg5)
      ∧ r.2.mem ((c.tc : Thread Cert.KernelMIdeal.nD Cert.KernelMIdeal.τ).loc Cert.KernelMIdeal.main_arg6) = m ((c.tc : Thread Cert.KernelMIdeal.nD Cert.KernelMIdeal.τ).loc Cert.KernelMIdeal.main_arg6)
      ∧ r.2.mem ((c.tc : Thread Cert.KernelMIdeal.nD Cert.KernelMIdeal.τ).loc Cert.KernelMIdeal.main_arg7) = m ((c.tc : Thread Cert.KernelMIdeal.nD Cert.KernelMIdeal.τ).loc Cert.KernelMIdeal.main_arg7)
      ∧ r.2.mem ((c.tc : Thread Cert.KernelMIdeal.nD Cert.KernelMIdeal.τ).loc Cert.KernelMIdeal.main_arg8) = m ((c.tc : Thread Cert.KernelMIdeal.nD Cert.KernelMIdeal.τ).loc Cert.KernelMIdeal.main_arg8)
      ∧ r.2.mem ((c.tc : Thread Cert.KernelMIdeal.nD Cert.KernelMIdeal.τ).loc Cert.KernelMIdeal.main_arg9) = m ((c.tc : Thread Cert.KernelMIdeal.nD Cert.KernelMIdeal.τ).loc Cert.KernelMIdeal.main_arg9)
      ∧ r.2.mem ((c.tc : Thread Cert.KernelMIdeal.nD Cert.KernelMIdeal.τ).loc Cert.KernelMIdeal.main_arg10) = m ((c.tc : Thread Cert.KernelMIdeal.nD Cert.KernelMIdeal.τ).loc Cert.KernelMIdeal.main_arg10)
      ∧ r.2.mem ((c.tc : Thread Cert.KernelMIdeal.nD Cert.KernelMIdeal.τ).loc Cert.KernelMIdeal.main_arg11) = m ((c.tc : Thread Cert.KernelMIdeal.nD Cert.KernelMIdeal.τ).loc Cert.KernelMIdeal.main_arg11)
      ∧ r.2.mem ((c.tc : Thread Cert.KernelMIdeal.nD Cert.KernelMIdeal.τ).loc Cert.KernelMIdeal.main_arg12) = m ((c.tc : Thread Cert.KernelMIdeal.nD Cert.KernelMIdeal.τ).loc Cert.KernelMIdeal.main_arg12)
      ∧ r.2.mem ((c.tc : Thread Cert.KernelMIdeal.nD Cert.KernelMIdeal.τ).loc Cert.KernelMIdeal.main_arg13) = m ((c.tc : Thread Cert.KernelMIdeal.nD Cert.KernelMIdeal.τ).loc Cert.KernelMIdeal.main_arg13)
      ∧ r.2.mem ((c.tc : Thread Cert.KernelMIdeal.nD Cert.KernelMIdeal.τ).loc Cert.KernelMIdeal.main_arg14) = m ((c.tc : Thread Cert.KernelMIdeal.nD Cert.KernelMIdeal.τ).loc Cert.KernelMIdeal.main_arg14))
      ∧ r.2.sem = fun _ => 0)

def quiescent_ReferenceMIdeal [hReferenceMIdeal : Cert.ReferenceMIdeal.Facts] : Prop :=
  ∀ (m : (ℓ : Loc Cert.ReferenceMIdeal.nD Cert.ReferenceMIdeal.τ Cert.ReferenceMIdeal.sig) → Buf (Elt Ideal) ℓ) (g : Dev Cert.ReferenceMIdeal.nD → PrngReg), Pre_ReferenceMIdeal m →
    θ_run (Cert.ReferenceMIdeal.defs (F := Ideal)) (onTc (τ := Cert.ReferenceMIdeal.τ) (Cert.ReferenceMIdeal.main (F := Ideal))) ⟨m, fun _ => 0, g⟩ (fun r => (∀ c : Dev Cert.ReferenceMIdeal.nD,
      r.2.mem ((c.tc : Thread Cert.ReferenceMIdeal.nD Cert.ReferenceMIdeal.τ).loc Cert.ReferenceMIdeal.main_arg0) = m ((c.tc : Thread Cert.ReferenceMIdeal.nD Cert.ReferenceMIdeal.τ).loc Cert.ReferenceMIdeal.main_arg0)
      ∧ r.2.mem ((c.tc : Thread Cert.ReferenceMIdeal.nD Cert.ReferenceMIdeal.τ).loc Cert.ReferenceMIdeal.main_arg1) = m ((c.tc : Thread Cert.ReferenceMIdeal.nD Cert.ReferenceMIdeal.τ).loc Cert.ReferenceMIdeal.main_arg1)
      ∧ r.2.mem ((c.tc : Thread Cert.ReferenceMIdeal.nD Cert.ReferenceMIdeal.τ).loc Cert.ReferenceMIdeal.main_arg2) = m ((c.tc : Thread Cert.ReferenceMIdeal.nD Cert.ReferenceMIdeal.τ).loc Cert.ReferenceMIdeal.main_arg2)
      ∧ r.2.mem ((c.tc : Thread Cert.ReferenceMIdeal.nD Cert.ReferenceMIdeal.τ).loc Cert.ReferenceMIdeal.main_arg3) = m ((c.tc : Thread Cert.ReferenceMIdeal.nD Cert.ReferenceMIdeal.τ).loc Cert.ReferenceMIdeal.main_arg3)
      ∧ r.2.mem ((c.tc : Thread Cert.ReferenceMIdeal.nD Cert.ReferenceMIdeal.τ).loc Cert.ReferenceMIdeal.main_arg4) = m ((c.tc : Thread Cert.ReferenceMIdeal.nD Cert.ReferenceMIdeal.τ).loc Cert.ReferenceMIdeal.main_arg4)
      ∧ r.2.mem ((c.tc : Thread Cert.ReferenceMIdeal.nD Cert.ReferenceMIdeal.τ).loc Cert.ReferenceMIdeal.main_arg5) = m ((c.tc : Thread Cert.ReferenceMIdeal.nD Cert.ReferenceMIdeal.τ).loc Cert.ReferenceMIdeal.main_arg5)
      ∧ r.2.mem ((c.tc : Thread Cert.ReferenceMIdeal.nD Cert.ReferenceMIdeal.τ).loc Cert.ReferenceMIdeal.main_arg6) = m ((c.tc : Thread Cert.ReferenceMIdeal.nD Cert.ReferenceMIdeal.τ).loc Cert.ReferenceMIdeal.main_arg6)
      ∧ r.2.mem ((c.tc : Thread Cert.ReferenceMIdeal.nD Cert.ReferenceMIdeal.τ).loc Cert.ReferenceMIdeal.main_arg7) = m ((c.tc : Thread Cert.ReferenceMIdeal.nD Cert.ReferenceMIdeal.τ).loc Cert.ReferenceMIdeal.main_arg7)
      ∧ r.2.mem ((c.tc : Thread Cert.ReferenceMIdeal.nD Cert.ReferenceMIdeal.τ).loc Cert.ReferenceMIdeal.main_arg8) = m ((c.tc : Thread Cert.ReferenceMIdeal.nD Cert.ReferenceMIdeal.τ).loc Cert.ReferenceMIdeal.main_arg8)
      ∧ r.2.mem ((c.tc : Thread Cert.ReferenceMIdeal.nD Cert.ReferenceMIdeal.τ).loc Cert.ReferenceMIdeal.main_arg9) = m ((c.tc : Thread Cert.ReferenceMIdeal.nD Cert.ReferenceMIdeal.τ).loc Cert.ReferenceMIdeal.main_arg9)
      ∧ r.2.mem ((c.tc : Thread Cert.ReferenceMIdeal.nD Cert.ReferenceMIdeal.τ).loc Cert.ReferenceMIdeal.main_arg10) = m ((c.tc : Thread Cert.ReferenceMIdeal.nD Cert.ReferenceMIdeal.τ).loc Cert.ReferenceMIdeal.main_arg10)
      ∧ r.2.mem ((c.tc : Thread Cert.ReferenceMIdeal.nD Cert.ReferenceMIdeal.τ).loc Cert.ReferenceMIdeal.main_arg11) = m ((c.tc : Thread Cert.ReferenceMIdeal.nD Cert.ReferenceMIdeal.τ).loc Cert.ReferenceMIdeal.main_arg11)
      ∧ r.2.mem ((c.tc : Thread Cert.ReferenceMIdeal.nD Cert.ReferenceMIdeal.τ).loc Cert.ReferenceMIdeal.main_arg12) = m ((c.tc : Thread Cert.ReferenceMIdeal.nD Cert.ReferenceMIdeal.τ).loc Cert.ReferenceMIdeal.main_arg12)
      ∧ r.2.mem ((c.tc : Thread Cert.ReferenceMIdeal.nD Cert.ReferenceMIdeal.τ).loc Cert.ReferenceMIdeal.main_arg13) = m ((c.tc : Thread Cert.ReferenceMIdeal.nD Cert.ReferenceMIdeal.τ).loc Cert.ReferenceMIdeal.main_arg13)
      ∧ r.2.mem ((c.tc : Thread Cert.ReferenceMIdeal.nD Cert.ReferenceMIdeal.τ).loc Cert.ReferenceMIdeal.main_arg14) = m ((c.tc : Thread Cert.ReferenceMIdeal.nD Cert.ReferenceMIdeal.τ).loc Cert.ReferenceMIdeal.main_arg14))
      ∧ r.2.sem = fun _ => 0)

def quiescent_KernelI [hKernelI : Cert.KernelI.Facts] : Prop :=
  ∀ (m : (ℓ : Loc Cert.KernelI.nD Cert.KernelI.τ Cert.KernelI.sig) → Buf (Elt Bits) ℓ) (g : Dev Cert.KernelI.nD → PrngReg), Pre_KernelI m →
    θ_run (Cert.KernelI.defs (F := Bits)) (onTc (τ := Cert.KernelI.τ) (Cert.KernelI.main (F := Bits))) ⟨m, fun _ => 0, g⟩ (fun r => (∀ c : Dev Cert.KernelI.nD,
      r.2.mem ((c.tc : Thread Cert.KernelI.nD Cert.KernelI.τ).loc Cert.KernelI.main_arg0) = m ((c.tc : Thread Cert.KernelI.nD Cert.KernelI.τ).loc Cert.KernelI.main_arg0)
      ∧ r.2.mem ((c.tc : Thread Cert.KernelI.nD Cert.KernelI.τ).loc Cert.KernelI.main_arg1) = m ((c.tc : Thread Cert.KernelI.nD Cert.KernelI.τ).loc Cert.KernelI.main_arg1)
      ∧ r.2.mem ((c.tc : Thread Cert.KernelI.nD Cert.KernelI.τ).loc Cert.KernelI.main_arg2) = m ((c.tc : Thread Cert.KernelI.nD Cert.KernelI.τ).loc Cert.KernelI.main_arg2)
      ∧ r.2.mem ((c.tc : Thread Cert.KernelI.nD Cert.KernelI.τ).loc Cert.KernelI.main_arg3) = m ((c.tc : Thread Cert.KernelI.nD Cert.KernelI.τ).loc Cert.KernelI.main_arg3)
      ∧ r.2.mem ((c.tc : Thread Cert.KernelI.nD Cert.KernelI.τ).loc Cert.KernelI.main_arg4) = m ((c.tc : Thread Cert.KernelI.nD Cert.KernelI.τ).loc Cert.KernelI.main_arg4)
      ∧ r.2.mem ((c.tc : Thread Cert.KernelI.nD Cert.KernelI.τ).loc Cert.KernelI.main_arg5) = m ((c.tc : Thread Cert.KernelI.nD Cert.KernelI.τ).loc Cert.KernelI.main_arg5)
      ∧ r.2.mem ((c.tc : Thread Cert.KernelI.nD Cert.KernelI.τ).loc Cert.KernelI.main_arg6) = m ((c.tc : Thread Cert.KernelI.nD Cert.KernelI.τ).loc Cert.KernelI.main_arg6)
      ∧ r.2.mem ((c.tc : Thread Cert.KernelI.nD Cert.KernelI.τ).loc Cert.KernelI.main_arg7) = m ((c.tc : Thread Cert.KernelI.nD Cert.KernelI.τ).loc Cert.KernelI.main_arg7)
      ∧ r.2.mem ((c.tc : Thread Cert.KernelI.nD Cert.KernelI.τ).loc Cert.KernelI.main_arg8) = m ((c.tc : Thread Cert.KernelI.nD Cert.KernelI.τ).loc Cert.KernelI.main_arg8)
      ∧ r.2.mem ((c.tc : Thread Cert.KernelI.nD Cert.KernelI.τ).loc Cert.KernelI.main_arg9) = m ((c.tc : Thread Cert.KernelI.nD Cert.KernelI.τ).loc Cert.KernelI.main_arg9))
      ∧ r.2.sem = fun _ => 0)

def quiescent_KernelIIdeal [hKernelIIdeal : Cert.KernelIIdeal.Facts] : Prop :=
  ∀ (m : (ℓ : Loc Cert.KernelIIdeal.nD Cert.KernelIIdeal.τ Cert.KernelIIdeal.sig) → Buf (Elt Ideal) ℓ) (g : Dev Cert.KernelIIdeal.nD → PrngReg), Pre_KernelIIdeal m →
    θ_run (Cert.KernelIIdeal.defs (F := Ideal)) (onTc (τ := Cert.KernelIIdeal.τ) (Cert.KernelIIdeal.main (F := Ideal))) ⟨m, fun _ => 0, g⟩ (fun r => (∀ c : Dev Cert.KernelIIdeal.nD,
      r.2.mem ((c.tc : Thread Cert.KernelIIdeal.nD Cert.KernelIIdeal.τ).loc Cert.KernelIIdeal.main_arg0) = m ((c.tc : Thread Cert.KernelIIdeal.nD Cert.KernelIIdeal.τ).loc Cert.KernelIIdeal.main_arg0)
      ∧ r.2.mem ((c.tc : Thread Cert.KernelIIdeal.nD Cert.KernelIIdeal.τ).loc Cert.KernelIIdeal.main_arg1) = m ((c.tc : Thread Cert.KernelIIdeal.nD Cert.KernelIIdeal.τ).loc Cert.KernelIIdeal.main_arg1)
      ∧ r.2.mem ((c.tc : Thread Cert.KernelIIdeal.nD Cert.KernelIIdeal.τ).loc Cert.KernelIIdeal.main_arg2) = m ((c.tc : Thread Cert.KernelIIdeal.nD Cert.KernelIIdeal.τ).loc Cert.KernelIIdeal.main_arg2)
      ∧ r.2.mem ((c.tc : Thread Cert.KernelIIdeal.nD Cert.KernelIIdeal.τ).loc Cert.KernelIIdeal.main_arg3) = m ((c.tc : Thread Cert.KernelIIdeal.nD Cert.KernelIIdeal.τ).loc Cert.KernelIIdeal.main_arg3)
      ∧ r.2.mem ((c.tc : Thread Cert.KernelIIdeal.nD Cert.KernelIIdeal.τ).loc Cert.KernelIIdeal.main_arg4) = m ((c.tc : Thread Cert.KernelIIdeal.nD Cert.KernelIIdeal.τ).loc Cert.KernelIIdeal.main_arg4)
      ∧ r.2.mem ((c.tc : Thread Cert.KernelIIdeal.nD Cert.KernelIIdeal.τ).loc Cert.KernelIIdeal.main_arg5) = m ((c.tc : Thread Cert.KernelIIdeal.nD Cert.KernelIIdeal.τ).loc Cert.KernelIIdeal.main_arg5)
      ∧ r.2.mem ((c.tc : Thread Cert.KernelIIdeal.nD Cert.KernelIIdeal.τ).loc Cert.KernelIIdeal.main_arg6) = m ((c.tc : Thread Cert.KernelIIdeal.nD Cert.KernelIIdeal.τ).loc Cert.KernelIIdeal.main_arg6)
      ∧ r.2.mem ((c.tc : Thread Cert.KernelIIdeal.nD Cert.KernelIIdeal.τ).loc Cert.KernelIIdeal.main_arg7) = m ((c.tc : Thread Cert.KernelIIdeal.nD Cert.KernelIIdeal.τ).loc Cert.KernelIIdeal.main_arg7)
      ∧ r.2.mem ((c.tc : Thread Cert.KernelIIdeal.nD Cert.KernelIIdeal.τ).loc Cert.KernelIIdeal.main_arg8) = m ((c.tc : Thread Cert.KernelIIdeal.nD Cert.KernelIIdeal.τ).loc Cert.KernelIIdeal.main_arg8)
      ∧ r.2.mem ((c.tc : Thread Cert.KernelIIdeal.nD Cert.KernelIIdeal.τ).loc Cert.KernelIIdeal.main_arg9) = m ((c.tc : Thread Cert.KernelIIdeal.nD Cert.KernelIIdeal.τ).loc Cert.KernelIIdeal.main_arg9))
      ∧ r.2.sem = fun _ => 0)

def quiescent_KernelIIdeal_pre_finite_i [hKernelIIdeal : Cert.KernelIIdeal.Facts] [hPre_finite_i : Cert.Pre_finite_i.Facts] : Prop :=
  ∀ (m : (ℓ : Loc Cert.KernelIIdeal.nD Cert.KernelIIdeal.τ Cert.KernelIIdeal.sig) → Buf (Elt Ideal) ℓ) (g : Dev Cert.KernelIIdeal.nD → PrngReg), Pre_KernelIIdeal_finite_i m →
    θ_run (Cert.KernelIIdeal.defs (F := Ideal)) (onTc (τ := Cert.KernelIIdeal.τ) (Cert.KernelIIdeal.main (F := Ideal))) ⟨m, fun _ => 0, g⟩ (fun r => (∀ c : Dev Cert.KernelIIdeal.nD,
      r.2.mem ((c.tc : Thread Cert.KernelIIdeal.nD Cert.KernelIIdeal.τ).loc Cert.KernelIIdeal.main_arg0) = m ((c.tc : Thread Cert.KernelIIdeal.nD Cert.KernelIIdeal.τ).loc Cert.KernelIIdeal.main_arg0)
      ∧ r.2.mem ((c.tc : Thread Cert.KernelIIdeal.nD Cert.KernelIIdeal.τ).loc Cert.KernelIIdeal.main_arg1) = m ((c.tc : Thread Cert.KernelIIdeal.nD Cert.KernelIIdeal.τ).loc Cert.KernelIIdeal.main_arg1)
      ∧ r.2.mem ((c.tc : Thread Cert.KernelIIdeal.nD Cert.KernelIIdeal.τ).loc Cert.KernelIIdeal.main_arg2) = m ((c.tc : Thread Cert.KernelIIdeal.nD Cert.KernelIIdeal.τ).loc Cert.KernelIIdeal.main_arg2)
      ∧ r.2.mem ((c.tc : Thread Cert.KernelIIdeal.nD Cert.KernelIIdeal.τ).loc Cert.KernelIIdeal.main_arg3) = m ((c.tc : Thread Cert.KernelIIdeal.nD Cert.KernelIIdeal.τ).loc Cert.KernelIIdeal.main_arg3)
      ∧ r.2.mem ((c.tc : Thread Cert.KernelIIdeal.nD Cert.KernelIIdeal.τ).loc Cert.KernelIIdeal.main_arg4) = m ((c.tc : Thread Cert.KernelIIdeal.nD Cert.KernelIIdeal.τ).loc Cert.KernelIIdeal.main_arg4)
      ∧ r.2.mem ((c.tc : Thread Cert.KernelIIdeal.nD Cert.KernelIIdeal.τ).loc Cert.KernelIIdeal.main_arg5) = m ((c.tc : Thread Cert.KernelIIdeal.nD Cert.KernelIIdeal.τ).loc Cert.KernelIIdeal.main_arg5)
      ∧ r.2.mem ((c.tc : Thread Cert.KernelIIdeal.nD Cert.KernelIIdeal.τ).loc Cert.KernelIIdeal.main_arg6) = m ((c.tc : Thread Cert.KernelIIdeal.nD Cert.KernelIIdeal.τ).loc Cert.KernelIIdeal.main_arg6)
      ∧ r.2.mem ((c.tc : Thread Cert.KernelIIdeal.nD Cert.KernelIIdeal.τ).loc Cert.KernelIIdeal.main_arg7) = m ((c.tc : Thread Cert.KernelIIdeal.nD Cert.KernelIIdeal.τ).loc Cert.KernelIIdeal.main_arg7)
      ∧ r.2.mem ((c.tc : Thread Cert.KernelIIdeal.nD Cert.KernelIIdeal.τ).loc Cert.KernelIIdeal.main_arg8) = m ((c.tc : Thread Cert.KernelIIdeal.nD Cert.KernelIIdeal.τ).loc Cert.KernelIIdeal.main_arg8)
      ∧ r.2.mem ((c.tc : Thread Cert.KernelIIdeal.nD Cert.KernelIIdeal.τ).loc Cert.KernelIIdeal.main_arg9) = m ((c.tc : Thread Cert.KernelIIdeal.nD Cert.KernelIIdeal.τ).loc Cert.KernelIIdeal.main_arg9))
      ∧ r.2.sem = fun _ => 0)

def quiescent_ReferenceIIdeal [hReferenceIIdeal : Cert.ReferenceIIdeal.Facts] : Prop :=
  ∀ (m : (ℓ : Loc Cert.ReferenceIIdeal.nD Cert.ReferenceIIdeal.τ Cert.ReferenceIIdeal.sig) → Buf (Elt Ideal) ℓ) (g : Dev Cert.ReferenceIIdeal.nD → PrngReg), Pre_ReferenceIIdeal m →
    θ_run (Cert.ReferenceIIdeal.defs (F := Ideal)) (onTc (τ := Cert.ReferenceIIdeal.τ) (Cert.ReferenceIIdeal.main (F := Ideal))) ⟨m, fun _ => 0, g⟩ (fun r => (∀ c : Dev Cert.ReferenceIIdeal.nD,
      r.2.mem ((c.tc : Thread Cert.ReferenceIIdeal.nD Cert.ReferenceIIdeal.τ).loc Cert.ReferenceIIdeal.main_arg0) = m ((c.tc : Thread Cert.ReferenceIIdeal.nD Cert.ReferenceIIdeal.τ).loc Cert.ReferenceIIdeal.main_arg0)
      ∧ r.2.mem ((c.tc : Thread Cert.ReferenceIIdeal.nD Cert.ReferenceIIdeal.τ).loc Cert.ReferenceIIdeal.main_arg1) = m ((c.tc : Thread Cert.ReferenceIIdeal.nD Cert.ReferenceIIdeal.τ).loc Cert.ReferenceIIdeal.main_arg1)
      ∧ r.2.mem ((c.tc : Thread Cert.ReferenceIIdeal.nD Cert.ReferenceIIdeal.τ).loc Cert.ReferenceIIdeal.main_arg2) = m ((c.tc : Thread Cert.ReferenceIIdeal.nD Cert.ReferenceIIdeal.τ).loc Cert.ReferenceIIdeal.main_arg2)
      ∧ r.2.mem ((c.tc : Thread Cert.ReferenceIIdeal.nD Cert.ReferenceIIdeal.τ).loc Cert.ReferenceIIdeal.main_arg3) = m ((c.tc : Thread Cert.ReferenceIIdeal.nD Cert.ReferenceIIdeal.τ).loc Cert.ReferenceIIdeal.main_arg3)
      ∧ r.2.mem ((c.tc : Thread Cert.ReferenceIIdeal.nD Cert.ReferenceIIdeal.τ).loc Cert.ReferenceIIdeal.main_arg4) = m ((c.tc : Thread Cert.ReferenceIIdeal.nD Cert.ReferenceIIdeal.τ).loc Cert.ReferenceIIdeal.main_arg4)
      ∧ r.2.mem ((c.tc : Thread Cert.ReferenceIIdeal.nD Cert.ReferenceIIdeal.τ).loc Cert.ReferenceIIdeal.main_arg5) = m ((c.tc : Thread Cert.ReferenceIIdeal.nD Cert.ReferenceIIdeal.τ).loc Cert.ReferenceIIdeal.main_arg5)
      ∧ r.2.mem ((c.tc : Thread Cert.ReferenceIIdeal.nD Cert.ReferenceIIdeal.τ).loc Cert.ReferenceIIdeal.main_arg6) = m ((c.tc : Thread Cert.ReferenceIIdeal.nD Cert.ReferenceIIdeal.τ).loc Cert.ReferenceIIdeal.main_arg6)
      ∧ r.2.mem ((c.tc : Thread Cert.ReferenceIIdeal.nD Cert.ReferenceIIdeal.τ).loc Cert.ReferenceIIdeal.main_arg7) = m ((c.tc : Thread Cert.ReferenceIIdeal.nD Cert.ReferenceIIdeal.τ).loc Cert.ReferenceIIdeal.main_arg7)
      ∧ r.2.mem ((c.tc : Thread Cert.ReferenceIIdeal.nD Cert.ReferenceIIdeal.τ).loc Cert.ReferenceIIdeal.main_arg8) = m ((c.tc : Thread Cert.ReferenceIIdeal.nD Cert.ReferenceIIdeal.τ).loc Cert.ReferenceIIdeal.main_arg8)
      ∧ r.2.mem ((c.tc : Thread Cert.ReferenceIIdeal.nD Cert.ReferenceIIdeal.τ).loc Cert.ReferenceIIdeal.main_arg9) = m ((c.tc : Thread Cert.ReferenceIIdeal.nD Cert.ReferenceIIdeal.τ).loc Cert.ReferenceIIdeal.main_arg9))
      ∧ r.2.sem = fun _ => 0)

def quiescent_ReferenceIIdeal_pre_finite_i [hReferenceIIdeal : Cert.ReferenceIIdeal.Facts] [hPre_finite_i : Cert.Pre_finite_i.Facts] : Prop :=
  ∀ (m : (ℓ : Loc Cert.ReferenceIIdeal.nD Cert.ReferenceIIdeal.τ Cert.ReferenceIIdeal.sig) → Buf (Elt Ideal) ℓ) (g : Dev Cert.ReferenceIIdeal.nD → PrngReg), Pre_ReferenceIIdeal_finite_i m →
    θ_run (Cert.ReferenceIIdeal.defs (F := Ideal)) (onTc (τ := Cert.ReferenceIIdeal.τ) (Cert.ReferenceIIdeal.main (F := Ideal))) ⟨m, fun _ => 0, g⟩ (fun r => (∀ c : Dev Cert.ReferenceIIdeal.nD,
      r.2.mem ((c.tc : Thread Cert.ReferenceIIdeal.nD Cert.ReferenceIIdeal.τ).loc Cert.ReferenceIIdeal.main_arg0) = m ((c.tc : Thread Cert.ReferenceIIdeal.nD Cert.ReferenceIIdeal.τ).loc Cert.ReferenceIIdeal.main_arg0)
      ∧ r.2.mem ((c.tc : Thread Cert.ReferenceIIdeal.nD Cert.ReferenceIIdeal.τ).loc Cert.ReferenceIIdeal.main_arg1) = m ((c.tc : Thread Cert.ReferenceIIdeal.nD Cert.ReferenceIIdeal.τ).loc Cert.ReferenceIIdeal.main_arg1)
      ∧ r.2.mem ((c.tc : Thread Cert.ReferenceIIdeal.nD Cert.ReferenceIIdeal.τ).loc Cert.ReferenceIIdeal.main_arg2) = m ((c.tc : Thread Cert.ReferenceIIdeal.nD Cert.ReferenceIIdeal.τ).loc Cert.ReferenceIIdeal.main_arg2)
      ∧ r.2.mem ((c.tc : Thread Cert.ReferenceIIdeal.nD Cert.ReferenceIIdeal.τ).loc Cert.ReferenceIIdeal.main_arg3) = m ((c.tc : Thread Cert.ReferenceIIdeal.nD Cert.ReferenceIIdeal.τ).loc Cert.ReferenceIIdeal.main_arg3)
      ∧ r.2.mem ((c.tc : Thread Cert.ReferenceIIdeal.nD Cert.ReferenceIIdeal.τ).loc Cert.ReferenceIIdeal.main_arg4) = m ((c.tc : Thread Cert.ReferenceIIdeal.nD Cert.ReferenceIIdeal.τ).loc Cert.ReferenceIIdeal.main_arg4)
      ∧ r.2.mem ((c.tc : Thread Cert.ReferenceIIdeal.nD Cert.ReferenceIIdeal.τ).loc Cert.ReferenceIIdeal.main_arg5) = m ((c.tc : Thread Cert.ReferenceIIdeal.nD Cert.ReferenceIIdeal.τ).loc Cert.ReferenceIIdeal.main_arg5)
      ∧ r.2.mem ((c.tc : Thread Cert.ReferenceIIdeal.nD Cert.ReferenceIIdeal.τ).loc Cert.ReferenceIIdeal.main_arg6) = m ((c.tc : Thread Cert.ReferenceIIdeal.nD Cert.ReferenceIIdeal.τ).loc Cert.ReferenceIIdeal.main_arg6)
      ∧ r.2.mem ((c.tc : Thread Cert.ReferenceIIdeal.nD Cert.ReferenceIIdeal.τ).loc Cert.ReferenceIIdeal.main_arg7) = m ((c.tc : Thread Cert.ReferenceIIdeal.nD Cert.ReferenceIIdeal.τ).loc Cert.ReferenceIIdeal.main_arg7)
      ∧ r.2.mem ((c.tc : Thread Cert.ReferenceIIdeal.nD Cert.ReferenceIIdeal.τ).loc Cert.ReferenceIIdeal.main_arg8) = m ((c.tc : Thread Cert.ReferenceIIdeal.nD Cert.ReferenceIIdeal.τ).loc Cert.ReferenceIIdeal.main_arg8)
      ∧ r.2.mem ((c.tc : Thread Cert.ReferenceIIdeal.nD Cert.ReferenceIIdeal.τ).loc Cert.ReferenceIIdeal.main_arg9) = m ((c.tc : Thread Cert.ReferenceIIdeal.nD Cert.ReferenceIIdeal.τ).loc Cert.ReferenceIIdeal.main_arg9))
      ∧ r.2.sem = fun _ => 0)

def preserves_Kernel_KernelIdeal : Prop :=
  IdealRules.named_const.Statement Cert.KernelIdeal.κ "scale" .f32 0x3E38AA3B#32 (((1 / 8) * (Real.log 2)⁻¹ : ℝ) : EReal)

def algebraic_KernelIdeal_ReferenceIdeal_pre_finite_c [hKernelIdeal : Cert.KernelIdeal.Facts] [hReferenceIdeal : Cert.ReferenceIdeal.Facts] [hPre_finite_c : Cert.Pre_finite_c.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_c m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_KernelB_KernelBIdeal : Prop :=
  IdealRules.named_const.Statement Cert.KernelBIdeal.κ "scale" .f32 0x3E16C740#32 (((Real.sqrt 96)⁻¹ * (Real.log 2)⁻¹ : ℝ) : EReal)

def algebraic_KernelBIdeal_ReferenceBIdeal_pre_finite_b [hKernelBIdeal : Cert.KernelBIdeal.Facts] [hReferenceBIdeal : Cert.ReferenceBIdeal.Facts] [hPre_finite_b : Cert.Pre_finite_b.Facts] : Prop :=
  ∀ (m : (ℓ : Loc Cert.KernelBIdeal.nD Cert.KernelBIdeal.τ Cert.KernelBIdeal.sig) → Buf (Elt Ideal) ℓ) (g : Dev Cert.KernelBIdeal.nD → PrngReg)
    (m' : (ℓ : Loc Cert.ReferenceBIdeal.nD Cert.ReferenceBIdeal.τ Cert.ReferenceBIdeal.sig) → Buf (Elt Ideal) ℓ) (g' : Dev Cert.ReferenceBIdeal.nD → PrngReg), Pre_KernelBIdeal_finite_b m →
    (∀ c : Dev Cert.KernelBIdeal.nD,
      m' ((c.tc : Thread Cert.ReferenceBIdeal.nD Cert.ReferenceBIdeal.τ).loc Cert.ReferenceBIdeal.main_arg0) = m ((c.tc : Thread Cert.KernelBIdeal.nD Cert.KernelBIdeal.τ).loc Cert.KernelBIdeal.main_arg0)
      ∧ m' ((c.tc : Thread Cert.ReferenceBIdeal.nD Cert.ReferenceBIdeal.τ).loc Cert.ReferenceBIdeal.main_arg1) = m ((c.tc : Thread Cert.KernelBIdeal.nD Cert.KernelBIdeal.τ).loc Cert.KernelBIdeal.main_arg1)
      ∧ m' ((c.tc : Thread Cert.ReferenceBIdeal.nD Cert.ReferenceBIdeal.τ).loc Cert.ReferenceBIdeal.main_arg2) = m ((c.tc : Thread Cert.KernelBIdeal.nD Cert.KernelBIdeal.τ).loc Cert.KernelBIdeal.main_arg2)
      ∧ m' ((c.tc : Thread Cert.ReferenceBIdeal.nD Cert.ReferenceBIdeal.τ).loc Cert.ReferenceBIdeal.main_arg3) = m ((c.tc : Thread Cert.KernelBIdeal.nD Cert.KernelBIdeal.τ).loc Cert.KernelBIdeal.main_arg3)
      ∧ m' ((c.tc : Thread Cert.ReferenceBIdeal.nD Cert.ReferenceBIdeal.τ).loc Cert.ReferenceBIdeal.main_arg4) = m ((c.tc : Thread Cert.KernelBIdeal.nD Cert.KernelBIdeal.τ).loc Cert.KernelBIdeal.main_arg4)) →
    ∃ (v0 : (c : Dev Cert.KernelBIdeal.nD) → Buf (Elt Ideal) ((c.tc : Thread Cert.KernelBIdeal.nD Cert.KernelBIdeal.τ).loc Cert.KernelBIdeal.main_v15)),
      θ_run (Cert.KernelBIdeal.defs (F := Ideal)) (onTc (τ := Cert.KernelBIdeal.τ) (Cert.KernelBIdeal.main (F := Ideal))) ⟨m, fun _ => 0, g⟩ (fun r => ∀ c : Dev Cert.KernelBIdeal.nD,
          r.2.mem ((c.tc : Thread Cert.KernelBIdeal.nD Cert.KernelBIdeal.τ).loc Cert.KernelBIdeal.main_v15) = v0 c
          ∧ r.2.mem ((c.tc : Thread Cert.KernelBIdeal.nD Cert.KernelBIdeal.τ).loc Cert.KernelBIdeal.main_arg0) = m ((c.tc : Thread Cert.KernelBIdeal.nD Cert.KernelBIdeal.τ).loc Cert.KernelBIdeal.main_arg0)
          ∧ r.2.mem ((c.tc : Thread Cert.KernelBIdeal.nD Cert.KernelBIdeal.τ).loc Cert.KernelBIdeal.main_arg1) = m ((c.tc : Thread Cert.KernelBIdeal.nD Cert.KernelBIdeal.τ).loc Cert.KernelBIdeal.main_arg1)
          ∧ r.2.mem ((c.tc : Thread Cert.KernelBIdeal.nD Cert.KernelBIdeal.τ).loc Cert.KernelBIdeal.main_arg2) = m ((c.tc : Thread Cert.KernelBIdeal.nD Cert.KernelBIdeal.τ).loc Cert.KernelBIdeal.main_arg2)
          ∧ r.2.mem ((c.tc : Thread Cert.KernelBIdeal.nD Cert.KernelBIdeal.τ).loc Cert.KernelBIdeal.main_arg3) = m ((c.tc : Thread Cert.KernelBIdeal.nD Cert.KernelBIdeal.τ).loc Cert.KernelBIdeal.main_arg3)
          ∧ r.2.mem ((c.tc : Thread Cert.KernelBIdeal.nD Cert.KernelBIdeal.τ).loc Cert.KernelBIdeal.main_arg4) = m ((c.tc : Thread Cert.KernelBIdeal.nD Cert.KernelBIdeal.τ).loc Cert.KernelBIdeal.main_arg4))
      ∧ θ_run (Cert.ReferenceBIdeal.defs (F := Ideal)) (onTc (τ := Cert.ReferenceBIdeal.τ) (Cert.ReferenceBIdeal.main (F := Ideal))) ⟨m', fun _ => 0, g'⟩ (fun r => ∀ c : Dev Cert.ReferenceBIdeal.nD,
          r.2.mem ((c.tc : Thread Cert.ReferenceBIdeal.nD Cert.ReferenceBIdeal.τ).loc Cert.ReferenceBIdeal.main_v20) = v0 c
          ∧ r.2.mem ((c.tc : Thread Cert.ReferenceBIdeal.nD Cert.ReferenceBIdeal.τ).loc Cert.ReferenceBIdeal.main_arg0) = m' ((c.tc : Thread Cert.ReferenceBIdeal.nD Cert.ReferenceBIdeal.τ).loc Cert.ReferenceBIdeal.main_arg0)
          ∧ r.2.mem ((c.tc : Thread Cert.ReferenceBIdeal.nD Cert.ReferenceBIdeal.τ).loc Cert.ReferenceBIdeal.main_arg1) = m' ((c.tc : Thread Cert.ReferenceBIdeal.nD Cert.ReferenceBIdeal.τ).loc Cert.ReferenceBIdeal.main_arg1)
          ∧ r.2.mem ((c.tc : Thread Cert.ReferenceBIdeal.nD Cert.ReferenceBIdeal.τ).loc Cert.ReferenceBIdeal.main_arg2) = m' ((c.tc : Thread Cert.ReferenceBIdeal.nD Cert.ReferenceBIdeal.τ).loc Cert.ReferenceBIdeal.main_arg2)
          ∧ r.2.mem ((c.tc : Thread Cert.ReferenceBIdeal.nD Cert.ReferenceBIdeal.τ).loc Cert.ReferenceBIdeal.main_arg3) = m' ((c.tc : Thread Cert.ReferenceBIdeal.nD Cert.ReferenceBIdeal.τ).loc Cert.ReferenceBIdeal.main_arg3)
          ∧ r.2.mem ((c.tc : Thread Cert.ReferenceBIdeal.nD Cert.ReferenceBIdeal.τ).loc Cert.ReferenceBIdeal.main_arg4) = m' ((c.tc : Thread Cert.ReferenceBIdeal.nD Cert.ReferenceBIdeal.τ).loc Cert.ReferenceBIdeal.main_arg4))

def preserves_KernelA_KernelAIdeal : Prop :=
  IdealRules.named_const.Statement Cert.KernelAIdeal.κ "scale" .f32 0x3E38AA3B#32 (((1 / 8) * (Real.log 2)⁻¹ : ℝ) : EReal)
  ∧ IdealRules.named_const.Statement Cert.KernelAIdeal.κ "log2e" .f32 0x3FB8AA3B#32 (((Real.log 2)⁻¹ : ℝ) : EReal)
  ∧ IdealRules.named_const.Statement Cert.KernelAIdeal.κ "mask" .f32 0xF149F2CA#32 ⊥

def preserves_KernelM_KernelMIdeal : Prop :=
  IdealRules.named_const.Statement Cert.KernelMIdeal.κ "mask" .f32 0xF149F2CA#32 ⊥

def algebraic_KernelMIdeal_ReferenceMIdeal [hKernelMIdeal : Cert.KernelMIdeal.Facts] [hReferenceMIdeal : Cert.ReferenceMIdeal.Facts] : Prop :=
  ∀ (m : (ℓ : Loc Cert.KernelMIdeal.nD Cert.KernelMIdeal.τ Cert.KernelMIdeal.sig) → Buf (Elt Ideal) ℓ) (g : Dev Cert.KernelMIdeal.nD → PrngReg)
    (m' : (ℓ : Loc Cert.ReferenceMIdeal.nD Cert.ReferenceMIdeal.τ Cert.ReferenceMIdeal.sig) → Buf (Elt Ideal) ℓ) (g' : Dev Cert.ReferenceMIdeal.nD → PrngReg), Pre_KernelMIdeal m →
    (∀ c : Dev Cert.KernelMIdeal.nD,
      m' ((c.tc : Thread Cert.ReferenceMIdeal.nD Cert.ReferenceMIdeal.τ).loc Cert.ReferenceMIdeal.main_arg0) = m ((c.tc : Thread Cert.KernelMIdeal.nD Cert.KernelMIdeal.τ).loc Cert.KernelMIdeal.main_arg0)
      ∧ m' ((c.tc : Thread Cert.ReferenceMIdeal.nD Cert.ReferenceMIdeal.τ).loc Cert.ReferenceMIdeal.main_arg1) = m ((c.tc : Thread Cert.KernelMIdeal.nD Cert.KernelMIdeal.τ).loc Cert.KernelMIdeal.main_arg1)
      ∧ m' ((c.tc : Thread Cert.ReferenceMIdeal.nD Cert.ReferenceMIdeal.τ).loc Cert.ReferenceMIdeal.main_arg2) = m ((c.tc : Thread Cert.KernelMIdeal.nD Cert.KernelMIdeal.τ).loc Cert.KernelMIdeal.main_arg2)
      ∧ m' ((c.tc : Thread Cert.ReferenceMIdeal.nD Cert.ReferenceMIdeal.τ).loc Cert.ReferenceMIdeal.main_arg3) = m ((c.tc : Thread Cert.KernelMIdeal.nD Cert.KernelMIdeal.τ).loc Cert.KernelMIdeal.main_arg3)
      ∧ m' ((c.tc : Thread Cert.ReferenceMIdeal.nD Cert.ReferenceMIdeal.τ).loc Cert.ReferenceMIdeal.main_arg4) = m ((c.tc : Thread Cert.KernelMIdeal.nD Cert.KernelMIdeal.τ).loc Cert.KernelMIdeal.main_arg4)
      ∧ m' ((c.tc : Thread Cert.ReferenceMIdeal.nD Cert.ReferenceMIdeal.τ).loc Cert.ReferenceMIdeal.main_arg5) = m ((c.tc : Thread Cert.KernelMIdeal.nD Cert.KernelMIdeal.τ).loc Cert.KernelMIdeal.main_arg5)
      ∧ m' ((c.tc : Thread Cert.ReferenceMIdeal.nD Cert.ReferenceMIdeal.τ).loc Cert.ReferenceMIdeal.main_arg6) = m ((c.tc : Thread Cert.KernelMIdeal.nD Cert.KernelMIdeal.τ).loc Cert.KernelMIdeal.main_arg6)
      ∧ m' ((c.tc : Thread Cert.ReferenceMIdeal.nD Cert.ReferenceMIdeal.τ).loc Cert.ReferenceMIdeal.main_arg7) = m ((c.tc : Thread Cert.KernelMIdeal.nD Cert.KernelMIdeal.τ).loc Cert.KernelMIdeal.main_arg7)
      ∧ m' ((c.tc : Thread Cert.ReferenceMIdeal.nD Cert.ReferenceMIdeal.τ).loc Cert.ReferenceMIdeal.main_arg8) = m ((c.tc : Thread Cert.KernelMIdeal.nD Cert.KernelMIdeal.τ).loc Cert.KernelMIdeal.main_arg8)
      ∧ m' ((c.tc : Thread Cert.ReferenceMIdeal.nD Cert.ReferenceMIdeal.τ).loc Cert.ReferenceMIdeal.main_arg9) = m ((c.tc : Thread Cert.KernelMIdeal.nD Cert.KernelMIdeal.τ).loc Cert.KernelMIdeal.main_arg9)
      ∧ m' ((c.tc : Thread Cert.ReferenceMIdeal.nD Cert.ReferenceMIdeal.τ).loc Cert.ReferenceMIdeal.main_arg10) = m ((c.tc : Thread Cert.KernelMIdeal.nD Cert.KernelMIdeal.τ).loc Cert.KernelMIdeal.main_arg10)
      ∧ m' ((c.tc : Thread Cert.ReferenceMIdeal.nD Cert.ReferenceMIdeal.τ).loc Cert.ReferenceMIdeal.main_arg11) = m ((c.tc : Thread Cert.KernelMIdeal.nD Cert.KernelMIdeal.τ).loc Cert.KernelMIdeal.main_arg11)
      ∧ m' ((c.tc : Thread Cert.ReferenceMIdeal.nD Cert.ReferenceMIdeal.τ).loc Cert.ReferenceMIdeal.main_arg12) = m ((c.tc : Thread Cert.KernelMIdeal.nD Cert.KernelMIdeal.τ).loc Cert.KernelMIdeal.main_arg12)
      ∧ m' ((c.tc : Thread Cert.ReferenceMIdeal.nD Cert.ReferenceMIdeal.τ).loc Cert.ReferenceMIdeal.main_arg13) = m ((c.tc : Thread Cert.KernelMIdeal.nD Cert.KernelMIdeal.τ).loc Cert.KernelMIdeal.main_arg13)
      ∧ m' ((c.tc : Thread Cert.ReferenceMIdeal.nD Cert.ReferenceMIdeal.τ).loc Cert.ReferenceMIdeal.main_arg14) = m ((c.tc : Thread Cert.KernelMIdeal.nD Cert.KernelMIdeal.τ).loc Cert.KernelMIdeal.main_arg14)) →
    ∃ (v0 : (c : Dev Cert.KernelMIdeal.nD) → Buf (Elt Ideal) ((c.tc : Thread Cert.KernelMIdeal.nD Cert.KernelMIdeal.τ).loc Cert.KernelMIdeal.main_v30_0)) (v1 : (c : Dev Cert.KernelMIdeal.nD) → Buf (Elt Ideal) ((c.tc : Thread Cert.KernelMIdeal.nD Cert.KernelMIdeal.τ).loc Cert.KernelMIdeal.main_v30_1)) (v2 : (c : Dev Cert.KernelMIdeal.nD) → Buf (Elt Ideal) ((c.tc : Thread Cert.KernelMIdeal.nD Cert.KernelMIdeal.τ).loc Cert.KernelMIdeal.main_v30_2)),
      θ_run (Cert.KernelMIdeal.defs (F := Ideal)) (onTc (τ := Cert.KernelMIdeal.τ) (Cert.KernelMIdeal.main (F := Ideal))) ⟨m, fun _ => 0, g⟩ (fun r => ∀ c : Dev Cert.KernelMIdeal.nD,
          r.2.mem ((c.tc : Thread Cert.KernelMIdeal.nD Cert.KernelMIdeal.τ).loc Cert.KernelMIdeal.main_v30_0) = v0 c
          ∧ r.2.mem ((c.tc : Thread Cert.KernelMIdeal.nD Cert.KernelMIdeal.τ).loc Cert.KernelMIdeal.main_v30_1) = v1 c
          ∧ r.2.mem ((c.tc : Thread Cert.KernelMIdeal.nD Cert.KernelMIdeal.τ).loc Cert.KernelMIdeal.main_v30_2) = v2 c
          ∧ r.2.mem ((c.tc : Thread Cert.KernelMIdeal.nD Cert.KernelMIdeal.τ).loc Cert.KernelMIdeal.main_arg0) = m ((c.tc : Thread Cert.KernelMIdeal.nD Cert.KernelMIdeal.τ).loc Cert.KernelMIdeal.main_arg0)
          ∧ r.2.mem ((c.tc : Thread Cert.KernelMIdeal.nD Cert.KernelMIdeal.τ).loc Cert.KernelMIdeal.main_arg1) = m ((c.tc : Thread Cert.KernelMIdeal.nD Cert.KernelMIdeal.τ).loc Cert.KernelMIdeal.main_arg1)
          ∧ r.2.mem ((c.tc : Thread Cert.KernelMIdeal.nD Cert.KernelMIdeal.τ).loc Cert.KernelMIdeal.main_arg2) = m ((c.tc : Thread Cert.KernelMIdeal.nD Cert.KernelMIdeal.τ).loc Cert.KernelMIdeal.main_arg2)
          ∧ r.2.mem ((c.tc : Thread Cert.KernelMIdeal.nD Cert.KernelMIdeal.τ).loc Cert.KernelMIdeal.main_arg3) = m ((c.tc : Thread Cert.KernelMIdeal.nD Cert.KernelMIdeal.τ).loc Cert.KernelMIdeal.main_arg3)
          ∧ r.2.mem ((c.tc : Thread Cert.KernelMIdeal.nD Cert.KernelMIdeal.τ).loc Cert.KernelMIdeal.main_arg4) = m ((c.tc : Thread Cert.KernelMIdeal.nD Cert.KernelMIdeal.τ).loc Cert.KernelMIdeal.main_arg4)
          ∧ r.2.mem ((c.tc : Thread Cert.KernelMIdeal.nD Cert.KernelMIdeal.τ).loc Cert.KernelMIdeal.main_arg5) = m ((c.tc : Thread Cert.KernelMIdeal.nD Cert.KernelMIdeal.τ).loc Cert.KernelMIdeal.main_arg5)
          ∧ r.2.mem ((c.tc : Thread Cert.KernelMIdeal.nD Cert.KernelMIdeal.τ).loc Cert.KernelMIdeal.main_arg6) = m ((c.tc : Thread Cert.KernelMIdeal.nD Cert.KernelMIdeal.τ).loc Cert.KernelMIdeal.main_arg6)
          ∧ r.2.mem ((c.tc : Thread Cert.KernelMIdeal.nD Cert.KernelMIdeal.τ).loc Cert.KernelMIdeal.main_arg7) = m ((c.tc : Thread Cert.KernelMIdeal.nD Cert.KernelMIdeal.τ).loc Cert.KernelMIdeal.main_arg7)
          ∧ r.2.mem ((c.tc : Thread Cert.KernelMIdeal.nD Cert.KernelMIdeal.τ).loc Cert.KernelMIdeal.main_arg8) = m ((c.tc : Thread Cert.KernelMIdeal.nD Cert.KernelMIdeal.τ).loc Cert.KernelMIdeal.main_arg8)
          ∧ r.2.mem ((c.tc : Thread Cert.KernelMIdeal.nD Cert.KernelMIdeal.τ).loc Cert.KernelMIdeal.main_arg9) = m ((c.tc : Thread Cert.KernelMIdeal.nD Cert.KernelMIdeal.τ).loc Cert.KernelMIdeal.main_arg9)
          ∧ r.2.mem ((c.tc : Thread Cert.KernelMIdeal.nD Cert.KernelMIdeal.τ).loc Cert.KernelMIdeal.main_arg10) = m ((c.tc : Thread Cert.KernelMIdeal.nD Cert.KernelMIdeal.τ).loc Cert.KernelMIdeal.main_arg10)
          ∧ r.2.mem ((c.tc : Thread Cert.KernelMIdeal.nD Cert.KernelMIdeal.τ).loc Cert.KernelMIdeal.main_arg11) = m ((c.tc : Thread Cert.KernelMIdeal.nD Cert.KernelMIdeal.τ).loc Cert.KernelMIdeal.main_arg11)
          ∧ r.2.mem ((c.tc : Thread Cert.KernelMIdeal.nD Cert.KernelMIdeal.τ).loc Cert.KernelMIdeal.main_arg12) = m ((c.tc : Thread Cert.KernelMIdeal.nD Cert.KernelMIdeal.τ).loc Cert.KernelMIdeal.main_arg12)
          ∧ r.2.mem ((c.tc : Thread Cert.KernelMIdeal.nD Cert.KernelMIdeal.τ).loc Cert.KernelMIdeal.main_arg13) = m ((c.tc : Thread Cert.KernelMIdeal.nD Cert.KernelMIdeal.τ).loc Cert.KernelMIdeal.main_arg13)
          ∧ r.2.mem ((c.tc : Thread Cert.KernelMIdeal.nD Cert.KernelMIdeal.τ).loc Cert.KernelMIdeal.main_arg14) = m ((c.tc : Thread Cert.KernelMIdeal.nD Cert.KernelMIdeal.τ).loc Cert.KernelMIdeal.main_arg14))
      ∧ θ_run (Cert.ReferenceMIdeal.defs (F := Ideal)) (onTc (τ := Cert.ReferenceMIdeal.τ) (Cert.ReferenceMIdeal.main (F := Ideal))) ⟨m', fun _ => 0, g'⟩ (fun r => ∀ c : Dev Cert.ReferenceMIdeal.nD,
          r.2.mem ((c.tc : Thread Cert.ReferenceMIdeal.nD Cert.ReferenceMIdeal.τ).loc Cert.ReferenceMIdeal.main_v61) = v0 c
          ∧ r.2.mem ((c.tc : Thread Cert.ReferenceMIdeal.nD Cert.ReferenceMIdeal.τ).loc Cert.ReferenceMIdeal.main_v70) = v1 c
          ∧ r.2.mem ((c.tc : Thread Cert.ReferenceMIdeal.nD Cert.ReferenceMIdeal.τ).loc Cert.ReferenceMIdeal.main_v81) = v2 c
          ∧ r.2.mem ((c.tc : Thread Cert.ReferenceMIdeal.nD Cert.ReferenceMIdeal.τ).loc Cert.ReferenceMIdeal.main_arg0) = m' ((c.tc : Thread Cert.ReferenceMIdeal.nD Cert.ReferenceMIdeal.τ).loc Cert.ReferenceMIdeal.main_arg0)
          ∧ r.2.mem ((c.tc : Thread Cert.ReferenceMIdeal.nD Cert.ReferenceMIdeal.τ).loc Cert.ReferenceMIdeal.main_arg1) = m' ((c.tc : Thread Cert.ReferenceMIdeal.nD Cert.ReferenceMIdeal.τ).loc Cert.ReferenceMIdeal.main_arg1)
          ∧ r.2.mem ((c.tc : Thread Cert.ReferenceMIdeal.nD Cert.ReferenceMIdeal.τ).loc Cert.ReferenceMIdeal.main_arg2) = m' ((c.tc : Thread Cert.ReferenceMIdeal.nD Cert.ReferenceMIdeal.τ).loc Cert.ReferenceMIdeal.main_arg2)
          ∧ r.2.mem ((c.tc : Thread Cert.ReferenceMIdeal.nD Cert.ReferenceMIdeal.τ).loc Cert.ReferenceMIdeal.main_arg3) = m' ((c.tc : Thread Cert.ReferenceMIdeal.nD Cert.ReferenceMIdeal.τ).loc Cert.ReferenceMIdeal.main_arg3)
          ∧ r.2.mem ((c.tc : Thread Cert.ReferenceMIdeal.nD Cert.ReferenceMIdeal.τ).loc Cert.ReferenceMIdeal.main_arg4) = m' ((c.tc : Thread Cert.ReferenceMIdeal.nD Cert.ReferenceMIdeal.τ).loc Cert.ReferenceMIdeal.main_arg4)
          ∧ r.2.mem ((c.tc : Thread Cert.ReferenceMIdeal.nD Cert.ReferenceMIdeal.τ).loc Cert.ReferenceMIdeal.main_arg5) = m' ((c.tc : Thread Cert.ReferenceMIdeal.nD Cert.ReferenceMIdeal.τ).loc Cert.ReferenceMIdeal.main_arg5)
          ∧ r.2.mem ((c.tc : Thread Cert.ReferenceMIdeal.nD Cert.ReferenceMIdeal.τ).loc Cert.ReferenceMIdeal.main_arg6) = m' ((c.tc : Thread Cert.ReferenceMIdeal.nD Cert.ReferenceMIdeal.τ).loc Cert.ReferenceMIdeal.main_arg6)
          ∧ r.2.mem ((c.tc : Thread Cert.ReferenceMIdeal.nD Cert.ReferenceMIdeal.τ).loc Cert.ReferenceMIdeal.main_arg7) = m' ((c.tc : Thread Cert.ReferenceMIdeal.nD Cert.ReferenceMIdeal.τ).loc Cert.ReferenceMIdeal.main_arg7)
          ∧ r.2.mem ((c.tc : Thread Cert.ReferenceMIdeal.nD Cert.ReferenceMIdeal.τ).loc Cert.ReferenceMIdeal.main_arg8) = m' ((c.tc : Thread Cert.ReferenceMIdeal.nD Cert.ReferenceMIdeal.τ).loc Cert.ReferenceMIdeal.main_arg8)
          ∧ r.2.mem ((c.tc : Thread Cert.ReferenceMIdeal.nD Cert.ReferenceMIdeal.τ).loc Cert.ReferenceMIdeal.main_arg9) = m' ((c.tc : Thread Cert.ReferenceMIdeal.nD Cert.ReferenceMIdeal.τ).loc Cert.ReferenceMIdeal.main_arg9)
          ∧ r.2.mem ((c.tc : Thread Cert.ReferenceMIdeal.nD Cert.ReferenceMIdeal.τ).loc Cert.ReferenceMIdeal.main_arg10) = m' ((c.tc : Thread Cert.ReferenceMIdeal.nD Cert.ReferenceMIdeal.τ).loc Cert.ReferenceMIdeal.main_arg10)
          ∧ r.2.mem ((c.tc : Thread Cert.ReferenceMIdeal.nD Cert.ReferenceMIdeal.τ).loc Cert.ReferenceMIdeal.main_arg11) = m' ((c.tc : Thread Cert.ReferenceMIdeal.nD Cert.ReferenceMIdeal.τ).loc Cert.ReferenceMIdeal.main_arg11)
          ∧ r.2.mem ((c.tc : Thread Cert.ReferenceMIdeal.nD Cert.ReferenceMIdeal.τ).loc Cert.ReferenceMIdeal.main_arg12) = m' ((c.tc : Thread Cert.ReferenceMIdeal.nD Cert.ReferenceMIdeal.τ).loc Cert.ReferenceMIdeal.main_arg12)
          ∧ r.2.mem ((c.tc : Thread Cert.ReferenceMIdeal.nD Cert.ReferenceMIdeal.τ).loc Cert.ReferenceMIdeal.main_arg13) = m' ((c.tc : Thread Cert.ReferenceMIdeal.nD Cert.ReferenceMIdeal.τ).loc Cert.ReferenceMIdeal.main_arg13)
          ∧ r.2.mem ((c.tc : Thread Cert.ReferenceMIdeal.nD Cert.ReferenceMIdeal.τ).loc Cert.ReferenceMIdeal.main_arg14) = m' ((c.tc : Thread Cert.ReferenceMIdeal.nD Cert.ReferenceMIdeal.τ).loc Cert.ReferenceMIdeal.main_arg14))

def preserves_KernelI_KernelIIdeal : Prop :=
  True

def algebraic_KernelIIdeal_ReferenceIIdeal_pre_finite_i [hKernelIIdeal : Cert.KernelIIdeal.Facts] [hReferenceIIdeal : Cert.ReferenceIIdeal.Facts] [hPre_finite_i : Cert.Pre_finite_i.Facts] : Prop :=
  ∀ (m : (ℓ : Loc Cert.KernelIIdeal.nD Cert.KernelIIdeal.τ Cert.KernelIIdeal.sig) → Buf (Elt Ideal) ℓ) (g : Dev Cert.KernelIIdeal.nD → PrngReg)
    (m' : (ℓ : Loc Cert.ReferenceIIdeal.nD Cert.ReferenceIIdeal.τ Cert.ReferenceIIdeal.sig) → Buf (Elt Ideal) ℓ) (g' : Dev Cert.ReferenceIIdeal.nD → PrngReg), Pre_KernelIIdeal_finite_i m →
    (∀ c : Dev Cert.KernelIIdeal.nD,
      m' ((c.tc : Thread Cert.ReferenceIIdeal.nD Cert.ReferenceIIdeal.τ).loc Cert.ReferenceIIdeal.main_arg0) = m ((c.tc : Thread Cert.KernelIIdeal.nD Cert.KernelIIdeal.τ).loc Cert.KernelIIdeal.main_arg0)
      ∧ m' ((c.tc : Thread Cert.ReferenceIIdeal.nD Cert.ReferenceIIdeal.τ).loc Cert.ReferenceIIdeal.main_arg1) = m ((c.tc : Thread Cert.KernelIIdeal.nD Cert.KernelIIdeal.τ).loc Cert.KernelIIdeal.main_arg1)
      ∧ m' ((c.tc : Thread Cert.ReferenceIIdeal.nD Cert.ReferenceIIdeal.τ).loc Cert.ReferenceIIdeal.main_arg2) = m ((c.tc : Thread Cert.KernelIIdeal.nD Cert.KernelIIdeal.τ).loc Cert.KernelIIdeal.main_arg2)
      ∧ m' ((c.tc : Thread Cert.ReferenceIIdeal.nD Cert.ReferenceIIdeal.τ).loc Cert.ReferenceIIdeal.main_arg3) = m ((c.tc : Thread Cert.KernelIIdeal.nD Cert.KernelIIdeal.τ).loc Cert.KernelIIdeal.main_arg3)
      ∧ m' ((c.tc : Thread Cert.ReferenceIIdeal.nD Cert.ReferenceIIdeal.τ).loc Cert.ReferenceIIdeal.main_arg4) = m ((c.tc : Thread Cert.KernelIIdeal.nD Cert.KernelIIdeal.τ).loc Cert.KernelIIdeal.main_arg4)
      ∧ m' ((c.tc : Thread Cert.ReferenceIIdeal.nD Cert.ReferenceIIdeal.τ).loc Cert.ReferenceIIdeal.main_arg5) = m ((c.tc : Thread Cert.KernelIIdeal.nD Cert.KernelIIdeal.τ).loc Cert.KernelIIdeal.main_arg5)
      ∧ m' ((c.tc : Thread Cert.ReferenceIIdeal.nD Cert.ReferenceIIdeal.τ).loc Cert.ReferenceIIdeal.main_arg6) = m ((c.tc : Thread Cert.KernelIIdeal.nD Cert.KernelIIdeal.τ).loc Cert.KernelIIdeal.main_arg6)
      ∧ m' ((c.tc : Thread Cert.ReferenceIIdeal.nD Cert.ReferenceIIdeal.τ).loc Cert.ReferenceIIdeal.main_arg7) = m ((c.tc : Thread Cert.KernelIIdeal.nD Cert.KernelIIdeal.τ).loc Cert.KernelIIdeal.main_arg7)
      ∧ m' ((c.tc : Thread Cert.ReferenceIIdeal.nD Cert.ReferenceIIdeal.τ).loc Cert.ReferenceIIdeal.main_arg8) = m ((c.tc : Thread Cert.KernelIIdeal.nD Cert.KernelIIdeal.τ).loc Cert.KernelIIdeal.main_arg8)
      ∧ m' ((c.tc : Thread Cert.ReferenceIIdeal.nD Cert.ReferenceIIdeal.τ).loc Cert.ReferenceIIdeal.main_arg9) = m ((c.tc : Thread Cert.KernelIIdeal.nD Cert.KernelIIdeal.τ).loc Cert.KernelIIdeal.main_arg9)) →
    ∃ (v0 : (c : Dev Cert.KernelIIdeal.nD) → Buf (Elt Ideal) ((c.tc : Thread Cert.KernelIIdeal.nD Cert.KernelIIdeal.τ).loc Cert.KernelIIdeal.main_v110_0)) (v1 : (c : Dev Cert.KernelIIdeal.nD) → Buf (Elt Ideal) ((c.tc : Thread Cert.KernelIIdeal.nD Cert.KernelIIdeal.τ).loc Cert.KernelIIdeal.main_v110_1)) (v2 : (c : Dev Cert.KernelIIdeal.nD) → Buf (Elt Ideal) ((c.tc : Thread Cert.KernelIIdeal.nD Cert.KernelIIdeal.τ).loc Cert.KernelIIdeal.main_v110_2)) (v3 : (c : Dev Cert.KernelIIdeal.nD) → Buf (Elt Ideal) ((c.tc : Thread Cert.KernelIIdeal.nD Cert.KernelIIdeal.τ).loc Cert.KernelIIdeal.main_v110_3)) (v4 : (c : Dev Cert.KernelIIdeal.nD) → Buf (Elt Ideal) ((c.tc : Thread Cert.KernelIIdeal.nD Cert.KernelIIdeal.τ).loc Cert.KernelIIdeal.main_v110_4)) (v5 : (c : Dev Cert.KernelIIdeal.nD) → Buf (Elt Ideal) ((c.tc : Thread Cert.KernelIIdeal.nD Cert.KernelIIdeal.τ).loc Cert.KernelIIdeal.main_v110_5)) (v6 : (c : Dev Cert.KernelIIdeal.nD) → Buf (Elt Ideal) ((c.tc : Thread Cert.KernelIIdeal.nD Cert.KernelIIdeal.τ).loc Cert.KernelIIdeal.main_v110_6)) (v7 : (c : Dev Cert.KernelIIdeal.nD) → Buf (Elt Ideal) ((c.tc : Thread Cert.KernelIIdeal.nD Cert.KernelIIdeal.τ).loc Cert.KernelIIdeal.main_v110_7)) (v8 : (c : Dev Cert.KernelIIdeal.nD) → Buf (Elt Ideal) ((c.tc : Thread Cert.KernelIIdeal.nD Cert.KernelIIdeal.τ).loc Cert.KernelIIdeal.main_v110_8)),
      θ_run (Cert.KernelIIdeal.defs (F := Ideal)) (onTc (τ := Cert.KernelIIdeal.τ) (Cert.KernelIIdeal.main (F := Ideal))) ⟨m, fun _ => 0, g⟩ (fun r => ∀ c : Dev Cert.KernelIIdeal.nD,
          r.2.mem ((c.tc : Thread Cert.KernelIIdeal.nD Cert.KernelIIdeal.τ).loc Cert.KernelIIdeal.main_v110_0) = v0 c
          ∧ r.2.mem ((c.tc : Thread Cert.KernelIIdeal.nD Cert.KernelIIdeal.τ).loc Cert.KernelIIdeal.main_v110_1) = v1 c
          ∧ r.2.mem ((c.tc : Thread Cert.KernelIIdeal.nD Cert.KernelIIdeal.τ).loc Cert.KernelIIdeal.main_v110_2) = v2 c
          ∧ r.2.mem ((c.tc : Thread Cert.KernelIIdeal.nD Cert.KernelIIdeal.τ).loc Cert.KernelIIdeal.main_v110_3) = v3 c
          ∧ r.2.mem ((c.tc : Thread Cert.KernelIIdeal.nD Cert.KernelIIdeal.τ).loc Cert.KernelIIdeal.main_v110_4) = v4 c
          ∧ r.2.mem ((c.tc : Thread Cert.KernelIIdeal.nD Cert.KernelIIdeal.τ).loc Cert.KernelIIdeal.main_v110_5) = v5 c
          ∧ r.2.mem ((c.tc : Thread Cert.KernelIIdeal.nD Cert.KernelIIdeal.τ).loc Cert.KernelIIdeal.main_v110_6) = v6 c
          ∧ r.2.mem ((c.tc : Thread Cert.KernelIIdeal.nD Cert.KernelIIdeal.τ).loc Cert.KernelIIdeal.main_v110_7) = v7 c
          ∧ r.2.mem ((c.tc : Thread Cert.KernelIIdeal.nD Cert.KernelIIdeal.τ).loc Cert.KernelIIdeal.main_v110_8) = v8 c
          ∧ r.2.mem ((c.tc : Thread Cert.KernelIIdeal.nD Cert.KernelIIdeal.τ).loc Cert.KernelIIdeal.main_arg0) = m ((c.tc : Thread Cert.KernelIIdeal.nD Cert.KernelIIdeal.τ).loc Cert.KernelIIdeal.main_arg0)
          ∧ r.2.mem ((c.tc : Thread Cert.KernelIIdeal.nD Cert.KernelIIdeal.τ).loc Cert.KernelIIdeal.main_arg1) = m ((c.tc : Thread Cert.KernelIIdeal.nD Cert.KernelIIdeal.τ).loc Cert.KernelIIdeal.main_arg1)
          ∧ r.2.mem ((c.tc : Thread Cert.KernelIIdeal.nD Cert.KernelIIdeal.τ).loc Cert.KernelIIdeal.main_arg2) = m ((c.tc : Thread Cert.KernelIIdeal.nD Cert.KernelIIdeal.τ).loc Cert.KernelIIdeal.main_arg2)
          ∧ r.2.mem ((c.tc : Thread Cert.KernelIIdeal.nD Cert.KernelIIdeal.τ).loc Cert.KernelIIdeal.main_arg3) = m ((c.tc : Thread Cert.KernelIIdeal.nD Cert.KernelIIdeal.τ).loc Cert.KernelIIdeal.main_arg3)
          ∧ r.2.mem ((c.tc : Thread Cert.KernelIIdeal.nD Cert.KernelIIdeal.τ).loc Cert.KernelIIdeal.main_arg4) = m ((c.tc : Thread Cert.KernelIIdeal.nD Cert.KernelIIdeal.τ).loc Cert.KernelIIdeal.main_arg4)
          ∧ r.2.mem ((c.tc : Thread Cert.KernelIIdeal.nD Cert.KernelIIdeal.τ).loc Cert.KernelIIdeal.main_arg5) = m ((c.tc : Thread Cert.KernelIIdeal.nD Cert.KernelIIdeal.τ).loc Cert.KernelIIdeal.main_arg5)
          ∧ r.2.mem ((c.tc : Thread Cert.KernelIIdeal.nD Cert.KernelIIdeal.τ).loc Cert.KernelIIdeal.main_arg6) = m ((c.tc : Thread Cert.KernelIIdeal.nD Cert.KernelIIdeal.τ).loc Cert.KernelIIdeal.main_arg6)
          ∧ r.2.mem ((c.tc : Thread Cert.KernelIIdeal.nD Cert.KernelIIdeal.τ).loc Cert.KernelIIdeal.main_arg7) = m ((c.tc : Thread Cert.KernelIIdeal.nD Cert.KernelIIdeal.τ).loc Cert.KernelIIdeal.main_arg7)
          ∧ r.2.mem ((c.tc : Thread Cert.KernelIIdeal.nD Cert.KernelIIdeal.τ).loc Cert.KernelIIdeal.main_arg8) = m ((c.tc : Thread Cert.KernelIIdeal.nD Cert.KernelIIdeal.τ).loc Cert.KernelIIdeal.main_arg8)
          ∧ r.2.mem ((c.tc : Thread Cert.KernelIIdeal.nD Cert.KernelIIdeal.τ).loc Cert.KernelIIdeal.main_arg9) = m ((c.tc : Thread Cert.KernelIIdeal.nD Cert.KernelIIdeal.τ).loc Cert.KernelIIdeal.main_arg9))
      ∧ θ_run (Cert.ReferenceIIdeal.defs (F := Ideal)) (onTc (τ := Cert.ReferenceIIdeal.τ) (Cert.ReferenceIIdeal.main (F := Ideal))) ⟨m', fun _ => 0, g'⟩ (fun r => ∀ c : Dev Cert.ReferenceIIdeal.nD,
          r.2.mem ((c.tc : Thread Cert.ReferenceIIdeal.nD Cert.ReferenceIIdeal.τ).loc Cert.ReferenceIIdeal.main_v374) = v0 c
          ∧ r.2.mem ((c.tc : Thread Cert.ReferenceIIdeal.nD Cert.ReferenceIIdeal.τ).loc Cert.ReferenceIIdeal.main_v376) = v1 c
          ∧ r.2.mem ((c.tc : Thread Cert.ReferenceIIdeal.nD Cert.ReferenceIIdeal.τ).loc Cert.ReferenceIIdeal.main_v379) = v2 c
          ∧ r.2.mem ((c.tc : Thread Cert.ReferenceIIdeal.nD Cert.ReferenceIIdeal.τ).loc Cert.ReferenceIIdeal.main_v382) = v3 c
          ∧ r.2.mem ((c.tc : Thread Cert.ReferenceIIdeal.nD Cert.ReferenceIIdeal.τ).loc Cert.ReferenceIIdeal.main_v385) = v4 c
          ∧ r.2.mem ((c.tc : Thread Cert.ReferenceIIdeal.nD Cert.ReferenceIIdeal.τ).loc Cert.ReferenceIIdeal.main_v388) = v5 c
          ∧ r.2.mem ((c.tc : Thread Cert.ReferenceIIdeal.nD Cert.ReferenceIIdeal.τ).loc Cert.ReferenceIIdeal.main_v391) = v6 c
          ∧ r.2.mem ((c.tc : Thread Cert.ReferenceIIdeal.nD Cert.ReferenceIIdeal.τ).loc Cert.ReferenceIIdeal.main_v393) = v7 c
          ∧ r.2.mem ((c.tc : Thread Cert.ReferenceIIdeal.nD Cert.ReferenceIIdeal.τ).loc Cert.ReferenceIIdeal.main_v396) = v8 c
          ∧ r.2.mem ((c.tc : Thread Cert.ReferenceIIdeal.nD Cert.ReferenceIIdeal.τ).loc Cert.ReferenceIIdeal.main_arg0) = m' ((c.tc : Thread Cert.ReferenceIIdeal.nD Cert.ReferenceIIdeal.τ).loc Cert.ReferenceIIdeal.main_arg0)
          ∧ r.2.mem ((c.tc : Thread Cert.ReferenceIIdeal.nD Cert.ReferenceIIdeal.τ).loc Cert.ReferenceIIdeal.main_arg1) = m' ((c.tc : Thread Cert.ReferenceIIdeal.nD Cert.ReferenceIIdeal.τ).loc Cert.ReferenceIIdeal.main_arg1)
          ∧ r.2.mem ((c.tc : Thread Cert.ReferenceIIdeal.nD Cert.ReferenceIIdeal.τ).loc Cert.ReferenceIIdeal.main_arg2) = m' ((c.tc : Thread Cert.ReferenceIIdeal.nD Cert.ReferenceIIdeal.τ).loc Cert.ReferenceIIdeal.main_arg2)
          ∧ r.2.mem ((c.tc : Thread Cert.ReferenceIIdeal.nD Cert.ReferenceIIdeal.τ).loc Cert.ReferenceIIdeal.main_arg3) = m' ((c.tc : Thread Cert.ReferenceIIdeal.nD Cert.ReferenceIIdeal.τ).loc Cert.ReferenceIIdeal.main_arg3)
          ∧ r.2.mem ((c.tc : Thread Cert.ReferenceIIdeal.nD Cert.ReferenceIIdeal.τ).loc Cert.ReferenceIIdeal.main_arg4) = m' ((c.tc : Thread Cert.ReferenceIIdeal.nD Cert.ReferenceIIdeal.τ).loc Cert.ReferenceIIdeal.main_arg4)
          ∧ r.2.mem ((c.tc : Thread Cert.ReferenceIIdeal.nD Cert.ReferenceIIdeal.τ).loc Cert.ReferenceIIdeal.main_arg5) = m' ((c.tc : Thread Cert.ReferenceIIdeal.nD Cert.ReferenceIIdeal.τ).loc Cert.ReferenceIIdeal.main_arg5)
          ∧ r.2.mem ((c.tc : Thread Cert.ReferenceIIdeal.nD Cert.ReferenceIIdeal.τ).loc Cert.ReferenceIIdeal.main_arg6) = m' ((c.tc : Thread Cert.ReferenceIIdeal.nD Cert.ReferenceIIdeal.τ).loc Cert.ReferenceIIdeal.main_arg6)
          ∧ r.2.mem ((c.tc : Thread Cert.ReferenceIIdeal.nD Cert.ReferenceIIdeal.τ).loc Cert.ReferenceIIdeal.main_arg7) = m' ((c.tc : Thread Cert.ReferenceIIdeal.nD Cert.ReferenceIIdeal.τ).loc Cert.ReferenceIIdeal.main_arg7)
          ∧ r.2.mem ((c.tc : Thread Cert.ReferenceIIdeal.nD Cert.ReferenceIIdeal.τ).loc Cert.ReferenceIIdeal.main_arg8) = m' ((c.tc : Thread Cert.ReferenceIIdeal.nD Cert.ReferenceIIdeal.τ).loc Cert.ReferenceIIdeal.main_arg8)
          ∧ r.2.mem ((c.tc : Thread Cert.ReferenceIIdeal.nD Cert.ReferenceIIdeal.τ).loc Cert.ReferenceIIdeal.main_arg9) = m' ((c.tc : Thread Cert.ReferenceIIdeal.nD Cert.ReferenceIIdeal.τ).loc Cert.ReferenceIIdeal.main_arg9))

def Claim : Prop :=
  ∃ (hKernel : Cert.Kernel.Facts) (hKernelIdeal : Cert.KernelIdeal.Facts) (hReferenceIdeal : Cert.ReferenceIdeal.Facts) (hKernelB : Cert.KernelB.Facts) (hKernelBIdeal : Cert.KernelBIdeal.Facts) (hReferenceBIdeal : Cert.ReferenceBIdeal.Facts) (hKernelA : Cert.KernelA.Facts) (hKernelAIdeal : Cert.KernelAIdeal.Facts) (hReferenceAIdeal : Cert.ReferenceAIdeal.Facts) (hKernelM : Cert.KernelM.Facts) (hKernelMIdeal : Cert.KernelMIdeal.Facts) (hReferenceMIdeal : Cert.ReferenceMIdeal.Facts) (hKernelI : Cert.KernelI.Facts) (hKernelIIdeal : Cert.KernelIIdeal.Facts) (hReferenceIIdeal : Cert.ReferenceIIdeal.Facts) (hPre_finite_c : Cert.Pre_finite_c.Facts) (hPre_finite_b : Cert.Pre_finite_b.Facts) (hPre_finite_i : Cert.Pre_finite_i.Facts),
    quiescent_Kernel (hKernel := hKernel)
    ∧ quiescent_KernelIdeal (hKernelIdeal := hKernelIdeal)
    ∧ quiescent_KernelIdeal_pre_finite_c (hKernelIdeal := hKernelIdeal) (hPre_finite_c := hPre_finite_c)
    ∧ quiescent_ReferenceIdeal (hReferenceIdeal := hReferenceIdeal)
    ∧ quiescent_ReferenceIdeal_pre_finite_c (hReferenceIdeal := hReferenceIdeal) (hPre_finite_c := hPre_finite_c)
    ∧ quiescent_KernelB (hKernelB := hKernelB)
    ∧ quiescent_KernelBIdeal (hKernelBIdeal := hKernelBIdeal)
    ∧ quiescent_KernelBIdeal_pre_finite_b (hKernelBIdeal := hKernelBIdeal) (hPre_finite_b := hPre_finite_b)
    ∧ quiescent_ReferenceBIdeal (hReferenceBIdeal := hReferenceBIdeal)
    ∧ quiescent_ReferenceBIdeal_pre_finite_b (hReferenceBIdeal := hReferenceBIdeal) (hPre_finite_b := hPre_finite_b)
    ∧ quiescent_KernelA (hKernelA := hKernelA)
    ∧ quiescent_KernelAIdeal (hKernelAIdeal := hKernelAIdeal)
    ∧ quiescent_ReferenceAIdeal (hReferenceAIdeal := hReferenceAIdeal)
    ∧ quiescent_KernelM (hKernelM := hKernelM)
    ∧ quiescent_KernelMIdeal (hKernelMIdeal := hKernelMIdeal)
    ∧ quiescent_ReferenceMIdeal (hReferenceMIdeal := hReferenceMIdeal)
    ∧ quiescent_KernelI (hKernelI := hKernelI)
    ∧ quiescent_KernelIIdeal (hKernelIIdeal := hKernelIIdeal)
    ∧ quiescent_KernelIIdeal_pre_finite_i (hKernelIIdeal := hKernelIIdeal) (hPre_finite_i := hPre_finite_i)
    ∧ quiescent_ReferenceIIdeal (hReferenceIIdeal := hReferenceIIdeal)
    ∧ quiescent_ReferenceIIdeal_pre_finite_i (hReferenceIIdeal := hReferenceIIdeal) (hPre_finite_i := hPre_finite_i)
    ∧ preserves_Kernel_KernelIdeal
    ∧ algebraic_KernelIdeal_ReferenceIdeal_pre_finite_c (hKernelIdeal := hKernelIdeal) (hReferenceIdeal := hReferenceIdeal) (hPre_finite_c := hPre_finite_c)
    ∧ preserves_KernelB_KernelBIdeal
    ∧ algebraic_KernelBIdeal_ReferenceBIdeal_pre_finite_b (hKernelBIdeal := hKernelBIdeal) (hReferenceBIdeal := hReferenceBIdeal) (hPre_finite_b := hPre_finite_b)
    ∧ preserves_KernelA_KernelAIdeal
    ∧ preserves_KernelM_KernelMIdeal
    ∧ algebraic_KernelMIdeal_ReferenceMIdeal (hKernelMIdeal := hKernelMIdeal) (hReferenceMIdeal := hReferenceMIdeal)
    ∧ preserves_KernelI_KernelIIdeal
    ∧ algebraic_KernelIIdeal_ReferenceIIdeal_pre_finite_i (hKernelIIdeal := hKernelIIdeal) (hReferenceIIdeal := hReferenceIIdeal) (hPre_finite_i := hPre_finite_i)
-- ==== Pre_finite_b.lean ====
abbrev S16x2048x4x96 : Shape := ⟨4, ![16, 2048, 4, 96]⟩
abbrev S16x2048x4x64 : Shape := ⟨4, ![16, 2048, 4, 64]⟩
abbrev S16x256x4x96 : Shape := ⟨4, ![16, 256, 4, 96]⟩
abbrev S16x256x4x64 : Shape := ⟨4, ![16, 256, 4, 64]⟩
abbrev S_ : Shape := ⟨0, ![]⟩

class Facts : Prop where
  bcast_S_S16x2048x4x96 : S_.BroadcastsInDim S16x2048x4x96 (![] : Fin 0 → Fin S16x2048x4x96.rank)
  reducesTo_S16x2048x4x96_S_d0_1_2_3 : S16x2048x4x96.ReducesTo [0, 1, 2, 3] S_
  h_S_ : 0 < S_.numel
  bcast_S_S16x256x4x96 : S_.BroadcastsInDim S16x256x4x96 (![] : Fin 0 → Fin S16x256x4x96.rank)
  reducesTo_S16x256x4x96_S_d0_1_2_3 : S16x256x4x96.ReducesTo [0, 1, 2, 3] S_

variable [Facts]

def fn {F : FTy → Type} [FloatOps F] (main_arg0 : FVec F S16x2048x4x96 .f32) (main_arg1 : FVec F S16x2048x4x96 .f32) (main_arg2 : FVec F S16x2048x4x64 .f32) (main_arg3 : FVec F S16x256x4x96 .f32) (main_arg4 : FVec F S16x256x4x64 .f32) : IVec S_ 1 :=
  let main_v0 : FVec F S16x2048x4x96 .f32 := Host.absf main_arg0
  let main_cst : FVec F S_ .f32 := constant S_ .f32 0x7F800000#32
  let main_v1 : FVec F S16x2048x4x96 .f32 := broadcastInDim S16x2048x4x96 ![] bcast_S_S16x2048x4x96 main_cst
  let main_v2 : IVec S16x2048x4x96 1 := cmpf .olt main_v0 main_v1
  let main_c : IVec S_ 1 := constantI S_ 1 1#1
  let main_v3 : IVec S_ 1 := (fun x v => Host.reduce IntOp.andi x v reducesTo_S16x2048x4x96_S_d0_1_2_3 h_S_) main_v2 main_c
  let main_v4 : FVec F S16x2048x4x96 .f32 := Host.absf main_arg1
  let main_cst_0 : FVec F S_ .f32 := constant S_ .f32 0x7F800000#32
  let main_v5 : FVec F S16x2048x4x96 .f32 := broadcastInDim S16x2048x4x96 ![] bcast_S_S16x2048x4x96 main_cst_0
  let main_v6 : IVec S16x2048x4x96 1 := cmpf .olt main_v4 main_v5
  let main_c_1 : IVec S_ 1 := constantI S_ 1 1#1
  let main_v7 : IVec S_ 1 := (fun x v => Host.reduce IntOp.andi x v reducesTo_S16x2048x4x96_S_d0_1_2_3 h_S_) main_v6 main_c_1
  let main_v8 : IVec S_ 1 := andi main_v3 main_v7
  let main_v9 : FVec F S16x256x4x96 .f32 := Host.absf main_arg3
  let main_cst_2 : FVec F S_ .f32 := constant S_ .f32 0x7F800000#32
  let main_v10 : FVec F S16x256x4x96 .f32 := broadcastInDim S16x256x4x96 ![] bcast_S_S16x256x4x96 main_cst_2
  let main_v11 : IVec S16x256x4x96 1 := cmpf .olt main_v9 main_v10
  let main_c_3 : IVec S_ 1 := constantI S_ 1 1#1
  let main_v12 : IVec S_ 1 := (fun x v => Host.reduce IntOp.andi x v reducesTo_S16x256x4x96_S_d0_1_2_3 h_S_) main_v11 main_c_3
  let main_v13 : IVec S_ 1 := andi main_v8 main_v12
  main_v13
-- ==== Pre_finite_c.lean ====
abbrev S16x2048x2x3x64 : Shape := ⟨5, ![16, 2048, 2, 3, 64]⟩
abbrev S16x2048x2x64 : Shape := ⟨4, ![16, 2048, 2, 64]⟩
abbrev S16x256x2x64 : Shape := ⟨4, ![16, 256, 2, 64]⟩
abbrev S_ : Shape := ⟨0, ![]⟩

class Facts : Prop where
  bcast_S_S16x2048x2x3x64 : S_.BroadcastsInDim S16x2048x2x3x64 (![] : Fin 0 → Fin S16x2048x2x3x64.rank)
  reducesTo_S16x2048x2x3x64_S_d0_1_2_3_4 : S16x2048x2x3x64.ReducesTo [0, 1, 2, 3, 4] S_
  h_S_ : 0 < S_.numel
  bcast_S_S16x2048x2x64 : S_.BroadcastsInDim S16x2048x2x64 (![] : Fin 0 → Fin S16x2048x2x64.rank)
  reducesTo_S16x2048x2x64_S_d0_1_2_3 : S16x2048x2x64.ReducesTo [0, 1, 2, 3] S_
  bcast_S_S16x256x2x64 : S_.BroadcastsInDim S16x256x2x64 (![] : Fin 0 → Fin S16x256x2x64.rank)
  reducesTo_S16x256x2x64_S_d0_1_2_3 : S16x256x2x64.ReducesTo [0, 1, 2, 3] S_

variable [Facts]

def fn {F : FTy → Type} [FloatOps F] (main_arg0 : FVec F S16x2048x2x3x64 .f32) (main_arg1 : FVec F S16x2048x2x64 .f32) (main_arg2 : FVec F S16x2048x2x64 .f32) (main_arg3 : FVec F S16x256x2x64 .f32) (main_arg4 : FVec F S16x256x2x64 .f32) : IVec S_ 1 :=
  let main_v0 : FVec F S16x2048x2x3x64 .f32 := Host.absf main_arg0
  let main_cst : FVec F S_ .f32 := constant S_ .f32 0x7F800000#32
  let main_v1 : FVec F S16x2048x2x3x64 .f32 := broadcastInDim S16x2048x2x3x64 ![] bcast_S_S16x2048x2x3x64 main_cst
  let main_v2 : IVec S16x2048x2x3x64 1 := cmpf .olt main_v0 main_v1
  let main_c : IVec S_ 1 := constantI S_ 1 1#1
  let main_v3 : IVec S_ 1 := (fun x v => Host.reduce IntOp.andi x v reducesTo_S16x2048x2x3x64_S_d0_1_2_3_4 h_S_) main_v2 main_c
  let main_v4 : FVec F S16x2048x2x64 .f32 := Host.absf main_arg1
  let main_cst_0 : FVec F S_ .f32 := constant S_ .f32 0x7F800000#32
  let main_v5 : FVec F S16x2048x2x64 .f32 := broadcastInDim S16x2048x2x64 ![] bcast_S_S16x2048x2x64 main_cst_0
  let main_v6 : IVec S16x2048x2x64 1 := cmpf .olt main_v4 main_v5
  let main_c_1 : IVec S_ 1 := constantI S_ 1 1#1
  let main_v7 : IVec S_ 1 := (fun x v => Host.reduce IntOp.andi x v reducesTo_S16x2048x2x64_S_d0_1_2_3 h_S_) main_v6 main_c_1
  let main_v8 : IVec S_ 1 := andi main_v3 main_v7
  let main_v9 : FVec F S16x256x2x64 .f32 := Host.absf main_arg3
  let main_cst_2 : FVec F S_ .f32 := constant S_ .f32 0x7F800000#32
  let main_v10 : FVec F S16x256x2x64 .f32 := broadcastInDim S16x256x2x64 ![] bcast_S_S16x256x2x64 main_cst_2
  let main_v11 : IVec S16x256x2x64 1 := cmpf .olt main_v9 main_v10
  let main_c_3 : IVec S_ 1 := constantI S_ 1 1#1
  let main_v12 : IVec S_ 1 := (fun x v => Host.reduce IntOp.andi x v reducesTo_S16x256x2x64_S_d0_1_2_3 h_S_) main_v11 main_c_3
  let main_v13 : IVec S_ 1 := andi main_v8 main_v12
  main_v13
-- ==== Pre_finite_i.lean ====
abbrev S16x2048x1024 : Shape := ⟨3, ![16, 2048, 1024]⟩
abbrev S16x1024 : Shape := ⟨2, ![16, 1024]⟩
abbrev S1024x1696 : Shape := ⟨2, ![1024, 1696]⟩
abbrev S256 : Shape := ⟨1, ![256]⟩
abbrev S128 : Shape := ⟨1, ![128]⟩
abbrev S256x384 : Shape := ⟨2, ![256, 384]⟩
abbrev S128x512 : Shape := ⟨2, ![128, 512]⟩
abbrev S64 : Shape := ⟨1, ![64]⟩
abbrev S_ : Shape := ⟨0, ![]⟩

class Facts : Prop where
  bcast_S_S16x2048x1024 : S_.BroadcastsInDim S16x2048x1024 (![] : Fin 0 → Fin S16x2048x1024.rank)
  reducesTo_S16x2048x1024_S_d0_1_2 : S16x2048x1024.ReducesTo [0, 1, 2] S_
  h_S_ : 0 < S_.numel
  bcast_S_S16x1024 : S_.BroadcastsInDim S16x1024 (![] : Fin 0 → Fin S16x1024.rank)
  reducesTo_S16x1024_S_d0_1 : S16x1024.ReducesTo [0, 1] S_
  bcast_S_S1024x1696 : S_.BroadcastsInDim S1024x1696 (![] : Fin 0 → Fin S1024x1696.rank)
  reducesTo_S1024x1696_S_d0_1 : S1024x1696.ReducesTo [0, 1] S_

variable [Facts]

def fn_part1 {F : FTy → Type} [FloatOps F] (main_v13 : IVec S_ 1) (main_v16 : IVec S1024x1696 1) : IVec S_ 1 :=
  let main_c_5 : IVec S_ 1 := constantI S_ 1 1#1
  let main_v17 : IVec S_ 1 := (fun x v => Host.reduce IntOp.andi x v reducesTo_S1024x1696_S_d0_1 h_S_) main_v16 main_c_5
  let main_v18 : IVec S_ 1 := andi main_v13 main_v17
  main_v18

def fn {F : FTy → Type} [FloatOps F] (main_arg0 : FVec F S16x2048x1024 .f32) (main_arg1 : FVec F S16x1024 .f32) (main_arg2 : FVec F S16x1024 .f32) (main_arg3 : FVec F S1024x1696 .f32) (main_arg4 : FVec F S256 .f32) (main_arg5 : FVec F S128 .f32) (main_arg6 : FVec F S256x384 .f32) (main_arg7 : FVec F S128x512 .f32) (main_arg8 : FVec F S64 .f32) (main_arg9 : FVec F S64 .f32) : IVec S_ 1 :=
  let main_v0 : FVec F S16x2048x1024 .f32 := Host.absf main_arg0
  let main_cst : FVec F S_ .f32 := constant S_ .f32 0x7F800000#32
  let main_v1 : FVec F S16x2048x1024 .f32 := broadcastInDim S16x2048x1024 ![] bcast_S_S16x2048x1024 main_cst
  let main_v2 : IVec S16x2048x1024 1 := cmpf .olt main_v0 main_v1
  let main_c : IVec S_ 1 := constantI S_ 1 1#1
  let main_v3 : IVec S_ 1 := (fun x v => Host.reduce IntOp.andi x v reducesTo_S16x2048x1024_S_d0_1_2 h_S_) main_v2 main_c
  let main_v4 : FVec F S16x1024 .f32 := Host.absf main_arg1
  let main_cst_0 : FVec F S_ .f32 := constant S_ .f32 0x7F800000#32
  let main_v5 : FVec F S16x1024 .f32 := broadcastInDim S16x1024 ![] bcast_S_S16x1024 main_cst_0
  let main_v6 : IVec S16x1024 1 := cmpf .olt main_v4 main_v5
  let main_c_1 : IVec S_ 1 := constantI S_ 1 1#1
  let main_v7 : IVec S_ 1 := (fun x v => Host.reduce IntOp.andi x v reducesTo_S16x1024_S_d0_1 h_S_) main_v6 main_c_1
  let main_v8 : IVec S_ 1 := andi main_v3 main_v7
  let main_v9 : FVec F S16x1024 .f32 := Host.absf main_arg2
  let main_cst_2 : FVec F S_ .f32 := constant S_ .f32 0x7F800000#32
  let main_v10 : FVec F S16x1024 .f32 := broadcastInDim S16x1024 ![] bcast_S_S16x1024 main_cst_2
  let main_v11 : IVec S16x1024 1 := cmpf .olt main_v9 main_v10
  let main_c_3 : IVec S_ 1 := constantI S_ 1 1#1
  let main_v12 : IVec S_ 1 := (fun x v => Host.reduce IntOp.andi x v reducesTo_S16x1024_S_d0_1 h_S_) main_v11 main_c_3
  let main_v13 : IVec S_ 1 := andi main_v8 main_v12
  let main_v14 : FVec F S1024x1696 .f32 := Host.absf main_arg3
  let main_cst_4 : FVec F S_ .f32 := constant S_ .f32 0x7F800000#32
  let main_v15 : FVec F S1024x1696 .f32 := broadcastInDim S1024x1696 ![] bcast_S_S1024x1696 main_cst_4
  let main_v16 : IVec S1024x1696 1 := cmpf .olt main_v14 main_v15
  fn_part1 (F := F) main_v13 main_v16
-- ==== Kernel.lean ====
abbrev S16x2048x2x3x64 : Shape := ⟨5, ![16, 2048, 2, 3, 64]⟩
abbrev S16x2048x2x64 : Shape := ⟨4, ![16, 2048, 2, 64]⟩
abbrev S16x256x2x64 : Shape := ⟨4, ![16, 256, 2, 64]⟩
abbrev S16x2048x3x2x64 : Shape := ⟨5, ![16, 2048, 3, 2, 64]⟩
abbrev S16x2048x384 : Shape := ⟨3, ![16, 2048, 384]⟩
abbrev S16x256x128 : Shape := ⟨3, ![16, 256, 128]⟩
abbrev S16x128x256 : Shape := ⟨3, ![16, 128, 256]⟩
abbrev S16x2048x128 : Shape := ⟨3, ![16, 2048, 128]⟩
abbrev S16x128x2048 : Shape := ⟨3, ![16, 128, 2048]⟩
abbrev S1x512x384 : Shape := ⟨3, ![1, 512, 384]⟩
abbrev S1x256x128 : Shape := ⟨3, ![1, 256, 128]⟩
abbrev S1x128x256 : Shape := ⟨3, ![1, 128, 256]⟩
abbrev S1x2048x128 : Shape := ⟨3, ![1, 2048, 128]⟩
abbrev S1x128x2048 : Shape := ⟨3, ![1, 128, 2048]⟩
abbrev S512x384 : Shape := ⟨2, ![512, 384]⟩
abbrev S512x128 : Shape := ⟨2, ![512, 128]⟩
abbrev S1536x128 : Shape := ⟨2, ![1536, 128]⟩
abbrev S256x128 : Shape := ⟨2, ![256, 128]⟩
abbrev S128x256 : Shape := ⟨2, ![128, 256]⟩
abbrev S2048x128 : Shape := ⟨2, ![2048, 128]⟩
abbrev S128x2048 : Shape := ⟨2, ![128, 2048]⟩
abbrev S256x1536 : Shape := ⟨2, ![256, 1536]⟩
abbrev S2048x1536 : Shape := ⟨2, ![2048, 1536]⟩
abbrev S1536 : Shape := ⟨1, ![1536]⟩
abbrev S1x1536 : Shape := ⟨2, ![1, 1536]⟩
abbrev S16x256 : Shape := ⟨2, ![16, 256]⟩
abbrev S144x256 : Shape := ⟨2, ![144, 256]⟩
abbrev S144x1536 : Shape := ⟨2, ![144, 1536]⟩
abbrev S16x2048 : Shape := ⟨2, ![16, 2048]⟩
abbrev S144x2048 : Shape := ⟨2, ![144, 2048]⟩
abbrev S128x1536 : Shape := ⟨2, ![128, 1536]⟩

abbrev nBuf : Space → Nat
  | .hbm => 19
  | .vmem => 12
  | .smem => 0
  | _ => 0

abbrev bufTy : (tb : Table) → Fin (tcTables nBuf tb) → BufTy
  | .hbm, ⟨0, _⟩ => ⟨S16x2048x2x3x64, .f32⟩
  | .hbm, ⟨1, _⟩ => ⟨S16x2048x2x64, .f32⟩
  | .hbm, ⟨2, _⟩ => ⟨S16x2048x2x64, .f32⟩
  | .hbm, ⟨3, _⟩ => ⟨S16x256x2x64, .f32⟩
  | .hbm, ⟨4, _⟩ => ⟨S16x256x2x64, .f32⟩
  | .hbm, ⟨5, _⟩ => ⟨S16x2048x3x2x64, .f32⟩
  | .hbm, ⟨6, _⟩ => ⟨S16x2048x384, .f32⟩
  | .hbm, ⟨7, _⟩ => ⟨S16x2048x384, .bf16⟩
  | .hbm, ⟨8, _⟩ => ⟨S16x256x128, .f32⟩
  | .hbm, ⟨9, _⟩ => ⟨S16x256x128, .bf16⟩
  | .hbm, ⟨10, _⟩ => ⟨S16x256x128, .f32⟩
  | .hbm, ⟨11, _⟩ => ⟨S16x256x128, .bf16⟩
  | .hbm, ⟨12, _⟩ => ⟨S16x128x256, .bf16⟩
  | .hbm, ⟨13, _⟩ => ⟨S16x2048x128, .f32⟩
  | .hbm, ⟨14, _⟩ => ⟨S16x2048x128, .bf16⟩
  | .hbm, ⟨15, _⟩ => ⟨S16x2048x128, .f32⟩
  | .hbm, ⟨16, _⟩ => ⟨S16x2048x128, .bf16⟩
  | .hbm, ⟨17, _⟩ => ⟨S16x128x2048, .bf16⟩
  | .hbm, ⟨18, _⟩ => ⟨S16x2048x384, .bf16⟩
  | .local _ .vmem, ⟨0, _⟩ => ⟨S1x512x384, .bf16⟩
  | .local _ .vmem, ⟨1, _⟩ => ⟨S1x512x384, .bf16⟩
  | .local _ .vmem, ⟨2, _⟩ => ⟨S1x256x128, .bf16⟩
  | .local _ .vmem, ⟨3, _⟩ => ⟨S1x256x128, .bf16⟩
  | .local _ .vmem, ⟨4, _⟩ => ⟨S1x128x256, .bf16⟩
  | .local _ .vmem, ⟨5, _⟩ => ⟨S1x128x256, .bf16⟩
  | .local _ .vmem, ⟨6, _⟩ => ⟨S1x2048x128, .bf16⟩
  | .local _ .vmem, ⟨7, _⟩ => ⟨S1x2048x128, .bf16⟩
  | .local _ .vmem, ⟨8, _⟩ => ⟨S1x128x2048, .bf16⟩
  | .local _ .vmem, ⟨9, _⟩ => ⟨S1x128x2048, .bf16⟩
  | .local _ .vmem, ⟨10, _⟩ => ⟨S1x512x384, .bf16⟩
  | .local _ .vmem, ⟨11, _⟩ => ⟨S1x512x384, .bf16⟩
  | _, _ => ⟨S16x2048x2x3x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x384 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "scale" => some (((1 / 8) * (Real.log 2)⁻¹ : ℝ) : EReal)
  | _ => none
-- ==== ReferenceIdeal.lean ====
abbrev S16x2048x2x3x64 : Shape := ⟨5, ![16, 2048, 2, 3, 64]⟩
abbrev S16x2048x2x64 : Shape := ⟨4, ![16, 2048, 2, 64]⟩
abbrev S16x256x2x64 : Shape := ⟨4, ![16, 256, 2, 64]⟩
abbrev S16x2304x2x64 : Shape := ⟨4, ![16, 2304, 2, 64]⟩
abbrev S16x2x2304x2048x3 : Shape := ⟨5, ![16, 2, 2304, 2048, 3]⟩
abbrev S16x2x3x2048x2304 : Shape := ⟨5, ![16, 2, 3, 2048, 2304]⟩
abbrev S_ : Shape := ⟨0, ![]⟩
abbrev S16x2x3x2048 : Shape := ⟨4, ![16, 2, 3, 2048]⟩
abbrev S16x2x3x2048x1 : Shape := ⟨5, ![16, 2, 3, 2048, 1]⟩
abbrev S16x2x64x3x2048 : Shape := ⟨5, ![16, 2, 64, 3, 2048]⟩
abbrev S16x2048x3x2x64 : Shape := ⟨5, ![16, 2048, 3, 2, 64]⟩
abbrev S16x2048x384 : Shape := ⟨3, ![16, 2048, 384]⟩

abbrev nBuf : Space → Nat
  | .hbm => 31
  | .vmem => 0
  | .smem => 0
  | _ => 0

abbrev bufTy : (tb : Table) → Fin (tcTables nBuf tb) → BufTy
  | .hbm, ⟨0, _⟩ => ⟨S16x2048x2x3x64, .f32⟩
  | .hbm, ⟨1, _⟩ => ⟨S16x2048x2x64, .f32⟩
  | .hbm, ⟨2, _⟩ => ⟨S16x2048x2x64, .f32⟩
  | .hbm, ⟨3, _⟩ => ⟨S16x256x2x64, .f32⟩
  | .hbm, ⟨4, _⟩ => ⟨S16x256x2x64, .f32⟩
  | .hbm, ⟨5, _⟩ => ⟨S16x2304x2x64, .f32⟩
  | .hbm, ⟨6, _⟩ => ⟨S16x2304x2x64, .f32⟩
  | .hbm, ⟨7, _⟩ => ⟨S16x2x2304x2048x3, .f32⟩
  | .hbm, ⟨8, _⟩ => ⟨S16x2x3x2048x2304, .f32⟩
  | .hbm, ⟨9, _⟩ => ⟨S_, .f32⟩
  | .hbm, ⟨10, _⟩ => ⟨S16x2x3x2048x2304, .f32⟩
  | .hbm, ⟨11, _⟩ => ⟨S16x2x3x2048x2304, .f32⟩
  | .hbm, ⟨12, _⟩ => ⟨S_, .f32⟩
  | .hbm, ⟨13, _⟩ => ⟨S16x2x3x2048, .f32⟩
  | .hbm, ⟨14, _⟩ => ⟨S_, .f32⟩
  | .hbm, ⟨15, _⟩ => ⟨S16x2x3x2048, .f32⟩
  | .hbm, ⟨16, _⟩ => ⟨S16x2x3x2048, .f32⟩
  | .hbm, ⟨17, _⟩ => ⟨S16x2x3x2048x1, .f32⟩
  | .hbm, ⟨18, _⟩ => ⟨S16x2x3x2048x2304, .f32⟩
  | .hbm, ⟨19, _⟩ => ⟨S16x2x3x2048x2304, .f32⟩
  | .hbm, ⟨20, _⟩ => ⟨S16x2x3x2048x2304, .f32⟩
  | .hbm, ⟨21, _⟩ => ⟨S_, .f32⟩
  | .hbm, ⟨22, _⟩ => ⟨S16x2x3x2048, .f32⟩
  | .hbm, ⟨23, _⟩ => ⟨S16x2x3x2048x1, .f32⟩
  | .hbm, ⟨24, _⟩ => ⟨S16x2x3x2048x2304, .f32⟩
  | .hbm, ⟨25, _⟩ => ⟨S16x2x3x2048x2304, .f32⟩
  | .hbm, ⟨26, _⟩ => ⟨S16x2x64x3x2048, .f32⟩
  | .hbm, ⟨27, _⟩ => ⟨S16x2048x2x3x64, .f32⟩
  | .hbm, ⟨28, _⟩ => ⟨S16x2048x3x2x64, .f32⟩
  | .hbm, ⟨29, _⟩ => ⟨S16x2048x384, .f32⟩
  | .hbm, ⟨30, _⟩ => ⟨S16x2048x384, .bf16⟩
  | _, _ => ⟨S16x2048x2x3x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== KernelB.lean ====
abbrev S16x2048x4x96 : Shape := ⟨4, ![16, 2048, 4, 96]⟩
abbrev S16x2048x4x64 : Shape := ⟨4, ![16, 2048, 4, 64]⟩
abbrev S16x256x4x96 : Shape := ⟨4, ![16, 256, 4, 96]⟩
abbrev S16x256x4x64 : Shape := ⟨4, ![16, 256, 4, 64]⟩
abbrev S_ : Shape := ⟨0, ![]⟩
abbrev S16x2048x4x128 : Shape := ⟨4, ![16, 2048, 4, 128]⟩
abbrev S16x2048x512 : Shape := ⟨3, ![16, 2048, 512]⟩
abbrev S16x256x4x128 : Shape := ⟨4, ![16, 256, 4, 128]⟩
abbrev S16x256x512 : Shape := ⟨3, ![16, 256, 512]⟩
abbrev S16x256x256 : Shape := ⟨3, ![16, 256, 256]⟩
abbrev S16x2048x256 : Shape := ⟨3, ![16, 2048, 256]⟩
abbrev S16x256x2048 : Shape := ⟨3, ![16, 256, 2048]⟩
abbrev S1x1024x512 : Shape := ⟨3, ![1, 1024, 512]⟩
abbrev S1x256x512 : Shape := ⟨3, ![1, 256, 512]⟩
abbrev S1x256x256 : Shape := ⟨3, ![1, 256, 256]⟩
abbrev S1x2048x512 : Shape := ⟨3, ![1, 2048, 512]⟩
abbrev S1x256x2048 : Shape := ⟨3, ![1, 256, 2048]⟩
abbrev S1x1024x256 : Shape := ⟨3, ![1, 1024, 256]⟩
abbrev S1024x512 : Shape := ⟨2, ![1024, 512]⟩
abbrev S1024x128 : Shape := ⟨2, ![1024, 128]⟩
abbrev S1x256x128 : Shape := ⟨3, ![1, 256, 128]⟩
abbrev S256x128 : Shape := ⟨2, ![256, 128]⟩
abbrev S1x128x256 : Shape := ⟨3, ![1, 128, 256]⟩
abbrev S128x256 : Shape := ⟨2, ![128, 256]⟩
abbrev S1x2048x128 : Shape := ⟨3, ![1, 2048, 128]⟩
abbrev S2048x128 : Shape := ⟨2, ![2048, 128]⟩
abbrev S1x128x2048 : Shape := ⟨3, ![1, 128, 2048]⟩
abbrev S128x2048 : Shape := ⟨2, ![128, 2048]⟩
abbrev S256x1024 : Shape := ⟨2, ![256, 1024]⟩
abbrev S2048x1024 : Shape := ⟨2, ![2048, 1024]⟩
abbrev S1024 : Shape := ⟨1, ![1024]⟩
abbrev S1x1024 : Shape := ⟨2, ![1, 1024]⟩
abbrev S16x256 : Shape := ⟨2, ![16, 256]⟩
abbrev S144x256 : Shape := ⟨2, ![144, 256]⟩
abbrev S144x1024 : Shape := ⟨2, ![144, 1024]⟩
abbrev S16x2048 : Shape := ⟨2, ![16, 2048]⟩
abbrev S144x2048 : Shape := ⟨2, ![144, 2048]⟩
abbrev S128x1024 : Shape := ⟨2, ![128, 1024]⟩
abbrev S1024x256 : Shape := ⟨2, ![1024, 256]⟩

abbrev nBuf : Space → Nat
  | .hbm => 27
  | .vmem => 12
  | .smem => 0
  | _ => 0

abbrev bufTy : (tb : Table) → Fin (tcTables nBuf tb) → BufTy
  | .hbm, ⟨0, _⟩ => ⟨S16x2048x4x96, .f32⟩
  | .hbm, ⟨1, _⟩ => ⟨S16x2048x4x96, .f32⟩
  | .hbm, ⟨2, _⟩ => ⟨S16x2048x4x64, .f32⟩
  | .hbm, ⟨3, _⟩ => ⟨S16x256x4x96, .f32⟩
  | .hbm, ⟨4, _⟩ => ⟨S16x256x4x64, .f32⟩
  | .hbm, ⟨5, _⟩ => ⟨S_, .i32⟩
  | .hbm, ⟨6, _⟩ => ⟨S_, .f32⟩
  | .hbm, ⟨7, _⟩ => ⟨S16x2048x4x128, .f32⟩
  | .hbm, ⟨8, _⟩ => ⟨S16x2048x512, .f32⟩
  | .hbm, ⟨9, _⟩ => ⟨S16x2048x512, .bf16⟩
  | .hbm, ⟨10, _⟩ => ⟨S_, .i32⟩
  | .hbm, ⟨11, _⟩ => ⟨S_, .f32⟩
  | .hbm, ⟨12, _⟩ => ⟨S16x256x4x128, .f32⟩
  | .hbm, ⟨13, _⟩ => ⟨S16x256x512, .f32⟩
  | .hbm, ⟨14, _⟩ => ⟨S16x256x512, .bf16⟩
  | .hbm, ⟨15, _⟩ => ⟨S16x256x256, .f32⟩
  | .hbm, ⟨16, _⟩ => ⟨S16x256x256, .bf16⟩
  | .hbm, ⟨17, _⟩ => ⟨S16x256x256, .bf16⟩
  | .hbm, ⟨18, _⟩ => ⟨S_, .i32⟩
  | .hbm, ⟨19, _⟩ => ⟨S_, .f32⟩
  | .hbm, ⟨20, _⟩ => ⟨S16x2048x4x128, .f32⟩
  | .hbm, ⟨21, _⟩ => ⟨S16x2048x512, .f32⟩
  | .hbm, ⟨22, _⟩ => ⟨S16x2048x512, .bf16⟩
  | .hbm, ⟨23, _⟩ => ⟨S16x2048x256, .f32⟩
  | .hbm, ⟨24, _⟩ => ⟨S16x2048x256, .bf16⟩
  | .hbm, ⟨25, _⟩ => ⟨S16x256x2048, .bf16⟩
  | .hbm, ⟨26, _⟩ => ⟨S16x2048x256, .bf16⟩
  | .local _ .vmem, ⟨0, _⟩ => ⟨S1x1024x512, .bf16⟩
  | .local _ .vmem, ⟨1, _⟩ => ⟨S1x1024x512, .bf16⟩
  | .local _ .vmem, ⟨2, _⟩ => ⟨S1x256x512, .bf16⟩
  | .local _ .vmem, ⟨3, _⟩ => ⟨S1x256x512, .bf16⟩
  | .local _ .vmem, ⟨4, _⟩ => ⟨S1x256x256, .bf16⟩
  | .local _ .vmem, ⟨5, _⟩ => ⟨S1x256x256, .bf16⟩
  | .local _ .vmem, ⟨6, _⟩ => ⟨S1x2048x512, .bf16⟩
  | .local _ .vmem, ⟨7, _⟩ => ⟨S1x2048x512, .bf16⟩
  | .local _ .vmem, ⟨8, _⟩ => ⟨S1x256x2048, .bf16⟩
  | .local _ .vmem, ⟨9, _⟩ => ⟨S1x256x2048, .bf16⟩
  | .local _ .vmem, ⟨10, _⟩ => ⟨S1x1024x256, .bf16⟩
  | .local _ .vmem, ⟨11, _⟩ => ⟨S1x1024x256, .bf16⟩
  | _, _ => ⟨S16x2048x4x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_call1_v0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_call2_v0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelBIdeal.lean ====
variable {F : FTy → Type} [FloatOps F] [Named F]
def κ : String → Option EReal := fun
  | "scale" => some (((Real.sqrt 96)⁻¹ * (Real.log 2)⁻¹ : ℝ) : EReal)
  | _ => none
-- ==== ReferenceBIdeal.lean ====
abbrev S16x2048x4x96 : Shape := ⟨4, ![16, 2048, 4, 96]⟩
abbrev S16x2048x4x64 : Shape := ⟨4, ![16, 2048, 4, 64]⟩
abbrev S16x256x4x96 : Shape := ⟨4, ![16, 256, 4, 96]⟩
abbrev S16x256x4x64 : Shape := ⟨4, ![16, 256, 4, 64]⟩
abbrev S16x2304x4x96 : Shape := ⟨4, ![16, 2304, 4, 96]⟩
abbrev S16x2304x4x64 : Shape := ⟨4, ![16, 2304, 4, 64]⟩
abbrev S16x4x2048x2304 : Shape := ⟨4, ![16, 4, 2048, 2304]⟩
abbrev S_ : Shape := ⟨0, ![]⟩
abbrev S16x4x2048 : Shape := ⟨3, ![16, 4, 2048]⟩
abbrev S16x4x2048x1 : Shape := ⟨4, ![16, 4, 2048, 1]⟩
abbrev S16x4x64x2048 : Shape := ⟨4, ![16, 4, 64, 2048]⟩
abbrev S16x2048x256 : Shape := ⟨3, ![16, 2048, 256]⟩

abbrev nBuf : Space → Nat
  | .hbm => 30
  | .vmem => 0
  | .smem => 0
  | _ => 0

abbrev bufTy : (tb : Table) → Fin (tcTables nBuf tb) → BufTy
  | .hbm, ⟨0, _⟩ => ⟨S16x2048x4x96, .f32⟩
  | .hbm, ⟨1, _⟩ => ⟨S16x2048x4x96, .f32⟩
  | .hbm, ⟨2, _⟩ => ⟨S16x2048x4x64, .f32⟩
  | .hbm, ⟨3, _⟩ => ⟨S16x256x4x96, .f32⟩
  | .hbm, ⟨4, _⟩ => ⟨S16x256x4x64, .f32⟩
  | .hbm, ⟨5, _⟩ => ⟨S16x2304x4x96, .f32⟩
  | .hbm, ⟨6, _⟩ => ⟨S16x2304x4x64, .f32⟩
  | .hbm, ⟨7, _⟩ => ⟨S16x4x2048x2304, .f32⟩
  | .hbm, ⟨8, _⟩ => ⟨S_, .f32⟩
  | .hbm, ⟨9, _⟩ => ⟨S_, .f32⟩
  | .hbm, ⟨10, _⟩ => ⟨S16x4x2048x2304, .f32⟩
  | .hbm, ⟨11, _⟩ => ⟨S16x4x2048x2304, .f32⟩
  | .hbm, ⟨12, _⟩ => ⟨S_, .f32⟩
  | .hbm, ⟨13, _⟩ => ⟨S16x4x2048, .f32⟩
  | .hbm, ⟨14, _⟩ => ⟨S_, .f32⟩
  | .hbm, ⟨15, _⟩ => ⟨S16x4x2048, .f32⟩
  | .hbm, ⟨16, _⟩ => ⟨S16x4x2048, .f32⟩
  | .hbm, ⟨17, _⟩ => ⟨S16x4x2048x1, .f32⟩
  | .hbm, ⟨18, _⟩ => ⟨S16x4x2048x2304, .f32⟩
  | .hbm, ⟨19, _⟩ => ⟨S16x4x2048x2304, .f32⟩
  | .hbm, ⟨20, _⟩ => ⟨S16x4x2048x2304, .f32⟩
  | .hbm, ⟨21, _⟩ => ⟨S_, .f32⟩
  | .hbm, ⟨22, _⟩ => ⟨S16x4x2048, .f32⟩
  | .hbm, ⟨23, _⟩ => ⟨S16x4x2048x1, .f32⟩
  | .hbm, ⟨24, _⟩ => ⟨S16x4x2048x2304, .f32⟩
  | .hbm, ⟨25, _⟩ => ⟨S16x4x2048x2304, .f32⟩
  | .hbm, ⟨26, _⟩ => ⟨S16x4x64x2048, .f32⟩
  | .hbm, ⟨27, _⟩ => ⟨S16x2048x4x64, .f32⟩
  | .hbm, ⟨28, _⟩ => ⟨S16x2048x256, .f32⟩
  | .hbm, ⟨29, _⟩ => ⟨S16x2048x256, .bf16⟩
  | _, _ => ⟨S16x2048x4x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== KernelA.lean ====
abbrev S16x2048x2x3x64 : Shape := ⟨5, ![16, 2048, 2, 3, 64]⟩
abbrev S16x2048x2x64 : Shape := ⟨4, ![16, 2048, 2, 64]⟩
abbrev S16x256x2x64 : Shape := ⟨4, ![16, 256, 2, 64]⟩
abbrev S6 : Shape := ⟨1, ![6]⟩
abbrev S16x2048x3x2x64 : Shape := ⟨5, ![16, 2048, 3, 2, 64]⟩
abbrev S16x2048x384 : Shape := ⟨3, ![16, 2048, 384]⟩
abbrev S16x2048x128 : Shape := ⟨3, ![16, 2048, 128]⟩
abbrev S16x128x2048 : Shape := ⟨3, ![16, 128, 2048]⟩
abbrev S16x256x128 : Shape := ⟨3, ![16, 256, 128]⟩
abbrev S16x128x256 : Shape := ⟨3, ![16, 128, 256]⟩
abbrev S1x256x384 : Shape := ⟨3, ![1, 256, 384]⟩
abbrev S1x128x128 : Shape := ⟨3, ![1, 128, 128]⟩
abbrev S1x256x128 : Shape := ⟨3, ![1, 256, 128]⟩
abbrev S1x128x256 : Shape := ⟨3, ![1, 128, 256]⟩
abbrev S128x128 : Shape := ⟨2, ![128, 128]⟩
abbrev S512x128 : Shape := ⟨2, ![512, 128]⟩
abbrev S128x512 : Shape := ⟨2, ![128, 512]⟩
abbrev S512x256 : Shape := ⟨2, ![512, 256]⟩
abbrev S512x768 : Shape := ⟨2, ![512, 768]⟩
abbrev S256x384 : Shape := ⟨2, ![256, 384]⟩
abbrev S256x128 : Shape := ⟨2, ![256, 128]⟩
abbrev S768x128 : Shape := ⟨2, ![768, 128]⟩
abbrev S1 : Shape := ⟨1, ![1]⟩
abbrev S1x256 : Shape := ⟨2, ![1, 256]⟩
abbrev S1x768 : Shape := ⟨2, ![1, 768]⟩
abbrev S128x256 : Shape := ⟨2, ![128, 256]⟩
abbrev S256x768 : Shape := ⟨2, ![256, 768]⟩
abbrev S768 : Shape := ⟨1, ![768]⟩
abbrev S16x512 : Shape := ⟨2, ![16, 512]⟩
abbrev S144x512 : Shape := ⟨2, ![144, 512]⟩
abbrev S144x768 : Shape := ⟨2, ![144, 768]⟩
abbrev S16x256 : Shape := ⟨2, ![16, 256]⟩
abbrev S144x256 : Shape := ⟨2, ![144, 256]⟩
abbrev S128x768 : Shape := ⟨2, ![128, 768]⟩

abbrev nBuf : Space → Nat
  | .hbm => 20
  | .vmem => 24
  | .smem => 1
  | _ => 0

abbrev bufTy : (tb : Table) → Fin (tcTables nBuf tb) → BufTy
  | .hbm, ⟨0, _⟩ => ⟨S16x2048x2x3x64, .f32⟩
  | .hbm, ⟨1, _⟩ => ⟨S16x2048x2x64, .f32⟩
  | .hbm, ⟨2, _⟩ => ⟨S16x2048x2x64, .f32⟩
  | .hbm, ⟨3, _⟩ => ⟨S16x256x2x64, .f32⟩
  | .hbm, ⟨4, _⟩ => ⟨S16x256x2x64, .f32⟩
  | .hbm, ⟨5, _⟩ => ⟨S6, .f32⟩
  | .hbm, ⟨6, _⟩ => ⟨S16x2048x3x2x64, .f32⟩
  | .hbm, ⟨7, _⟩ => ⟨S16x2048x384, .f32⟩
  | .hbm, ⟨8, _⟩ => ⟨S16x2048x384, .bf16⟩
  | .hbm, ⟨9, _⟩ => ⟨S16x2048x128, .f32⟩
  | .hbm, ⟨10, _⟩ => ⟨S16x2048x128, .bf16⟩
  | .hbm, ⟨11, _⟩ => ⟨S16x2048x128, .f32⟩
  | .hbm, ⟨12, _⟩ => ⟨S16x2048x128, .bf16⟩
  | .hbm, ⟨13, _⟩ => ⟨S16x128x2048, .bf16⟩
  | .hbm, ⟨14, _⟩ => ⟨S16x256x128, .f32⟩
  | .hbm, ⟨15, _⟩ => ⟨S16x256x128, .bf16⟩
  | .hbm, ⟨16, _⟩ => ⟨S16x256x128, .f32⟩
  | .hbm, ⟨17, _⟩ => ⟨S16x256x128, .bf16⟩
  | .hbm, ⟨18, _⟩ => ⟨S16x128x256, .bf16⟩
  | .hbm, ⟨19, _⟩ => ⟨S16x2048x384, .bf16⟩
  | .local _ .vmem, ⟨0, _⟩ => ⟨S1x256x384, .bf16⟩
  | .local _ .vmem, ⟨1, _⟩ => ⟨S1x256x384, .bf16⟩
  | .local _ .vmem, ⟨2, _⟩ => ⟨S1x128x128, .bf16⟩
  | .local _ .vmem, ⟨3, _⟩ => ⟨S1x128x128, .bf16⟩
  | .local _ .vmem, ⟨4, _⟩ => ⟨S1x128x128, .bf16⟩
  | .local _ .vmem, ⟨5, _⟩ => ⟨S1x128x128, .bf16⟩
  | .local _ .vmem, ⟨6, _⟩ => ⟨S1x128x128, .bf16⟩
  | .local _ .vmem, ⟨7, _⟩ => ⟨S1x128x128, .bf16⟩
  | .local _ .vmem, ⟨8, _⟩ => ⟨S1x128x128, .bf16⟩
  | .local _ .vmem, ⟨9, _⟩ => ⟨S1x128x128, .bf16⟩
  | .local _ .vmem, ⟨10, _⟩ => ⟨S1x128x128, .bf16⟩
  | .local _ .vmem, ⟨11, _⟩ => ⟨S1x128x128, .bf16⟩
  | .local _ .vmem, ⟨12, _⟩ => ⟨S1x128x128, .bf16⟩
  | .local _ .vmem, ⟨13, _⟩ => ⟨S1x128x128, .bf16⟩
  | .local _ .vmem, ⟨14, _⟩ => ⟨S1x128x128, .bf16⟩
  | .local _ .vmem, ⟨15, _⟩ => ⟨S1x128x128, .bf16⟩
  | .local _ .vmem, ⟨16, _⟩ => ⟨S1x128x128, .bf16⟩
  | .local _ .vmem, ⟨17, _⟩ => ⟨S1x128x128, .bf16⟩
  | .local _ .vmem, ⟨18, _⟩ => ⟨S1x256x128, .bf16⟩
  | .local _ .vmem, ⟨19, _⟩ => ⟨S1x256x128, .bf16⟩
  | .local _ .vmem, ⟨20, _⟩ => ⟨S1x128x256, .bf16⟩
  | .local _ .vmem, ⟨21, _⟩ => ⟨S1x128x256, .bf16⟩
  | .local _ .vmem, ⟨22, _⟩ => ⟨S1x256x384, .bf16⟩
  | .local _ .vmem, ⟨23, _⟩ => ⟨S1x256x384, .bf16⟩
  | .local _ .smem, ⟨0, _⟩ => ⟨S6, .f32⟩
  | _, _ => ⟨S16x2048x2x3x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .smem, ⟨0, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg11_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem12_1 : DmaSem sig := 24

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c0_i32 : BitVec 32 := 0#32
  let v1 : BitVec 32 := Scalar.addi v0 c0_i32
  let c1_i32 : BitVec 32 := 1#32
  let v2 : BitVec 32 := Scalar.subi v1 c1_i32
  let c0_i32_0 : BitVec 32 := 0#32
  let c15_i32 : BitVec 32 := 15#32
  let v3 : BitVec 32 := Scalar.maxsi c0_i32_0 v2
  let v4 : BitVec 32 := Scalar.minsi c15_i32 v3
  let c0_i32_1 : BitVec 32 := 0#32
  let c0_i32_2 : BitVec 32 := 0#32
  ![arg0.toNat, v4.toNat, c0_i32_1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c1_i32 : BitVec 32 := 1#32
  let v1 : BitVec 32 := Scalar.addi v0 c1_i32
  let c1_i32_0 : BitVec 32 := 1#32
  let v2 : BitVec 32 := Scalar.subi v1 c1_i32_0
  let c0_i32 : BitVec 32 := 0#32
  let c15_i32 : BitVec 32 := 15#32
  let v3 : BitVec 32 := Scalar.maxsi c0_i32 v2
  let v4 : BitVec 32 := Scalar.minsi c15_i32 v3
  let c0_i32_1 : BitVec 32 := 0#32
  let c0_i32_2 : BitVec 32 := 0#32
  ![arg0.toNat, v4.toNat, c0_i32_1.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c2_i32_0 : BitVec 32 := 2#32
  let v1 : BitVec 32 := Scalar.addi v0 c2_i32_0
  let c1_i32 : BitVec 32 := 1#32
  let v2 : BitVec 32 := Scalar.subi v1 c1_i32
  let c0_i32 : BitVec 32 := 0#32
  let c15_i32 : BitVec 32 := 15#32
  let v3 : BitVec 32 := Scalar.maxsi c0_i32 v2
  let v4 : BitVec 32 := Scalar.minsi c15_i32 v3
  let c0_i32_1 : BitVec 32 := 0#32
  let c0_i32_2 : BitVec 32 := 0#32
  ![arg0.toNat, v4.toNat, c0_i32_1.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c3_i32 : BitVec 32 := 3#32
  let v1 : BitVec 32 := Scalar.addi v0 c3_i32
  let c1_i32 : BitVec 32 := 1#32
  let v2 : BitVec 32 := Scalar.subi v1 c1_i32
  let c0_i32 : BitVec 32 := 0#32
  let c15_i32 : BitVec 32 := 15#32
  let v3 : BitVec 32 := Scalar.maxsi c0_i32 v2
  let v4 : BitVec 32 := Scalar.minsi c15_i32 v3
  let c0_i32_0 : BitVec 32 := 0#32
  let c0_i32_1 : BitVec 32 := 0#32
  ![arg0.toNat, v4.toNat, c0_i32_0.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c0_i32 : BitVec 32 := 0#32
  let v1 : BitVec 32 := Scalar.addi v0 c0_i32
  let c1_i32 : BitVec 32 := 1#32
  let v2 : BitVec 32 := Scalar.subi v1 c1_i32
  let c0_i32_0 : BitVec 32 := 0#32
  let c15_i32 : BitVec 32 := 15#32
  let v3 : BitVec 32 := Scalar.maxsi c0_i32_0 v2
  let v4 : BitVec 32 := Scalar.minsi c15_i32 v3
  let c0_i32_1 : BitVec 32 := 0#32
  let c0_i32_2 : BitVec 32 := 0#32
  ![arg0.toNat, c0_i32_1.toNat, v4.toNat]

def cc0_transform_6 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c1_i32 : BitVec 32 := 1#32
  let v1 : BitVec 32 := Scalar.addi v0 c1_i32
  let c1_i32_0 : BitVec 32 := 1#32
  let v2 : BitVec 32 := Scalar.subi v1 c1_i32_0
  let c0_i32 : BitVec 32 := 0#32
  let c15_i32 : BitVec 32 := 15#32
  let v3 : BitVec 32 := Scalar.maxsi c0_i32 v2
  let v4 : BitVec 32 := Scalar.minsi c15_i32 v3
  let c0_i32_1 : BitVec 32 := 0#32
  let c0_i32_2 : BitVec 32 := 0#32
  ![arg0.toNat, c0_i32_1.toNat, v4.toNat]

def cc0_transform_7 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c2_i32_0 : BitVec 32 := 2#32
  let v1 : BitVec 32 := Scalar.addi v0 c2_i32_0
  let c1_i32 : BitVec 32 := 1#32
  let v2 : BitVec 32 := Scalar.subi v1 c1_i32
  let c0_i32 : BitVec 32 := 0#32
  let c15_i32 : BitVec 32 := 15#32
  let v3 : BitVec 32 := Scalar.maxsi c0_i32 v2
  let v4 : BitVec 32 := Scalar.minsi c15_i32 v3
  let c0_i32_1 : BitVec 32 := 0#32
  let c0_i32_2 : BitVec 32 := 0#32
  ![arg0.toNat, c0_i32_1.toNat, v4.toNat]

def cc0_transform_8 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c3_i32 : BitVec 32 := 3#32
  let v1 : BitVec 32 := Scalar.addi v0 c3_i32
  let c1_i32 : BitVec 32 := 1#32
  let v2 : BitVec 32 := Scalar.subi v1 c1_i32
  let c0_i32 : BitVec 32 := 0#32
  let c15_i32 : BitVec 32 := 15#32
  let v3 : BitVec 32 := Scalar.maxsi c0_i32 v2
  let v4 : BitVec 32 := Scalar.minsi c15_i32 v3
  let c0_i32_0 : BitVec 32 := 0#32
  let c0_i32_1 : BitVec 32 := 0#32
  ![arg0.toNat, c0_i32_0.toNat, v4.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x128x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .smem S6 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x256x384 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== KernelAIdeal.lean ====
variable {F : FTy → Type} [FloatOps F] [Named F]
def κ : String → Option EReal := fun
  | "log2e" => some (((Real.log 2)⁻¹ : ℝ) : EReal)
  | "mask" => some ⊥
  | "scale" => some (((1 / 8) * (Real.log 2)⁻¹ : ℝ) : EReal)
  | _ => none
-- ==== ReferenceAIdeal.lean ====
abbrev S16x2048x2x3x64 : Shape := ⟨5, ![16, 2048, 2, 3, 64]⟩
abbrev S16x2048x2x64 : Shape := ⟨4, ![16, 2048, 2, 64]⟩
abbrev S16x256x2x64 : Shape := ⟨4, ![16, 256, 2, 64]⟩
abbrev S6 : Shape := ⟨1, ![6]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S_ : Shape := ⟨0, ![]⟩
abbrev S16x2x2048x2048x3 : Shape := ⟨5, ![16, 2, 2048, 2048, 3]⟩
abbrev S16x2x3x2048x2048 : Shape := ⟨5, ![16, 2, 3, 2048, 2048]⟩
abbrev S16x2x256x2048x3 : Shape := ⟨5, ![16, 2, 256, 2048, 3]⟩
abbrev S16x2x3x2048x256 : Shape := ⟨5, ![16, 2, 3, 2048, 256]⟩
abbrev S16x2x3x2048x2304 : Shape := ⟨5, ![16, 2, 3, 2048, 2304]⟩
abbrev S1x2x3x1x1 : Shape := ⟨5, ![1, 2, 3, 1, 1]⟩
abbrev S16x2x3x2048 : Shape := ⟨4, ![16, 2, 3, 2048]⟩
abbrev S16x2x3x2048x1 : Shape := ⟨5, ![16, 2, 3, 2048, 1]⟩
abbrev S16x2x64x3x2048 : Shape := ⟨5, ![16, 2, 64, 3, 2048]⟩
abbrev S16x2048x3x2x64 : Shape := ⟨5, ![16, 2048, 3, 2, 64]⟩
abbrev S16x2048x384 : Shape := ⟨3, ![16, 2048, 384]⟩

abbrev nBuf : Space → Nat
  | .hbm => 60
  | .vmem => 0
  | .smem => 0
  | _ => 0

abbrev bufTy : (tb : Table) → Fin (tcTables nBuf tb) → BufTy
  | .hbm, ⟨0, _⟩ => ⟨S16x2048x2x3x64, .f32⟩
  | .hbm, ⟨1, _⟩ => ⟨S16x2048x2x64, .f32⟩
  | .hbm, ⟨2, _⟩ => ⟨S16x2048x2x64, .f32⟩
  | .hbm, ⟨3, _⟩ => ⟨S16x256x2x64, .f32⟩
  | .hbm, ⟨4, _⟩ => ⟨S16x256x2x64, .f32⟩
  | .hbm, ⟨5, _⟩ => ⟨S6, .f32⟩
  | .hbm, ⟨6, _⟩ => ⟨S2048, .i32⟩
  | .hbm, ⟨7, _⟩ => ⟨S2048x1, .i32⟩
  | .hbm, ⟨8, _⟩ => ⟨S1x2048, .i32⟩
  | .hbm, ⟨9, _⟩ => ⟨S2048x2048, .i32⟩
  | .hbm, ⟨10, _⟩ => ⟨S2048x2048, .i32⟩
  | .hbm, ⟨11, _⟩ => ⟨S2048x2048, .i32⟩
  | .hbm, ⟨12, _⟩ => ⟨S2048x2048, .i32⟩
  | .hbm, ⟨13, _⟩ => ⟨S_, .i32⟩
  | .hbm, ⟨14, _⟩ => ⟨S2048x2048, .i32⟩
  | .hbm, ⟨15, _⟩ => ⟨S2048x2048, .i1⟩
  | .hbm, ⟨16, _⟩ => ⟨S16x2x2048x2048x3, .f32⟩
  | .hbm, ⟨17, _⟩ => ⟨S16x2x3x2048x2048, .f32⟩
  | .hbm, ⟨18, _⟩ => ⟨S_, .f32⟩
  | .hbm, ⟨19, _⟩ => ⟨S16x2x3x2048x2048, .f32⟩
  | .hbm, ⟨20, _⟩ => ⟨S16x2x3x2048x2048, .f32⟩
  | .hbm, ⟨21, _⟩ => ⟨S_, .f32⟩
  | .hbm, ⟨22, _⟩ => ⟨S_, .f32⟩
  | .hbm, ⟨23, _⟩ => ⟨S16x2x3x2048x2048, .i1⟩
  | .hbm, ⟨24, _⟩ => ⟨S16x2x3x2048x2048, .f32⟩
  | .hbm, ⟨25, _⟩ => ⟨S16x2x3x2048x2048, .f32⟩
  | .hbm, ⟨26, _⟩ => ⟨S16x2x256x2048x3, .f32⟩
  | .hbm, ⟨27, _⟩ => ⟨S16x2x3x2048x256, .f32⟩
  | .hbm, ⟨28, _⟩ => ⟨S_, .f32⟩
  | .hbm, ⟨29, _⟩ => ⟨S16x2x3x2048x256, .f32⟩
  | .hbm, ⟨30, _⟩ => ⟨S16x2x3x2048x256, .f32⟩
  | .hbm, ⟨31, _⟩ => ⟨S16x2x3x2048x2304, .f32⟩
  | .hbm, ⟨32, _⟩ => ⟨S1x2x3x1x1, .f32⟩
  | .hbm, ⟨33, _⟩ => ⟨S_, .f32⟩
  | .hbm, ⟨34, _⟩ => ⟨S16x2x3x2048, .f32⟩
  | .hbm, ⟨35, _⟩ => ⟨S16x2x3x2048x1, .f32⟩
  | .hbm, ⟨36, _⟩ => ⟨S16x2x3x2048x1, .f32⟩
  | .hbm, ⟨37, _⟩ => ⟨S16x2x3x2048x1, .f32⟩
  | .hbm, ⟨38, _⟩ => ⟨S16x2x3x2048x2304, .f32⟩
  | .hbm, ⟨39, _⟩ => ⟨S16x2x3x2048x2304, .f32⟩
  | .hbm, ⟨40, _⟩ => ⟨S16x2x3x2048x2304, .f32⟩
  | .hbm, ⟨41, _⟩ => ⟨S_, .f32⟩
  | .hbm, ⟨42, _⟩ => ⟨S16x2x3x2048, .f32⟩
  | .hbm, ⟨43, _⟩ => ⟨S16x2x3x2048x1, .f32⟩
  | .hbm, ⟨44, _⟩ => ⟨S16x2x3x2048x1, .f32⟩
  | .hbm, ⟨45, _⟩ => ⟨S16x2x3x2048x1, .f32⟩
  | .hbm, ⟨46, _⟩ => ⟨S16x2x3x2048x1, .f32⟩
  | .hbm, ⟨47, _⟩ => ⟨S16x2x3x2048x1, .f32⟩
  | .hbm, ⟨48, _⟩ => ⟨S16x2x3x2048x2304, .f32⟩
  | .hbm, ⟨49, _⟩ => ⟨S16x2x3x2048x2304, .f32⟩
  | .hbm, ⟨50, _⟩ => ⟨S16x2x3x2048x2048, .f32⟩
  | .hbm, ⟨51, _⟩ => ⟨S16x2x64x3x2048, .f32⟩
  | .hbm, ⟨52, _⟩ => ⟨S16x2048x2x3x64, .f32⟩
  | .hbm, ⟨53, _⟩ => ⟨S16x2x3x2048x256, .f32⟩
  | .hbm, ⟨54, _⟩ => ⟨S16x2x64x3x2048, .f32⟩
  | .hbm, ⟨55, _⟩ => ⟨S16x2048x2x3x64, .f32⟩
  | .hbm, ⟨56, _⟩ => ⟨S16x2048x2x3x64, .f32⟩
  | .hbm, ⟨57, _⟩ => ⟨S16x2048x3x2x64, .f32⟩
  | .hbm, ⟨58, _⟩ => ⟨S16x2048x384, .f32⟩
  | .hbm, ⟨59, _⟩ => ⟨S16x2048x384, .bf16⟩
  | _, _ => ⟨S16x2048x2x3x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩

abbrev nD : Nat := 1
abbrev τ : Topo := Topo.v7x

variable {F : FTy → Type} [FloatOps F]
-- ==== KernelM.lean ====
abbrev S16x2048x384 : Shape := ⟨3, ![16, 2048, 384]⟩
abbrev S16x2048x256 : Shape := ⟨3, ![16, 2048, 256]⟩
abbrev S16x2048x1024 : Shape := ⟨3, ![16, 2048, 1024]⟩
abbrev S16x1024 : Shape := ⟨2, ![16, 1024]⟩
abbrev S1024 : Shape := ⟨1, ![1024]⟩
abbrev S1024x3072 : Shape := ⟨2, ![1024, 3072]⟩
abbrev S1024x1024 : Shape := ⟨2, ![1024, 1024]⟩
abbrev S1024x16 : Shape := ⟨2, ![1024, 16]⟩
abbrev S16x2048x2x3x64 : Shape := ⟨5, ![16, 2048, 2, 3, 64]⟩
abbrev S16x2048x3x2x64 : Shape := ⟨5, ![16, 2048, 3, 2, 64]⟩
abbrev S16x1x1024 : Shape := ⟨3, ![16, 1, 1024]⟩
abbrev S1x1024 : Shape := ⟨2, ![1, 1024]⟩
abbrev S384x1024 : Shape := ⟨2, ![384, 1024]⟩
abbrev S2x3x64x1024 : Shape := ⟨4, ![2, 3, 64, 1024]⟩
abbrev S3x2x64x1024 : Shape := ⟨4, ![3, 2, 64, 1024]⟩
abbrev S256x1024 : Shape := ⟨2, ![256, 1024]⟩
abbrev S_ : Shape := ⟨0, ![]⟩
abbrev S1024x128 : Shape := ⟨2, ![1024, 128]⟩
abbrev S16x2048x128 : Shape := ⟨3, ![16, 2048, 128]⟩
abbrev S1x512x384 : Shape := ⟨3, ![1, 512, 384]⟩
abbrev S1x512x256 : Shape := ⟨3, ![1, 512, 256]⟩
abbrev S1x512x1024 : Shape := ⟨3, ![1, 512, 1024]⟩
abbrev S1x1x1024 : Shape := ⟨3, ![1, 1, 1024]⟩
abbrev S1x512x128 : Shape := ⟨3, ![1, 512, 128]⟩
abbrev S512x1024 : Shape := ⟨2, ![512, 1024]⟩
abbrev S512x384 : Shape := ⟨2, ![512, 384]⟩
abbrev S512x256 : Shape := ⟨2, ![512, 256]⟩
abbrev S512 : Shape := ⟨1, ![512]⟩
abbrev S512x1 : Shape := ⟨2, ![512, 1]⟩
abbrev S512x128 : Shape := ⟨2, ![512, 128]⟩

abbrev nBuf : Space → Nat
  | .hbm => 50
  | .vmem => 32
  | .smem => 0
  | _ => 0

abbrev bufTy : (tb : Table) → Fin (tcTables nBuf tb) → BufTy
  | .hbm, ⟨0, _⟩ => ⟨S16x2048x384, .f32⟩
  | .hbm, ⟨1, _⟩ => ⟨S16x2048x256, .f32⟩
  | .hbm, ⟨2, _⟩ => ⟨S16x2048x384, .f32⟩
  | .hbm, ⟨3, _⟩ => ⟨S16x2048x1024, .f32⟩
  | .hbm, ⟨4, _⟩ => ⟨S16x1024, .f32⟩
  | .hbm, ⟨5, _⟩ => ⟨S16x1024, .f32⟩
  | .hbm, ⟨6, _⟩ => ⟨S16x1024, .f32⟩
  | .hbm, ⟨7, _⟩ => ⟨S16x1024, .f32⟩
  | .hbm, ⟨8, _⟩ => ⟨S16x1024, .f32⟩
  | .hbm, ⟨9, _⟩ => ⟨S1024, .f32⟩
  | .hbm, ⟨10, _⟩ => ⟨S1024, .f32⟩
  | .hbm, ⟨11, _⟩ => ⟨S1024x3072, .f32⟩
  | .hbm, ⟨12, _⟩ => ⟨S1024x1024, .f32⟩
  | .hbm, ⟨13, _⟩ => ⟨S1024x1024, .f32⟩
  | .hbm, ⟨14, _⟩ => ⟨S1024x16, .f32⟩
  | .hbm, ⟨15, _⟩ => ⟨S1024x1024, .bf16⟩
  | .hbm, ⟨16, _⟩ => ⟨S16x2048x384, .bf16⟩
  | .hbm, ⟨17, _⟩ => ⟨S16x2048x2x3x64, .bf16⟩
  | .hbm, ⟨18, _⟩ => ⟨S16x2048x3x2x64, .bf16⟩
  | .hbm, ⟨19, _⟩ => ⟨S16x2048x384, .bf16⟩
  | .hbm, ⟨20, _⟩ => ⟨S16x2048x256, .bf16⟩
  | .hbm, ⟨21, _⟩ => ⟨S16x2048x384, .bf16⟩
  | .hbm, ⟨22, _⟩ => ⟨S16x2048x2x3x64, .bf16⟩
  | .hbm, ⟨23, _⟩ => ⟨S16x2048x3x2x64, .bf16⟩
  | .hbm, ⟨24, _⟩ => ⟨S16x2048x384, .bf16⟩
  | .hbm, ⟨25, _⟩ => ⟨S16x1x1024, .f32⟩
  | .hbm, ⟨26, _⟩ => ⟨S16x1x1024, .f32⟩
  | .hbm, ⟨27, _⟩ => ⟨S16x1x1024, .f32⟩
  | .hbm, ⟨28, _⟩ => ⟨S16x1x1024, .f32⟩
  | .hbm, ⟨29, _⟩ => ⟨S16x1x1024, .f32⟩
  | .hbm, ⟨30, _⟩ => ⟨S1x1024, .f32⟩
  | .hbm, ⟨31, _⟩ => ⟨S1x1024, .f32⟩
  | .hbm, ⟨32, _⟩ => ⟨S1024x3072, .bf16⟩
  | .hbm, ⟨33, _⟩ => ⟨S384x1024, .bf16⟩
  | .hbm, ⟨34, _⟩ => ⟨S2x3x64x1024, .bf16⟩
  | .hbm, ⟨35, _⟩ => ⟨S3x2x64x1024, .bf16⟩
  | .hbm, ⟨36, _⟩ => ⟨S384x1024, .bf16⟩
  | .hbm, ⟨37, _⟩ => ⟨S256x1024, .bf16⟩
  | .hbm, ⟨38, _⟩ => ⟨S384x1024, .bf16⟩
  | .hbm, ⟨39, _⟩ => ⟨S2x3x64x1024, .bf16⟩
  | .hbm, ⟨40, _⟩ => ⟨S3x2x64x1024, .bf16⟩
  | .hbm, ⟨41, _⟩ => ⟨S384x1024, .bf16⟩
  | .hbm, ⟨42, _⟩ => ⟨S1024x1024, .bf16⟩
  | .hbm, ⟨43, _⟩ => ⟨S_, .i32⟩
  | .hbm, ⟨44, _⟩ => ⟨S_, .f32⟩
  | .hbm, ⟨45, _⟩ => ⟨S1024x128, .f32⟩
  | .hbm, ⟨46, _⟩ => ⟨S1024x128, .bf16⟩
  | .hbm, ⟨47, _⟩ => ⟨S16x2048x1024, .f32⟩
  | .hbm, ⟨48, _⟩ => ⟨S16x2048x1024, .bf16⟩
  | .hbm, ⟨49, _⟩ => ⟨S16x2048x128, .f32⟩
  | .local _ .vmem, ⟨0, _⟩ => ⟨S1x512x384, .bf16⟩
  | .local _ .vmem, ⟨1, _⟩ => ⟨S1x512x384, .bf16⟩
  | .local _ .vmem, ⟨2, _⟩ => ⟨S1x512x256, .bf16⟩
  | .local _ .vmem, ⟨3, _⟩ => ⟨S1x512x256, .bf16⟩
  | .local _ .vmem, ⟨4, _⟩ => ⟨S1x512x384, .bf16⟩
  | .local _ .vmem, ⟨5, _⟩ => ⟨S1x512x384, .bf16⟩
  | .local _ .vmem, ⟨6, _⟩ => ⟨S1x512x1024, .f32⟩
  | .local _ .vmem, ⟨7, _⟩ => ⟨S1x512x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | .local _ .vmem, ⟨18, _⟩ => ⟨S1x1024, .f32⟩
  | .local _ .vmem, ⟨19, _⟩ => ⟨S1x1024, .f32⟩
  | .local _ .vmem, ⟨20, _⟩ => ⟨S1024x3072, .bf16⟩
  | .local _ .vmem, ⟨21, _⟩ => ⟨S384x1024, .bf16⟩
  | .local _ .vmem, ⟨22, _⟩ => ⟨S256x1024, .bf16⟩
  | .local _ .vmem, ⟨23, _⟩ => ⟨S384x1024, .bf16⟩
  | .local _ .vmem, ⟨24, _⟩ => ⟨S1024x1024, .bf16⟩
  | .local _ .vmem, ⟨25, _⟩ => ⟨S1024x128, .bf16⟩
  | .local _ .vmem, ⟨26, _⟩ => ⟨S1x512x1024, .f32⟩
  | .local _ .vmem, ⟨27, _⟩ => ⟨S1x512x1024, .f32⟩
  | .local _ .vmem, ⟨28, _⟩ => ⟨S1x512x1024, .bf16⟩
  | .local _ .vmem, ⟨29, _⟩ => ⟨S1x512x1024, .bf16⟩
  | .local _ .vmem, ⟨30, _⟩ => ⟨S1x512x128, .f32⟩
  | .local _ .vmem, ⟨31, _⟩ => ⟨S1x512x128, .f32⟩
  | _, _ => ⟨S16x2048x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c : Ref sig .tc := ⟨.hbm, 43, rfl⟩
abbrev main_call0_v0 : Ref sig .tc := ⟨.hbm, 44, rfl⟩
abbrev main_v28 : Ref sig .tc := ⟨.hbm, 45, rfl⟩
abbrev main_v29 : Ref sig .tc := ⟨.hbm, 46, rfl⟩
abbrev main_v30_0 : Ref sig .tc := ⟨.hbm, 47, rfl⟩
abbrev main_v30_1 : Ref sig .tc := ⟨.hbm, 48, rfl⟩
abbrev main_v30_2 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg19_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem17_0 : DmaSem sig := 26
abbrev cc0_sem17_1 : DmaSem sig := 27
abbrev cc0_sem18_0 : DmaSem sig := 28
abbrev cc0_sem18_1 : DmaSem sig := 29
abbrev cc0_sem19_0 : DmaSem sig := 30
abbrev cc0_sem19_1 : DmaSem sig := 31

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x3072 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S384x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S256x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S384x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1024x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1024x128 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 2 → Memref sig .tc .vmem S1x512x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x512x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x512x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== KernelMIdeal.lean ====
variable {F : FTy → Type} [FloatOps F] [Named F]
def κ : String → Option EReal := fun
  | "mask" => some ⊥
  | _ => none
-- ==== ReferenceMIdeal.lean ====
abbrev S16x2048x384 : Shape := ⟨3, ![16, 2048, 384]⟩
abbrev S16x2048x256 : Shape := ⟨3, ![16, 2048, 256]⟩
abbrev S16x2048x1024 : Shape := ⟨3, ![16, 2048, 1024]⟩
abbrev S16x1024 : Shape := ⟨2, ![16, 1024]⟩
abbrev S1024 : Shape := ⟨1, ![1024]⟩
abbrev S1024x3072 : Shape := ⟨2, ![1024, 3072]⟩
abbrev S1024x1024 : Shape := ⟨2, ![1024, 1024]⟩
abbrev S1024x16 : Shape := ⟨2, ![1024, 16]⟩
abbrev S16x1x1024 : Shape := ⟨3, ![16, 1, 1024]⟩
abbrev S_ : Shape := ⟨0, ![]⟩
abbrev S16x2048x3072 : Shape := ⟨3, ![16, 2048, 3072]⟩
abbrev S384x1024 : Shape := ⟨2, ![384, 1024]⟩
abbrev S256x1024 : Shape := ⟨2, ![256, 1024]⟩
abbrev S16x2048 : Shape := ⟨2, ![16, 2048]⟩
abbrev S16x2048x1 : Shape := ⟨3, ![16, 2048, 1]⟩
abbrev S1x1x1024 : Shape := ⟨3, ![1, 1, 1024]⟩
abbrev S16x2048x16 : Shape := ⟨3, ![16, 2048, 16]⟩
abbrev S16x2048x128 : Shape := ⟨3, ![16, 2048, 128]⟩

abbrev nBuf : Space → Nat
  | .hbm => 112
  | .vmem => 0
  | .smem => 0
  | _ => 0

abbrev bufTy : (tb : Table) → Fin (tcTables nBuf tb) → BufTy
  | .hbm, ⟨0, _⟩ => ⟨S16x2048x384, .f32⟩
  | .hbm, ⟨1, _⟩ => ⟨S16x2048x256, .f32⟩
  | .hbm, ⟨2, _⟩ => ⟨S16x2048x384, .f32⟩
  | .hbm, ⟨3, _⟩ => ⟨S16x2048x1024, .f32⟩
  | .hbm, ⟨4, _⟩ => ⟨S16x1024, .f32⟩
  | .hbm, ⟨5, _⟩ => ⟨S16x1024, .f32⟩
  | .hbm, ⟨6, _⟩ => ⟨S16x1024, .f32⟩
  | .hbm, ⟨7, _⟩ => ⟨S16x1024, .f32⟩
  | .hbm, ⟨8, _⟩ => ⟨S16x1024, .f32⟩
  | .hbm, ⟨9, _⟩ => ⟨S1024, .f32⟩
  | .hbm, ⟨10, _⟩ => ⟨S1024, .f32⟩
  | .hbm, ⟨11, _⟩ => ⟨S1024x3072, .f32⟩
  | .hbm, ⟨12, _⟩ => ⟨S1024x1024, .f32⟩
  | .hbm, ⟨13, _⟩ => ⟨S1024x1024, .f32⟩
  | .hbm, ⟨14, _⟩ => ⟨S1024x16, .f32⟩
  | .hbm, ⟨15, _⟩ => ⟨S16x1x1024, .f32⟩
  | .hbm, ⟨16, _⟩ => ⟨S16x1x1024, .f32⟩
  | .hbm, ⟨17, _⟩ => ⟨S16x1x1024, .f32⟩
  | .hbm, ⟨18, _⟩ => ⟨S16x1x1024, .f32⟩
  | .hbm, ⟨19, _⟩ => ⟨S16x1x1024, .f32⟩
  | .hbm, ⟨20, _⟩ => ⟨S_, .f32⟩
  | .hbm, ⟨21, _⟩ => ⟨S16x1x1024, .f32⟩
  | .hbm, ⟨22, _⟩ => ⟨S16x1x1024, .f32⟩
  | .hbm, ⟨23, _⟩ => ⟨S16x2048x1024, .f32⟩
  | .hbm, ⟨24, _⟩ => ⟨S16x2048x1024, .f32⟩
  | .hbm, ⟨25, _⟩ => ⟨S16x2048x1024, .f32⟩
  | .hbm, ⟨26, _⟩ => ⟨S16x2048x1024, .f32⟩
  | .hbm, ⟨27, _⟩ => ⟨S16x2048x3072, .f32⟩
  | .hbm, ⟨28, _⟩ => ⟨S16x2048x3072, .f32⟩
  | .hbm, ⟨29, _⟩ => ⟨S16x2048x3072, .f32⟩
  | .hbm, ⟨30, _⟩ => ⟨S_, .f32⟩
  | .hbm, ⟨31, _⟩ => ⟨S16x2048x3072, .f32⟩
  | .hbm, ⟨32, _⟩ => ⟨S16x2048x3072, .f32⟩
  | .hbm, ⟨33, _⟩ => ⟨S_, .f32⟩
  | .hbm, ⟨34, _⟩ => ⟨S16x2048x3072, .f32⟩
  | .hbm, ⟨35, _⟩ => ⟨S16x2048x3072, .f32⟩
  | .hbm, ⟨36, _⟩ => ⟨S16x2048x1024, .f32⟩
  | .hbm, ⟨37, _⟩ => ⟨S16x2048x1024, .f32⟩
  | .hbm, ⟨38, _⟩ => ⟨S16x2048x1024, .f32⟩
  | .hbm, ⟨39, _⟩ => ⟨S384x1024, .f32⟩
  | .hbm, ⟨40, _⟩ => ⟨S16x2048x1024, .f32⟩
  | .hbm, ⟨41, _⟩ => ⟨S256x1024, .f32⟩
  | .hbm, ⟨42, _⟩ => ⟨S16x2048x1024, .f32⟩
  | .hbm, ⟨43, _⟩ => ⟨S384x1024, .f32⟩
  | .hbm, ⟨44, _⟩ => ⟨S16x2048x1024, .f32⟩
  | .hbm, ⟨45, _⟩ => ⟨S16x2048x1024, .f32⟩
  | .hbm, ⟨46, _⟩ => ⟨S16x2048x1024, .f32⟩
  | .hbm, ⟨47, _⟩ => ⟨S16x2048x1024, .f32⟩
  | .hbm, ⟨48, _⟩ => ⟨S16x2048x1024, .f32⟩
  | .hbm, ⟨49, _⟩ => ⟨S16x2048x1024, .f32⟩
  | .hbm, ⟨50, _⟩ => ⟨S16x2048x1024, .f32⟩
  | .hbm, ⟨51, _⟩ => ⟨S_, .f32⟩
  | .hbm, ⟨52, _⟩ => ⟨S16x2048x1024, .f32⟩
  | .hbm, ⟨53, _⟩ => ⟨S16x2048x1024, .f32⟩
  | .hbm, ⟨54, _⟩ => ⟨S16x2048x1024, .f32⟩
  | .hbm, ⟨55, _⟩ => ⟨S16x2048x1024, .f32⟩
  | .hbm, ⟨56, _⟩ => ⟨S16x2048x1024, .f32⟩
  | .hbm, ⟨57, _⟩ => ⟨S_, .f32⟩
  | .hbm, ⟨58, _⟩ => ⟨S16x2048, .f32⟩
  | .hbm, ⟨59, _⟩ => ⟨S16x2048x1, .f32⟩
  | .hbm, ⟨60, _⟩ => ⟨S_, .f32⟩
  | .hbm, ⟨61, _⟩ => ⟨S16x2048x1, .f32⟩
  | .hbm, ⟨62, _⟩ => ⟨S16x2048x1, .f32⟩
  | .hbm, ⟨63, _⟩ => ⟨S16x2048x1024, .f32⟩
  | .hbm, ⟨64, _⟩ => ⟨S16x2048x1024, .f32⟩
  | .hbm, ⟨65, _⟩ => ⟨S16x2048x1024, .f32⟩
  | .hbm, ⟨66, _⟩ => ⟨S_, .f32⟩
  | .hbm, ⟨67, _⟩ => ⟨S16x2048, .f32⟩
  | .hbm, ⟨68, _⟩ => ⟨S16x2048x1, .f32⟩
  | .hbm, ⟨69, _⟩ => ⟨S_, .f32⟩
  | .hbm, ⟨70, _⟩ => ⟨S16x2048x1, .f32⟩
  | .hbm, ⟨71, _⟩ => ⟨S16x2048x1, .f32⟩
  | .hbm, ⟨72, _⟩ => ⟨S16x2048x1024, .f32⟩
  | .hbm, ⟨73, _⟩ => ⟨S16x2048x1024, .f32⟩
  | .hbm, ⟨74, _⟩ => ⟨S_, .f32⟩
  | .hbm, ⟨75, _⟩ => ⟨S16x2048x1, .f32⟩
  | .hbm, ⟨76, _⟩ => ⟨S16x2048x1, .f32⟩
  | .hbm, ⟨77, _⟩ => ⟨S16x2048x1, .f32⟩
  | .hbm, ⟨78, _⟩ => ⟨S16x2048x1024, .f32⟩
  | .hbm, ⟨79, _⟩ => ⟨S16x2048x1024, .f32⟩
  | .hbm, ⟨80, _⟩ => ⟨S1x1x1024, .f32⟩
  | .hbm, ⟨81, _⟩ => ⟨S16x2048x1024, .f32⟩
  | .hbm, ⟨82, _⟩ => ⟨S16x2048x1024, .f32⟩
  | .hbm, ⟨83, _⟩ => ⟨S1x1x1024, .f32⟩
  | .hbm, ⟨84, _⟩ => ⟨S16x2048x1024, .f32⟩
  | .hbm, ⟨85, _⟩ => ⟨S16x2048x1024, .f32⟩
  | .hbm, ⟨86, _⟩ => ⟨S_, .f32⟩
  | .hbm, ⟨87, _⟩ => ⟨S16x1x1024, .f32⟩
  | .hbm, ⟨88, _⟩ => ⟨S16x1x1024, .f32⟩
  | .hbm, ⟨89, _⟩ => ⟨S16x2048x1024, .f32⟩
  | .hbm, ⟨90, _⟩ => ⟨S16x2048x1024, .f32⟩
  | .hbm, ⟨91, _⟩ => ⟨S16x2048x1024, .f32⟩
  | .hbm, ⟨92, _⟩ => ⟨S16x2048x1024, .f32⟩
  | .hbm, ⟨93, _⟩ => ⟨S16x2048x16, .f32⟩
  | .hbm, ⟨94, _⟩ => ⟨S_, .f32⟩
  | .hbm, ⟨95, _⟩ => ⟨S_, .f32⟩
  | .hbm, ⟨96, _⟩ => ⟨S16x2048x128, .f32⟩
  | .hbm, ⟨97, _⟩ => ⟨S16x2048x1024, .bf16⟩
  | .hbm, ⟨98, _⟩ => ⟨S_, .f32⟩
  | .hbm, ⟨99, _⟩ => ⟨S16x2048, .f32⟩
  | .hbm, ⟨100, _⟩ => ⟨S_, .f32⟩
  | .hbm, ⟨101, _⟩ => ⟨S16x2048, .f32⟩
  | .hbm, ⟨102, _⟩ => ⟨S16x2048, .f32⟩
  | .hbm, ⟨103, _⟩ => ⟨S16x2048x1, .f32⟩
  | .hbm, ⟨104, _⟩ => ⟨S16x2048x128, .f32⟩
  | .hbm, ⟨105, _⟩ => ⟨S16x2048x128, .f32⟩
  | .hbm, ⟨106, _⟩ => ⟨S16x2048x128, .f32⟩
  | .hbm, ⟨107, _⟩ => ⟨S_, .f32⟩
  | .hbm, ⟨108, _⟩ => ⟨S16x2048, .f32⟩
  | .hbm, ⟨109, _⟩ => ⟨S16x2048x1, .f32⟩
  | .hbm, ⟨110, _⟩ => ⟨S16x2048x128, .f32⟩
  | .hbm, ⟨111, _⟩ => ⟨S16x2048x128, .f32⟩
  | _, _ => ⟨S16x2048x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_cst : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_0 : Ref sig .tc := ⟨.hbm, 30, rfl⟩
abbrev main_v14 : Ref sig .tc := ⟨.hbm, 31, rfl⟩
abbrev main_v15 : Ref sig .tc := ⟨.hbm, 32, rfl⟩
abbrev main_cst_1 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_2 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_3 : Ref sig .tc := ⟨.hbm, 57, rfl⟩
abbrev main_v38 : Ref sig .tc := ⟨.hbm, 58, rfl⟩
abbrev main_v39 : Ref sig .tc := ⟨.hbm, 59, rfl⟩
abbrev main_cst_4 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_5 : Ref sig .tc := ⟨.hbm, 66, rfl⟩
abbrev main_v45 : Ref sig .tc := ⟨.hbm, 67, rfl⟩
abbrev main_v46 : Ref sig .tc := ⟨.hbm, 68, rfl⟩
abbrev main_cst_6 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_7 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_8 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_9 : Ref sig .tc := ⟨.hbm, 94, rfl⟩
abbrev main_call0_v0 : Ref sig .tc := ⟨.hbm, 95, rfl⟩
abbrev main_v69 : Ref sig .tc := ⟨.hbm, 96, rfl⟩
abbrev main_v70 : Ref sig .tc := ⟨.hbm, 97, rfl⟩
abbrev main_cst_10 : Ref sig .tc := ⟨.hbm, 98, rfl⟩
abbrev main_v71 : Ref sig .tc := ⟨.hbm, 99, rfl⟩
abbrev main_cst_11 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_cst_12 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩

abbrev nD : Nat := 1
abbrev τ : Topo := Topo.v7x

variable {F : FTy → Type} [FloatOps F]
-- ==== KernelI.lean ====
abbrev S16x2048x1024 : Shape := ⟨3, ![16, 2048, 1024]⟩
abbrev S16x1024 : Shape := ⟨2, ![16, 1024]⟩
abbrev S1024x1696 : Shape := ⟨2, ![1024, 1696]⟩
abbrev S256 : Shape := ⟨1, ![256]⟩
abbrev S128 : Shape := ⟨1, ![128]⟩
abbrev S256x384 : Shape := ⟨2, ![256, 384]⟩
abbrev S128x512 : Shape := ⟨2, ![128, 512]⟩
abbrev S64 : Shape := ⟨1, ![64]⟩
abbrev S1024x384 : Shape := ⟨2, ![1024, 384]⟩
abbrev S1024x128 : Shape := ⟨2, ![1024, 128]⟩
abbrev S1024x256 : Shape := ⟨2, ![1024, 256]⟩
abbrev S1024x32 : Shape := ⟨2, ![1024, 32]⟩
abbrev S1024x2x3x64 : Shape := ⟨4, ![1024, 2, 3, 64]⟩
abbrev S1024x3x2x64 : Shape := ⟨4, ![1024, 3, 2, 64]⟩
abbrev S1024x512 : Shape := ⟨2, ![1024, 512]⟩
abbrev S_ : Shape := ⟨0, ![]⟩
abbrev S1024x64 : Shape := ⟨2, ![1024, 64]⟩
abbrev S256x4x96 : Shape := ⟨3, ![256, 4, 96]⟩
abbrev S256x4x128 : Shape := ⟨3, ![256, 4, 128]⟩
abbrev S256x512 : Shape := ⟨2, ![256, 512]⟩
abbrev S128x4x128 : Shape := ⟨3, ![128, 4, 128]⟩
abbrev S128x4x64 : Shape := ⟨3, ![128, 4, 64]⟩
abbrev S128x256 : Shape := ⟨2, ![128, 256]⟩
abbrev S128x768 : Shape := ⟨2, ![128, 768]⟩
abbrev S8x64 : Shape := ⟨2, ![8, 64]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S1x64 : Shape := ⟨2, ![1, 64]⟩
abbrev S6x64 : Shape := ⟨2, ![6, 64]⟩
abbrev S384 : Shape := ⟨1, ![384]⟩
abbrev S2x64 : Shape := ⟨2, ![2, 64]⟩
abbrev S1024x1792 : Shape := ⟨2, ![1024, 1792]⟩
abbrev S1x256 : Shape := ⟨2, ![1, 256]⟩
abbrev S1x128 : Shape := ⟨2, ![1, 128]⟩
abbrev S16x1x1024 : Shape := ⟨3, ![16, 1, 1024]⟩
abbrev S32x64 : Shape := ⟨2, ![32, 64]⟩
abbrev S2048x1 : Shape := ⟨2, ![2048, 1]⟩
abbrev S16 : Shape := ⟨1, ![16]⟩
abbrev S1x16 : Shape := ⟨2, ![1, 16]⟩
abbrev S2048x16 : Shape := ⟨2, ![2048, 16]⟩
abbrev S8 : Shape := ⟨1, ![8]⟩
abbrev S1x8 : Shape := ⟨2, ![1, 8]⟩
abbrev S2048x8 : Shape := ⟨2, ![2048, 8]⟩
abbrev S2048x128 : Shape := ⟨2, ![2048, 128]⟩
abbrev S2048x64 : Shape := ⟨2, ![2048, 64]⟩
abbrev S2048x32 : Shape := ⟨2, ![2048, 32]⟩
abbrev S16x2048x384 : Shape := ⟨3, ![16, 2048, 384]⟩
abbrev S16x2048x128 : Shape := ⟨3, ![16, 2048, 128]⟩
abbrev S16x128x2048 : Shape := ⟨3, ![16, 128, 2048]⟩
abbrev S16x2048x512 : Shape := ⟨3, ![16, 2048, 512]⟩
abbrev S16x256x2048 : Shape := ⟨3, ![16, 256, 2048]⟩
abbrev S1x1024x1024 : Shape := ⟨3, ![1, 1024, 1024]⟩
abbrev S1x1x1024 : Shape := ⟨3, ![1, 1, 1024]⟩
abbrev S1x1024x384 : Shape := ⟨3, ![1, 1024, 384]⟩
abbrev S1x1024x128 : Shape := ⟨3, ![1, 1024, 128]⟩
abbrev S1x128x1024 : Shape := ⟨3, ![1, 128, 1024]⟩
abbrev S1x1024x512 : Shape := ⟨3, ![1, 1024, 512]⟩
abbrev S1x256x1024 : Shape := ⟨3, ![1, 256, 1024]⟩
abbrev S1024x1024 : Shape := ⟨2, ![1024, 1024]⟩
abbrev S1x1024 : Shape := ⟨2, ![1, 1024]⟩
abbrev S256x1024 : Shape := ⟨2, ![256, 1024]⟩
abbrev S128x1024 : Shape := ⟨2, ![128, 1024]⟩
abbrev S1024 : Shape := ⟨1, ![1024]⟩
abbrev S1024x1 : Shape := ⟨2, ![1024, 1]⟩
abbrev S1024x768 : Shape := ⟨2, ![1024, 768]⟩

abbrev nBuf : Space → Nat
  | .hbm => 147
  | .vmem => 39
  | .smem => 0
  | _ => 0

abbrev hbmTy0_0 (i : Nat) : BufTy := match i % 128 with
  | 0 => ⟨S16x2048x1024, .f32⟩
  | 1 => ⟨S16x1024, .f32⟩
  | 2 => ⟨S16x1024, .f32⟩
  | 3 => ⟨S1024x1696, .f32⟩
  | 4 => ⟨S256, .f32⟩
  | 5 => ⟨S128, .f32⟩
  | 6 => ⟨S256x384, .f32⟩
  | 7 => ⟨S128x512, .f32⟩
  | 8 => ⟨S64, .f32⟩
  | 9 => ⟨S64, .f32⟩
  | 10 => ⟨S1024x384, .f32⟩
  | 11 => ⟨S1024x128, .f32⟩
  | 12 => ⟨S1024x128, .f32⟩
  | 13 => ⟨S1024x256, .f32⟩
  | 14 => ⟨S1024x128, .f32⟩
  | 15 => ⟨S1024x32, .f32⟩
  | 16 => ⟨S1024x384, .f32⟩
  | 17 => ⟨S1024x128, .f32⟩
  | 18 => ⟨S1024x128, .f32⟩
  | 19 => ⟨S1024x2x3x64, .f32⟩
  | 20 => ⟨S1024x3x2x64, .f32⟩
  | 21 => ⟨S1024x384, .f32⟩
  | 22 => ⟨S1024x512, .f32⟩
  | 23 => ⟨S1024x2x3x64, .f32⟩
  | 24 => ⟨S1024x3x2x64, .f32⟩
  | 25 => ⟨S1024x384, .f32⟩
  | 26 => ⟨S1024x512, .f32⟩
  | 27 => ⟨S1024x256, .f32⟩
  | 28 => ⟨S_, .f32⟩
  | 29 => ⟨S1024x64, .f32⟩
  | 30 => ⟨S_, .f32⟩
  | 31 => ⟨S1024x32, .f32⟩
  | 32 => ⟨S1024x512, .f32⟩
  | 33 => ⟨S256x4x96, .f32⟩
  | 34 => ⟨S_, .i32⟩
  | 35 => ⟨S_, .f32⟩
  | 36 => ⟨S256x4x128, .f32⟩
  | 37 => ⟨S256x512, .f32⟩
  | 38 => ⟨S128x4x128, .f32⟩
  | 39 => ⟨S128x4x64, .f32⟩
  | 40 => ⟨S_, .i32⟩
  | 41 => ⟨S_, .f32⟩
  | 42 => ⟨S128x4x128, .f32⟩
  | 43 => ⟨S128x512, .f32⟩
  | 44 => ⟨S128x4x64, .f32⟩
  | 45 => ⟨S128x256, .f32⟩
  | 46 => ⟨S128x768, .f32⟩
  | 47 => ⟨S8x64, .i32⟩
  | 48 => ⟨S512, .i32⟩
  | 49 => ⟨S512x1, .i32⟩
  | 50 => ⟨S1x512, .i32⟩
  | 51 => ⟨S512x512, .i32⟩
  | 52 => ⟨S512x512, .i32⟩
  | 53 => ⟨S512x512, .i1⟩
  | 54 => ⟨S_, .f32⟩
  | 55 => ⟨S_, .f32⟩
  | 56 => ⟨S512x512, .f32⟩
  | 57 => ⟨S512x512, .f32⟩
  | 58 => ⟨S512x512, .f32⟩
  | 59 => ⟨S512x512, .bf16⟩
  | 60 => ⟨S1x64, .f32⟩
  | 61 => ⟨S6x64, .f32⟩
  | 62 => ⟨S384, .f32⟩
  | 63 => ⟨S1x64, .f32⟩
  | 64 => ⟨S2x64, .f32⟩
  | 65 => ⟨S128, .f32⟩
  | 66 => ⟨S512, .f32⟩
  | 67 => ⟨S1x512, .f32⟩
  | 68 => ⟨S1024x1792, .f32⟩
  | 69 => ⟨S1024x1792, .bf16⟩
  | 70 => ⟨S256x512, .bf16⟩
  | 71 => ⟨S128x768, .bf16⟩
  | 72 => ⟨S1x256, .f32⟩
  | 73 => ⟨S1x128, .f32⟩
  | 74 => ⟨S16x1x1024, .f32⟩
  | 75 => ⟨S16x1x1024, .f32⟩
  | 76 => ⟨S32x64, .i32⟩
  | 77 => ⟨S2048x1, .i32⟩
  | 78 => ⟨S2048x1, .f32⟩
  | 79 => ⟨S32x64, .i32⟩
  | 80 => ⟨S2048x1, .i32⟩
  | 81 => ⟨S2048x1, .f32⟩
  | 82 => ⟨S16, .f32⟩
  | 83 => ⟨S16, .f32⟩
  | 84 => ⟨S_, .f32⟩
  | 85 => ⟨S16, .f32⟩
  | 86 => ⟨S16, .f32⟩
  | 87 => ⟨S_, .f32⟩
  | 88 => ⟨S16, .f32⟩
  | 89 => ⟨S16, .f32⟩
  | 90 => ⟨S1x16, .f32⟩
  | 91 => ⟨S2048x16, .f32⟩
  | 92 => ⟨S2048x16, .f32⟩
  | 93 => ⟨S2048x16, .f32⟩
  | 94 => ⟨S1x16, .f32⟩
  | 95 => ⟨S2048x16, .f32⟩
  | 96 => ⟨S2048x16, .f32⟩
  | 97 => ⟨S2048x16, .f32⟩
  | 98 => ⟨S2048x16, .f32⟩
  | 99 => ⟨S2048x16, .f32⟩
  | 100 => ⟨S2048x16, .f32⟩
  | 101 => ⟨S2048x16, .f32⟩
  | 102 => ⟨S2048x16, .f32⟩
  | 103 => ⟨S2048x16, .f32⟩
  | 104 => ⟨S8, .f32⟩
  | 105 => ⟨S8, .f32⟩
  | 106 => ⟨S_, .f32⟩
  | 107 => ⟨S8, .f32⟩
  | 108 => ⟨S8, .f32⟩
  | 109 => ⟨S_, .f32⟩
  | 110 => ⟨S8, .f32⟩
  | 111 => ⟨S8, .f32⟩
  | 112 => ⟨S1x8, .f32⟩
  | 113 => ⟨S2048x8, .f32⟩
  | 114 => ⟨S2048x8, .f32⟩
  | 115 => ⟨S2048x8, .f32⟩
  | 116 => ⟨S1x8, .f32⟩
  | 117 => ⟨S2048x8, .f32⟩
  | 118 => ⟨S2048x8, .f32⟩
  | 119 => ⟨S2048x8, .f32⟩
  | 120 => ⟨S2048x8, .f32⟩
  | 121 => ⟨S2048x8, .f32⟩
  | 122 => ⟨S2048x8, .f32⟩
  | 123 => ⟨S2048x8, .f32⟩
  | 124 => ⟨S2048x8, .f32⟩
  | 125 => ⟨S2048x8, .f32⟩
  | 126 => ⟨S2048x128, .f32⟩
  | 127 => ⟨S2048x128, .f32⟩
  | _ => ⟨S16x2048x1024, .f32⟩

abbrev hbmTy0_1 (i : Nat) : BufTy := match i % 128 with
  | 0 => ⟨S_, .f32⟩
  | 1 => ⟨S2048x64, .f32⟩
  | 2 => ⟨S_, .f32⟩
  | 3 => ⟨S2048x32, .f32⟩
  | 4 => ⟨S2048x128, .f32⟩
  | 5 => ⟨S_, .f32⟩
  | 6 => ⟨S2048x64, .f32⟩
  | 7 => ⟨S_, .f32⟩
  | 8 => ⟨S2048x32, .f32⟩
  | 9 => ⟨S2048x128, .f32⟩
  | 10 => ⟨S16x2048x384, .bf16⟩
  | 11 => ⟨S16x2048x128, .bf16⟩
  | 12 => ⟨S16x128x2048, .bf16⟩
  | 13 => ⟨S16x2048x512, .bf16⟩
  | 14 => ⟨S16x2048x512, .bf16⟩
  | 15 => ⟨S16x256x2048, .bf16⟩
  | 16 => ⟨S16x2048x384, .bf16⟩
  | 17 => ⟨S16x2048x128, .bf16⟩
  | 18 => ⟨S16x128x2048, .bf16⟩
  | _ => ⟨S16x2048x1024, .f32⟩

abbrev hbmTy (i : Nat) : BufTy := match i / 128 with
  | 0 => hbmTy0_0 i
  | 1 => hbmTy0_1 i
  | _ => ⟨S16x2048x1024, .f32⟩

abbrev bufTy : (tb : Table) → Fin (tcTables nBuf tb) → BufTy
  | .hbm, ⟨i, _⟩ => hbmTy i
  | .local _ .vmem, ⟨0, _⟩ => ⟨S1x1024x1024, .f32⟩
  | .local _ .vmem, ⟨1, _⟩ => ⟨S1x1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x1792, .bf16⟩
  | .local _ .vmem, ⟨7, _⟩ => ⟨S256x512, .bf16⟩
  | .local _ .vmem, ⟨8, _⟩ => ⟨S128x768, .bf16⟩
  | .local _ .vmem, ⟨9, _⟩ => ⟨S512x512, .bf16⟩
  | .local _ .vmem, ⟨10, _⟩ => ⟨S1x256, .f32⟩
  | .local _ .vmem, ⟨11, _⟩ => ⟨S1x128, .f32⟩
  | .local _ .vmem, ⟨12, _⟩ => ⟨S1x512, .f32⟩
  | .local _ .vmem, ⟨13, _⟩ => ⟨S1024x128, .f32⟩
  | .local _ .vmem, ⟨14, _⟩ => ⟨S1024x128, .f32⟩
  | .local _ .vmem, ⟨15, _⟩ => ⟨S1024x128, .f32⟩
  | .local _ .vmem, ⟨16, _⟩ => ⟨S1024x128, .f32⟩
  | .local _ .vmem, ⟨17, _⟩ => ⟨S1024x128, .f32⟩
  | .local _ .vmem, ⟨18, _⟩ => ⟨S1024x128, .f32⟩
  | .local _ .vmem, ⟨19, _⟩ => ⟨S1024x128, .f32⟩
  | .local _ .vmem, ⟨20, _⟩ => ⟨S1024x128, .f32⟩
  | .local _ .vmem, ⟨21, _⟩ => ⟨S1x1024x384, .bf16⟩
  | .local _ .vmem, ⟨22, _⟩ => ⟨S1x1024x384, .bf16⟩
  | .local _ .vmem, ⟨23, _⟩ => ⟨S1x1024x128, .bf16⟩
  | .local _ .vmem, ⟨24, _⟩ => ⟨S1x1024x128, .bf16⟩
  | .local _ .vmem, ⟨25, _⟩ => ⟨S1x128x1024, .bf16⟩
  | .local _ .vmem, ⟨26, _⟩ => ⟨S1x128x1024, .bf16⟩
  | .local _ .vmem, ⟨27, _⟩ => ⟨S1x1024x512, .bf16⟩
  | .local _ .vmem, ⟨28, _⟩ => ⟨S1x1024x512, .bf16⟩
  | .local _ .vmem, ⟨29, _⟩ => ⟨S1x1024x512, .bf16⟩
  | .local _ .vmem, ⟨30, _⟩ => ⟨S1x1024x512, .bf16⟩
  | .local _ .vmem, ⟨31, _⟩ => ⟨S1x256x1024, .bf16⟩
  | .local _ .vmem, ⟨32, _⟩ => ⟨S1x256x1024, .bf16⟩
  | .local _ .vmem, ⟨33, _⟩ => ⟨S1x1024x384, .bf16⟩
  | .local _ .vmem, ⟨34, _⟩ => ⟨S1x1024x384, .bf16⟩
  | .local _ .vmem, ⟨35, _⟩ => ⟨S1x1024x128, .bf16⟩
  | .local _ .vmem, ⟨36, _⟩ => ⟨S1x1024x128, .bf16⟩
  | .local _ .vmem, ⟨37, _⟩ => ⟨S1x128x1024, .bf16⟩
  | .local _ .vmem, ⟨38, _⟩ => ⟨S1x128x1024, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst : Ref sig .tc := ⟨.hbm, 28, rfl⟩
abbrev main_v18 : Ref sig .tc := ⟨.hbm, 29, rfl⟩
abbrev main_cst_0 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c : Ref sig .tc := ⟨.hbm, 34, rfl⟩
abbrev main_call0_v0 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c_1 : Ref sig .tc := ⟨.hbm, 40, rfl⟩
abbrev main_call1_v0 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_2 : Ref sig .tc := ⟨.hbm, 54, rfl⟩
abbrev main_cst_3 : Ref sig .tc := ⟨.hbm, 55, rfl⟩
abbrev main_call2_v0 : Ref sig .tc := ⟨.hbm, 56, rfl⟩
abbrev main_call2_v1 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_4 : Ref sig .tc := ⟨.hbm, 84, rfl⟩
abbrev main_v64 : Ref sig .tc := ⟨.hbm, 85, rfl⟩
abbrev main_v65 : Ref sig .tc := ⟨.hbm, 86, rfl⟩
abbrev main_cst_5 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_cst_6 : Ref sig .tc := ⟨.hbm, 106, rfl⟩
abbrev main_v84 : Ref sig .tc := ⟨.hbm, 107, rfl⟩
abbrev main_v85 : Ref sig .tc := ⟨.hbm, 108, rfl⟩
abbrev main_cst_7 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_cst_8 : Ref sig .tc := ⟨.hbm, 128, rfl⟩
abbrev main_v104 : Ref sig .tc := ⟨.hbm, 129, rfl⟩
abbrev main_cst_9 : Ref sig .tc := ⟨.hbm, 130, rfl⟩
abbrev main_v105 : Ref sig .tc := ⟨.hbm, 131, rfl⟩
abbrev main_v106 : Ref sig .tc := ⟨.hbm, 132, rfl⟩
abbrev main_cst_10 : Ref sig .tc := ⟨.hbm, 133, rfl⟩
abbrev main_v107 : Ref sig .tc := ⟨.hbm, 134, rfl⟩
abbrev main_cst_11 : Ref sig .tc := ⟨.hbm, 135, rfl⟩
abbrev main_v108 : Ref sig .tc := ⟨.hbm, 136, rfl⟩
abbrev main_v109 : Ref sig .tc := ⟨.hbm, 137, rfl⟩
abbrev main_v110_0 : Ref sig .tc := ⟨.hbm, 138, rfl⟩
abbrev main_v110_1 : Ref sig .tc := ⟨.hbm, 139, rfl⟩
abbrev main_v110_2 : Ref sig .tc := ⟨.hbm, 140, rfl⟩
abbrev main_v110_3 : Ref sig .tc := ⟨.hbm, 141, rfl⟩
abbrev main_v110_4 : Ref sig .tc := ⟨.hbm, 142, rfl⟩
abbrev main_v110_5 : Ref sig .tc := ⟨.hbm, 143, rfl⟩
abbrev main_v110_6 : Ref sig .tc := ⟨.hbm, 144, rfl⟩
abbrev main_v110_7 : Ref sig .tc := ⟨.hbm, 145, rfl⟩
abbrev main_v110_8 : Ref sig .tc := ⟨.hbm, 146, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_stg20_0 : Ref sig .tc := ⟨.vmem, 33, rfl⟩
abbrev cc0_stg20_1 : Ref sig .tc := ⟨.vmem, 34, rfl⟩
abbrev cc0_stg21_0 : Ref sig .tc := ⟨.vmem, 35, rfl⟩
abbrev cc0_stg21_1 : Ref sig .tc := ⟨.vmem, 36, rfl⟩
abbrev cc0_stg22_0 : Ref sig .tc := ⟨.vmem, 37, rfl⟩
abbrev cc0_stg22_1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30
abbrev cc0_sem19_0 : DmaSem sig := 31
abbrev cc0_sem19_1 : DmaSem sig := 32
abbrev cc0_sem20_0 : DmaSem sig := 33
abbrev cc0_sem20_1 : DmaSem sig := 34
abbrev cc0_sem21_0 : DmaSem sig := 35
abbrev cc0_sem21_1 : DmaSem sig := 36
abbrev cc0_sem22_0 : DmaSem sig := 37
abbrev cc0_sem22_1 : DmaSem sig := 38

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1024x1792 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1024x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1024x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1024x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1024x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x1024x384 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x1024x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x128x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x1024x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x1024x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x256x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x1024x384 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x1024x128 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x128x1024 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]
-- ==== ReferenceIIdeal.lean ====
abbrev S16x2048x1024 : Shape := ⟨3, ![16, 2048, 1024]⟩
abbrev S16x1024 : Shape := ⟨2, ![16, 1024]⟩
abbrev S1024x1696 : Shape := ⟨2, ![1024, 1696]⟩
abbrev S256 : Shape := ⟨1, ![256]⟩
abbrev S128 : Shape := ⟨1, ![128]⟩
abbrev S256x384 : Shape := ⟨2, ![256, 384]⟩
abbrev S128x512 : Shape := ⟨2, ![128, 512]⟩
abbrev S64 : Shape := ⟨1, ![64]⟩
abbrev S32x64 : Shape := ⟨2, ![32, 64]⟩
abbrev S2048 : Shape := ⟨1, ![2048]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S2048x1x16 : Shape := ⟨3, ![2048, 1, 16]⟩
abbrev S8 : Shape := ⟨1, ![8]⟩
abbrev S1x8 : Shape := ⟨2, ![1, 8]⟩
abbrev S2048x8 : Shape := ⟨2, ![2048, 8]⟩
abbrev S2048x1x8 : Shape := ⟨3, ![2048, 1, 8]⟩
abbrev S16x1x1024 : Shape := ⟨3, ![16, 1, 1024]⟩
abbrev S16x2048x1696 : Shape := ⟨3, ![16, 2048, 1696]⟩
abbrev S16x2048x384 : Shape := ⟨3, ![16, 2048, 384]⟩
abbrev S16x2048x128 : Shape := ⟨3, ![16, 2048, 128]⟩
abbrev S16x2048x256 : Shape := ⟨3, ![16, 2048, 256]⟩
abbrev S16x2048x32 : Shape := ⟨3, ![16, 2048, 32]⟩
abbrev S16x2048x6x64 : Shape := ⟨4, ![16, 2048, 6, 64]⟩
abbrev S16x2048x6x32 : Shape := ⟨4, ![16, 2048, 6, 32]⟩
abbrev S16x2048x6x16 : Shape := ⟨4, ![16, 2048, 6, 16]⟩
abbrev S1x2048x1x16 : Shape := ⟨4, ![1, 2048, 1, 16]⟩
abbrev S16x2048x2x3x64 : Shape := ⟨5, ![16, 2048, 2, 3, 64]⟩
abbrev S16x2048x2x64 : Shape := ⟨4, ![16, 2048, 2, 64]⟩
abbrev S16x2048x2x32 : Shape := ⟨4, ![16, 2048, 2, 32]⟩
abbrev S16x2048x2x16 : Shape := ⟨4, ![16, 2048, 2, 16]⟩
abbrev S16x2048 : Shape := ⟨2, ![16, 2048]⟩
abbrev S16x2048x1 : Shape := ⟨3, ![16, 2048, 1]⟩
abbrev S1x1x256 : Shape := ⟨3, ![1, 1, 256]⟩
abbrev S16x2048x4x96 : Shape := ⟨4, ![16, 2048, 4, 96]⟩
abbrev S16x2048x4x64 : Shape := ⟨4, ![16, 2048, 4, 64]⟩
abbrev S16x2048x4x32 : Shape := ⟨4, ![16, 2048, 4, 32]⟩
abbrev S16x2048x4x16 : Shape := ⟨4, ![16, 2048, 4, 16]⟩
abbrev S16x2048x4x8 : Shape := ⟨4, ![16, 2048, 4, 8]⟩
abbrev S1x2048x1x8 : Shape := ⟨4, ![1, 2048, 1, 8]⟩
abbrev S1x1x128 : Shape := ⟨3, ![1, 1, 128]⟩
abbrev S16x2048x512 : Shape := ⟨3, ![16, 2048, 512]⟩
abbrev S16x2048x4x128 : Shape := ⟨4, ![16, 2048, 4, 128]⟩
abbrev S16x2048x1x32 : Shape := ⟨4, ![16, 2048, 1, 32]⟩
abbrev S16x2048x1x16 : Shape := ⟨4, ![16, 2048, 1, 16]⟩
abbrev S16x2048x1x8 : Shape := ⟨4, ![16, 2048, 1, 8]⟩
abbrev S16x2048x6 : Shape := ⟨3, ![16, 2048, 6]⟩
abbrev S16x2048x6x1 : Shape := ⟨4, ![16, 2048, 6, 1]⟩
abbrev S1x1x1x64 : Shape := ⟨4, ![1, 1, 1, 64]⟩
abbrev S16x2048x2 : Shape := ⟨3, ![16, 2048, 2]⟩
abbrev S16x2048x2x1 : Shape := ⟨4, ![16, 2048, 2, 1]⟩
abbrev S16x2048x3x2x64 : Shape := ⟨5, ![16, 2048, 3, 2, 64]⟩
abbrev S16x128x2048 : Shape := ⟨3, ![16, 128, 2048]⟩
abbrev S16x256x2048 : Shape := ⟨3, ![16, 256, 2048]⟩

abbrev nBuf : Space → Nat
  | .hbm => 428
  | .vmem => 0
  | .smem => 0
  | _ => 0

abbrev hbmTy0_0 (i : Nat) : BufTy := match i % 128 with
  | 0 => ⟨S16x2048x1024, .f32⟩
  | 1 => ⟨S16x1024, .f32⟩
  | 2 => ⟨S16x1024, .f32⟩
  | 3 => ⟨S1024x1696, .f32⟩
  | 4 => ⟨S256, .f32⟩
  | 5 => ⟨S128, .f32⟩
  | 6 => ⟨S256x384, .f32⟩
  | 7 => ⟨S128x512, .f32⟩
  | 8 => ⟨S64, .f32⟩
  | 9 => ⟨S64, .f32⟩
  | 10 => ⟨S32x64, .i32⟩
  | 11 => ⟨S2048, .i32⟩
  | 12 => ⟨S32x64, .i32⟩
  | 13 => ⟨S2048, .i32⟩
  | 14 => ⟨S16, .f32⟩
  | 15 => ⟨S16, .f32⟩
  | 16 => ⟨S_, .f32⟩
  | 17 => ⟨S16, .f32⟩
  | 18 => ⟨S16, .f32⟩
  | 19 => ⟨S_, .f32⟩
  | 20 => ⟨S16, .f32⟩
  | 21 => ⟨S16, .f32⟩
  | 22 => ⟨S2048, .f32⟩
  | 23 => ⟨S2048x1, .f32⟩
  | 24 => ⟨S1x16, .f32⟩
  | 25 => ⟨S2048x16, .f32⟩
  | 26 => ⟨S2048x16, .f32⟩
  | 27 => ⟨S2048x16, .f32⟩
  | 28 => ⟨S2048x16, .f32⟩
  | 29 => ⟨S2048x1x16, .f32⟩
  | 30 => ⟨S2048x16, .f32⟩
  | 31 => ⟨S2048x1x16, .f32⟩
  | 32 => ⟨S2048, .f32⟩
  | 33 => ⟨S2048x1, .f32⟩
  | 34 => ⟨S1x16, .f32⟩
  | 35 => ⟨S2048x16, .f32⟩
  | 36 => ⟨S2048x16, .f32⟩
  | 37 => ⟨S2048x16, .f32⟩
  | 38 => ⟨S2048x16, .f32⟩
  | 39 => ⟨S2048x1x16, .f32⟩
  | 40 => ⟨S2048x16, .f32⟩
  | 41 => ⟨S2048x1x16, .f32⟩
  | 42 => ⟨S32x64, .i32⟩
  | 43 => ⟨S2048, .i32⟩
  | 44 => ⟨S32x64, .i32⟩
  | 45 => ⟨S2048, .i32⟩
  | 46 => ⟨S8, .f32⟩
  | 47 => ⟨S8, .f32⟩
  | 48 => ⟨S_, .f32⟩
  | 49 => ⟨S8, .f32⟩
  | 50 => ⟨S8, .f32⟩
  | 51 => ⟨S_, .f32⟩
  | 52 => ⟨S8, .f32⟩
  | 53 => ⟨S8, .f32⟩
  | 54 => ⟨S2048, .f32⟩
  | 55 => ⟨S2048x1, .f32⟩
  | 56 => ⟨S1x8, .f32⟩
  | 57 => ⟨S2048x8, .f32⟩
  | 58 => ⟨S2048x8, .f32⟩
  | 59 => ⟨S2048x8, .f32⟩
  | 60 => ⟨S2048x8, .f32⟩
  | 61 => ⟨S2048x1x8, .f32⟩
  | 62 => ⟨S2048x8, .f32⟩
  | 63 => ⟨S2048x1x8, .f32⟩
  | 64 => ⟨S2048, .f32⟩
  | 65 => ⟨S2048x1, .f32⟩
  | 66 => ⟨S1x8, .f32⟩
  | 67 => ⟨S2048x8, .f32⟩
  | 68 => ⟨S2048x8, .f32⟩
  | 69 => ⟨S2048x8, .f32⟩
  | 70 => ⟨S2048x8, .f32⟩
  | 71 => ⟨S2048x1x8, .f32⟩
  | 72 => ⟨S2048x8, .f32⟩
  | 73 => ⟨S2048x1x8, .f32⟩
  | 74 => ⟨S16x1x1024, .f32⟩
  | 75 => ⟨S_, .f32⟩
  | 76 => ⟨S16x1x1024, .f32⟩
  | 77 => ⟨S16x1x1024, .f32⟩
  | 78 => ⟨S16x2048x1024, .f32⟩
  | 79 => ⟨S16x2048x1024, .f32⟩
  | 80 => ⟨S16x1x1024, .f32⟩
  | 81 => ⟨S16x2048x1024, .f32⟩
  | 82 => ⟨S16x2048x1024, .f32⟩
  | 83 => ⟨S16x2048x1696, .f32⟩
  | 84 => ⟨S16x2048x384, .f32⟩
  | 85 => ⟨S16x2048x128, .f32⟩
  | 86 => ⟨S16x2048x128, .f32⟩
  | 87 => ⟨S16x2048x256, .f32⟩
  | 88 => ⟨S16x2048x128, .f32⟩
  | 89 => ⟨S16x2048x32, .f32⟩
  | 90 => ⟨S16x2048x384, .f32⟩
  | 91 => ⟨S16x2048x128, .f32⟩
  | 92 => ⟨S16x2048x128, .f32⟩
  | 93 => ⟨S16x2048x6x64, .f32⟩
  | 94 => ⟨S16x2048x6x32, .f32⟩
  | 95 => ⟨S16x2048x6x16, .f32⟩
  | 96 => ⟨S16x2048x6x16, .f32⟩
  | 97 => ⟨S1x2048x1x16, .f32⟩
  | 98 => ⟨S16x2048x6x16, .f32⟩
  | 99 => ⟨S16x2048x6x16, .f32⟩
  | 100 => ⟨S1x2048x1x16, .f32⟩
  | 101 => ⟨S16x2048x6x16, .f32⟩
  | 102 => ⟨S16x2048x6x16, .f32⟩
  | 103 => ⟨S16x2048x6x16, .f32⟩
  | 104 => ⟨S1x2048x1x16, .f32⟩
  | 105 => ⟨S16x2048x6x16, .f32⟩
  | 106 => ⟨S16x2048x6x16, .f32⟩
  | 107 => ⟨S1x2048x1x16, .f32⟩
  | 108 => ⟨S16x2048x6x16, .f32⟩
  | 109 => ⟨S16x2048x6x16, .f32⟩
  | 110 => ⟨S16x2048x6x16, .f32⟩
  | 111 => ⟨S16x2048x6x32, .f32⟩
  | 112 => ⟨S16x2048x6x32, .f32⟩
  | 113 => ⟨S16x2048x6x16, .f32⟩
  | 114 => ⟨S16x2048x6x16, .f32⟩
  | 115 => ⟨S1x2048x1x16, .f32⟩
  | 116 => ⟨S16x2048x6x16, .f32⟩
  | 117 => ⟨S16x2048x6x16, .f32⟩
  | 118 => ⟨S1x2048x1x16, .f32⟩
  | 119 => ⟨S16x2048x6x16, .f32⟩
  | 120 => ⟨S16x2048x6x16, .f32⟩
  | 121 => ⟨S16x2048x6x16, .f32⟩
  | 122 => ⟨S1x2048x1x16, .f32⟩
  | 123 => ⟨S16x2048x6x16, .f32⟩
  | 124 => ⟨S16x2048x6x16, .f32⟩
  | 125 => ⟨S1x2048x1x16, .f32⟩
  | 126 => ⟨S16x2048x6x16, .f32⟩
  | 127 => ⟨S16x2048x6x16, .f32⟩
  | _ => ⟨S16x2048x1024, .f32⟩

abbrev hbmTy0_1 (i : Nat) : BufTy := match i % 128 with
  | 0 => ⟨S16x2048x6x16, .f32⟩
  | 1 => ⟨S16x2048x6x32, .f32⟩
  | 2 => ⟨S16x2048x6x64, .f32⟩
  | 3 => ⟨S16x2048x2x3x64, .f32⟩
  | 4 => ⟨S16x2048x2x64, .f32⟩
  | 5 => ⟨S16x2048x2x32, .f32⟩
  | 6 => ⟨S16x2048x2x16, .f32⟩
  | 7 => ⟨S16x2048x2x16, .f32⟩
  | 8 => ⟨S1x2048x1x16, .f32⟩
  | 9 => ⟨S16x2048x2x16, .f32⟩
  | 10 => ⟨S16x2048x2x16, .f32⟩
  | 11 => ⟨S1x2048x1x16, .f32⟩
  | 12 => ⟨S16x2048x2x16, .f32⟩
  | 13 => ⟨S16x2048x2x16, .f32⟩
  | 14 => ⟨S16x2048x2x16, .f32⟩
  | 15 => ⟨S1x2048x1x16, .f32⟩
  | 16 => ⟨S16x2048x2x16, .f32⟩
  | 17 => ⟨S16x2048x2x16, .f32⟩
  | 18 => ⟨S1x2048x1x16, .f32⟩
  | 19 => ⟨S16x2048x2x16, .f32⟩
  | 20 => ⟨S16x2048x2x16, .f32⟩
  | 21 => ⟨S16x2048x2x16, .f32⟩
  | 22 => ⟨S16x2048x2x32, .f32⟩
  | 23 => ⟨S16x2048x2x32, .f32⟩
  | 24 => ⟨S16x2048x2x16, .f32⟩
  | 25 => ⟨S16x2048x2x16, .f32⟩
  | 26 => ⟨S1x2048x1x16, .f32⟩
  | 27 => ⟨S16x2048x2x16, .f32⟩
  | 28 => ⟨S16x2048x2x16, .f32⟩
  | 29 => ⟨S1x2048x1x16, .f32⟩
  | 30 => ⟨S16x2048x2x16, .f32⟩
  | 31 => ⟨S16x2048x2x16, .f32⟩
  | 32 => ⟨S16x2048x2x16, .f32⟩
  | 33 => ⟨S1x2048x1x16, .f32⟩
  | 34 => ⟨S16x2048x2x16, .f32⟩
  | 35 => ⟨S16x2048x2x16, .f32⟩
  | 36 => ⟨S1x2048x1x16, .f32⟩
  | 37 => ⟨S16x2048x2x16, .f32⟩
  | 38 => ⟨S16x2048x2x16, .f32⟩
  | 39 => ⟨S16x2048x2x16, .f32⟩
  | 40 => ⟨S16x2048x2x32, .f32⟩
  | 41 => ⟨S16x2048x2x64, .f32⟩
  | 42 => ⟨S16x2048x2x64, .f32⟩
  | 43 => ⟨S16x2048x256, .f32⟩
  | 44 => ⟨S_, .f32⟩
  | 45 => ⟨S16x2048, .f32⟩
  | 46 => ⟨S16x2048x1, .f32⟩
  | 47 => ⟨S_, .f32⟩
  | 48 => ⟨S16x2048x1, .f32⟩
  | 49 => ⟨S16x2048x1, .f32⟩
  | 50 => ⟨S_, .f32⟩
  | 51 => ⟨S16x2048x1, .f32⟩
  | 52 => ⟨S16x2048x1, .f32⟩
  | 53 => ⟨S16x2048x1, .f32⟩
  | 54 => ⟨S16x2048x256, .f32⟩
  | 55 => ⟨S16x2048x256, .f32⟩
  | 56 => ⟨S1x1x256, .f32⟩
  | 57 => ⟨S16x2048x256, .f32⟩
  | 58 => ⟨S16x2048x256, .f32⟩
  | 59 => ⟨S16x2048x384, .f32⟩
  | 60 => ⟨S16x2048x4x96, .f32⟩
  | 61 => ⟨S16x2048x4x64, .f32⟩
  | 62 => ⟨S16x2048x4x32, .f32⟩
  | 63 => ⟨S16x2048x4x16, .f32⟩
  | 64 => ⟨S16x2048x4x8, .f32⟩
  | 65 => ⟨S16x2048x4x8, .f32⟩
  | 66 => ⟨S1x2048x1x8, .f32⟩
  | 67 => ⟨S16x2048x4x8, .f32⟩
  | 68 => ⟨S16x2048x4x8, .f32⟩
  | 69 => ⟨S1x2048x1x8, .f32⟩
  | 70 => ⟨S16x2048x4x8, .f32⟩
  | 71 => ⟨S16x2048x4x8, .f32⟩
  | 72 => ⟨S16x2048x4x8, .f32⟩
  | 73 => ⟨S1x2048x1x8, .f32⟩
  | 74 => ⟨S16x2048x4x8, .f32⟩
  | 75 => ⟨S16x2048x4x8, .f32⟩
  | 76 => ⟨S1x2048x1x8, .f32⟩
  | 77 => ⟨S16x2048x4x8, .f32⟩
  | 78 => ⟨S16x2048x4x8, .f32⟩
  | 79 => ⟨S16x2048x4x8, .f32⟩
  | 80 => ⟨S16x2048x4x16, .f32⟩
  | 81 => ⟨S16x2048x4x16, .f32⟩
  | 82 => ⟨S16x2048x4x8, .f32⟩
  | 83 => ⟨S16x2048x4x8, .f32⟩
  | 84 => ⟨S1x2048x1x8, .f32⟩
  | 85 => ⟨S16x2048x4x8, .f32⟩
  | 86 => ⟨S16x2048x4x8, .f32⟩
  | 87 => ⟨S1x2048x1x8, .f32⟩
  | 88 => ⟨S16x2048x4x8, .f32⟩
  | 89 => ⟨S16x2048x4x8, .f32⟩
  | 90 => ⟨S16x2048x4x8, .f32⟩
  | 91 => ⟨S1x2048x1x8, .f32⟩
  | 92 => ⟨S16x2048x4x8, .f32⟩
  | 93 => ⟨S16x2048x4x8, .f32⟩
  | 94 => ⟨S1x2048x1x8, .f32⟩
  | 95 => ⟨S16x2048x4x8, .f32⟩
  | 96 => ⟨S16x2048x4x8, .f32⟩
  | 97 => ⟨S16x2048x4x8, .f32⟩
  | 98 => ⟨S16x2048x4x16, .f32⟩
  | 99 => ⟨S16x2048x4x32, .f32⟩
  | 100 => ⟨S16x2048x4x96, .f32⟩
  | 101 => ⟨S16x2048x128, .f32⟩
  | 102 => ⟨S_, .f32⟩
  | 103 => ⟨S16x2048, .f32⟩
  | 104 => ⟨S16x2048x1, .f32⟩
  | 105 => ⟨S_, .f32⟩
  | 106 => ⟨S16x2048x1, .f32⟩
  | 107 => ⟨S16x2048x1, .f32⟩
  | 108 => ⟨S_, .f32⟩
  | 109 => ⟨S16x2048x1, .f32⟩
  | 110 => ⟨S16x2048x1, .f32⟩
  | 111 => ⟨S16x2048x1, .f32⟩
  | 112 => ⟨S16x2048x128, .f32⟩
  | 113 => ⟨S16x2048x128, .f32⟩
  | 114 => ⟨S1x1x128, .f32⟩
  | 115 => ⟨S16x2048x128, .f32⟩
  | 116 => ⟨S16x2048x128, .f32⟩
  | 117 => ⟨S16x2048x512, .f32⟩
  | 118 => ⟨S16x2048x4x128, .f32⟩
  | 119 => ⟨S16x2048x1x32, .f32⟩
  | 120 => ⟨S16x2048x1x16, .f32⟩
  | 121 => ⟨S16x2048x1x8, .f32⟩
  | 122 => ⟨S16x2048x1x8, .f32⟩
  | 123 => ⟨S1x2048x1x8, .f32⟩
  | 124 => ⟨S16x2048x1x8, .f32⟩
  | 125 => ⟨S16x2048x1x8, .f32⟩
  | 126 => ⟨S1x2048x1x8, .f32⟩
  | 127 => ⟨S16x2048x1x8, .f32⟩
  | _ => ⟨S16x2048x1024, .f32⟩

abbrev hbmTy0_2 (i : Nat) : BufTy := match i % 128 with
  | 0 => ⟨S16x2048x1x8, .f32⟩
  | 1 => ⟨S16x2048x1x8, .f32⟩
  | 2 => ⟨S1x2048x1x8, .f32⟩
  | 3 => ⟨S16x2048x1x8, .f32⟩
  | 4 => ⟨S16x2048x1x8, .f32⟩
  | 5 => ⟨S1x2048x1x8, .f32⟩
  | 6 => ⟨S16x2048x1x8, .f32⟩
  | 7 => ⟨S16x2048x1x8, .f32⟩
  | 8 => ⟨S16x2048x1x8, .f32⟩
  | 9 => ⟨S16x2048x1x16, .f32⟩
  | 10 => ⟨S16x2048x1x16, .f32⟩
  | 11 => ⟨S16x2048x1x8, .f32⟩
  | 12 => ⟨S16x2048x1x8, .f32⟩
  | 13 => ⟨S1x2048x1x8, .f32⟩
  | 14 => ⟨S16x2048x1x8, .f32⟩
  | 15 => ⟨S16x2048x1x8, .f32⟩
  | 16 => ⟨S1x2048x1x8, .f32⟩
  | 17 => ⟨S16x2048x1x8, .f32⟩
  | 18 => ⟨S16x2048x1x8, .f32⟩
  | 19 => ⟨S16x2048x1x8, .f32⟩
  | 20 => ⟨S1x2048x1x8, .f32⟩
  | 21 => ⟨S16x2048x1x8, .f32⟩
  | 22 => ⟨S16x2048x1x8, .f32⟩
  | 23 => ⟨S1x2048x1x8, .f32⟩
  | 24 => ⟨S16x2048x1x8, .f32⟩
  | 25 => ⟨S16x2048x1x8, .f32⟩
  | 26 => ⟨S16x2048x1x8, .f32⟩
  | 27 => ⟨S16x2048x1x16, .f32⟩
  | 28 => ⟨S16x2048x1x32, .f32⟩
  | 29 => ⟨S16x2048x4x32, .f32⟩
  | 30 => ⟨S16x2048x4x64, .f32⟩
  | 31 => ⟨S16x2048x4x96, .f32⟩
  | 32 => ⟨S16x2048x4x64, .f32⟩
  | 33 => ⟨S16x2048x6x64, .f32⟩
  | 34 => ⟨S16x2048x6x64, .f32⟩
  | 35 => ⟨S_, .f32⟩
  | 36 => ⟨S16x2048x6, .f32⟩
  | 37 => ⟨S16x2048x6x1, .f32⟩
  | 38 => ⟨S_, .f32⟩
  | 39 => ⟨S16x2048x6x1, .f32⟩
  | 40 => ⟨S16x2048x6x1, .f32⟩
  | 41 => ⟨S_, .f32⟩
  | 42 => ⟨S16x2048x6x1, .f32⟩
  | 43 => ⟨S16x2048x6x1, .f32⟩
  | 44 => ⟨S16x2048x6x1, .f32⟩
  | 45 => ⟨S16x2048x6x64, .f32⟩
  | 46 => ⟨S16x2048x6x64, .f32⟩
  | 47 => ⟨S1x1x1x64, .f32⟩
  | 48 => ⟨S16x2048x6x64, .f32⟩
  | 49 => ⟨S16x2048x6x64, .f32⟩
  | 50 => ⟨S16x2048x6x32, .f32⟩
  | 51 => ⟨S16x2048x6x16, .f32⟩
  | 52 => ⟨S16x2048x6x16, .f32⟩
  | 53 => ⟨S1x2048x1x16, .f32⟩
  | 54 => ⟨S16x2048x6x16, .f32⟩
  | 55 => ⟨S16x2048x6x16, .f32⟩
  | 56 => ⟨S1x2048x1x16, .f32⟩
  | 57 => ⟨S16x2048x6x16, .f32⟩
  | 58 => ⟨S16x2048x6x16, .f32⟩
  | 59 => ⟨S16x2048x6x16, .f32⟩
  | 60 => ⟨S1x2048x1x16, .f32⟩
  | 61 => ⟨S16x2048x6x16, .f32⟩
  | 62 => ⟨S16x2048x6x16, .f32⟩
  | 63 => ⟨S1x2048x1x16, .f32⟩
  | 64 => ⟨S16x2048x6x16, .f32⟩
  | 65 => ⟨S16x2048x6x16, .f32⟩
  | 66 => ⟨S16x2048x6x16, .f32⟩
  | 67 => ⟨S16x2048x6x32, .f32⟩
  | 68 => ⟨S16x2048x6x32, .f32⟩
  | 69 => ⟨S16x2048x6x16, .f32⟩
  | 70 => ⟨S16x2048x6x16, .f32⟩
  | 71 => ⟨S1x2048x1x16, .f32⟩
  | 72 => ⟨S16x2048x6x16, .f32⟩
  | 73 => ⟨S16x2048x6x16, .f32⟩
  | 74 => ⟨S1x2048x1x16, .f32⟩
  | 75 => ⟨S16x2048x6x16, .f32⟩
  | 76 => ⟨S16x2048x6x16, .f32⟩
  | 77 => ⟨S16x2048x6x16, .f32⟩
  | 78 => ⟨S1x2048x1x16, .f32⟩
  | 79 => ⟨S16x2048x6x16, .f32⟩
  | 80 => ⟨S16x2048x6x16, .f32⟩
  | 81 => ⟨S1x2048x1x16, .f32⟩
  | 82 => ⟨S16x2048x6x16, .f32⟩
  | 83 => ⟨S16x2048x6x16, .f32⟩
  | 84 => ⟨S16x2048x6x16, .f32⟩
  | 85 => ⟨S16x2048x6x32, .f32⟩
  | 86 => ⟨S16x2048x6x64, .f32⟩
  | 87 => ⟨S16x2048x2x3x64, .f32⟩
  | 88 => ⟨S16x2048x2x64, .f32⟩
  | 89 => ⟨S16x2048x2x64, .f32⟩
  | 90 => ⟨S_, .f32⟩
  | 91 => ⟨S16x2048x2, .f32⟩
  | 92 => ⟨S16x2048x2x1, .f32⟩
  | 93 => ⟨S_, .f32⟩
  | 94 => ⟨S16x2048x2x1, .f32⟩
  | 95 => ⟨S16x2048x2x1, .f32⟩
  | 96 => ⟨S_, .f32⟩
  | 97 => ⟨S16x2048x2x1, .f32⟩
  | 98 => ⟨S16x2048x2x1, .f32⟩
  | 99 => ⟨S16x2048x2x1, .f32⟩
  | 100 => ⟨S16x2048x2x64, .f32⟩
  | 101 => ⟨S16x2048x2x64, .f32⟩
  | 102 => ⟨S1x1x1x64, .f32⟩
  | 103 => ⟨S16x2048x2x64, .f32⟩
  | 104 => ⟨S16x2048x2x64, .f32⟩
  | 105 => ⟨S16x2048x2x32, .f32⟩
  | 106 => ⟨S16x2048x2x16, .f32⟩
  | 107 => ⟨S16x2048x2x16, .f32⟩
  | 108 => ⟨S1x2048x1x16, .f32⟩
  | 109 => ⟨S16x2048x2x16, .f32⟩
  | 110 => ⟨S16x2048x2x16, .f32⟩
  | 111 => ⟨S1x2048x1x16, .f32⟩
  | 112 => ⟨S16x2048x2x16, .f32⟩
  | 113 => ⟨S16x2048x2x16, .f32⟩
  | 114 => ⟨S16x2048x2x16, .f32⟩
  | 115 => ⟨S1x2048x1x16, .f32⟩
  | 116 => ⟨S16x2048x2x16, .f32⟩
  | 117 => ⟨S16x2048x2x16, .f32⟩
  | 118 => ⟨S1x2048x1x16, .f32⟩
  | 119 => ⟨S16x2048x2x16, .f32⟩
  | 120 => ⟨S16x2048x2x16, .f32⟩
  | 121 => ⟨S16x2048x2x16, .f32⟩
  | 122 => ⟨S16x2048x2x32, .f32⟩
  | 123 => ⟨S16x2048x2x32, .f32⟩
  | 124 => ⟨S16x2048x2x16, .f32⟩
  | 125 => ⟨S16x2048x2x16, .f32⟩
  | 126 => ⟨S1x2048x1x16, .f32⟩
  | 127 => ⟨S16x2048x2x16, .f32⟩
  | _ => ⟨S16x2048x1024, .f32⟩

abbrev hbmTy0_3 (i : Nat) : BufTy := match i % 128 with
  | 0 => ⟨S16x2048x2x16, .f32⟩
  | 1 => ⟨S1x2048x1x16, .f32⟩
  | 2 => ⟨S16x2048x2x16, .f32⟩
  | 3 => ⟨S16x2048x2x16, .f32⟩
  | 4 => ⟨S16x2048x2x16, .f32⟩
  | 5 => ⟨S1x2048x1x16, .f32⟩
  | 6 => ⟨S16x2048x2x16, .f32⟩
  | 7 => ⟨S16x2048x2x16, .f32⟩
  | 8 => ⟨S1x2048x1x16, .f32⟩
  | 9 => ⟨S16x2048x2x16, .f32⟩
  | 10 => ⟨S16x2048x2x16, .f32⟩
  | 11 => ⟨S16x2048x2x16, .f32⟩
  | 12 => ⟨S16x2048x2x32, .f32⟩
  | 13 => ⟨S16x2048x2x64, .f32⟩
  | 14 => ⟨S16x2048x2x64, .f32⟩
  | 15 => ⟨S16x2048x3x2x64, .f32⟩
  | 16 => ⟨S16x2048x384, .f32⟩
  | 17 => ⟨S16x2048x384, .bf16⟩
  | 18 => ⟨S16x2048x128, .f32⟩
  | 19 => ⟨S16x2048x128, .bf16⟩
  | 20 => ⟨S16x2048x128, .f32⟩
  | 21 => ⟨S16x2048x128, .bf16⟩
  | 22 => ⟨S16x128x2048, .bf16⟩
  | 23 => ⟨S_, .i32⟩
  | 24 => ⟨S_, .f32⟩
  | 25 => ⟨S16x2048x4x128, .f32⟩
  | 26 => ⟨S16x2048x512, .f32⟩
  | 27 => ⟨S16x2048x512, .bf16⟩
  | 28 => ⟨S_, .i32⟩
  | 29 => ⟨S_, .f32⟩
  | 30 => ⟨S16x2048x4x128, .f32⟩
  | 31 => ⟨S16x2048x512, .f32⟩
  | 32 => ⟨S16x2048x512, .bf16⟩
  | 33 => ⟨S16x2048x256, .f32⟩
  | 34 => ⟨S16x2048x256, .bf16⟩
  | 35 => ⟨S16x256x2048, .bf16⟩
  | 36 => ⟨S16x2048x3x2x64, .f32⟩
  | 37 => ⟨S16x2048x384, .f32⟩
  | 38 => ⟨S16x2048x384, .bf16⟩
  | 39 => ⟨S16x2048x128, .f32⟩
  | 40 => ⟨S16x2048x128, .bf16⟩
  | 41 => ⟨S16x2048x128, .f32⟩
  | 42 => ⟨S16x2048x128, .bf16⟩
  | 43 => ⟨S16x128x2048, .bf16⟩
  | _ => ⟨S16x2048x1024, .f32⟩

abbrev hbmTy (i : Nat) : BufTy := match i / 128 with
  | 0 => hbmTy0_0 i
  | 1 => hbmTy0_1 i
  | 2 => hbmTy0_2 i
  | 3 => hbmTy0_3 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_1 : Ref sig .tc := ⟨.hbm, 48, rfl⟩
abbrev main_v36 : Ref sig .tc := ⟨.hbm, 49, rfl⟩
abbrev main_v37 : Ref sig .tc := ⟨.hbm, 50, rfl⟩
abbrev main_cst_2 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_cst_3 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩
abbrev main_v115 : Ref sig .tc := ⟨.hbm, 130, rfl⟩
abbrev main_v116 : Ref sig .tc := ⟨.hbm, 131, rfl⟩
abbrev main_v117 : Ref sig .tc := ⟨.hbm, 132, rfl⟩
abbrev main_v118 : Ref sig .tc := ⟨.hbm, 133, rfl⟩
abbrev main_v119 : Ref sig .tc := ⟨.hbm, 134, rfl⟩
abbrev main_v120 : Ref sig .tc := ⟨.hbm, 135, rfl⟩
abbrev main_v121 : Ref sig .tc := ⟨.hbm, 136, rfl⟩
abbrev main_v122 : Ref sig .tc := ⟨.hbm, 137, rfl⟩
abbrev main_v123 : Ref sig .tc := ⟨.hbm, 138, rfl⟩
abbrev main_v124 : Ref sig .tc := ⟨.hbm, 139, rfl⟩
abbrev main_v125 : Ref sig .tc := ⟨.hbm, 140, rfl⟩
abbrev main_v126 : Ref sig .tc := ⟨.hbm, 141, rfl⟩
abbrev main_v127 : Ref sig .tc := ⟨.hbm, 142, rfl⟩
abbrev main_v128 : Ref sig .tc := ⟨.hbm, 143, rfl⟩
abbrev main_v129 : Ref sig .tc := ⟨.hbm, 144, rfl⟩
abbrev main_v130 : Ref sig .tc := ⟨.hbm, 145, rfl⟩
abbrev main_v131 : Ref sig .tc := ⟨.hbm, 146, rfl⟩
abbrev main_v132 : Ref sig .tc := ⟨.hbm, 147, rfl⟩
abbrev main_v133 : Ref sig .tc := ⟨.hbm, 148, rfl⟩
abbrev main_v134 : Ref sig .tc := ⟨.hbm, 149, rfl⟩
abbrev main_v135 : Ref sig .tc := ⟨.hbm, 150, rfl⟩
abbrev main_v136 : Ref sig .tc := ⟨.hbm, 151, rfl⟩
abbrev main_v137 : Ref sig .tc := ⟨.hbm, 152, rfl⟩
abbrev main_v138 : Ref sig .tc := ⟨.hbm, 153, rfl⟩
abbrev main_v139 : Ref sig .tc := ⟨.hbm, 154, rfl⟩
abbrev main_v140 : Ref sig .tc := ⟨.hbm, 155, rfl⟩
abbrev main_v141 : Ref sig .tc := ⟨.hbm, 156, rfl⟩
abbrev main_v142 : Ref sig .tc := ⟨.hbm, 157, rfl⟩
abbrev main_v143 : Ref sig .tc := ⟨.hbm, 158, rfl⟩
abbrev main_v144 : Ref sig .tc := ⟨.hbm, 159, rfl⟩
abbrev main_v145 : Ref sig .tc := ⟨.hbm, 160, rfl⟩
abbrev main_v146 : Ref sig .tc := ⟨.hbm, 161, rfl⟩
abbrev main_v147 : Ref sig .tc := ⟨.hbm, 162, rfl⟩
abbrev main_v148 : Ref sig .tc := ⟨.hbm, 163, rfl⟩
abbrev main_v149 : Ref sig .tc := ⟨.hbm, 164, rfl⟩
abbrev main_v150 : Ref sig .tc := ⟨.hbm, 165, rfl⟩
abbrev main_v151 : Ref sig .tc := ⟨.hbm, 166, rfl⟩
abbrev main_v152 : Ref sig .tc := ⟨.hbm, 167, rfl⟩
abbrev main_v153 : Ref sig .tc := ⟨.hbm, 168, rfl⟩
abbrev main_v154 : Ref sig .tc := ⟨.hbm, 169, rfl⟩
abbrev main_v155 : Ref sig .tc := ⟨.hbm, 170, rfl⟩
abbrev main_v156 : Ref sig .tc := ⟨.hbm, 171, rfl⟩
abbrev main_cst_4 : Ref sig .tc := ⟨.hbm, 172, rfl⟩
abbrev main_v157 : Ref sig .tc := ⟨.hbm, 173, rfl⟩
abbrev main_v158 : Ref sig .tc := ⟨.hbm, 174, rfl⟩
abbrev main_cst_5 : Ref sig .tc := ⟨.hbm, 175, rfl⟩
abbrev main_v159 : Ref sig .tc := ⟨.hbm, 176, rfl⟩
abbrev main_v160 : Ref sig .tc := ⟨.hbm, 177, rfl⟩
abbrev main_cst_6 : Ref sig .tc := ⟨.hbm, 178, rfl⟩
abbrev main_v161 : Ref sig .tc := ⟨.hbm, 179, rfl⟩
abbrev main_v162 : Ref sig .tc := ⟨.hbm, 180, rfl⟩
abbrev main_v163 : Ref sig .tc := ⟨.hbm, 181, rfl⟩
abbrev main_v164 : Ref sig .tc := ⟨.hbm, 182, rfl⟩
abbrev main_v165 : Ref sig .tc := ⟨.hbm, 183, rfl⟩
abbrev main_v166 : Ref sig .tc := ⟨.hbm, 184, rfl⟩
abbrev main_v167 : Ref sig .tc := ⟨.hbm, 185, rfl⟩
abbrev main_v168 : Ref sig .tc := ⟨.hbm, 186, rfl⟩
abbrev main_v169 : Ref sig .tc := ⟨.hbm, 187, rfl⟩
abbrev main_v170 : Ref sig .tc := ⟨.hbm, 188, rfl⟩
abbrev main_v171 : Ref sig .tc := ⟨.hbm, 189, rfl⟩
abbrev main_v172 : Ref sig .tc := ⟨.hbm, 190, rfl⟩
abbrev main_v173 : Ref sig .tc := ⟨.hbm, 191, rfl⟩
abbrev main_v174 : Ref sig .tc := ⟨.hbm, 192, rfl⟩
abbrev main_v175 : Ref sig .tc := ⟨.hbm, 193, rfl⟩
abbrev main_v176 : Ref sig .tc := ⟨.hbm, 194, rfl⟩
abbrev main_v177 : Ref sig .tc := ⟨.hbm, 195, rfl⟩
abbrev main_v178 : Ref sig .tc := ⟨.hbm, 196, rfl⟩
abbrev main_v179 : Ref sig .tc := ⟨.hbm, 197, rfl⟩
abbrev main_v180 : Ref sig .tc := ⟨.hbm, 198, rfl⟩
abbrev main_v181 : Ref sig .tc := ⟨.hbm, 199, rfl⟩
abbrev main_v182 : Ref sig .tc := ⟨.hbm, 200, rfl⟩
abbrev main_v183 : Ref sig .tc := ⟨.hbm, 201, rfl⟩
abbrev main_v184 : Ref sig .tc := ⟨.hbm, 202, rfl⟩
abbrev main_v185 : Ref sig .tc := ⟨.hbm, 203, rfl⟩
abbrev main_v186 : Ref sig .tc := ⟨.hbm, 204, rfl⟩
abbrev main_v187 : Ref sig .tc := ⟨.hbm, 205, rfl⟩
abbrev main_v188 : Ref sig .tc := ⟨.hbm, 206, rfl⟩
abbrev main_v189 : Ref sig .tc := ⟨.hbm, 207, rfl⟩
abbrev main_v190 : Ref sig .tc := ⟨.hbm, 208, rfl⟩
abbrev main_v191 : Ref sig .tc := ⟨.hbm, 209, rfl⟩
abbrev main_v192 : Ref sig .tc := ⟨.hbm, 210, rfl⟩
abbrev main_v193 : Ref sig .tc := ⟨.hbm, 211, rfl⟩
abbrev main_v194 : Ref sig .tc := ⟨.hbm, 212, rfl⟩
abbrev main_v195 : Ref sig .tc := ⟨.hbm, 213, rfl⟩
abbrev main_v196 : Ref sig .tc := ⟨.hbm, 214, rfl⟩
abbrev main_v197 : Ref sig .tc := ⟨.hbm, 215, rfl⟩
abbrev main_v198 : Ref sig .tc := ⟨.hbm, 216, rfl⟩
abbrev main_v199 : Ref sig .tc := ⟨.hbm, 217, rfl⟩
abbrev main_v200 : Ref sig .tc := ⟨.hbm, 218, rfl⟩
abbrev main_v201 : Ref sig .tc := ⟨.hbm, 219, rfl⟩
abbrev main_v202 : Ref sig .tc := ⟨.hbm, 220, rfl⟩
abbrev main_v203 : Ref sig .tc := ⟨.hbm, 221, rfl⟩
abbrev main_v204 : Ref sig .tc := ⟨.hbm, 222, rfl⟩
abbrev main_v205 : Ref sig .tc := ⟨.hbm, 223, rfl⟩
abbrev main_v206 : Ref sig .tc := ⟨.hbm, 224, rfl⟩
abbrev main_v207 : Ref sig .tc := ⟨.hbm, 225, rfl⟩
abbrev main_v208 : Ref sig .tc := ⟨.hbm, 226, rfl⟩
abbrev main_v209 : Ref sig .tc := ⟨.hbm, 227, rfl⟩
abbrev main_v210 : Ref sig .tc := ⟨.hbm, 228, rfl⟩
abbrev main_v211 : Ref sig .tc := ⟨.hbm, 229, rfl⟩
abbrev main_cst_7 : Ref sig .tc := ⟨.hbm, 230, rfl⟩
abbrev main_v212 : Ref sig .tc := ⟨.hbm, 231, rfl⟩
abbrev main_v213 : Ref sig .tc := ⟨.hbm, 232, rfl⟩
abbrev main_cst_8 : Ref sig .tc := ⟨.hbm, 233, rfl⟩
abbrev main_v214 : Ref sig .tc := ⟨.hbm, 234, rfl⟩
abbrev main_v215 : Ref sig .tc := ⟨.hbm, 235, rfl⟩
abbrev main_cst_9 : Ref sig .tc := ⟨.hbm, 236, rfl⟩
abbrev main_v216 : Ref sig .tc := ⟨.hbm, 237, rfl⟩
abbrev main_v217 : Ref sig .tc := ⟨.hbm, 238, rfl⟩
abbrev main_v218 : Ref sig .tc := ⟨.hbm, 239, rfl⟩
abbrev main_v219 : Ref sig .tc := ⟨.hbm, 240, rfl⟩
abbrev main_v220 : Ref sig .tc := ⟨.hbm, 241, rfl⟩
abbrev main_v221 : Ref sig .tc := ⟨.hbm, 242, rfl⟩
abbrev main_v222 : Ref sig .tc := ⟨.hbm, 243, rfl⟩
abbrev main_v223 : Ref sig .tc := ⟨.hbm, 244, rfl⟩
abbrev main_v224 : Ref sig .tc := ⟨.hbm, 245, rfl⟩
abbrev main_v225 : Ref sig .tc := ⟨.hbm, 246, rfl⟩
abbrev main_v226 : Ref sig .tc := ⟨.hbm, 247, rfl⟩
abbrev main_v227 : Ref sig .tc := ⟨.hbm, 248, rfl⟩
abbrev main_v228 : Ref sig .tc := ⟨.hbm, 249, rfl⟩
abbrev main_v229 : Ref sig .tc := ⟨.hbm, 250, rfl⟩
abbrev main_v230 : Ref sig .tc := ⟨.hbm, 251, rfl⟩
abbrev main_v231 : Ref sig .tc := ⟨.hbm, 252, rfl⟩
abbrev main_v232 : Ref sig .tc := ⟨.hbm, 253, rfl⟩
abbrev main_v233 : Ref sig .tc := ⟨.hbm, 254, rfl⟩
abbrev main_v234 : Ref sig .tc := ⟨.hbm, 255, rfl⟩
abbrev main_v235 : Ref sig .tc := ⟨.hbm, 256, rfl⟩
abbrev main_v236 : Ref sig .tc := ⟨.hbm, 257, rfl⟩
abbrev main_v237 : Ref sig .tc := ⟨.hbm, 258, rfl⟩
abbrev main_v238 : Ref sig .tc := ⟨.hbm, 259, rfl⟩
abbrev main_v239 : Ref sig .tc := ⟨.hbm, 260, rfl⟩
abbrev main_v240 : Ref sig .tc := ⟨.hbm, 261, rfl⟩
abbrev main_v241 : Ref sig .tc := ⟨.hbm, 262, rfl⟩
abbrev main_v242 : Ref sig .tc := ⟨.hbm, 263, rfl⟩
abbrev main_v243 : Ref sig .tc := ⟨.hbm, 264, rfl⟩
abbrev main_v244 : Ref sig .tc := ⟨.hbm, 265, rfl⟩
abbrev main_v245 : Ref sig .tc := ⟨.hbm, 266, rfl⟩
abbrev main_v246 : Ref sig .tc := ⟨.hbm, 267, rfl⟩
abbrev main_v247 : Ref sig .tc := ⟨.hbm, 268, rfl⟩
abbrev main_v248 : Ref sig .tc := ⟨.hbm, 269, rfl⟩
abbrev main_v249 : Ref sig .tc := ⟨.hbm, 270, rfl⟩
abbrev main_v250 : Ref sig .tc := ⟨.hbm, 271, rfl⟩
abbrev main_v251 : Ref sig .tc := ⟨.hbm, 272, rfl⟩
abbrev main_v252 : Ref sig .tc := ⟨.hbm, 273, rfl⟩
abbrev main_v253 : Ref sig .tc := ⟨.hbm, 274, rfl⟩
abbrev main_v254 : Ref sig .tc := ⟨.hbm, 275, rfl⟩
abbrev main_v255 : Ref sig .tc := ⟨.hbm, 276, rfl⟩
abbrev main_v256 : Ref sig .tc := ⟨.hbm, 277, rfl⟩
abbrev main_v257 : Ref sig .tc := ⟨.hbm, 278, rfl⟩
abbrev main_v258 : Ref sig .tc := ⟨.hbm, 279, rfl⟩
abbrev main_v259 : Ref sig .tc := ⟨.hbm, 280, rfl⟩
abbrev main_v260 : Ref sig .tc := ⟨.hbm, 281, rfl⟩
abbrev main_v261 : Ref sig .tc := ⟨.hbm, 282, rfl⟩
abbrev main_v262 : Ref sig .tc := ⟨.hbm, 283, rfl⟩
abbrev main_v263 : Ref sig .tc := ⟨.hbm, 284, rfl⟩
abbrev main_v264 : Ref sig .tc := ⟨.hbm, 285, rfl⟩
abbrev main_v265 : Ref sig .tc := ⟨.hbm, 286, rfl⟩
abbrev main_v266 : Ref sig .tc := ⟨.hbm, 287, rfl⟩
abbrev main_v267 : Ref sig .tc := ⟨.hbm, 288, rfl⟩
abbrev main_v268 : Ref sig .tc := ⟨.hbm, 289, rfl⟩
abbrev main_v269 : Ref sig .tc := ⟨.hbm, 290, rfl⟩
abbrev main_cst_10 : Ref sig .tc := ⟨.hbm, 291, rfl⟩
abbrev main_v270 : Ref sig .tc := ⟨.hbm, 292, rfl⟩
abbrev main_v271 : Ref sig .tc := ⟨.hbm, 293, rfl⟩
abbrev main_cst_11 : Ref sig .tc := ⟨.hbm, 294, rfl⟩
abbrev main_v272 : Ref sig .tc := ⟨.hbm, 295, rfl⟩
abbrev main_v273 : Ref sig .tc := ⟨.hbm, 296, rfl⟩
abbrev main_cst_12 : Ref sig .tc := ⟨.hbm, 297, rfl⟩
abbrev main_v274 : Ref sig .tc := ⟨.hbm, 298, rfl⟩
abbrev main_v275 : Ref sig .tc := ⟨.hbm, 299, rfl⟩
abbrev main_v276 : Ref sig .tc := ⟨.hbm, 300, rfl⟩
abbrev main_v277 : Ref sig .tc := ⟨.hbm, 301, rfl⟩
abbrev main_v278 : Ref sig .tc := ⟨.hbm, 302, rfl⟩
abbrev main_v279 : Ref sig .tc := ⟨.hbm, 303, rfl⟩
abbrev main_v280 : Ref sig .tc := ⟨.hbm, 304, rfl⟩
abbrev main_v281 : Ref sig .tc := ⟨.hbm, 305, rfl⟩
abbrev main_v282 : Ref sig .tc := ⟨.hbm, 306, rfl⟩
abbrev main_v283 : Ref sig .tc := ⟨.hbm, 307, rfl⟩
abbrev main_v284 : Ref sig .tc := ⟨.hbm, 308, rfl⟩
abbrev main_v285 : Ref sig .tc := ⟨.hbm, 309, rfl⟩
abbrev main_v286 : Ref sig .tc := ⟨.hbm, 310, rfl⟩
abbrev main_v287 : Ref sig .tc := ⟨.hbm, 311, rfl⟩
abbrev main_v288 : Ref sig .tc := ⟨.hbm, 312, rfl⟩
abbrev main_v289 : Ref sig .tc := ⟨.hbm, 313, rfl⟩
abbrev main_v290 : Ref sig .tc := ⟨.hbm, 314, rfl⟩
abbrev main_v291 : Ref sig .tc := ⟨.hbm, 315, rfl⟩
abbrev main_v292 : Ref sig .tc := ⟨.hbm, 316, rfl⟩
abbrev main_v293 : Ref sig .tc := ⟨.hbm, 317, rfl⟩
abbrev main_v294 : Ref sig .tc := ⟨.hbm, 318, rfl⟩
abbrev main_v295 : Ref sig .tc := ⟨.hbm, 319, rfl⟩
abbrev main_v296 : Ref sig .tc := ⟨.hbm, 320, rfl⟩
abbrev main_v297 : Ref sig .tc := ⟨.hbm, 321, rfl⟩
abbrev main_v298 : Ref sig .tc := ⟨.hbm, 322, rfl⟩
abbrev main_v299 : Ref sig .tc := ⟨.hbm, 323, rfl⟩
abbrev main_v300 : Ref sig .tc := ⟨.hbm, 324, rfl⟩
abbrev main_v301 : Ref sig .tc := ⟨.hbm, 325, rfl⟩
abbrev main_v302 : Ref sig .tc := ⟨.hbm, 326, rfl⟩
abbrev main_v303 : Ref sig .tc := ⟨.hbm, 327, rfl⟩
abbrev main_v304 : Ref sig .tc := ⟨.hbm, 328, rfl⟩
abbrev main_v305 : Ref sig .tc := ⟨.hbm, 329, rfl⟩
abbrev main_v306 : Ref sig .tc := ⟨.hbm, 330, rfl⟩
abbrev main_v307 : Ref sig .tc := ⟨.hbm, 331, rfl⟩
abbrev main_v308 : Ref sig .tc := ⟨.hbm, 332, rfl⟩
abbrev main_v309 : Ref sig .tc := ⟨.hbm, 333, rfl⟩
abbrev main_v310 : Ref sig .tc := ⟨.hbm, 334, rfl⟩
abbrev main_v311 : Ref sig .tc := ⟨.hbm, 335, rfl⟩
abbrev main_v312 : Ref sig .tc := ⟨.hbm, 336, rfl⟩
abbrev main_v313 : Ref sig .tc := ⟨.hbm, 337, rfl⟩
abbrev main_v314 : Ref sig .tc := ⟨.hbm, 338, rfl⟩
abbrev main_v315 : Ref sig .tc := ⟨.hbm, 339, rfl⟩
abbrev main_v316 : Ref sig .tc := ⟨.hbm, 340, rfl⟩
abbrev main_v317 : Ref sig .tc := ⟨.hbm, 341, rfl⟩
abbrev main_v318 : Ref sig .tc := ⟨.hbm, 342, rfl⟩
abbrev main_v319 : Ref sig .tc := ⟨.hbm, 343, rfl⟩
abbrev main_v320 : Ref sig .tc := ⟨.hbm, 344, rfl⟩
abbrev main_v321 : Ref sig .tc := ⟨.hbm, 345, rfl⟩
abbrev main_cst_13 : Ref sig .tc := ⟨.hbm, 346, rfl⟩
abbrev main_v322 : Ref sig .tc := ⟨.hbm, 347, rfl⟩
abbrev main_v323 : Ref sig .tc := ⟨.hbm, 348, rfl⟩
abbrev main_cst_14 : Ref sig .tc := ⟨.hbm, 349, rfl⟩
abbrev main_v324 : Ref sig .tc := ⟨.hbm, 350, rfl⟩
abbrev main_v325 : Ref sig .tc := ⟨.hbm, 351, rfl⟩
abbrev main_cst_15 : Ref sig .tc := ⟨.hbm, 352, rfl⟩
abbrev main_v326 : Ref sig .tc := ⟨.hbm, 353, rfl⟩
abbrev main_v327 : Ref sig .tc := ⟨.hbm, 354, rfl⟩
abbrev main_v328 : Ref sig .tc := ⟨.hbm, 355, rfl⟩
abbrev main_v329 : Ref sig .tc := ⟨.hbm, 356, rfl⟩
abbrev main_v330 : Ref sig .tc := ⟨.hbm, 357, rfl⟩
abbrev main_v331 : Ref sig .tc := ⟨.hbm, 358, rfl⟩
abbrev main_v332 : Ref sig .tc := ⟨.hbm, 359, rfl⟩
abbrev main_v333 : Ref sig .tc := ⟨.hbm, 360, rfl⟩
abbrev main_v334 : Ref sig .tc := ⟨.hbm, 361, rfl⟩
abbrev main_v335 : Ref sig .tc := ⟨.hbm, 362, rfl⟩
abbrev main_v336 : Ref sig .tc := ⟨.hbm, 363, rfl⟩
abbrev main_v337 : Ref sig .tc := ⟨.hbm, 364, rfl⟩
abbrev main_v338 : Ref sig .tc := ⟨.hbm, 365, rfl⟩
abbrev main_v339 : Ref sig .tc := ⟨.hbm, 366, rfl⟩
abbrev main_v340 : Ref sig .tc := ⟨.hbm, 367, rfl⟩
abbrev main_v341 : Ref sig .tc := ⟨.hbm, 368, rfl⟩
abbrev main_v342 : Ref sig .tc := ⟨.hbm, 369, rfl⟩
abbrev main_v343 : Ref sig .tc := ⟨.hbm, 370, rfl⟩
abbrev main_v344 : Ref sig .tc := ⟨.hbm, 371, rfl⟩
abbrev main_v345 : Ref sig .tc := ⟨.hbm, 372, rfl⟩
abbrev main_v346 : Ref sig .tc := ⟨.hbm, 373, rfl⟩
abbrev main_v347 : Ref sig .tc := ⟨.hbm, 374, rfl⟩
abbrev main_v348 : Ref sig .tc := ⟨.hbm, 375, rfl⟩
abbrev main_v349 : Ref sig .tc := ⟨.hbm, 376, rfl⟩
abbrev main_v350 : Ref sig .tc := ⟨.hbm, 377, rfl⟩
abbrev main_v351 : Ref sig .tc := ⟨.hbm, 378, rfl⟩
abbrev main_v352 : Ref sig .tc := ⟨.hbm, 379, rfl⟩
abbrev main_v353 : Ref sig .tc := ⟨.hbm, 380, rfl⟩
abbrev main_v354 : Ref sig .tc := ⟨.hbm, 381, rfl⟩
abbrev main_v355 : Ref sig .tc := ⟨.hbm, 382, rfl⟩
abbrev main_v356 : Ref sig .tc := ⟨.hbm, 383, rfl⟩
abbrev main_v357 : Ref sig .tc := ⟨.hbm, 384, rfl⟩
abbrev main_v358 : Ref sig .tc := ⟨.hbm, 385, rfl⟩
abbrev main_v359 : Ref sig .tc := ⟨.hbm, 386, rfl⟩
abbrev main_v360 : Ref sig .tc := ⟨.hbm, 387, rfl⟩
abbrev main_v361 : Ref sig .tc := ⟨.hbm, 388, rfl⟩
abbrev main_v362 : Ref sig .tc := ⟨.hbm, 389, rfl⟩
abbrev main_v363 : Ref sig .tc := ⟨.hbm, 390, rfl⟩
abbrev main_v364 : Ref sig .tc := ⟨.hbm, 391, rfl⟩
abbrev main_v365 : Ref sig .tc := ⟨.hbm, 392, rfl⟩
abbrev main_v366 : Ref sig .tc := ⟨.hbm, 393, rfl⟩
abbrev main_v367 : Ref sig .tc := ⟨.hbm, 394, rfl⟩
abbrev main_v368 : Ref sig .tc := ⟨.hbm, 395, rfl⟩
abbrev main_v369 : Ref sig .tc := ⟨.hbm, 396, rfl⟩
abbrev main_v370 : Ref sig .tc := ⟨.hbm, 397, rfl⟩
abbrev main_v371 : Ref sig .tc := ⟨.hbm, 398, rfl⟩
abbrev main_v372 : Ref sig .tc := ⟨.hbm, 399, rfl⟩
abbrev main_v373 : Ref sig .tc := ⟨.hbm, 400, rfl⟩
abbrev main_v374 : Ref sig .tc := ⟨.hbm, 401, rfl⟩
abbrev main_v375 : Ref sig .tc := ⟨.hbm, 402, rfl⟩
abbrev main_v376 : Ref sig .tc := ⟨.hbm, 403, rfl⟩
abbrev main_v377 : Ref sig .tc := ⟨.hbm, 404, rfl⟩
abbrev main_v378 : Ref sig .tc := ⟨.hbm, 405, rfl⟩
abbrev main_v379 : Ref sig .tc := ⟨.hbm, 406, rfl⟩
abbrev main_c : Ref sig .tc := ⟨.hbm, 407, rfl⟩
abbrev main_call0_v0 : Ref sig .tc := ⟨.hbm, 408, rfl⟩
abbrev main_v380 : Ref sig .tc := ⟨.hbm, 409, rfl⟩
abbrev main_v381 : Ref sig .tc := ⟨.hbm, 410, rfl⟩
abbrev main_v382 : Ref sig .tc := ⟨.hbm, 411, rfl⟩
abbrev main_c_16 : Ref sig .tc := ⟨.hbm, 412, rfl⟩
abbrev main_call1_v0 : Ref sig .tc := ⟨.hbm, 413, rfl⟩
abbrev main_v383 : Ref sig .tc := ⟨.hbm, 414, rfl⟩
abbrev main_v384 : Ref sig .tc := ⟨.hbm, 415, rfl⟩
abbrev main_v385 : Ref sig .tc := ⟨.hbm, 416, rfl⟩
abbrev main_v386 : Ref sig .tc := ⟨.hbm, 417, rfl⟩
abbrev main_v387 : Ref sig .tc := ⟨.hbm, 418, rfl⟩
abbrev main_v388 : Ref sig .tc := ⟨.hbm, 419, rfl⟩
abbrev main_v389 : Ref sig .tc := ⟨.hbm, 420, rfl⟩
abbrev main_v390 : Ref sig .tc := ⟨.hbm, 421, rfl⟩
abbrev main_v391 : Ref sig .tc := ⟨.hbm, 422, rfl⟩
abbrev main_v392 : Ref sig .tc := ⟨.hbm, 423, rfl⟩
abbrev main_v393 : Ref sig .tc := ⟨.hbm, 424, rfl⟩
abbrev main_v394 : Ref sig .tc := ⟨.hbm, 425, rfl⟩
abbrev main_v395 : Ref sig .tc := ⟨.hbm, 426, rfl⟩
abbrev main_v396 : Ref sig .tc := ⟨.hbm, 427, rfl⟩

abbrev nD : Nat := 1
abbrev τ : Topo := Topo.v7x

variable {F : FTy → Type} [FloatOps F]
-- ==== Proof.Attn.Softmax.lean ====
/- The mathematics of one row of attention on the extended reals: a softmax taken to the base two with its division after
   the weighted sum is the natural softmax weighting the values. -/
module

public import Idealize.ShloMosaic.PureOps.Ideal
public import Mathlib.Analysis.SpecialFunctions.Pow.Real
public import Mathlib.Data.EReal.Operations
public import Mathlib.Data.EReal.Inv

@[expose] public section

noncomputable section

namespace Cert.Attn

open Idealize.ShloMosaic

variable {κ : Type} [Fintype κ]

/-- One row of attention: the softmax of the scores `a`, weighting the values `v`. -/
def attend (a v : κ → EReal) : EReal :=
  ∑ k, Ideal.div (Ideal.exp (a k - Finset.univ.sup a)) (∑ j, Ideal.exp (a j - Finset.univ.sup a)) * v k

/-- The same row to the base two, the division after the weighted sum. -/
def attend2 (t v : κ → EReal) : EReal :=
  Ideal.div (∑ k, v k * Ideal.exp2 (t k - Finset.univ.sup t)) (∑ j, Ideal.exp2 (t j - Finset.univ.sup t))

/-- A nonnegative real factor on the right leaves a finite sum. -/
theorem sum_mul_coe (s : Finset κ) (f : κ → EReal) {c : ℝ} (hc : 0 ≤ c) :
    (∑ k ∈ s, f k) * (c : EReal) = ∑ k ∈ s, f k * (c : EReal) := by
  classical
  induction s using Finset.induction_on with
  | empty => simp
  | insert a s ha ih =>
    rw [Finset.sum_insert ha, Finset.sum_insert ha, ← ih,
      EReal.right_distrib_of_nonneg_of_ne_top (by exact_mod_cast hc) (EReal.coe_ne_top _)]

/-- The real sum is the sum of the reals in the extended reals. -/
theorem coe_sum (s : Finset κ) (f : κ → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A positive real factor passes through the largest score. -/
theorem sup_mul (L : ℝ) (hL : 0 < L) (s : Finset κ) (a : κ → EReal) :
    s.sup (fun k => (L : EReal) * a k) = (L : EReal) * s.sup a := by
  classical
  have hmono : ∀ x y : EReal, (L : EReal) * (x ⊔ y) = (L : EReal) * x ⊔ (L : EReal) * y := by
    intro x y
    rcases le_total x y with h | h
    · rw [sup_eq_right.mpr h, sup_eq_right.mpr (mul_le_mul_of_nonneg_left h (by exact_mod_cast hL.le))]
    · rw [sup_eq_left.mpr h, sup_eq_left.mpr (mul_le_mul_of_nonneg_left h (by exact_mod_cast hL.le))]
  induction s using Finset.induction_on with
  | empty => simp [EReal.coe_mul_bot_of_pos hL]
  | insert a s ha ih => rw [Finset.sup_insert, Finset.sup_insert, ih, hmono]

/-- The largest of finitely many scores, none `⊤` and one not `⊥`, is a real. -/
theorem sup_real (a : κ → EReal) (hT : ∀ k, a k ≠ ⊤) (hB : ∃ k, a k ≠ ⊥) :
    ∃ m : ℝ, Finset.univ.sup a = (m : EReal) := by
  have h1 : Finset.univ.sup a ≠ ⊤ := by
    have := (Finset.sup_lt_iff (f := a) (s := Finset.univ) (a := ⊤) (by simp)).mpr
      (fun k _ => lt_top_iff_ne_top.mpr (hT k))
    exact this.ne
  have h2 : Finset.univ.sup a ≠ ⊥ := by
    obtain ⟨k, hk⟩ := hB
    intro h
    exact hk (le_bot_iff.mp (h ▸ Finset.le_sup (f := a) (Finset.mem_univ k)))
  exact ⟨(Finset.univ.sup a).toReal, (EReal.coe_toReal h1 h2).symm⟩

/-- The exponential of a score below the real `m`, as a real. -/
theorem exp_sub_real (x : EReal) (hx : x ≠ ⊤) (m : ℝ) :
    ∃ e : ℝ, 0 ≤ e ∧ Ideal.exp (x - (m : EReal)) = (e : EReal) ∧ (x ≠ ⊥ → 0 < e)
      ∧ Ideal.exp2 ((((Real.log 2)⁻¹ : ℝ) : EReal) * x - (((Real.log 2)⁻¹ * m : ℝ) : EReal)) = (e : EReal) := by
  have hl : 0 < (Real.log 2)⁻¹ := inv_pos.mpr (Real.log_pos (by norm_num))
  induction x using EReal.rec with
  | bot =>
    refine ⟨0, le_rfl, ?_, fun h => absurd rfl h, ?_⟩
    · simp
    · rw [EReal.coe_mul_bot_of_pos hl, EReal.bot_sub]; simp
  | top => exact absurd rfl hx
  | coe r =>
    refine ⟨Real.exp (r - m), (Real.exp_pos _).le, ?_, fun _ => Real.exp_pos _, ?_⟩
    · rw [← EReal.coe_sub, Ideal.exp_coe]
    · rw [← EReal.coe_mul, ← EReal.coe_sub, Ideal.exp2_coe]
      congr 1
      show (2 : ℝ) ^ ((Real.log 2)⁻¹ * r - (Real.log 2)⁻¹ * m) = _
      rw [Real.rpow_def_of_pos (by norm_num)]
      congr 1
      have : Real.log 2 ≠ 0 := (Real.log_pos (by norm_num)).ne'
      field_simp

/-- The law: scores `t` that are the scores `a` in units of `log 2` give the same row of attention, for any values
    (infinite ones too), as long as no score is `⊤` and one is a real. -/
theorem attend2_eq (a t v : κ → EReal) (ht : ∀ k, t k = (((Real.log 2)⁻¹ : ℝ) : EReal) * a k)
    (hT : ∀ k, a k ≠ ⊤) (hB : ∃ k, a k ≠ ⊥) : attend2 t v = attend a v := by
  have hl : 0 < (Real.log 2)⁻¹ := inv_pos.mpr (Real.log_pos (by norm_num))
  obtain ⟨m, hm⟩ := sup_real a hT hB
  have hm2 : Finset.univ.sup t = (((Real.log 2)⁻¹ * m : ℝ) : EReal) := by
    rw [show t = fun k => (((Real.log 2)⁻¹ : ℝ) : EReal) * a k from funext ht, sup_mul _ hl, hm, EReal.coe_mul]
  choose e he0 he hep he2 using fun k => exp_sub_real (a k) (hT k) m
  have hS : 0 < ∑ k, e k := by
    obtain ⟨k, hk⟩ := hB
    exact Finset.sum_pos' (fun k _ => he0 k) ⟨k, Finset.mem_univ k, hep k hk⟩
  unfold attend attend2
  rw [hm, hm2]
  simp only [ht, he, he2]
  rw [← coe_sum, Ideal.div_coe hS.ne', sum_mul_coe _ _ (by positivity)]
  refine Finset.sum_congr rfl fun k _ => ?_
  rw [Ideal.div_coe hS.ne', mul_assoc, mul_comm (v k)]

/-- A row of attention does not depend on how its keys are numbered. -/
theorem attend_equiv {ι : Type} [Fintype ι] (e : ι ≃ κ) (a v : κ → EReal) :
    attend a v = attend (fun i => a (e i)) (fun i => v (e i)) := by
  have hs : Finset.univ.sup (fun i => a (e i)) = Finset.univ.sup a := by
    rw [← Finset.univ_map_equiv_to_embedding e, Finset.sup_map]; rfl
  unfold attend
  rw [hs, ← Equiv.sum_comp e, ← Equiv.sum_comp e (fun j => Ideal.exp (a j - Finset.univ.sup a))]

/-- The fold of `max` from `⊥` is the largest. -/
theorem fold_eq_sup (s : Finset κ) (f : κ → EReal) : s.fold max ⊥ f = s.sup f := rfl

/-- The largest score over two lists of keys is the larger of the two largest. -/
theorem sup_sum {n m : ℕ} (f : Fin n ⊕ Fin m → EReal) :
    Finset.univ.sup f = max (Finset.univ.fold max ⊥ fun k => f (.inl k)) (Finset.univ.fold max ⊥ fun k => f (.inr k)) := by
  show _ = max (Finset.univ.sup fun k => f (.inl k)) (Finset.univ.sup fun k => f (.inr k))
  apply le_antisymm
  · refine Finset.sup_le fun k _ => ?_
    rcases k with k | k
    · exact le_max_of_le_left (Finset.le_sup (f := fun k => f (.inl k)) (Finset.mem_univ k))
    · exact le_max_of_le_right (Finset.le_sup (f := fun k => f (.inr k)) (Finset.mem_univ k))
  · refine max_le (Finset.sup_le fun k _ => Finset.le_sup (f := f) (Finset.mem_univ _))
      (Finset.sup_le fun k _ => Finset.le_sup (f := f) (Finset.mem_univ _))

/-- The row to the base two over two lists of keys, its sums and its largest score taken list by list. -/
theorem attend2_sum {n m : ℕ} (t v : Fin n ⊕ Fin m → EReal) :
    attend2 t v =
      Ideal.div ((∑ k, v (.inl k) * Ideal.exp2 (t (.inl k) - max (Finset.univ.fold max ⊥ fun k => t (.inl k)) (Finset.univ.fold max ⊥ fun k => t (.inr k))))
          + ∑ k, v (.inr k) * Ideal.exp2 (t (.inr k) - max (Finset.univ.fold max ⊥ fun k => t (.inl k)) (Finset.univ.fold max ⊥ fun k => t (.inr k))))
        ((∑ k, Ideal.exp2 (t (.inl k) - max (Finset.univ.fold max ⊥ fun k => t (.inl k)) (Finset.univ.fold max ⊥ fun k => t (.inr k))))
          + ∑ k, Ideal.exp2 (t (.inr k) - max (Finset.univ.fold max ⊥ fun k => t (.inl k)) (Finset.univ.fold max ⊥ fun k => t (.inr k)))) := by
  unfold attend2
  rw [sup_sum, Fintype.sum_sum_type, Fintype.sum_sum_type]

/-- A sum over 128 lanes whose second factor is zero outside one half is the sum over that half. -/
theorem half_sum (f g : Fin 128 → EReal) (low : Prop) [Decidable low] (o : ℕ) (ho : o = if low then 0 else 64) (h : ∀ d : Fin 64, o + d.val < 128) :
    (∑ d : Fin 128, f d * (if (d.val < 64 ↔ low) then g d else 0)) = ∑ d : Fin 64, f ⟨o + d.val, h d⟩ * g ⟨o + d.val, h d⟩ := by
  rw [show (∑ d : Fin 128, f d * (if (d.val < 64 ↔ low) then g d else 0))
    = ∑ d : Fin (64 + 64), (fun d : Fin 128 => f d * (if (d.val < 64 ↔ low) then g d else 0)) d from rfl, Fin.sum_univ_add]
  by_cases hl : low
  · subst ho
    have e1 : ∀ d : Fin 64, (Fin.castAdd 64 d : Fin 128) = ⟨(if low then 0 else 64) + d.val, h d⟩ := by
      intro d; apply Fin.ext; simp [hl]
    have z : ∀ d : Fin 64, ¬ ((Fin.natAdd 64 d : Fin 128).val < 64 ↔ low) := by
      intro d; simp [hl]
    have y : ∀ d : Fin 64, ((Fin.castAdd 64 d : Fin 128).val < 64 ↔ low) := by
      intro d; simp [hl]
    simp only [z, y, if_true, if_false, mul_zero, Finset.sum_const_zero, add_zero]
    exact Finset.sum_congr rfl fun d _ => by rw [e1]
  · subst ho
    have e1 : ∀ d : Fin 64, (Fin.natAdd 64 d : Fin 128) = ⟨(if low then 0 else 64) + d.val, h d⟩ := by
      intro d; apply Fin.ext; simp [hl]; omega
    have z : ∀ d : Fin 64, ¬ ((Fin.castAdd 64 d : Fin 128).val < 64 ↔ low) := by
      intro d; simp [hl]
    have y : ∀ d : Fin 64, ((Fin.natAdd 64 d : Fin 128).val < 64 ↔ low) := by
      intro d; simp [hl]
    simp only [z, y, if_true, if_false, mul_zero, Finset.sum_const_zero, zero_add]
    exact Finset.sum_congr rfl fun d _ => by rw [e1]

end Cert.Attn

end
-- ==== Proof.AttnC.Block.lean ====
/- One block of the first attention kernel (four query rows of three heads sharing two key heads), read at an index: a row
   of attention to the base two over the context's keys and the sequence's keys. -/
module

public import proofs.«01_k».proof.Proof.Gen.KernelIdeal.Value
public import proofs.«01_k».proof.Proof.Attn.Softmax
public import Idealize.ShloMosaic.Lib.Pointwise

@[expose] public section

set_option maxRecDepth 16384

noncomputable section

namespace Cert.AttnC

open Cert.KernelIdeal Cert.KernelIdeal.Gen Idealize.ShloMosaic Cert.Attn

/-- The scale the kernel multiplies its queries by, as the kernel writes it. -/
abbrev κs : EReal := Named.named (F := Ideal) κ "scale" (φ := .f32) 0x3E38AA3B#32

/-- The bit pattern of minus infinity denotes `⊥`. -/
theorem negInf : Ideal.ofBits FTy.f32 0xFF800000#32 = ⊥ := by
  simp [Ideal.ofBits, Ideal.ieee]

/-- One unit of the kernel at a row and a lane: a row of attention over the context's keys and the sequence's keys. -/
theorem unit_apply (q : FVec Ideal S1536x128 .bf16) (ck : FVec Ideal S256x128 .bf16) (cv : FVec Ideal S128x256 .bf16)
    (k : Vec Ideal S1x2048x128 .bf16) (v : Vec Ideal S1x128x2048 .bf16) (r : Fin 1536) (l : Fin 128) :
    k0_pay7 (F := Ideal) q ck cv k v (ix2 r l) =
      attend2 (Sum.elim (fun x : Fin 256 => ∑ d : Fin 128, ck (ix2 x d) * q (ix2 r d))
          (fun x : Fin 2048 => ∑ d : Fin 128, k (ix3 0 x d) * q (ix2 r d)))
        (Sum.elim (fun x => cv (ix2 l x)) (fun x => v (ix3 0 l x))) := by
  pointwise [k0_pay7]
  rw [attend2_sum]
  simp only [Sum.elim_inl, Sum.elim_inr, negInf]
  rfl

/-- Which lanes the first key head's queries are kept in. -/
theorem keep0 : ∀ d : Fin 128, IntOp.xori (IntOp.xori (IntOp.cmpi CmpIPredicate.slt (BitVec.ofNat 32 d.val) 64#32) 1#1) 1#1
    = if d.val < 64 then 1#1 else 0#1 := by decide +kernel

/-- Which lanes the second key head's queries are kept in. -/
theorem keep1 : ∀ d : Fin 128, IntOp.xori (IntOp.xori (IntOp.cmpi CmpIPredicate.slt (BitVec.ofNat 32 d.val) 64#32) 0#1) 1#1
    = if d.val < 64 then 0#1 else 1#1 := by decide +kernel

/-- Which lanes of the result come from the first key head. -/
theorem keep2 (d : Nat) (hd : d < 128) (a b : EReal) :
    Scalar.select (IntOp.cmpi CmpIPredicate.slt (BitVec.ofNat 32 d) 64#32) a b = if d < 64 then a else b := by
  have key : ∀ d : Fin 128, IntOp.cmpi CmpIPredicate.slt (BitVec.ofNat 32 d.val) 64#32
      = if d.val < 64 then 1#1 else 0#1 := by decide +kernel
  have := key ⟨d, hd⟩
  simp only [] at this
  rw [this]
  split_ifs <;> rfl

/-- The query at a row and a lane of a unit, scaled, and zero in the other key head's lanes. -/
def qat (q : Vec Ideal S1x512x384 .bf16) (s : Fin 512) (r : Fin 3) (low : Prop) [Decidable low] (d : Fin 128) : EReal :=
  if (d.val < 64 ↔ low) then q (ix3 0 s ⟨128 * r.val + d.val, by omega⟩) * κs else 0

/-- The first unit's stacked queries. -/
theorem q0_apply (q : Vec Ideal S1x512x384 .bf16) (w : Fin 1536) (d : Fin 128) :
    k0_pay4 (F := Ideal) q (ix2 w d) = qat q ⟨w.val % 512, by omega⟩ ⟨w.val / 512, by omega⟩ True d := by
  pointwise [k0_pay4, k0_pay2, k0_pay3]
  rw [keep0]
  unfold qat
  simp only [iff_true]
  have hw := w.isLt
  by_cases hd : d.val < 64
  · simp only [hd, if_true]
    split_ifs <;> (refine congrArg (fun z => q z * κs) ?_; congr 1 <;> (apply Fin.ext; simp only []; omega))
  · simp only [hd, if_false]
    split_ifs <;> rfl

/-- The second unit's stacked queries. -/
theorem q1_apply (q : Vec Ideal S1x512x384 .bf16) (w : Fin 1536) (d : Fin 128) :
    k0_pay13 (F := Ideal) (k0_pay2 q) k0_pay3 (k0_pay11 (k0_pay2 q) k0_pay3) (k0_pay12 (k0_pay2 q)) 0#1 (ix2 w d)
      = qat q ⟨w.val % 512, by omega⟩ ⟨w.val / 512, by omega⟩ False d := by
  pointwise [k0_pay13, k0_pay2, k0_pay3, k0_pay11, k0_pay12]
  rw [keep1]
  unfold qat
  simp only [iff_false]
  have hw := w.isLt
  by_cases hd : d.val < 64
  · simp only [hd, if_true, not_true_eq_false, if_false]
    split_ifs <;> rfl
  · simp only [hd, if_false, not_false_eq_true, if_true]
    split_ifs <;> (refine congrArg (fun z => q z * κs) ?_; congr 1 <;> (apply Fin.ext; simp only []; omega))

/-- The row of attention a block computes: query row `s`, head `r`, lane `l`. -/
def row (x0 : Vec Ideal S1x512x384 .bf16) (x1 : Vec Ideal S1x256x128 .bf16) (x2 : Vec Ideal S1x128x256 .bf16)
    (x3 : Vec Ideal S1x2048x128 .bf16) (x4 : Vec Ideal S1x128x2048 .bf16) (s : Fin 512) (r : Fin 3) (l : Fin 128) : EReal :=
  attend2 (Sum.elim (fun x : Fin 256 => ∑ d : Fin 128, x1 (ix3 0 x d) * qat x0 s r (l.val < 64) d)
      (fun x : Fin 2048 => ∑ d : Fin 128, x3 (ix3 0 x d) * qat x0 s r (l.val < 64) d))
    (Sum.elim (fun x => x2 (ix3 0 l x)) (fun x => x4 (ix3 0 l x)))

/-- The first unit, over a block's inputs. -/
theorem unit0_apply (x0 : Vec Ideal S1x512x384 .bf16) (x1 : Vec Ideal S1x256x128 .bf16) (x2 : Vec Ideal S1x128x256 .bf16)
    (x3 : Vec Ideal S1x2048x128 .bf16) (x4 : Vec Ideal S1x128x2048 .bf16) (w : Fin 1536) (l : Fin 128) (hl : l.val < 64) :
    k0_pay7 (F := Ideal) (k0_pay4 x0) (k0_pay5 x1) (k0_pay6 x2) x3 x4 (ix2 w l)
      = row x0 x1 x2 x3 x4 ⟨w.val % 512, by omega⟩ ⟨w.val / 512, by omega⟩ l := by
  rw [unit_apply]
  unfold row
  simp only [q0_apply, qat, hl]
  pointwise [k0_pay5, k0_pay6]

/-- The second unit, over a block's inputs. -/
theorem unit1_apply (x0 : Vec Ideal S1x512x384 .bf16) (x1 : Vec Ideal S1x256x128 .bf16) (x2 : Vec Ideal S1x128x256 .bf16)
    (x3 : Vec Ideal S1x2048x128 .bf16) (x4 : Vec Ideal S1x128x2048 .bf16) (w : Fin 1536) (l : Fin 128) (hl : ¬ l.val < 64) :
    k0_pay7 (F := Ideal) (k0_pay13 (k0_pay2 x0) k0_pay3 (k0_pay11 (k0_pay2 x0) k0_pay3) (k0_pay12 (k0_pay2 x0)) 0#1)
        (k0_pay5 x1) (k0_pay6 x2) x3 x4 (ix2 w l)
      = row x0 x1 x2 x3 x4 ⟨w.val % 512, by omega⟩ ⟨w.val / 512, by omega⟩ l := by
  rw [unit_apply]
  unfold row
  simp only [q1_apply, qat, hl]
  pointwise [k0_pay5, k0_pay6]

/-- What the block's store writes, with the second unit written as the first one's function. -/
def stored (u0 u1 : FVec Ideal S1536x128 .f32) : FVec Ideal S1x512x384 .bf16 :=
  shapeCast S1x512x384 (truncf .bf16 (concatenate S512x384 1
    [⟨S512x128, select k0_pay3 (extractStridedSlice S512x128 ![0, 0] u0 slices_S1536x128_o0_0_S512x128) (extractStridedSlice S512x128 ![0, 0] u1 slices_S1536x128_o0_0_S512x128)⟩,
     ⟨S512x128, select k0_pay3 (extractStridedSlice S512x128 ![512, 0] u0 slices_S1536x128_o512_0_S512x128) (extractStridedSlice S512x128 ![512, 0] u1 slices_S1536x128_o512_0_S512x128)⟩,
     ⟨S512x128, select k0_pay3 (extractStridedSlice S512x128 ![1024, 0] u0 slices_S1536x128_o1024_0_S512x128) (extractStridedSlice S512x128 ![1024, 0] u1 slices_S1536x128_o1024_0_S512x128)⟩]
    concatenates_S512x128_S512x128_S512x128_S512x384_d1) bitsLt_bf16_f32) shapeCasts_S512x384_S1x512x384

/-- The stored value at an index: by lane, of the first unit or the second. -/
theorem stored_apply (u0 u1 : FVec Ideal S1536x128 .f32) (s : Fin 512) (j : Fin 384) :
    stored u0 u1 (ix3 0 s j) =
      if j.val % 128 < 64 then u0 (ix2 ⟨512 * (j.val / 128) + s.val, by omega⟩ ⟨j.val % 128, by omega⟩)
      else u1 (ix2 ⟨512 * (j.val / 128) + s.val, by omega⟩ ⟨j.val % 128, by omega⟩) := by
  have hj := j.isLt
  pointwise [stored, k0_pay3]
  have hs := s.isLt
  by_cases h1 : j.val < 128
  · rw [dif_pos h1, keep2 _ h1]
    have e : (⟨512 * (j.val / 128) + s.val, by omega⟩ : Fin 1536) = ⟨s.val, by omega⟩ := Fin.ext (by simp only []; omega)
    have e' : (⟨j.val % 128, by omega⟩ : Fin 128) = ⟨j.val, h1⟩ := Fin.ext (by simp only []; omega)
    have e2 : j.val % 128 = j.val := by omega
    simp only [e, e', e2]
  · rw [dif_neg h1]
    by_cases h2 : j.val - 128 < 128
    · rw [dif_pos h2, keep2 _ h2]
      have e : (⟨512 * (j.val / 128) + s.val, by omega⟩ : Fin 1536) = ⟨512 + s.val, by omega⟩ := Fin.ext (by simp only []; omega)
      have e' : (⟨j.val % 128, by omega⟩ : Fin 128) = ⟨j.val - 128, h2⟩ := Fin.ext (by simp only []; omega)
      have e2 : j.val % 128 = j.val - 128 := by omega
      simp only [e, e', e2]
    · have h3 : j.val - 128 - 128 < 128 := by omega
      rw [dif_neg h2, keep2 _ h3]
      have e : (⟨512 * (j.val / 128) + s.val, by omega⟩ : Fin 1536) = ⟨1024 + s.val, by omega⟩ := Fin.ext (by simp only []; omega)
      have e' : (⟨j.val % 128, by omega⟩ : Fin 128) = ⟨j.val - 128 - 128, h3⟩ := Fin.ext (by simp only []; omega)
      have e2 : j.val % 128 = j.val - 128 - 128 := by omega
      simp only [e, e', e2]

/-- Three zero offsets are the zero offsets. -/
theorem hz3 : (![0, 0, 0] : Fin 3 → Nat) = fun _ => 0 := funext fun a => by fin_cases a <;> rfl

/-- A block's result is what its one store writes. -/
theorem out_eq (x0 : Vec Ideal S1x512x384 .bf16) (x1 : Vec Ideal S1x256x128 .bf16) (x2 : Vec Ideal S1x128x256 .bf16)
    (x3 : Vec Ideal S1x2048x128 .bf16) (x4 : Vec Ideal S1x128x2048 .bf16) :
    out0_5 (F := Ideal) x0 x1 x2 x3 x4 =
      stored (k0_pay7 (k0_pay4 x0) (k0_pay5 x1) (k0_pay6 x2) x3 x4)
        (k0_pay7 (k0_pay13 (k0_pay2 x0) k0_pay3 (k0_pay11 (k0_pay2 x0) k0_pay3) (k0_pay12 (k0_pay2 x0)) 0#1)
          (k0_pay5 x1) (k0_pay6 x2) x3 x4) := by
  unfold out0_5 k0_pay25 k0_pay24 k0_pay23 k0_pay22 k0_pay21 k0_pay20 k0_pay19
  rw [View.canon_unit_zero hz3, View.ld_unit_zero hz3, View.ld_unit_zero hz3, View.ld_unit_zero hz3, View.ld_unit_zero hz3,
    View.ld_unit_zero hz3]
  rfl

/-- A block's result at an index is the row of attention there. -/
theorem out_apply (x0 : Vec Ideal S1x512x384 .bf16) (x1 : Vec Ideal S1x256x128 .bf16) (x2 : Vec Ideal S1x128x256 .bf16)
    (x3 : Vec Ideal S1x2048x128 .bf16) (x4 : Vec Ideal S1x128x2048 .bf16) (s : Fin 512) (j : Fin 384) :
    out0_5 (F := Ideal) x0 x1 x2 x3 x4 (ix3 0 s j) = row x0 x1 x2 x3 x4 s ⟨j.val / 128, by omega⟩ ⟨j.val % 128, by omega⟩ := by
  have hs := s.isLt
  rw [out_eq, stored_apply]
  have e1 : (⟨(512 * (j.val / 128) + s.val) % 512, by omega⟩ : Fin 512) = s := Fin.ext (by simp only []; omega)
  have e2 : (⟨(512 * (j.val / 128) + s.val) / 512, by omega⟩ : Fin 3) = ⟨j.val / 128, by omega⟩ := Fin.ext (by simp only []; omega)
  split_ifs with h
  · rw [unit0_apply _ _ _ _ _ _ _ h]; simp only [e1, e2]
  · rw [unit1_apply _ _ _ _ _ _ _ h]; simp only [e1, e2]

end Cert.AttnC

end
-- ==== Proof.AttnC.Array.lean ====
/- The first attention kernel's result array: at every index a row of attention over the arguments. -/
module

public import proofs.«01_k».proof.Proof.AttnC.Block
public import Idealize.ShloMosaic.Lib.Pipeline.ValueKit
public import Idealize.ShloMosaic.Lib.Claim

@[expose] public section

set_option maxRecDepth 16384

noncomputable section

namespace Cert.AttnC

open Cert.KernelIdeal Cert.KernelIdeal.Gen Idealize.ShloMosaic Idealize.ShloMosaic.TcCoe Idealize.SL.Sem Cert.Attn
open Idealize.ShloMosaic.Pipeline (Dat)

variable (m : (ℓ : Loc nD τ sig) → Buf (Elt Ideal) ℓ)

/-- The windows' block indices at grid point `t`, decided. -/
theorem idx : ∀ t : Fin cfg0.N, win0_0.index t = ![t.val / 4, t.val % 4, 0] ∧ win0_1.index t = ![t.val / 4, 0, 0]
    ∧ win0_2.index t = ![t.val / 4, 0, 0] ∧ win0_3.index t = ![t.val / 4, 0, 0] ∧ win0_4.index t = ![t.val / 4, 0, 0]
    ∧ win0_5.index t = ![t.val / 4, t.val % 4, 0] ∧ t.val / 4 < 16 :=
  (by decide +kernel : ∀ t : Fin grid0.N, _)

/-- The queries' array as the region finds it. -/
theorem V_q (c : Dev nD) (q : FVec Ideal S16x2048x2x3x64 .f32) (hq : m ((c : Thread nD τ).loc main_arg0) = q)
    (b : Fin 16) (n : Fin 2048) (j : Fin 384) :
    (V m c main_v2 : FVec Ideal S16x2048x384 .bf16) (ix3 b n j)
      = q (ix5 b n ⟨j.val / 64 % 2, by omega⟩ ⟨j.val / 128, by omega⟩ ⟨j.val % 64, by omega⟩) := by
  entry_read
  rw [hq]
  pointwise

/-- The keys' (and the values', before their transpose) array as the region finds it. -/
theorem V_k (c : Dev nD) (k : FVec Ideal S16x2048x2x64 .f32) (hk : m ((c : Thread nD τ).loc main_arg1) = k)
    (b : Fin 16) (x : Fin 2048) (j : Fin 128) :
    (V m c main_v9 : FVec Ideal S16x2048x128 .bf16) (ix3 b x j) = k (ix4 b x ⟨j.val / 64, by omega⟩ ⟨j.val % 64, by omega⟩) := by
  entry_read
  rw [hk]
  pointwise

/-- The values' array as the region finds it. -/
theorem V_v (c : Dev nD) (v : FVec Ideal S16x2048x2x64 .f32) (hv : m ((c : Thread nD τ).loc main_arg2) = v)
    (b : Fin 16) (x : Fin 2048) (j : Fin 128) :
    (V m c main_v12 : FVec Ideal S16x128x2048 .bf16) (ix3 b j x) = v (ix4 b x ⟨j.val / 64, by omega⟩ ⟨j.val % 64, by omega⟩) := by
  entry_read
  rw [hv]
  pointwise

/-- The context's keys' array as the region finds it. -/
theorem V_ck (c : Dev nD) (k : FVec Ideal S16x256x2x64 .f32) (hk : m ((c : Thread nD τ).loc main_arg3) = k)
    (b : Fin 16) (x : Fin 256) (j : Fin 128) :
    (V m c main_v4 : FVec Ideal S16x256x128 .bf16) (ix3 b x j) = k (ix4 b x ⟨j.val / 64, by omega⟩ ⟨j.val % 64, by omega⟩) := by
  entry_read
  rw [hk]
  pointwise

/-- The context's values' array as the region finds it. -/
theorem V_cv (c : Dev nD) (v : FVec Ideal S16x256x2x64 .f32) (hv : m ((c : Thread nD τ).loc main_arg4) = v)
    (b : Fin 16) (x : Fin 256) (j : Fin 128) :
    (V m c main_v7 : FVec Ideal S16x128x256 .bf16) (ix3 b j x) = v (ix4 b x ⟨j.val / 64, by omega⟩ ⟨j.val % 64, by omega⟩) := by
  entry_read
  rw [hv]
  pointwise

/-- The query block at point `t` is the array's rows there. -/
theorem blk0 (c : Dev nD) (t : Fin cfg0.N) (s : Fin 512) (j : Fin 384) :
    (iblk m c 0 t : FVec Ideal S1x512x384 .bf16) (ix3 0 s j)
      = (V m c main_v2 : FVec Ideal S16x2048x384 .bf16) (ix3 ⟨t.val / 4, (idx t).2.2.2.2.2.2⟩ ⟨512 * (t.val % 4) + s.val, by omega⟩ j) := by
  blk_ext [iblk, idx t]

/-- The context's key block at point `t`. -/
theorem blk1 (c : Dev nD) (t : Fin cfg0.N) (s : Fin 256) (j : Fin 128) :
    (iblk m c 1 t : FVec Ideal S1x256x128 .bf16) (ix3 0 s j)
      = (V m c main_v4 : FVec Ideal S16x256x128 .bf16) (ix3 ⟨t.val / 4, (idx t).2.2.2.2.2.2⟩ s j) := by
  blk_ext [iblk, idx t]

/-- The context's value block at point `t`. -/
theorem blk2 (c : Dev nD) (t : Fin cfg0.N) (s : Fin 256) (j : Fin 128) :
    (iblk m c 2 t : FVec Ideal S1x128x256 .bf16) (ix3 0 j s)
      = (V m c main_v7 : FVec Ideal S16x128x256 .bf16) (ix3 ⟨t.val / 4, (idx t).2.2.2.2.2.2⟩ j s) := by
  blk_ext [iblk, idx t]

/-- The sequence's key block at point `t`. -/
theorem blk3 (c : Dev nD) (t : Fin cfg0.N) (s : Fin 2048) (j : Fin 128) :
    (iblk m c 3 t : FVec Ideal S1x2048x128 .bf16) (ix3 0 s j)
      = (V m c main_v9 : FVec Ideal S16x2048x128 .bf16) (ix3 ⟨t.val / 4, (idx t).2.2.2.2.2.2⟩ s j) := by
  blk_ext [iblk, idx t]

/-- The sequence's value block at point `t`. -/
theorem blk4 (c : Dev nD) (t : Fin cfg0.N) (s : Fin 2048) (j : Fin 128) :
    (iblk m c 4 t : FVec Ideal S1x128x2048 .bf16) (ix3 0 j s)
      = (V m c main_v12 : FVec Ideal S16x128x2048 .bf16) (ix3 ⟨t.val / 4, (idx t).2.2.2.2.2.2⟩ j s) := by
  blk_ext [iblk, idx t]

/-- The row of attention the kernel computes over its arguments: sample `b`, query `n`, key head `g`, head `r`, lane `d`. -/
def krow (q : FVec Ideal S16x2048x2x3x64 .f32) (k v : FVec Ideal S16x2048x2x64 .f32) (ck cv : FVec Ideal S16x256x2x64 .f32)
    (b : Fin 16) (n : Fin 2048) (g : Fin 2) (r : Fin 3) (l : Fin 64) : EReal :=
  attend2 (Sum.elim (fun x : Fin 256 => ∑ d : Fin 64, ck (ix4 b x g d) * (q (ix5 b n g r d) * κs))
      (fun x : Fin 2048 => ∑ d : Fin 64, k (ix4 b x g d) * (q (ix5 b n g r d) * κs)))
    (Sum.elim (fun x => cv (ix4 b x g l)) (fun x => v (ix4 b x g l)))

/-- The kernel's result array over its arguments. -/
def kout (q : FVec Ideal S16x2048x2x3x64 .f32) (k v : FVec Ideal S16x2048x2x64 .f32) (ck cv : FVec Ideal S16x256x2x64 .f32) :
    FVec Ideal S16x2048x384 .bf16 := fun i =>
  krow q k v ck cv (i 0) (i 1) ⟨(i 2).val / 64 % 2, by omega⟩ ⟨(i 2).val / 128, by have h : (i 2).val < 384 := (i 2).isLt; omega⟩
    ⟨(i 2).val % 64, by omega⟩

/-- What point `t` leaves at a block index is the row of attention there. -/
theorem point (c : Dev nD) (q : FVec Ideal S16x2048x2x3x64 .f32) (k v : FVec Ideal S16x2048x2x64 .f32) (ck cv : FVec Ideal S16x256x2x64 .f32)
    (hq : m ((c : Thread nD τ).loc main_arg0) = q) (hk : m ((c : Thread nD τ).loc main_arg1) = k)
    (hv : m ((c : Thread nD τ).loc main_arg2) = v) (hck : m ((c : Thread nD τ).loc main_arg3) = ck)
    (hcv : m ((c : Thread nD τ).loc main_arg4) = cv) (t : Fin cfg0.N) (s : Fin 512) (j : Fin 384) :
    row (iblk m c 0 t) (iblk m c 1 t) (iblk m c 2 t) (iblk m c 3 t) (iblk m c 4 t) s ⟨j.val / 128, by omega⟩ ⟨j.val % 128, by omega⟩
      = krow q k v ck cv ⟨t.val / 4, (idx t).2.2.2.2.2.2⟩ ⟨512 * (t.val % 4) + s.val, by omega⟩
          ⟨j.val / 64 % 2, by omega⟩ ⟨j.val / 128, by omega⟩ ⟨j.val % 64, by omega⟩ := by
  have ht := (idx t).2.2.2.2.2.2
  have hj := j.isLt
  unfold row krow
  have e1 : (⟨j.val % 128 / 64, by omega⟩ : Fin 2) = ⟨j.val / 64 % 2, by omega⟩ := Fin.ext (by simp only []; omega)
  have e2 : (⟨j.val % 128 % 64, by omega⟩ : Fin 64) = ⟨j.val % 64, by omega⟩ := Fin.ext (by simp only []; omega)
  have ho : 64 * (j.val / 64 % 2) = if j.val % 128 < 64 then 0 else 64 := by split_ifs <;> omega
  have hd : ∀ d : Fin 64, 64 * (j.val / 64 % 2) + d.val < 128 := fun d => by omega
  have eg : ∀ d : Fin 64, (⟨(64 * (j.val / 64 % 2) + d.val) / 64, by have := hd d; omega⟩ : Fin 2) = ⟨j.val / 64 % 2, by omega⟩ :=
    fun d => Fin.ext (by simp only []; omega)
  have ed : ∀ d : Fin 64, (⟨(64 * (j.val / 64 % 2) + d.val) % 64, by omega⟩ : Fin 64) = d := fun d => Fin.ext (by simp only []; omega)
  have hqd : ∀ d : Fin 64, V m c main_v2 (ix3 ⟨t.val / 4, ht⟩ ⟨512 * (t.val % 4) + s.val, by omega⟩
        ⟨128 * (j.val / 128) + (64 * (j.val / 64 % 2) + d.val), by have := hd d; omega⟩)
      = q (ix5 ⟨t.val / 4, ht⟩ ⟨512 * (t.val % 4) + s.val, by omega⟩ ⟨j.val / 64 % 2, by omega⟩ ⟨j.val / 128, by omega⟩ d) := by
    intro d
    rw [V_q m c q hq]
    congr 1
    congr 1 <;> (apply Fin.ext; simp only []; omega)
  congr 1
  · funext x
    rcases x with x | x
    · simp only [Sum.elim_inl, qat]
      rw [half_sum _ _ _ _ ho hd]
      refine Finset.sum_congr rfl fun d _ => ?_
      rw [blk1, blk0, V_ck m c ck hck, hqd, eg, ed]
    · simp only [Sum.elim_inr, qat]
      rw [half_sum _ _ _ _ ho hd]
      refine Finset.sum_congr rfl fun d _ => ?_
      rw [blk3, blk0, V_k m c k hk, hqd, eg, ed]
  · funext x
    rcases x with x | x
    · simp only [Sum.elim_inl]
      rw [blk2, V_cv m c cv hcv, e1, e2]
    · simp only [Sum.elim_inr]
      rw [blk4, V_v m c v hv, e1, e2]

/-- The result array after the run. -/
theorem final (c : Dev nD) (q : FVec Ideal S16x2048x2x3x64 .f32) (k v : FVec Ideal S16x2048x2x64 .f32) (ck cv : FVec Ideal S16x256x2x64 .f32)
    (hq : m ((c : Thread nD τ).loc main_arg0) = q) (hk : m ((c : Thread nD τ).loc main_arg1) = k)
    (hv : m ((c : Thread nD τ).loc main_arg2) = v) (hck : m ((c : Thread nD τ).loc main_arg3) = ck)
    (hcv : m ((c : Thread nD τ).loc main_arg4) = cv) :
    (dats m 0 c).arrAt 5 (cfgs 0).N = kout q k v ck cv := by
  refine (dats m 0 c).arrAt_eq_of_covers 5 _ (by decide +kernel) fun t _ y => ?_
  blk_simp
  rw [after0_5]
  have hy : y = (ix3 0 (y 1) (y 2) : (S1x512x384).Idx) := by
    funext i
    fin_cases i
    · exact Subsingleton.elim (α := Fin 1) _ _
    · rfl
    · rfl
  have he : (win0_5.blk t).view.emb y = (ix3 ⟨t.val / 4, (idx t).2.2.2.2.2.2⟩ ⟨512 * (t.val % 4) + (y 1).val, by
      have h : (y 1).val < 512 := (y 1).isLt
      omega⟩ (y 2) : S16x2048x384.Idx) := by
    blk_ext [idx t]
  rw [he, hy]
  exact (out_apply _ _ _ _ _ _ _).trans (point m c q k v ck cv hq hk hv hck hcv t _ _)

end Cert.AttnC

end
-- ==== Proof.AttnC.Ref.lean ====
/- The reference attention (its softmax over the context's and the sequence's keys), read at an index. -/
module

public import proofs.«01_k».proof.Proof.Gen.ReferenceIdeal.Run
public import proofs.«01_k».proof.Proof.Attn.Softmax
public import Idealize.ShloMosaic.Lib.Pointwise

@[expose] public section

set_option maxRecDepth 16384

noncomputable section

namespace Cert.AttnC

open Cert.ReferenceIdeal Cert.ReferenceIdeal.Gen Idealize.ShloMosaic Cert.Attn

/-- The context's rows followed by the sequence's. -/
def joined (a : FVec Ideal S16x256x2x64 .f32) (b : FVec Ideal S16x2048x2x64 .f32) : FVec Ideal S16x2304x2x64 .f32 :=
  concatenate S16x2304x2x64 1 [⟨S16x256x2x64, a⟩, ⟨S16x2048x2x64, b⟩] concatenates_S16x256x2x64_S16x2048x2x64_S16x2304x2x64_d1

/-- The reference's scores: the scaled products of the queries with the keys, the context's keys first. -/
def scores (q : FVec Ideal S16x2048x2x3x64 .f32) (k : FVec Ideal S16x2048x2x64 .f32) (ck : FVec Ideal S16x256x2x64 .f32) :
    FVec Ideal S16x2x3x2048x2304 .f32 :=
  mulf (transpose S16x2x3x2048x2304 [0, 1, 4, 3, 2] (Host.dotGeneral dot_S16x2304x2x64_S16x2048x2x3x64_S16x2x2304x2048x3_3_4_1_13_02_02 none (joined ck k) q) transposes_S16x2x2304x2048x3_S16x2x3x2048x2304_0_1_4_3_2) (broadcastInDim S16x2x3x2048x2304 ![] bcast_S_S16x2x3x2048x2304 (constant S_ .f32 0x3E000000#32))

/-- The largest of each row. -/
def largest (S : FVec Ideal S16x2x3x2048x2304 .f32) (i : FVec Ideal S_ .f32) : FVec Ideal S16x2x3x2048 .f32 :=
  Host.reduce FloatOps.maximumf S i reducesTo_S16x2x3x2048x2304_S16x2x3x2048_d4 h_S_

/-- The larger of each number and minus infinity. -/
def floored (M : FVec Ideal S16x2x3x2048 .f32) : FVec Ideal S16x2x3x2048 .f32 :=
  maximumf (broadcastInDim S16x2x3x2048 ![] bcast_S_S16x2x3x2048 (constant S_ .f32 0xFF800000#32)) M

/-- The largest score of each row, as the reference takes it. -/
def top (S : FVec Ideal S16x2x3x2048x2304 .f32) : FVec Ideal S16x2x3x2048 .f32 :=
  floored (largest S (constant S_ .f32 0xFF800000#32))

/-- A row's number, at each of its keys. -/
def across (M : FVec Ideal S16x2x3x2048 .f32) : FVec Ideal S16x2x3x2048x2304 .f32 :=
  broadcastInDim S16x2x3x2048x2304 ![0, 1, 2, 3, 4] bcast_S16x2x3x2048x1_S16x2x3x2048x2304_0_1_2_3_4 (broadcastInDim S16x2x3x2048x1 ![0, 1, 2, 3] bcast_S16x2x3x2048_S16x2x3x2048x1_0_1_2_3 M)

/-- The exponentials of the scores, the largest taken off. -/
def exps (S : FVec Ideal S16x2x3x2048x2304 .f32) : FVec Ideal S16x2x3x2048x2304 .f32 :=
  Host.exp (subf S (across (top S)))

/-- The sum of each row. -/
def total (E : FVec Ideal S16x2x3x2048x2304 .f32) : FVec Ideal S16x2x3x2048 .f32 :=
  Host.reduceAdd E (constant S_ .f32 0x00000000#32) reducesTo_S16x2x3x2048x2304_S16x2x3x2048_d4 h_S_

/-- The weights. -/
def weights (E : FVec Ideal S16x2x3x2048x2304 .f32) : FVec Ideal S16x2x3x2048x2304 .f32 :=
  Host.divf E (across (total E))

/-- The values weighted. -/
def mixed (V : FVec Ideal S16x2304x2x64 .f32) (W : FVec Ideal S16x2x3x2048x2304 .f32) : FVec Ideal S16x2x64x3x2048 .f32 :=
  Host.dotGeneral dot_S16x2304x2x64_S16x2x3x2048x2304_S16x2x64x3x2048_1_4_3_23_02_01 none V W

/-- The result laid out by query rows. -/
def laid (O : FVec Ideal S16x2x64x3x2048 .f32) : FVec Ideal S16x2048x384 .bf16 :=
  truncf .bf16 (shapeCast S16x2048x384 (transpose S16x2048x3x2x64 [0, 1, 3, 2, 4] (transpose S16x2048x2x3x64 [0, 4, 1, 3, 2] O transposes_S16x2x64x3x2048_S16x2048x2x3x64_0_4_1_3_2) transposes_S16x2048x2x3x64_S16x2048x3x2x64_0_1_3_2_4) shapeCasts_S16x2048x3x2x64_S16x2048x384) bitsLt_bf16_f32

/-- The reference's result over its arguments. -/
def ref (q : FVec Ideal S16x2048x2x3x64 .f32) (k v : FVec Ideal S16x2048x2x64 .f32) (ck cv : FVec Ideal S16x256x2x64 .f32) :
    FVec Ideal S16x2048x384 .bf16 :=
  laid (mixed (joined cv v) (weights (exps (scores q k ck))))

/-- The joined rows at an index. -/
theorem joined_apply (a : FVec Ideal S16x256x2x64 .f32) (c : FVec Ideal S16x2048x2x64 .f32) (b : Fin 16) (g : Fin 2) (d : Fin 64) :
    (∀ x : Fin 256, joined a c (ix4 b ⟨x.val, by omega⟩ g d) = a (ix4 b x g d))
    ∧ ∀ x : Fin 2048, joined a c (ix4 b ⟨256 + x.val, by omega⟩ g d) = c (ix4 b x g d) := by
  constructor
  · intro x
    pointwise [joined]
  · intro x
    pointwise [joined]

/-- The reference's scores at an index. -/
theorem scores_apply (q : FVec Ideal S16x2048x2x3x64 .f32) (k : FVec Ideal S16x2048x2x64 .f32) (ck : FVec Ideal S16x256x2x64 .f32)
    (b : Fin 16) (g : Fin 2) (r : Fin 3) (n : Fin 2048) (x : Fin 2304) :
    scores q k ck (ix5 b g r n x) =
      (∑ d : Fin 64, joined ck k (ix4 b x g d) * q (ix5 b n g r d)) * Ideal.ofBits FTy.f32 0x3E000000#32 := by
  pointwise [scores]

/-- The bit pattern of minus infinity denotes `⊥`. -/
theorem negInf' : Ideal.ofBits FTy.f32 0xFF800000#32 = ⊥ := by
  simp [Ideal.ofBits, Ideal.ieee]

/-- The largest of a row, at an index. -/
theorem largest_apply (S : FVec Ideal S16x2x3x2048x2304 .f32) (i : FVec Ideal S_ .f32) (b : Fin 16) (g : Fin 2) (r : Fin 3) (n : Fin 2048) :
    largest S i (ix4 b g r n) = Finset.univ.fold max (i (Shape.Idx.first h_S_)) fun x : Fin 2304 => S (ix5 b g r n x) := by
  unfold largest
  pointwise

/-- Nothing is below minus infinity. -/
theorem floored_apply (M : FVec Ideal S16x2x3x2048 .f32) (b : Fin 16) (g : Fin 2) (r : Fin 3) (n : Fin 2048) :
    floored M (ix4 b g r n) = M (ix4 b g r n) := by
  pointwise [floored]
  rw [negInf', max_eq_right bot_le]

/-- The largest of a row, taken from minus infinity. -/
theorem largest_sup (L : FVec Ideal S16x2x3x2048 .f32) (S : FVec Ideal S16x2x3x2048x2304 .f32) (b : Fin 16) (g : Fin 2) (r : Fin 3) (n : Fin 2048)
    (h : L (ix4 b g r n) = Finset.univ.fold max ((constant S_ .f32 0xFF800000#32 : FVec Ideal S_ .f32) (Shape.Idx.first h_S_))
      fun x : Fin 2304 => S (ix5 b g r n x)) :
    L (ix4 b g r n) = Finset.univ.sup fun x : Fin 2304 => S (ix5 b g r n x) := by
  rw [h]
  pointwise
  rw [negInf', fold_eq_sup]

/-- The largest score of a row, at an index. -/
theorem top_apply (S : FVec Ideal S16x2x3x2048x2304 .f32) (b : Fin 16) (g : Fin 2) (r : Fin 3) (n : Fin 2048) :
    top S (ix4 b g r n) = Finset.univ.sup fun x : Fin 2304 => S (ix5 b g r n x) := by
  unfold top
  rw [floored_apply]
  exact largest_sup _ S b g r n (largest_apply S _ b g r n)

/-- A row's number at each key, at an index. -/
theorem across_apply (M : FVec Ideal S16x2x3x2048 .f32) (b : Fin 16) (g : Fin 2) (r : Fin 3) (n : Fin 2048) (x : Fin 2304) :
    across M (ix5 b g r n x) = M (ix4 b g r n) := by
  pointwise [across]

/-- The sum of a row, at an index. -/
theorem total_apply (E : FVec Ideal S16x2x3x2048x2304 .f32) (b : Fin 16) (g : Fin 2) (r : Fin 3) (n : Fin 2048) :
    total E (ix4 b g r n) = ∑ x : Fin 2304, E (ix5 b g r n x) := by
  pointwise [total]

/-- The weighted values, at an index. -/
theorem mixed_apply (V : FVec Ideal S16x2304x2x64 .f32) (W : FVec Ideal S16x2x3x2048x2304 .f32) (b : Fin 16) (g : Fin 2) (d : Fin 64) (r : Fin 3) (n : Fin 2048) :
    mixed V W (ix5 b g d r n) = ∑ x : Fin 2304, V (ix4 b x g d) * W (ix5 b g r n x) := by
  pointwise [mixed]

/-- The layout of the result, at an index. -/
theorem laid_apply (O : FVec Ideal S16x2x64x3x2048 .f32) (b : Fin 16) (n : Fin 2048) (j : Fin 384) :
    laid O (ix3 b n j) = O (ix5 b ⟨j.val / 64 % 2, by omega⟩ ⟨j.val % 64, by omega⟩ ⟨j.val / 128, by omega⟩ n) := by
  pointwise [laid]

/-- The reference's result at an index: a row of attention. -/
theorem ref_row (q : FVec Ideal S16x2048x2x3x64 .f32) (k v : FVec Ideal S16x2048x2x64 .f32) (ck cv : FVec Ideal S16x256x2x64 .f32)
    (b : Fin 16) (n : Fin 2048) (j : Fin 384) :
    ref q k v ck cv (ix3 b n j) =
      attend (fun x : Fin 2304 => scores q k ck (ix5 b ⟨j.val / 64 % 2, by omega⟩ ⟨j.val / 128, by omega⟩ n x))
        (fun x => joined cv v (ix4 b x ⟨j.val / 64 % 2, by omega⟩ ⟨j.val % 64, by omega⟩)) := by
  have hE : ∀ (S : FVec Ideal S16x2x3x2048x2304 .f32) (g : Fin 2) (r : Fin 3) (x : Fin 2304),
      exps S (ix5 b g r n x) = Ideal.exp (S (ix5 b g r n x) - Finset.univ.sup fun y : Fin 2304 => S (ix5 b g r n y)) := by
    intro S g r x
    pointwise [exps]
    rw [across_apply, top_apply]
  have hW : ∀ (E : FVec Ideal S16x2x3x2048x2304 .f32) (g : Fin 2) (r : Fin 3) (x : Fin 2304),
      weights E (ix5 b g r n x) = Ideal.div (E (ix5 b g r n x)) (∑ y : Fin 2304, E (ix5 b g r n y)) := by
    intro E g r x
    pointwise [weights]
    rw [across_apply, total_apply]
  unfold ref attend
  rw [laid_apply, mixed_apply]
  refine Finset.sum_congr rfl fun x _ => ?_
  rw [hW]
  simp only [hE]
  rw [mul_comm]

end Cert.AttnC

end
-- ==== Proof.Attn.Finite.lean ====
/- Finite arrays: what the precondition says of its arguments, and the scores of finite queries and keys. -/
module

public import proofs.«01_k».proof.Proof.Attn.Softmax
public import Idealize.ShloMosaic.Lib.Pointwise
public import Idealize.ShloMosaic.Lib.ReduceAll

@[expose] public section

noncomputable section

namespace Cert.Attn

open Idealize.ShloMosaic

/-- The bit pattern of infinity denotes `⊤`. -/
theorem ofBits_inf : Ideal.ofBits FTy.f32 0x7F800000#32 = ⊤ := by
  simp [Ideal.ofBits, Ideal.ieee]

/-- A number whose size is below infinity is a real. -/
theorem real_of_abs (x : EReal) (h : max x (-x) < ⊤) : ∃ r : ℝ, x = r := by
  induction x with
  | bot => simp at h
  | coe r => exact ⟨r, rfl⟩
  | top => simp at h

/-- An array of which every element compares below infinity in size holds reals. -/
theorem reals_of_all {s u w : Shape} [Subsingleton w.Idx] {axes : List (Fin s.rank)} {z : Shape} (x : FVec Ideal s .f32) (dims : Fin z.rank → Fin s.rank)
    (hb : z.BroadcastsInDim s dims) (init : IVec u 1) (h : s.ReducesTo axes w) (hu : 0 < u.numel) (j : w.Idx)
    (e : Host.reduce IntOp.andi (cmpf .olt (Host.absf x) (broadcastInDim s dims hb (constant z .f32 0x7F800000#32))) init h hu j = 1#1)
    (i : s.Idx) : ∃ r : ℝ, x i = r := by
  have hi := Host.reduce_andi_all _ _ _ _ j e i
  apply real_of_abs
  by_contra hc
  have : cmpf .olt (Host.absf x) (broadcastInDim s dims hb (constant z .f32 0x7F800000#32)) i
      = BitVec.ofBool (decide (max (x i) (-(x i)) < ⊤)) := by
    rw [← ofBits_inf]
    rfl
  rw [this, decide_eq_false hc] at hi
  exact absurd hi (by decide)

/-- A product of reals summed, the scale inside or outside: with the scale's factor `L` the two differ by `L`. -/
theorem scaled_sum {n : ℕ} (x y : Fin n → EReal) (hx : ∀ d, ∃ r : ℝ, x d = r) (hy : ∀ d, ∃ r : ℝ, y d = r) (c L : ℝ) :
    (∑ d, x d * (y d * ((c * L : ℝ) : EReal))) = (L : EReal) * ((∑ d, x d * y d) * (c : EReal))
    ∧ ∃ r : ℝ, (∑ d, x d * y d) * (c : EReal) = r := by
  choose X hX using hx
  choose Y hY using hy
  obtain rfl : x = fun d => ((X d : ℝ) : EReal) := funext hX
  obtain rfl : y = fun d => ((Y d : ℝ) : EReal) := funext hY
  constructor
  · simp only [← EReal.coe_mul]
    rw [← coe_sum, ← coe_sum, ← EReal.coe_mul, ← EReal.coe_mul, Finset.sum_mul, Finset.mul_sum]
    congr 1
    exact Finset.sum_congr rfl fun d _ => by ring
  · refine ⟨(∑ d, X d * Y d) * c, ?_⟩
    simp only [← EReal.coe_mul]
    rw [← coe_sum, ← EReal.coe_mul]

end Cert.Attn

end
-- ==== Proof.AttnC.Equation.lean ====
/- The kernel's rows and the reference's are the same numbers, when queries and keys are finite. -/
module

public import proofs.«01_k».proof.Proof.AttnC.Array
public import proofs.«01_k».proof.Proof.AttnC.Ref
public import proofs.«01_k».proof.Proof.Attn.Finite
public import proofs.«01_k».proof.Proof.Gen.Pre_finite_c

@[expose] public section

noncomputable section

namespace Cert.AttnC

open Idealize.ShloMosaic Cert.Attn Cert.KernelIdeal

/-- The reference's scale is an eighth. -/
theorem eighth : Ideal.ofBits FTy.f32 0x3E000000#32 = ((1 / 8 : ℝ) : EReal) := by
  simp [Ideal.ofBits, Ideal.ieee]
  rw [← EReal.coe_mul]
  norm_num

/-- The kernel's scale is an eighth over the logarithm of two. -/
theorem κs_eq : κs = (((1 / 8) * (Real.log 2)⁻¹ : ℝ) : EReal) :=
  IdealRules.named_const.ideal_named_scalar _ _ _ _ rfl

/-- What the precondition says: queries, keys and the context's keys hold reals. -/
theorem reals (q : FVec Ideal S16x2048x2x3x64 .f32) (k v : FVec Ideal S16x2048x2x64 .f32) (ck cv : FVec Ideal S16x256x2x64 .f32)
    (h : Cert.Pre_finite_c.fn (F := Ideal) q k v ck cv = fun _ => 1#1) :
    (∀ i, ∃ r : ℝ, q i = r) ∧ (∀ i, ∃ r : ℝ, k i = r) ∧ ∀ i, ∃ r : ℝ, ck i = r := by
  have e := congrFun h ix0
  obtain ⟨e1, e3⟩ := IntOp.andi_eq_one.1 e
  obtain ⟨e1, e2⟩ := IntOp.andi_eq_one.1 e1
  haveI : Subsingleton (Cert.Pre_finite_c.S_).Idx := ⟨fun a b => funext fun d => d.elim0⟩
  exact ⟨reals_of_all _ _ _ _ _ _ _ e1, reals_of_all _ _ _ _ _ _ _ e2, reals_of_all _ _ _ _ _ _ _ e3⟩

/-- The kernel's score of a key is the reference's over the logarithm of two, and the reference's is a real. -/
theorem score_eq (q : FVec Ideal S16x2048x2x3x64 .f32) (k : FVec Ideal S16x2048x2x64 .f32) (ck : FVec Ideal S16x256x2x64 .f32)
    (hq : ∀ i, ∃ r : ℝ, q i = r) (hk : ∀ i, ∃ r : ℝ, k i = r) (hck : ∀ i, ∃ r : ℝ, ck i = r)
    (b : Fin 16) (n : Fin 2048) (g : Fin 2) (r : Fin 3) (x : Fin 256 ⊕ Fin 2048) :
    (Sum.elim (fun x : Fin 256 => ∑ d : Fin 64, ck (ix4 b x g d) * (q (ix5 b n g r d) * κs))
        (fun x : Fin 2048 => ∑ d : Fin 64, k (ix4 b x g d) * (q (ix5 b n g r d) * κs)) : Fin 256 ⊕ Fin 2048 → EReal) x
        = (((Real.log 2)⁻¹ : ℝ) : EReal) * scores q k ck (ix5 b g r n ((finSumFinEquiv : Fin 256 ⊕ Fin 2048 ≃ Fin 2304) x))
      ∧ ∃ y : ℝ, scores q k ck (ix5 b g r n ((finSumFinEquiv : Fin 256 ⊕ Fin 2048 ≃ Fin 2304) x)) = y := by
  rw [scores_apply, eighth, κs_eq]
  rcases x with x | x
  · simp only [Sum.elim_inl]
    have e : ∀ d : Fin 64, joined ck k (ix4 b ((finSumFinEquiv : Fin 256 ⊕ Fin 2048 ≃ Fin 2304) (Sum.inl x)) g d) = ck (ix4 b x g d) :=
      fun d => (joined_apply ck k b g d).1 x
    simp only [e]
    exact scaled_sum _ _ (fun d => hck _) (fun d => hq _) _ _
  · simp only [Sum.elim_inr]
    have e : ∀ d : Fin 64, joined ck k (ix4 b ((finSumFinEquiv : Fin 256 ⊕ Fin 2048 ≃ Fin 2304) (Sum.inr x)) g d) = k (ix4 b x g d) :=
      fun d => (joined_apply ck k b g d).2 x
    simp only [e]
    exact scaled_sum _ _ (fun d => hk _) (fun d => hq _) _ _

/-- The kernel's row of attention is the reference's. -/
theorem krow_eq (q : FVec Ideal S16x2048x2x3x64 .f32) (k v : FVec Ideal S16x2048x2x64 .f32) (ck cv : FVec Ideal S16x256x2x64 .f32)
    (hq : ∀ i, ∃ r : ℝ, q i = r) (hk : ∀ i, ∃ r : ℝ, k i = r) (hck : ∀ i, ∃ r : ℝ, ck i = r)
    (b : Fin 16) (n : Fin 2048) (g : Fin 2) (r : Fin 3) (l : Fin 64) :
    krow q k v ck cv b n g r l = attend (fun x : Fin 2304 => scores q k ck (ix5 b g r n x)) (fun x => joined cv v (ix4 b x g l)) := by
  rw [attend_equiv (finSumFinEquiv : Fin 256 ⊕ Fin 2048 ≃ Fin 2304)]
  unfold krow
  rw [show (Sum.elim (fun x => cv (ix4 b x g l)) (fun x => v (ix4 b x g l)) : Fin 256 ⊕ Fin 2048 → EReal)
      = fun x => joined cv v (ix4 b ((finSumFinEquiv : Fin 256 ⊕ Fin 2048 ≃ Fin 2304) x) g l) from by
    funext x
    rcases x with x | x
    · exact ((joined_apply cv v b g l).1 x).symm
    · exact ((joined_apply cv v b g l).2 x).symm]
  have hs := score_eq q k ck hq hk hck b n g r
  refine attend2_eq _ _ _ (fun x => (hs x).1) (fun x => ?_) ⟨Sum.inl 0, ?_⟩
  · obtain ⟨y, hy⟩ := (hs x).2
    rw [hy]; exact EReal.coe_ne_top y
  · obtain ⟨y, hy⟩ := (hs (Sum.inl 0)).2
    rw [hy]; exact EReal.coe_ne_bot y

/-- The kernel's array is the reference's. -/
theorem kout_eq (q : FVec Ideal S16x2048x2x3x64 .f32) (k v : FVec Ideal S16x2048x2x64 .f32) (ck cv : FVec Ideal S16x256x2x64 .f32)
    (hq : ∀ i, ∃ r : ℝ, q i = r) (hk : ∀ i, ∃ r : ℝ, k i = r) (hck : ∀ i, ∃ r : ℝ, ck i = r) :
    kout q k v ck cv = ref q k v ck cv := by
  funext i
  obtain ⟨b, n, j, rfl⟩ : ∃ (b : Fin 16) (n : Fin 2048) (j : Fin 384), i = ix3 b n j :=
    ⟨i 0, i 1, i 2, by funext d; fin_cases d <;> rfl⟩
  rw [ref_row]
  exact krow_eq q k v ck cv hq hk hck b n _ _ _

end Cert.AttnC

end
-- ==== Proof.AttnC.Claims.lean ====
/- The claims of the attention over the whole sequence and the context, the heads of 64 lanes. -/
module

public import proofs.«01_k».proof.Defs
public import proofs.«01_k».proof.Proof.AttnC.Equation
public import proofs.«01_k».proof.Proof.Gen.Kernel.Frame
public import proofs.«01_k».proof.Proof.Gen.KernelIdeal.Frame

@[expose] public section

noncomputable section

namespace Cert.AttnC

open Idealize.ShloMosaic Idealize.SL.Sem

/-- The kernel runs, keeps its arguments and ends at rest. -/
theorem frame_p : Cert.quiescent_Kernel := fun m ρ _ => Cert.Kernel.Gen.frame m ρ

/-- So does the idealized kernel. -/
theorem frame_pi : Cert.quiescent_KernelIdeal := fun m ρ _ => Cert.KernelIdeal.Gen.frame m ρ

/-- So does it under the precondition. -/
theorem frame_pi_pre : Cert.quiescent_KernelIdeal_pre_finite_c := fun m ρ _ => Cert.KernelIdeal.Gen.frame m ρ

/-- The reference runs, keeps its arguments and ends at rest. -/
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- So does it under the precondition. -/
theorem frame_ri_pre : Cert.quiescent_ReferenceIdeal_pre_finite_c := fun m ρ _ => frame_ri m ρ trivial

/-- The named constant denotes its value. -/
theorem preserves : Cert.preserves_Kernel_KernelIdeal :=
  IdealRules.named_const.statement Cert.KernelIdeal.κ "scale" .f32 0x3E38AA3B#32 (((1 / 8) * (Real.log 2)⁻¹ : ℝ) : EReal) rfl

/-- The kernel's result is the reference's. -/
theorem algebraic : Cert.algebraic_KernelIdeal_ReferenceIdeal_pre_finite_c := by
  intro m ρ m' ρ' hpre hagree
  refine ⟨fun c => kout (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4)), ?_, ?_⟩
  · exact (θ_run Cert.KernelIdeal.defs _ _).mono
      (fun _ h c => ⟨(h c).1.trans (final m c _ _ _ _ _ rfl rfl rfl rfl rfl), (h c).2⟩)
      (Cert.KernelIdeal.Value.run_blocks m ρ)
  refine (θ_run Cert.ReferenceIdeal.defs _ _).mono (fun _ h c => ⟨(h c).1.trans ?_, (h c).2⟩)
    (Cert.ReferenceIdeal.Value.run (F := Ideal) m' ρ')
  obtain ⟨e0, e1, e2, e3, e4⟩ := hagree c
  rw [e0, e1, e2, e3, e4]
  obtain ⟨hq, hk, hck⟩ := reals _ _ _ _ _ (hpre c)
  refine Eq.trans ?_ (kout_eq _ _ _ _ _ hq hk hck).symm
  rfl

end Cert.AttnC

end
-- ==== Proof.AttnB.Block.lean ====
/- One block of the second attention kernel (1024 query rows of four heads, a key of 128 lanes to each), read at an index: a row
   of attention to the base two over the context's keys and the sequence's keys. -/
module

public import proofs.«01_k».proof.Proof.Gen.KernelBIdeal.Value
public import proofs.«01_k».proof.Proof.Attn.Softmax
public import Idealize.ShloMosaic.Lib.Pointwise
public import Idealize.ShloMosaic.Lib.Pipeline.ValueKit

@[expose] public section

set_option maxRecDepth 16384

noncomputable section

namespace Cert.AttnB

open Cert.KernelBIdeal Cert.KernelBIdeal.Gen Idealize.ShloMosaic Cert.Attn

/-- The scale the kernel multiplies its queries by, as the kernel writes it. -/
abbrev κs : EReal := Named.named (F := Ideal) κ "scale" (φ := .f32) 0x3E16C740#32

/-- The bit pattern of minus infinity denotes `⊥`. -/
theorem negInf : Ideal.ofBits FTy.f32 0xFF800000#32 = ⊥ := by
  simp [Ideal.ofBits, Ideal.ieee]

/-- A row of attention over the keys of one head and one lane of values. -/
def lane (q : Fin 128 → EReal) (ck : Fin 256 → Fin 128 → EReal) (k : Fin 2048 → Fin 128 → EReal) (cv : Fin 256 → EReal)
    (v : Fin 2048 → EReal) : EReal :=
  attend2 (Sum.elim (fun x : Fin 256 => ∑ d : Fin 128, ck x d * q d) (fun x : Fin 2048 => ∑ d : Fin 128, k x d * q d)) (Sum.elim cv v)

/-- The scaled queries at an index. -/
theorem scaled_apply (x : Vec Ideal S1x1024x512 .bf16) (s : Fin 1024) (j : Fin 512) :
    k0_pay2 (F := Ideal) x (ix2 s j) = x (ix3 0 s j) * κs := by
  pointwise [k0_pay2]

/-- The first head's result at a row and a lane. -/
theorem head0 (x : Vec Ideal S1x1024x512 .bf16) (ck : Vec Ideal S1x256x128 .bf16) (cv : Vec Ideal S1x128x256 .bf16)
    (k : Vec Ideal S1x2048x128 .bf16) (v : Vec Ideal S1x128x2048 .bf16) (s : Fin 1024) (l : Fin 128) :
    k0_pay10 (F := Ideal) (k0_pay5 v) (k0_pay7 x k) (k0_pay8 x ck k) (k0_pay9 x ck cv k) (ix2 s l) =
      lane (fun d => x (ix3 0 s ⟨d.val, by omega⟩) * κs) (fun x d => ck (ix3 0 x d)) (fun x d => k (ix3 0 x d))
        (fun x => cv (ix3 0 l x)) (fun x => v (ix3 0 l x)) := by
  pointwise [k0_pay10, k0_pay5, k0_pay7, k0_pay8, k0_pay9, k0_pay4, k0_pay6, k0_pay2]
  unfold lane
  rw [attend2_sum]
  simp only [Sum.elim_inl, Sum.elim_inr, negInf]
  rfl

/-- The second head's. -/
theorem head1 (q : FVec Ideal S1024x512 .bf16) (ck : Vec Ideal S1x256x128 .bf16) (cv : Vec Ideal S1x128x256 .bf16)
    (k : Vec Ideal S1x2048x128 .bf16) (v : Vec Ideal S1x128x2048 .bf16) (s : Fin 1024) (l : Fin 128) :
    k0_pay17 (F := Ideal) (k0_pay12 v) (k0_pay14 q k) (k0_pay15 q ck k) (k0_pay16 q ck cv k) (Scalar.ofBits .bf16 0x3F80#16) (ix2 s l) =
      lane (fun d => q (ix2 s ⟨128 + d.val, by omega⟩)) (fun x d => ck (ix3 0 x d)) (fun x d => k (ix3 0 x d))
        (fun x => cv (ix3 0 l x)) (fun x => v (ix3 0 l x)) := by
  pointwise [k0_pay17, k0_pay12, k0_pay14, k0_pay15, k0_pay16, k0_pay11, k0_pay13]
  unfold lane
  rw [attend2_sum]
  simp only [Sum.elim_inl, Sum.elim_inr, negInf]
  rfl

/-- The third head's. -/
theorem head2 (q : FVec Ideal S1024x512 .bf16) (ck : Vec Ideal S1x256x128 .bf16) (cv : Vec Ideal S1x128x256 .bf16)
    (k : Vec Ideal S1x2048x128 .bf16) (v : Vec Ideal S1x128x2048 .bf16) (s : Fin 1024) (l : Fin 128) :
    k0_pay25 (F := Ideal) (k0_pay19 v) (k0_pay21 q k) (k0_pay22 q ck k) (k0_pay23 q ck cv k) (k0_pay24 (F := Ideal)) (ix2 s l) =
      lane (fun d => q (ix2 s ⟨256 + d.val, by omega⟩)) (fun x d => ck (ix3 0 x d)) (fun x d => k (ix3 0 x d))
        (fun x => cv (ix3 0 l x)) (fun x => v (ix3 0 l x)) := by
  pointwise [k0_pay25, k0_pay19, k0_pay21, k0_pay22, k0_pay23, k0_pay24, k0_pay18, k0_pay20]
  unfold lane
  rw [attend2_sum]
  simp only [Sum.elim_inl, Sum.elim_inr, negInf]
  rfl

/-- Which lanes of the result come from the even head. -/
theorem keep (d : Nat) (hd : d < 128) (a b : EReal) :
    Scalar.select (IntOp.cmpi CmpIPredicate.slt (BitVec.ofNat 32 d) 64#32) a b = if d < 64 then a else b := by
  have key : ∀ d : Fin 128, IntOp.cmpi CmpIPredicate.slt (BitVec.ofNat 32 d.val) 64#32
      = if d.val < 64 then 1#1 else 0#1 := by decide +kernel
  have := key ⟨d, hd⟩
  simp only [] at this
  rw [this]
  split_ifs <;> rfl

/-- The last head's result, of its scores, their largest and the context's part. -/
def last (S : FVec Ideal S2048x1024 .f32) (M : FVec Ideal S1x1024 .f32) (O : FVec Ideal S144x1024 .f32) (V : FVec Ideal S144x2048 .bf16) :
    FVec Ideal S1024x128 .f32 :=
  have all := addf O (matmul dot_S144x2048_S2048x1024_S144x1024_1_0_0_1_n_n none V
    (truncf .bf16 (exp2 (subf S (broadcastTo S2048x1024 M broadcasts_S1x1024_S2048x1024))) bitsLt_bf16_f32) (constant S144x1024 .f32 0x00000000#32))
  transpose S1024x128 [1, 0] (divf (extractStridedSlice S128x1024 ![0, 0] all slices_S144x1024_o0_0_S128x1024)
    (broadcastTo S128x1024 (extractStridedSlice S1x1024 ![128, 0] all slices_S144x1024_o128_0_S1x1024) broadcasts_S1x1024_S128x1024))
    transposes_S128x1024_p1_0_S1024x128

/-- What the block's store writes, of the four heads' results. -/
def lay (u0 u1 u2 u3 : FVec Ideal S1024x128 .f32) : FVec Ideal S1x1024x256 .bf16 :=
  shapeCast S1x1024x256 (truncf .bf16 (concatenate S1024x256 1 [⟨S1024x128, select k0_pay3 u0 u1⟩, ⟨S1024x128, select k0_pay3 u2 u3⟩]
    concatenates_S1024x128_S1024x128_S1024x256_d1) bitsLt_bf16_f32) shapeCasts_S1024x256_S1x1024x256

/-- The store's payload lays out the four heads' results. -/
theorem stored_eq (u0 u1 u2 : FVec Ideal S1024x128 .f32) (S : FVec Ideal S2048x1024 .f32) (M : FVec Ideal S1x1024 .f32)
    (O : FVec Ideal S144x1024 .f32) (V : FVec Ideal S144x2048 .bf16) :
    k0_pay1 (F := Ideal) k0_pay3 u0 u1 u2 S M O V = lay u0 u1 u2 (last S M O V) := rfl

/-- The last head's result at a row and a lane. -/
theorem head3 (q : FVec Ideal S1024x512 .bf16) (ck : Vec Ideal S1x256x128 .bf16) (cv : Vec Ideal S1x128x256 .bf16)
    (k : Vec Ideal S1x2048x128 .bf16) (v : Vec Ideal S1x128x2048 .bf16) (s : Fin 1024) (l : Fin 128) :
    last (k0_pay28 q k) (k0_pay29 q ck k) (k0_pay30 q ck cv k) (k0_pay31 v) (ix2 s l) =
      lane (fun d => q (ix2 s ⟨384 + d.val, by omega⟩)) (fun x d => ck (ix3 0 x d)) (fun x d => k (ix3 0 x d))
        (fun x => cv (ix3 0 l x)) (fun x => v (ix3 0 l x)) := by
  pointwise [last, k0_pay26, k0_pay27, k0_pay28, k0_pay29, k0_pay30, k0_pay31]
  unfold lane
  rw [attend2_sum]
  simp only [Sum.elim_inl, Sum.elim_inr, negInf]
  rfl

/-- The stored value at an index: by lane, of one head. -/
theorem lay_apply (u0 u1 u2 u3 : FVec Ideal S1024x128 .f32) (s : Fin 1024) (j : Fin 256) :
    lay u0 u1 u2 u3 (ix3 0 s j) =
      if h : j.val < 128 then
        if j.val < 64 then u0 (ix2 s ⟨j.val, h⟩) else u1 (ix2 s ⟨j.val, h⟩)
      else if j.val - 128 < 64 then u2 (ix2 s ⟨j.val - 128, by omega⟩) else u3 (ix2 s ⟨j.val - 128, by omega⟩) := by
  pointwise [lay, k0_pay3]
  by_cases h : j.val < 128
  · rw [dif_pos h, dif_pos h, keep _ h]
  · rw [dif_neg h, dif_neg h, keep _ (by omega)]

/-- Three zero offsets are the zero offsets. -/
theorem hz3 : (![0, 0, 0] : Fin 3 → Nat) = fun _ => 0 := funext fun a => by fin_cases a <;> rfl

/-- The row of attention a block computes: query row `s`, lane `j` of the four heads' results. -/
def row (x0 : Vec Ideal S1x1024x512 .bf16) (x1 : Vec Ideal S1x256x512 .bf16) (x2 : Vec Ideal S1x256x256 .bf16)
    (x3 : Vec Ideal S1x2048x512 .bf16) (x4 : Vec Ideal S1x256x2048 .bf16) (s : Fin 1024) (j : Fin 256) : EReal :=
  lane (fun d => x0 (ix3 0 s ⟨128 * (j.val / 64) + d.val, by omega⟩) * κs) (fun x d => x1 (ix3 0 x ⟨128 * (j.val / 64) + d.val, by omega⟩))
    (fun x d => x3 (ix3 0 x ⟨128 * (j.val / 64) + d.val, by omega⟩)) (fun x => x2 (ix3 0 j x)) (fun x => x4 (ix3 0 j x))

/-- The context's keys of one head, as loaded. -/
theorem ld_ck (X : Vec Ideal S1x256x512 .bf16) (o : Nat) (inb) (x : Fin 256) (d : Fin 128) (h : o + d.val < 512) :
    View.ld X (Rect.unit (s := S1x256x512) ![0, 0, o] S1x256x128.size inb) (ix3 0 x d) = X (ix3 0 x ⟨o + d.val, h⟩) := by
  refine Idealize.ShloMosaic.View.ld_unit_apply_of _ _ _ _ _ _ fun a => ?_
  fin_cases a <;> simp [ix3]

/-- The sequence's keys of one head, as loaded. -/
theorem ld_k (X : Vec Ideal S1x2048x512 .bf16) (o : Nat) (inb) (x : Fin 2048) (d : Fin 128) (h : o + d.val < 512) :
    View.ld X (Rect.unit (s := S1x2048x512) ![0, 0, o] S1x2048x128.size inb) (ix3 0 x d) = X (ix3 0 x ⟨o + d.val, h⟩) := by
  refine Idealize.ShloMosaic.View.ld_unit_apply_of _ _ _ _ _ _ fun a => ?_
  fin_cases a <;> simp [ix3]

/-- The context's values of two heads, as loaded. -/
theorem ld_cv (X : Vec Ideal S1x256x256 .bf16) (o : Nat) (inb) (x : Fin 256) (d : Fin 128) (h : o + d.val < 256) :
    View.ld X (Rect.unit (s := S1x256x256) ![0, o, 0] S1x128x256.size inb) (ix3 0 d x) = X (ix3 0 ⟨o + d.val, h⟩ x) := by
  refine Idealize.ShloMosaic.View.ld_unit_apply_of _ _ _ _ _ _ fun a => ?_
  fin_cases a <;> simp [ix3]

/-- The sequence's values of two heads, as loaded. -/
theorem ld_v (X : Vec Ideal S1x256x2048 .bf16) (o : Nat) (inb) (x : Fin 2048) (d : Fin 128) (h : o + d.val < 256) :
    View.ld X (Rect.unit (s := S1x256x2048) ![0, o, 0] S1x128x2048.size inb) (ix3 0 d x) = X (ix3 0 ⟨o + d.val, h⟩ x) := by
  refine Idealize.ShloMosaic.View.ld_unit_apply_of _ _ _ _ _ _ fun a => ?_
  fin_cases a <;> simp [ix3]

/-- A block's result at an index is the row of attention there. -/
theorem out_apply (x0 : Vec Ideal S1x1024x512 .bf16) (x1 : Vec Ideal S1x256x512 .bf16) (x2 : Vec Ideal S1x256x256 .bf16)
    (x3 : Vec Ideal S1x2048x512 .bf16) (x4 : Vec Ideal S1x256x2048 .bf16) (s : Fin 1024) (j : Fin 256) :
    out0_5 (F := Ideal) x0 x1 x2 x3 x4 (ix3 0 s j) = row x0 x1 x2 x3 x4 s j := by
  unfold out0_5 k0_pay32
  rw [View.canon_unit_zero hz3, View.ld_unit_zero hz3, stored_eq, lay_apply]
  unfold row
  have hj := j.isLt
  split_ifs with h h' h'
  · rw [head0]
    have e : j.val / 64 = 0 := by omega
    have l1 : ∀ x (d : Fin 128), View.ld x1 r0_1 (ix3 0 x d) = x1 (ix3 0 x ⟨0 + d.val, by omega⟩) := fun x d => ld_ck x1 0 _ x d (by omega)
    have l3 : ∀ x (d : Fin 128), View.ld x3 r0_3 (ix3 0 x d) = x3 (ix3 0 x ⟨0 + d.val, by omega⟩) := fun x d => ld_k x3 0 _ x d (by omega)
    have l2 : ∀ x (d : Fin 128), View.ld x2 r0_2 (ix3 0 d x) = x2 (ix3 0 ⟨0 + d.val, by omega⟩ x) := fun x d => ld_cv x2 0 _ x d (by omega)
    have l4 : ∀ x (d : Fin 128), View.ld x4 r0_4 (ix3 0 d x) = x4 (ix3 0 ⟨0 + d.val, by omega⟩ x) := fun x d => ld_v x4 0 _ x d (by omega)
    simp only [l1, l2, l3, l4, scaled_apply, e, Fin.eta, Nat.zero_add, Nat.mul_zero, Nat.mul_one]
  · rw [head1]
    have e : j.val / 64 = 1 := by omega
    have l1 : ∀ x (d : Fin 128), View.ld x1 r0_5 (ix3 0 x d) = x1 (ix3 0 x ⟨128 + d.val, by omega⟩) := fun x d => ld_ck x1 128 _ x d (by omega)
    have l3 : ∀ x (d : Fin 128), View.ld x3 r0_6 (ix3 0 x d) = x3 (ix3 0 x ⟨128 + d.val, by omega⟩) := fun x d => ld_k x3 128 _ x d (by omega)
    have l2 : ∀ x (d : Fin 128), View.ld x2 r0_2 (ix3 0 d x) = x2 (ix3 0 ⟨0 + d.val, by omega⟩ x) := fun x d => ld_cv x2 0 _ x d (by omega)
    have l4 : ∀ x (d : Fin 128), View.ld x4 r0_4 (ix3 0 d x) = x4 (ix3 0 ⟨0 + d.val, by omega⟩ x) := fun x d => ld_v x4 0 _ x d (by omega)
    simp only [l1, l2, l3, l4, scaled_apply, e, Fin.eta, Nat.zero_add, Nat.mul_zero, Nat.mul_one]
  · rw [head2]
    have e : j.val / 64 = 2 := by omega
    have e2 : 128 + (j.val - 128) = j.val := by omega
    have l1 : ∀ x (d : Fin 128), View.ld x1 r0_7 (ix3 0 x d) = x1 (ix3 0 x ⟨256 + d.val, by omega⟩) := fun x d => ld_ck x1 256 _ x d (by omega)
    have l3 : ∀ x (d : Fin 128), View.ld x3 r0_9 (ix3 0 x d) = x3 (ix3 0 x ⟨256 + d.val, by omega⟩) := fun x d => ld_k x3 256 _ x d (by omega)
    have l2 : ∀ x (d : Fin 128), View.ld x2 r0_8 (ix3 0 d x) = x2 (ix3 0 ⟨128 + d.val, by omega⟩ x) := fun x d => ld_cv x2 128 _ x d (by omega)
    have l4 : ∀ x (d : Fin 128), View.ld x4 r0_10 (ix3 0 d x) = x4 (ix3 0 ⟨128 + d.val, by omega⟩ x) := fun x d => ld_v x4 128 _ x d (by omega)
    simp only [l1, l2, l3, l4, scaled_apply, e, e2, Fin.eta, Nat.zero_add, Nat.mul_zero, Nat.mul_one]
  · rw [head3]
    have e : j.val / 64 = 3 := by omega
    have e2 : 128 + (j.val - 128) = j.val := by omega
    have l1 : ∀ x (d : Fin 128), View.ld x1 r0_11 (ix3 0 x d) = x1 (ix3 0 x ⟨384 + d.val, by omega⟩) := fun x d => ld_ck x1 384 _ x d (by omega)
    have l3 : ∀ x (d : Fin 128), View.ld x3 r0_12 (ix3 0 x d) = x3 (ix3 0 x ⟨384 + d.val, by omega⟩) := fun x d => ld_k x3 384 _ x d (by omega)
    have l2 : ∀ x (d : Fin 128), View.ld x2 r0_8 (ix3 0 d x) = x2 (ix3 0 ⟨128 + d.val, by omega⟩ x) := fun x d => ld_cv x2 128 _ x d (by omega)
    have l4 : ∀ x (d : Fin 128), View.ld x4 r0_10 (ix3 0 d x) = x4 (ix3 0 ⟨128 + d.val, by omega⟩ x) := fun x d => ld_v x4 128 _ x d (by omega)
    simp only [l1, l2, l3, l4, scaled_apply, e, e2, Fin.eta, Nat.zero_add, Nat.mul_zero, Nat.mul_one]

end Cert.AttnB

end
-- ==== Proof.AttnB.Array.lean ====
/- The second attention kernel's result array: at every index a row of attention over the arguments. -/
module

public import proofs.«01_k».proof.Proof.AttnB.Block
public import Idealize.ShloMosaic.Lib.Pipeline.ValueKit
public import Idealize.ShloMosaic.Lib.Claim

@[expose] public section

set_option maxRecDepth 16384

noncomputable section

namespace Cert.AttnB

open Cert.KernelBIdeal Cert.KernelBIdeal.Gen Idealize.ShloMosaic Idealize.ShloMosaic.TcCoe Idealize.SL.Sem Cert.Attn
open Idealize.ShloMosaic.Pipeline (Dat)

variable (m : (ℓ : Loc nD τ sig) → Buf (Elt Ideal) ℓ)

/-- The windows' block indices at grid point `t`, decided. -/
theorem idx : ∀ t : Fin cfg0.N, win0_0.index t = ![t.val / 2, t.val % 2, 0] ∧ win0_1.index t = ![t.val / 2, 0, 0]
    ∧ win0_2.index t = ![t.val / 2, 0, 0] ∧ win0_3.index t = ![t.val / 2, 0, 0] ∧ win0_4.index t = ![t.val / 2, 0, 0]
    ∧ win0_5.index t = ![t.val / 2, t.val % 2, 0] ∧ t.val / 2 < 16 :=
  (by decide +kernel : ∀ t : Fin grid0.N, _)

/-- The integer zero, as a float. -/
theorem zero_word : FloatOps.sitofp (F := Ideal) FTy.f32 0#32 = 0 := by
  show (((0#32).toInt : ℝ) : EReal) = 0
  simp

/-- A head's 96 lanes followed by 32 zeros (2048 rows). -/
theorem padded (q : FVec Ideal S16x2048x4x96 .f32) (b : Fin 16) (n : Fin 2048) (g : Fin 4) (d : Fin 128) :
    pad S16x2048x4x128 ![0, 0, 0, 0] ![0, 0, 0, 32] ![0, 0, 0, 0] q (sitofp .f32 (constantI S_ 32 0#32) : FVec Ideal S_ .f32)
      pads_S16x2048x4x96_S16x2048x4x128_000_000_000_0320 h_S_ (ix4 b n g d)
      = if h : d.val < 96 then q (ix4 b n g ⟨d.val, h⟩) else 0 := by
  pointwise
  rw [zero_word]

/-- A head's 96 lanes followed by 32 zeros (256 rows). -/
theorem padded' (q : FVec Ideal S16x256x4x96 .f32) (b : Fin 16) (n : Fin 256) (g : Fin 4) (d : Fin 128) :
    pad S16x256x4x128 ![0, 0, 0, 0] ![0, 0, 0, 32] ![0, 0, 0, 0] q (sitofp .f32 (constantI S_ 32 0#32) : FVec Ideal S_ .f32)
      pads_S16x256x4x96_S16x256x4x128_000_000_000_0320 h_S_ (ix4 b n g d)
      = if h : d.val < 96 then q (ix4 b n g ⟨d.val, h⟩) else 0 := by
  pointwise
  rw [zero_word]

/-- The queries' array as the region finds it: the first 96 lanes of each head its query, the others zero. -/
theorem V_q (c : Dev nD) (q : FVec Ideal S16x2048x4x96 .f32) (hq : m ((c : Thread nD τ).loc main_arg0) = q)
    (b : Fin 16) (n : Fin 2048) (j : Fin 512) :
    (V m c main_v2 : FVec Ideal S16x2048x512 .bf16) (ix3 b n j)
      = if h : j.val % 128 < 96 then q (ix4 b n ⟨j.val / 128, by omega⟩ ⟨j.val % 128, h⟩) else 0 := by
  unfold V
  simp only [hostOps0, hostOps0_1, hostOps0_2, hostOps0_3, hostOps0_4, hostOps0_5, hostOps0_6, List.flatten_cons, List.flatten_nil,
    List.append_nil, List.cons_append, List.nil_append]
  entry_read
  rw [hq]
  pointwise
  exact padded q b n _ _

/-- The keys' array as the region finds it. -/
theorem V_k (c : Dev nD) (k : FVec Ideal S16x2048x4x96 .f32) (hk : m ((c : Thread nD τ).loc main_arg1) = k)
    (b : Fin 16) (n : Fin 2048) (j : Fin 512) :
    (V m c main_v11 : FVec Ideal S16x2048x512 .bf16) (ix3 b n j)
      = if h : j.val % 128 < 96 then k (ix4 b n ⟨j.val / 128, by omega⟩ ⟨j.val % 128, h⟩) else 0 := by
  unfold V
  simp only [hostOps0, hostOps0_1, hostOps0_2, hostOps0_3, hostOps0_4, hostOps0_5, hostOps0_6, List.flatten_cons, List.flatten_nil,
    List.append_nil, List.cons_append, List.nil_append]
  entry_read
  rw [hk]
  pointwise
  exact padded k b n _ _

/-- The values' array as the region finds it. -/
theorem V_v (c : Dev nD) (v : FVec Ideal S16x2048x4x64 .f32) (hv : m ((c : Thread nD τ).loc main_arg2) = v)
    (b : Fin 16) (x : Fin 2048) (j : Fin 256) :
    (V m c main_v14 : FVec Ideal S16x256x2048 .bf16) (ix3 b j x) = v (ix4 b x ⟨j.val / 64, by omega⟩ ⟨j.val % 64, by omega⟩) := by
  unfold V
  simp only [hostOps0, hostOps0_1, hostOps0_2, hostOps0_3, hostOps0_4, hostOps0_5, hostOps0_6, List.flatten_cons, List.flatten_nil,
    List.append_nil, List.cons_append, List.nil_append]
  entry_read
  rw [hv]
  pointwise

/-- The context's keys' array as the region finds it. -/
theorem V_ck (c : Dev nD) (k : FVec Ideal S16x256x4x96 .f32) (hk : m ((c : Thread nD τ).loc main_arg3) = k)
    (b : Fin 16) (n : Fin 256) (j : Fin 512) :
    (V m c main_v5 : FVec Ideal S16x256x512 .bf16) (ix3 b n j)
      = if h : j.val % 128 < 96 then k (ix4 b n ⟨j.val / 128, by omega⟩ ⟨j.val % 128, h⟩) else 0 := by
  unfold V
  simp only [hostOps0, hostOps0_1, hostOps0_2, hostOps0_3, hostOps0_4, hostOps0_5, hostOps0_6, List.flatten_cons, List.flatten_nil,
    List.append_nil, List.cons_append, List.nil_append]
  entry_read
  rw [hk]
  pointwise
  exact padded' k b n _ _

/-- The context's values' array as the region finds it. -/
theorem V_cv (c : Dev nD) (v : FVec Ideal S16x256x4x64 .f32) (hv : m ((c : Thread nD τ).loc main_arg4) = v)
    (b : Fin 16) (x : Fin 256) (j : Fin 256) :
    (V m c main_v8 : FVec Ideal S16x256x256 .bf16) (ix3 b j x) = v (ix4 b x ⟨j.val / 64, by omega⟩ ⟨j.val % 64, by omega⟩) := by
  unfold V
  simp only [hostOps0, hostOps0_1, hostOps0_2, hostOps0_3, hostOps0_4, hostOps0_5, hostOps0_6, List.flatten_cons, List.flatten_nil,
    List.append_nil, List.cons_append, List.nil_append]
  entry_read
  rw [hv]
  pointwise

/-- The query block at point `t` is the array's rows there. -/
theorem blk0 (c : Dev nD) (t : Fin cfg0.N) (s : Fin 1024) (j : Fin 512) :
    (iblk m c 0 t : FVec Ideal S1x1024x512 .bf16) (ix3 0 s j)
      = (V m c main_v2 : FVec Ideal S16x2048x512 .bf16) (ix3 ⟨t.val / 2, (idx t).2.2.2.2.2.2⟩ ⟨1024 * (t.val % 2) + s.val, by omega⟩ j) := by
  blk_ext [iblk, idx t]

/-- The context's key block at point `t`. -/
theorem blk1 (c : Dev nD) (t : Fin cfg0.N) (s : Fin 256) (j : Fin 512) :
    (iblk m c 1 t : FVec Ideal S1x256x512 .bf16) (ix3 0 s j)
      = (V m c main_v5 : FVec Ideal S16x256x512 .bf16) (ix3 ⟨t.val / 2, (idx t).2.2.2.2.2.2⟩ s j) := by
  blk_ext [iblk, idx t]

/-- The context's value block at point `t`. -/
theorem blk2 (c : Dev nD) (t : Fin cfg0.N) (s : Fin 256) (j : Fin 256) :
    (iblk m c 2 t : FVec Ideal S1x256x256 .bf16) (ix3 0 j s)
      = (V m c main_v8 : FVec Ideal S16x256x256 .bf16) (ix3 ⟨t.val / 2, (idx t).2.2.2.2.2.2⟩ j s) := by
  blk_ext [iblk, idx t]

/-- The sequence's key block at point `t`. -/
theorem blk3 (c : Dev nD) (t : Fin cfg0.N) (s : Fin 2048) (j : Fin 512) :
    (iblk m c 3 t : FVec Ideal S1x2048x512 .bf16) (ix3 0 s j)
      = (V m c main_v11 : FVec Ideal S16x2048x512 .bf16) (ix3 ⟨t.val / 2, (idx t).2.2.2.2.2.2⟩ s j) := by
  blk_ext [iblk, idx t]

/-- The sequence's value block at point `t`. -/
theorem blk4 (c : Dev nD) (t : Fin cfg0.N) (s : Fin 2048) (j : Fin 256) :
    (iblk m c 4 t : FVec Ideal S1x256x2048 .bf16) (ix3 0 j s)
      = (V m c main_v14 : FVec Ideal S16x256x2048 .bf16) (ix3 ⟨t.val / 2, (idx t).2.2.2.2.2.2⟩ j s) := by
  blk_ext [iblk, idx t]

/-- A padded head's product is the head's own. -/
theorem short_sum (K Q : Fin 128 → EReal) (k q : Fin 96 → EReal) (c : EReal)
    (hK : ∀ d : Fin 128, K d = if h : d.val < 96 then k ⟨d.val, h⟩ else 0)
    (hQ : ∀ d : Fin 128, Q d = if h : d.val < 96 then q ⟨d.val, h⟩ else 0) :
    ∑ d, K d * (Q d * c) = ∑ d, k d * (q d * c) := by
  have lo : ∀ d : Fin 96, K (Fin.castAdd 32 d) * (Q (Fin.castAdd 32 d) * c) = k d * (q d * c) := by
    intro d
    rw [hK, hQ, dif_pos (show (Fin.castAdd 32 d).val < 96 from d.isLt), dif_pos (show (Fin.castAdd 32 d).val < 96 from d.isLt)]
    rfl
  have hi : ∀ d : Fin 32, K (Fin.natAdd 96 d) * (Q (Fin.natAdd 96 d) * c) = 0 := by
    intro d
    rw [hK, dif_neg (by simp), zero_mul]
  refine (Fin.sum_univ_add (a := 96) (b := 32) fun d : Fin (96 + 32) => K d * (Q d * c)).trans ?_
  rw [Finset.sum_congr rfl fun d _ => lo d, Finset.sum_congr rfl fun d _ => hi d]
  simp

/-- The row of attention the kernel computes over its arguments: sample `b`, query `n`, head `h`, lane `l`. -/
def krow (q k : FVec Ideal S16x2048x4x96 .f32) (v : FVec Ideal S16x2048x4x64 .f32) (ck : FVec Ideal S16x256x4x96 .f32)
    (cv : FVec Ideal S16x256x4x64 .f32) (b : Fin 16) (n : Fin 2048) (h : Fin 4) (l : Fin 64) : EReal :=
  attend2 (Sum.elim (fun x : Fin 256 => ∑ d : Fin 96, ck (ix4 b x h d) * (q (ix4 b n h d) * κs))
      (fun x : Fin 2048 => ∑ d : Fin 96, k (ix4 b x h d) * (q (ix4 b n h d) * κs)))
    (Sum.elim (fun x => cv (ix4 b x h l)) (fun x => v (ix4 b x h l)))

/-- The kernel's result array over its arguments. -/
def kout (q k : FVec Ideal S16x2048x4x96 .f32) (v : FVec Ideal S16x2048x4x64 .f32) (ck : FVec Ideal S16x256x4x96 .f32)
    (cv : FVec Ideal S16x256x4x64 .f32) : FVec Ideal S16x2048x256 .bf16 := fun i =>
  krow q k v ck cv (i 0) (i 1) ⟨(i 2).val / 64, by have h : (i 2).val < 256 := (i 2).isLt; omega⟩ ⟨(i 2).val % 64, by omega⟩

/-- What point `t` leaves at a block index is the row of attention there. -/
theorem point (c : Dev nD) (q k : FVec Ideal S16x2048x4x96 .f32) (v : FVec Ideal S16x2048x4x64 .f32)
    (ck : FVec Ideal S16x256x4x96 .f32) (cv : FVec Ideal S16x256x4x64 .f32)
    (hq : m ((c : Thread nD τ).loc main_arg0) = q) (hk : m ((c : Thread nD τ).loc main_arg1) = k)
    (hv : m ((c : Thread nD τ).loc main_arg2) = v) (hck : m ((c : Thread nD τ).loc main_arg3) = ck)
    (hcv : m ((c : Thread nD τ).loc main_arg4) = cv) (t : Fin cfg0.N) (s : Fin 1024) (j : Fin 256) :
    row (iblk m c 0 t) (iblk m c 1 t) (iblk m c 2 t) (iblk m c 3 t) (iblk m c 4 t) s j
      = krow q k v ck cv ⟨t.val / 2, (idx t).2.2.2.2.2.2⟩ ⟨1024 * (t.val % 2) + s.val, by omega⟩
          ⟨j.val / 64, by omega⟩ ⟨j.val % 64, by omega⟩ := by
  have ht := (idx t).2.2.2.2.2.2
  have hj := j.isLt
  have em : ∀ d : Fin 128, (128 * (j.val / 64) + d.val) % 128 = d.val := fun d => by omega
  have ed : ∀ d : Fin 128, (128 * (j.val / 64) + d.val) / 128 = j.val / 64 := fun d => by omega
  unfold row lane krow
  congr 1
  · funext x
    rcases x with x | x
    · simp only [Sum.elim_inl]
      refine short_sum _ _ _ _ _ (fun d => ?_) (fun d => ?_)
      · rw [blk1, V_ck m c ck hck]
        simp only [em, ed]
      · rw [blk0, V_q m c q hq]
        simp only [em, ed]
    · simp only [Sum.elim_inr]
      refine short_sum _ _ _ _ _ (fun d => ?_) (fun d => ?_)
      · rw [blk3, V_k m c k hk]
        simp only [em, ed]
      · rw [blk0, V_q m c q hq]
        simp only [em, ed]
  · funext x
    rcases x with x | x
    · simp only [Sum.elim_inl]
      rw [blk2, V_cv m c cv hcv]
    · simp only [Sum.elim_inr]
      rw [blk4, V_v m c v hv]

/-- The result array after the run. -/
theorem final (c : Dev nD) (q k : FVec Ideal S16x2048x4x96 .f32) (v : FVec Ideal S16x2048x4x64 .f32)
    (ck : FVec Ideal S16x256x4x96 .f32) (cv : FVec Ideal S16x256x4x64 .f32)
    (hq : m ((c : Thread nD τ).loc main_arg0) = q) (hk : m ((c : Thread nD τ).loc main_arg1) = k)
    (hv : m ((c : Thread nD τ).loc main_arg2) = v) (hck : m ((c : Thread nD τ).loc main_arg3) = ck)
    (hcv : m ((c : Thread nD τ).loc main_arg4) = cv) :
    (dats m 0 c).arrAt 5 (cfgs 0).N = kout q k v ck cv := by
  refine (dats m 0 c).arrAt_eq_of_covers 5 _ (by decide +kernel) fun t _ y => ?_
  blk_simp
  rw [after0_5]
  have hy : y = (ix3 0 (y 1) (y 2) : (S1x1024x256).Idx) := by
    funext i
    fin_cases i
    · exact Subsingleton.elim (α := Fin 1) _ _
    · rfl
    · rfl
  have he : (win0_5.blk t).view.emb y = (ix3 ⟨t.val / 2, (idx t).2.2.2.2.2.2⟩ ⟨1024 * (t.val % 2) + (y 1).val, by
      have h : (y 1).val < 1024 := (y 1).isLt
      omega⟩ (y 2) : S16x2048x256.Idx) := by
    blk_ext [idx t]
  rw [he, hy]
  exact (out_apply _ _ _ _ _ _ _).trans (point m c q k v ck cv hq hk hv hck hcv t _ _)

end Cert.AttnB

end
-- ==== Proof.AttnB.Ref.lean ====
/- The reference attention (its softmax over the context's and the sequence's keys), read at an index. -/
module

public import proofs.«01_k».proof.Proof.Gen.ReferenceBIdeal.Run
public import proofs.«01_k».proof.Proof.Attn.Softmax
public import Idealize.ShloMosaic.Lib.Pointwise

@[expose] public section

set_option maxRecDepth 16384

noncomputable section

namespace Cert.AttnB

open Cert.ReferenceBIdeal Cert.ReferenceBIdeal.Gen Idealize.ShloMosaic Cert.Attn

/-- The context's keys followed by the sequence's. -/
def joined (a : FVec Ideal S16x256x4x96 .f32) (b : FVec Ideal S16x2048x4x96 .f32) : FVec Ideal S16x2304x4x96 .f32 :=
  concatenate S16x2304x4x96 1 [⟨S16x256x4x96, a⟩, ⟨S16x2048x4x96, b⟩] concatenates_S16x256x4x96_S16x2048x4x96_S16x2304x4x96_d1

/-- The context's values followed by the sequence's. -/
def joinedV (a : FVec Ideal S16x256x4x64 .f32) (b : FVec Ideal S16x2048x4x64 .f32) : FVec Ideal S16x2304x4x64 .f32 :=
  concatenate S16x2304x4x64 1 [⟨S16x256x4x64, a⟩, ⟨S16x2048x4x64, b⟩] concatenates_S16x256x4x64_S16x2048x4x64_S16x2304x4x64_d1

/-- The reference's scores: the products of the queries with the keys over the root of the head's width, the context's keys first. -/
def scores (q : FVec Ideal S16x2048x4x96 .f32) (k : FVec Ideal S16x2048x4x96 .f32) (ck : FVec Ideal S16x256x4x96 .f32) :
    FVec Ideal S16x4x2048x2304 .f32 :=
  Host.divf (Host.dotGeneral dot_S16x2048x4x96_S16x2304x4x96_S16x4x2048x2304_3_3_1_1_02_02 none q (joined ck k))
    (broadcastInDim S16x4x2048x2304 ![] bcast_S_S16x4x2048x2304 (Host.sqrt (constant S_ .f32 0x42C00000#32)))

/-- The largest of each row. -/
def largest (S : FVec Ideal S16x4x2048x2304 .f32) (i : FVec Ideal S_ .f32) : FVec Ideal S16x4x2048 .f32 :=
  Host.reduce FloatOps.maximumf S i reducesTo_S16x4x2048x2304_S16x4x2048_d3 h_S_

/-- The larger of each number and minus infinity. -/
def floored (M : FVec Ideal S16x4x2048 .f32) : FVec Ideal S16x4x2048 .f32 :=
  maximumf (broadcastInDim S16x4x2048 ![] bcast_S_S16x4x2048 (constant S_ .f32 0xFF800000#32)) M

/-- The largest score of each row, as the reference takes it. -/
def top (S : FVec Ideal S16x4x2048x2304 .f32) : FVec Ideal S16x4x2048 .f32 :=
  floored (largest S (constant S_ .f32 0xFF800000#32))

/-- A row's number, at each of its keys. -/
def across (M : FVec Ideal S16x4x2048 .f32) : FVec Ideal S16x4x2048x2304 .f32 :=
  broadcastInDim S16x4x2048x2304 ![0, 1, 2, 3] bcast_S16x4x2048x1_S16x4x2048x2304_0_1_2_3 (broadcastInDim S16x4x2048x1 ![0, 1, 2] bcast_S16x4x2048_S16x4x2048x1_0_1_2 M)

/-- The exponentials of the scores, the largest taken off. -/
def exps (S : FVec Ideal S16x4x2048x2304 .f32) : FVec Ideal S16x4x2048x2304 .f32 :=
  Host.exp (subf S (across (top S)))

/-- The sum of each row. -/
def total (E : FVec Ideal S16x4x2048x2304 .f32) : FVec Ideal S16x4x2048 .f32 :=
  Host.reduceAdd E (constant S_ .f32 0x00000000#32) reducesTo_S16x4x2048x2304_S16x4x2048_d3 h_S_

/-- The weights. -/
def weights (E : FVec Ideal S16x4x2048x2304 .f32) : FVec Ideal S16x4x2048x2304 .f32 :=
  Host.divf E (across (total E))

/-- The values weighted. -/
def mixed (V : FVec Ideal S16x2304x4x64 .f32) (W : FVec Ideal S16x4x2048x2304 .f32) : FVec Ideal S16x4x64x2048 .f32 :=
  Host.dotGeneral dot_S16x2304x4x64_S16x4x2048x2304_S16x4x64x2048_1_3_3_2_02_01 none V W

/-- The result laid out by query rows. -/
def laid (O : FVec Ideal S16x4x64x2048 .f32) : FVec Ideal S16x2048x256 .bf16 :=
  truncf .bf16 (shapeCast S16x2048x256 (transpose S16x2048x4x64 [0, 3, 1, 2] O transposes_S16x4x64x2048_S16x2048x4x64_0_3_1_2) shapeCasts_S16x2048x4x64_S16x2048x256) bitsLt_bf16_f32

/-- The reference's result over its arguments. -/
def ref (q k : FVec Ideal S16x2048x4x96 .f32) (v : FVec Ideal S16x2048x4x64 .f32) (ck : FVec Ideal S16x256x4x96 .f32)
    (cv : FVec Ideal S16x256x4x64 .f32) : FVec Ideal S16x2048x256 .bf16 :=
  laid (mixed (joinedV cv v) (weights (exps (scores q k ck))))

/-- The joined keys at an index. -/
theorem joined_apply (a : FVec Ideal S16x256x4x96 .f32) (c : FVec Ideal S16x2048x4x96 .f32) (b : Fin 16) (h : Fin 4) (d : Fin 96) :
    (∀ x : Fin 256, joined a c (ix4 b ⟨x.val, by omega⟩ h d) = a (ix4 b x h d))
    ∧ ∀ x : Fin 2048, joined a c (ix4 b ⟨256 + x.val, by omega⟩ h d) = c (ix4 b x h d) := by
  constructor
  · intro x
    pointwise [joined]
  · intro x
    pointwise [joined]

/-- The joined values at an index. -/
theorem joinedV_apply (a : FVec Ideal S16x256x4x64 .f32) (c : FVec Ideal S16x2048x4x64 .f32) (b : Fin 16) (h : Fin 4) (d : Fin 64) :
    (∀ x : Fin 256, joinedV a c (ix4 b ⟨x.val, by omega⟩ h d) = a (ix4 b x h d))
    ∧ ∀ x : Fin 2048, joinedV a c (ix4 b ⟨256 + x.val, by omega⟩ h d) = c (ix4 b x h d) := by
  constructor
  · intro x
    pointwise [joinedV]
  · intro x
    pointwise [joinedV]

/-- The root of the head's width. -/
theorem root : Ideal.sqrt (Ideal.ofBits FTy.f32 0x42C00000#32) = ((Real.sqrt 96 : ℝ) : EReal) := by
  have e : Ideal.ofBits FTy.f32 0x42C00000#32 = ((96 : ℝ) : EReal) := by
    simp [Ideal.ofBits, Ideal.ieee]
    rw [← EReal.coe_mul]
    norm_num
  rw [e]
  rw [Ideal.sqrt_coe, if_neg (by norm_num)]

/-- The reference's scores at an index. -/
theorem scores_apply (q k : FVec Ideal S16x2048x4x96 .f32) (ck : FVec Ideal S16x256x4x96 .f32)
    (b : Fin 16) (h : Fin 4) (n : Fin 2048) (x : Fin 2304) :
    scores q k ck (ix4 b h n x) =
      (∑ d : Fin 96, joined ck k (ix4 b x h d) * q (ix4 b n h d)) * (((Real.sqrt 96)⁻¹ : ℝ) : EReal) := by
  pointwise [scores]
  rw [root, Ideal.div_coe (by positivity), one_div]
  simp only [mul_comm (q _) _]

/-- The bit pattern of minus infinity denotes `⊥`. -/
theorem negInf' : Ideal.ofBits FTy.f32 0xFF800000#32 = ⊥ := by
  simp [Ideal.ofBits, Ideal.ieee]

/-- The largest of a row, at an index. -/
theorem largest_apply (S : FVec Ideal S16x4x2048x2304 .f32) (i : FVec Ideal S_ .f32) (b : Fin 16) (h : Fin 4) (n : Fin 2048) :
    largest S i (ix3 b h n) = Finset.univ.fold max (i (Shape.Idx.first h_S_)) fun x : Fin 2304 => S (ix4 b h n x) := by
  unfold largest
  pointwise

/-- Nothing is below minus infinity. -/
theorem floored_apply (M : FVec Ideal S16x4x2048 .f32) (b : Fin 16) (h : Fin 4) (n : Fin 2048) :
    floored M (ix3 b h n) = M (ix3 b h n) := by
  pointwise [floored]
  rw [negInf', max_eq_right bot_le]

/-- The largest of a row, taken from minus infinity. -/
theorem largest_sup (L : FVec Ideal S16x4x2048 .f32) (S : FVec Ideal S16x4x2048x2304 .f32) (b : Fin 16) (h : Fin 4) (n : Fin 2048)
    (hl : L (ix3 b h n) = Finset.univ.fold max ((constant S_ .f32 0xFF800000#32 : FVec Ideal S_ .f32) (Shape.Idx.first h_S_))
      fun x : Fin 2304 => S (ix4 b h n x)) :
    L (ix3 b h n) = Finset.univ.sup fun x : Fin 2304 => S (ix4 b h n x) := by
  rw [hl]
  pointwise
  rw [negInf', fold_eq_sup]

/-- The largest score of a row, at an index. -/
theorem top_apply (S : FVec Ideal S16x4x2048x2304 .f32) (b : Fin 16) (h : Fin 4) (n : Fin 2048) :
    top S (ix3 b h n) = Finset.univ.sup fun x : Fin 2304 => S (ix4 b h n x) := by
  unfold top
  rw [floored_apply]
  exact largest_sup _ S b h n (largest_apply S _ b h n)

/-- A row's number at each key, at an index. -/
theorem across_apply (M : FVec Ideal S16x4x2048 .f32) (b : Fin 16) (h : Fin 4) (n : Fin 2048) (x : Fin 2304) :
    across M (ix4 b h n x) = M (ix3 b h n) := by
  pointwise [across]

/-- The sum of a row, at an index. -/
theorem total_apply (E : FVec Ideal S16x4x2048x2304 .f32) (b : Fin 16) (h : Fin 4) (n : Fin 2048) :
    total E (ix3 b h n) = ∑ x : Fin 2304, E (ix4 b h n x) := by
  pointwise [total]

/-- The weighted values, at an index. -/
theorem mixed_apply (V : FVec Ideal S16x2304x4x64 .f32) (W : FVec Ideal S16x4x2048x2304 .f32) (b : Fin 16) (h : Fin 4) (d : Fin 64) (n : Fin 2048) :
    mixed V W (ix4 b h d n) = ∑ x : Fin 2304, V (ix4 b x h d) * W (ix4 b h n x) := by
  pointwise [mixed]

/-- The layout of the result, at an index. -/
theorem laid_apply (O : FVec Ideal S16x4x64x2048 .f32) (b : Fin 16) (n : Fin 2048) (j : Fin 256) :
    laid O (ix3 b n j) = O (ix4 b ⟨j.val / 64, by omega⟩ ⟨j.val % 64, by omega⟩ n) := by
  pointwise [laid]

/-- The reference's result at an index: a row of attention. -/
theorem ref_row (q k : FVec Ideal S16x2048x4x96 .f32) (v : FVec Ideal S16x2048x4x64 .f32) (ck : FVec Ideal S16x256x4x96 .f32)
    (cv : FVec Ideal S16x256x4x64 .f32) (b : Fin 16) (n : Fin 2048) (j : Fin 256) :
    ref q k v ck cv (ix3 b n j) =
      attend (fun x : Fin 2304 => scores q k ck (ix4 b ⟨j.val / 64, by omega⟩ n x))
        (fun x => joinedV cv v (ix4 b x ⟨j.val / 64, by omega⟩ ⟨j.val % 64, by omega⟩)) := by
  have hE : ∀ (S : FVec Ideal S16x4x2048x2304 .f32) (h : Fin 4) (x : Fin 2304),
      exps S (ix4 b h n x) = Ideal.exp (S (ix4 b h n x) - Finset.univ.sup fun y : Fin 2304 => S (ix4 b h n y)) := by
    intro S h x
    pointwise [exps]
    rw [across_apply, top_apply]
  have hW : ∀ (E : FVec Ideal S16x4x2048x2304 .f32) (h : Fin 4) (x : Fin 2304),
      weights E (ix4 b h n x) = Ideal.div (E (ix4 b h n x)) (∑ y : Fin 2304, E (ix4 b h n y)) := by
    intro E h x
    pointwise [weights]
    rw [across_apply, total_apply]
  unfold ref attend
  rw [laid_apply, mixed_apply]
  refine Finset.sum_congr rfl fun x _ => ?_
  rw [hW]
  simp only [hE]
  rw [mul_comm]

end Cert.AttnB

end
-- ==== Proof.AttnB.Equation.lean ====
/- The kernel's rows and the reference's are the same numbers, when queries and keys are finite. -/
module

public import proofs.«01_k».proof.Proof.AttnB.Array
public import proofs.«01_k».proof.Proof.AttnB.Ref
public import proofs.«01_k».proof.Proof.Attn.Finite
public import proofs.«01_k».proof.Proof.Gen.Pre_finite_b

@[expose] public section

noncomputable section

namespace Cert.AttnB

open Idealize.ShloMosaic Cert.Attn Cert.KernelBIdeal

/-- The kernel's scale is the inverse root of the head's width over the logarithm of two. -/
theorem κs_eq : κs = (((Real.sqrt 96)⁻¹ * (Real.log 2)⁻¹ : ℝ) : EReal) :=
  IdealRules.named_const.ideal_named_scalar _ _ _ _ rfl

/-- What the precondition says: queries, keys and the context's keys hold reals. -/
theorem reals (q k : FVec Ideal S16x2048x4x96 .f32) (v : FVec Ideal S16x2048x4x64 .f32) (ck : FVec Ideal S16x256x4x96 .f32) (cv : FVec Ideal S16x256x4x64 .f32)
    (h : Cert.Pre_finite_b.fn (F := Ideal) q k v ck cv = fun _ => 1#1) :
    (∀ i, ∃ r : ℝ, q i = r) ∧ (∀ i, ∃ r : ℝ, k i = r) ∧ ∀ i, ∃ r : ℝ, ck i = r := by
  have e := congrFun h ix0
  obtain ⟨e1, e3⟩ := IntOp.andi_eq_one.1 e
  obtain ⟨e1, e2⟩ := IntOp.andi_eq_one.1 e1
  haveI : Subsingleton (Cert.Pre_finite_b.S_).Idx := ⟨fun a b => funext fun d => d.elim0⟩
  exact ⟨reals_of_all _ _ _ _ _ _ _ e1, reals_of_all _ _ _ _ _ _ _ e2, reals_of_all _ _ _ _ _ _ _ e3⟩

/-- The kernel's score of a key is the reference's over the logarithm of two, and the reference's is a real. -/
theorem score_eq (q k : FVec Ideal S16x2048x4x96 .f32) (ck : FVec Ideal S16x256x4x96 .f32)
    (hq : ∀ i, ∃ r : ℝ, q i = r) (hk : ∀ i, ∃ r : ℝ, k i = r) (hck : ∀ i, ∃ r : ℝ, ck i = r)
    (b : Fin 16) (n : Fin 2048) (h : Fin 4) (x : Fin 256 ⊕ Fin 2048) :
    (Sum.elim (fun x : Fin 256 => ∑ d : Fin 96, ck (ix4 b x h d) * (q (ix4 b n h d) * κs))
        (fun x : Fin 2048 => ∑ d : Fin 96, k (ix4 b x h d) * (q (ix4 b n h d) * κs)) : Fin 256 ⊕ Fin 2048 → EReal) x
        = (((Real.log 2)⁻¹ : ℝ) : EReal) * scores q k ck (ix4 b h n ((finSumFinEquiv : Fin 256 ⊕ Fin 2048 ≃ Fin 2304) x))
      ∧ ∃ y : ℝ, scores q k ck (ix4 b h n ((finSumFinEquiv : Fin 256 ⊕ Fin 2048 ≃ Fin 2304) x)) = y := by
  rw [scores_apply, κs_eq]
  rcases x with x | x
  · simp only [Sum.elim_inl]
    have e : ∀ d : Fin 96, joined ck k (ix4 b ((finSumFinEquiv : Fin 256 ⊕ Fin 2048 ≃ Fin 2304) (Sum.inl x)) h d) = ck (ix4 b x h d) :=
      fun d => (joined_apply ck k b h d).1 x
    simp only [e]
    exact scaled_sum _ _ (fun d => hck _) (fun d => hq _) _ _
  · simp only [Sum.elim_inr]
    have e : ∀ d : Fin 96, joined ck k (ix4 b ((finSumFinEquiv : Fin 256 ⊕ Fin 2048 ≃ Fin 2304) (Sum.inr x)) h d) = k (ix4 b x h d) :=
      fun d => (joined_apply ck k b h d).2 x
    simp only [e]
    exact scaled_sum _ _ (fun d => hk _) (fun d => hq _) _ _

/-- The kernel's row of attention is the reference's. -/
theorem krow_eq (q k : FVec Ideal S16x2048x4x96 .f32) (v : FVec Ideal S16x2048x4x64 .f32) (ck : FVec Ideal S16x256x4x96 .f32) (cv : FVec Ideal S16x256x4x64 .f32)
    (hq : ∀ i, ∃ r : ℝ, q i = r) (hk : ∀ i, ∃ r : ℝ, k i = r) (hck : ∀ i, ∃ r : ℝ, ck i = r)
    (b : Fin 16) (n : Fin 2048) (h : Fin 4) (l : Fin 64) :
    krow q k v ck cv b n h l = attend (fun x : Fin 2304 => scores q k ck (ix4 b h n x)) (fun x => joinedV cv v (ix4 b x h l)) := by
  rw [attend_equiv (finSumFinEquiv : Fin 256 ⊕ Fin 2048 ≃ Fin 2304)]
  unfold krow
  rw [show (Sum.elim (fun x => cv (ix4 b x h l)) (fun x => v (ix4 b x h l)) : Fin 256 ⊕ Fin 2048 → EReal)
      = fun x => joinedV cv v (ix4 b ((finSumFinEquiv : Fin 256 ⊕ Fin 2048 ≃ Fin 2304) x) h l) from by
    funext x
    rcases x with x | x
    · exact ((joinedV_apply cv v b h l).1 x).symm
    · exact ((joinedV_apply cv v b h l).2 x).symm]
  have hs := score_eq q k ck hq hk hck b n h
  refine attend2_eq _ _ _ (fun x => (hs x).1) (fun x => ?_) ⟨Sum.inl 0, ?_⟩
  · obtain ⟨y, hy⟩ := (hs x).2
    rw [hy]; exact EReal.coe_ne_top y
  · obtain ⟨y, hy⟩ := (hs (Sum.inl 0)).2
    rw [hy]; exact EReal.coe_ne_bot y

/-- The kernel's array is the reference's. -/
theorem kout_eq (q k : FVec Ideal S16x2048x4x96 .f32) (v : FVec Ideal S16x2048x4x64 .f32) (ck : FVec Ideal S16x256x4x96 .f32) (cv : FVec Ideal S16x256x4x64 .f32)
    (hq : ∀ i, ∃ r : ℝ, q i = r) (hk : ∀ i, ∃ r : ℝ, k i = r) (hck : ∀ i, ∃ r : ℝ, ck i = r) :
    kout q k v ck cv = ref q k v ck cv := by
  funext i
  obtain ⟨b, n, j, rfl⟩ : ∃ (b : Fin 16) (n : Fin 2048) (j : Fin 256), i = ix3 b n j :=
    ⟨i 0, i 1, i 2, by funext d; fin_cases d <;> rfl⟩
  rw [ref_row]
  exact krow_eq q k v ck cv hq hk hck b n _ _

end Cert.AttnB

end
-- ==== Proof.AttnB.Claims.lean ====
/- The claims of the attention over the whole sequence and the context, the heads of 96 lanes padded to 128. -/
module

public import proofs.«01_k».proof.Defs
public import proofs.«01_k».proof.Proof.AttnB.Equation
public import proofs.«01_k».proof.Proof.Gen.KernelB.Frame
public import proofs.«01_k».proof.Proof.Gen.KernelBIdeal.Frame
public import proofs.«01_k».proof.Proof.Gen.ReferenceBIdeal.Run

@[expose] public section

noncomputable section

namespace Cert.AttnB

open Idealize.ShloMosaic Idealize.SL.Sem

/-- The kernel runs, keeps its arguments and ends at rest. -/
theorem frame_p : Cert.quiescent_KernelB := fun m ρ _ => Cert.KernelB.Gen.frame m ρ

/-- So does the idealized kernel. -/
theorem frame_pi : Cert.quiescent_KernelBIdeal := fun m ρ _ => Cert.KernelBIdeal.Gen.frame m ρ

/-- The reference runs, keeps its arguments and ends at rest. -/
theorem frame_ri : Cert.quiescent_ReferenceBIdeal := fun m ρ _ =>
  (θ_run Cert.ReferenceBIdeal.defs _ _).mono (fun r h => ⟨fun c => (h c).2,
      Idealize.ShloMosaic.sem_eq_zero_of_no_sems (by decide) r.2⟩)
    (Cert.ReferenceBIdeal.Value.run (F := Ideal) m ρ)

/-- The named constants denote their values. -/
theorem preserves : Cert.preserves_KernelB_KernelBIdeal :=
  IdealRules.named_const.statement Cert.KernelBIdeal.κ "scale" .f32 0x3E16C740#32 (((Real.sqrt 96)⁻¹ * (Real.log 2)⁻¹ : ℝ) : EReal) rfl

/-- The idealized kernel's frame, under the precondition. -/
theorem frame_pi_pre : Cert.quiescent_KernelBIdeal_pre_finite_b := fun m ρ _ => Cert.KernelBIdeal.Gen.frame m ρ

/-- The reference's, under the precondition. -/
theorem frame_ri_pre : Cert.quiescent_ReferenceBIdeal_pre_finite_b := fun m ρ _ => frame_ri m ρ trivial

/-- The kernel's result is the reference's. -/
theorem algebraic : Cert.algebraic_KernelBIdeal_ReferenceBIdeal_pre_finite_b := by
  intro m ρ m' ρ' hpre hagree
  refine ⟨fun c => kout (m ((c.tc : Thread Cert.KernelBIdeal.nD Cert.KernelBIdeal.τ).loc Cert.KernelBIdeal.main_arg0))
    (m ((c.tc : Thread Cert.KernelBIdeal.nD Cert.KernelBIdeal.τ).loc Cert.KernelBIdeal.main_arg1))
    (m ((c.tc : Thread Cert.KernelBIdeal.nD Cert.KernelBIdeal.τ).loc Cert.KernelBIdeal.main_arg2))
    (m ((c.tc : Thread Cert.KernelBIdeal.nD Cert.KernelBIdeal.τ).loc Cert.KernelBIdeal.main_arg3))
    (m ((c.tc : Thread Cert.KernelBIdeal.nD Cert.KernelBIdeal.τ).loc Cert.KernelBIdeal.main_arg4)), ?_, ?_⟩
  · exact (θ_run Cert.KernelBIdeal.defs _ _).mono
      (fun _ h c => ⟨(h c).1.trans (final m c _ _ _ _ _ rfl rfl rfl rfl rfl), (h c).2⟩)
      (Cert.KernelBIdeal.Value.run_blocks m ρ)
  refine (θ_run Cert.ReferenceBIdeal.defs _ _).mono (fun _ h c => ⟨(h c).1.trans ?_, (h c).2⟩)
    (Cert.ReferenceBIdeal.Value.run (F := Ideal) m' ρ')
  obtain ⟨e0, e1, e2, e3, e4⟩ := hagree c
  rw [e0, e1, e2, e3, e4]
  obtain ⟨hq, hk, hck⟩ := reals _ _ _ _ _ (hpre c)
  refine Eq.trans ?_ (kout_eq _ _ _ _ _ hq hk hck).symm
  rfl

end Cert.AttnB

end
-- ==== Proof.AttnA.Claims.lean ====
/- The claims of the windowed attention with a sink. -/
module

public import proofs.«01_k».proof.Defs
public import proofs.«01_k».proof.Proof.Gen.KernelA.Frame
public import proofs.«01_k».proof.Proof.Gen.KernelAIdeal.Frame
public import proofs.«01_k».proof.Proof.Gen.ReferenceAIdeal.Run

@[expose] public section

noncomputable section

namespace Cert.AttnA

open Idealize.ShloMosaic Idealize.SL.Sem

/-- The kernel runs, keeps its arguments and ends at rest. -/
theorem frame_p : Cert.quiescent_KernelA := fun m ρ _ => Cert.KernelA.Gen.frame m ρ

/-- So does the idealized kernel. -/
theorem frame_pi : Cert.quiescent_KernelAIdeal := fun m ρ _ => Cert.KernelAIdeal.Gen.frame m ρ

/-- The reference runs, keeps its arguments and ends at rest. -/
theorem frame_ri : Cert.quiescent_ReferenceAIdeal := fun m ρ _ =>
  (θ_run Cert.ReferenceAIdeal.defs _ _).mono (fun r h => ⟨fun c => (h c).2,
      Idealize.ShloMosaic.sem_eq_zero_of_no_sems (by decide) r.2⟩)
    (Cert.ReferenceAIdeal.Value.run (F := Ideal) m ρ)

/-- The named constants denote their values. -/
theorem preserves : Cert.preserves_KernelA_KernelAIdeal :=
  ⟨IdealRules.named_const.statement Cert.KernelAIdeal.κ "scale" .f32 0x3E38AA3B#32 (((1 / 8) * (Real.log 2)⁻¹ : ℝ) : EReal) rfl,
    IdealRules.named_const.statement Cert.KernelAIdeal.κ "log2e" .f32 0x3FB8AA3B#32 (((Real.log 2)⁻¹ : ℝ) : EReal) rfl,
    IdealRules.named_const.statement Cert.KernelAIdeal.κ "mask" .f32 0xF149F2CA#32 (⊥ : EReal) rfl⟩

end Cert.AttnA

end
-- ==== Proof.Merge.Row.lean ====
/- One token's row through the merge: the gated sum of the branches, the residual's layer norm, the second modulation and the router. -/
module

public import Idealize.ShloMosaic.PureOps.Ideal

@[expose] public section

noncomputable section

namespace Cert.Merge

open Idealize.ShloMosaic

/-- A row scaled by one plus `sc` and moved by `sh`. -/
def modulate (x sc sh : Fin 1024 → EReal) (d : Fin 1024) : EReal := x d * (1 + sc d) + sh d

/-- The logistic function of a product of a row with a column. -/
def gate (h w : Fin 1024 → EReal) : EReal := Ideal.div 1 (1 + Ideal.exp (-∑ k, h k * w k))

/-- The mean of a row. -/
def mean (z : Fin 1024 → EReal) : EReal := Ideal.div (∑ k, z k) (Ideal.ofBits FTy.f32 0x44800000#32)

/-- A row's layer norm, with gain `g` and bias `b`. -/
def norm (z g b : Fin 1024 → EReal) (d : Fin 1024) : EReal :=
  (z d - mean z) * Ideal.rsqrt (mean (fun k => (z k - mean z) * (z k - mean z)) + Ideal.ofBits FTy.f32 0x3727C5AC#32) * g d + b d

/-- The softmax of 128 lanes. -/
def soft (L : Fin 128 → EReal) (j : Fin 128) : EReal :=
  Ideal.div (Ideal.exp (L j - Finset.univ.sup L)) (∑ i, Ideal.exp (L i - Finset.univ.sup L))

/-- What one token's row is computed from: the branches' projections, the row, the modulations, the layer norm's gain and bias, the
    gates' weights, the output's, the router's. -/
structure Row where
  pa : Fin 1024 → EReal
  pb : Fin 1024 → EReal
  pc : Fin 1024 → EReal
  x : Fin 1024 → EReal
  sc1 : Fin 1024 → EReal
  sh1 : Fin 1024 → EReal
  g1 : Fin 1024 → EReal
  sc2 : Fin 1024 → EReal
  sh2 : Fin 1024 → EReal
  lg : Fin 1024 → EReal
  lb : Fin 1024 → EReal
  wg : Fin 1024 → Fin 3072 → EReal
  wo : Fin 1024 → Fin 1024 → EReal
  wr : Fin 1024 → Fin 16 → EReal

variable (r : Row)

/-- The row as the gates see it. -/
def Row.h1 : Fin 1024 → EReal := modulate r.x r.sc1 r.sh1

/-- The branches' projections, each under its gate, added up. -/
def Row.merged (d : Fin 1024) : EReal :=
  gate r.h1 (fun k => r.wg k ⟨d.val, by omega⟩) * r.pa d + gate r.h1 (fun k => r.wg k ⟨1024 + d.val, by omega⟩) * r.pb d
    + gate r.h1 (fun k => r.wg k ⟨2048 + d.val, by omega⟩) * r.pc d

/-- The residual sum. -/
def Row.total (d : Fin 1024) : EReal := Ideal.ofBits FTy.f32 0x3FB504F3#32 * r.x d + r.g1 d * ∑ k, r.merged k * r.wo k d

/-- The first result: the residual sum's layer norm. -/
def Row.x1 : Fin 1024 → EReal := norm r.total r.lg r.lb

/-- The second result: the first one modulated. -/
def Row.h2 : Fin 1024 → EReal := modulate r.x1 r.sc2 r.sh2

/-- The router's logits, minus infinity past the 16 experts. -/
def Row.logit (j : Fin 128) : EReal := if h : j.val < 16 then ∑ k, r.h2 k * r.wr k ⟨j.val, h⟩ else ⊥

/-- The third result: the affinities. -/
def Row.aff : Fin 128 → EReal := soft r.logit

end Cert.Merge

end
-- ==== Proof.Merge.Block.lean ====
/- One block of the merge (512 tokens of a sample), read at an index: each of its three results is a token's row. -/
module

public import proofs.«01_k».proof.Proof.Gen.KernelMIdeal.Value
public import proofs.«01_k».proof.Proof.Merge.Row
public import proofs.«01_k».proof.Proof.Attn.Softmax
public import Idealize.ShloMosaic.Lib.Pointwise
public import Idealize.ShloMosaic.Lib.Pipeline.ValueKit

@[expose] public section

set_option maxRecDepth 16384

noncomputable section

namespace Cert.Merge

open Cert.KernelMIdeal Cert.KernelMIdeal.Gen Idealize.ShloMosaic Cert.Attn

/-- The row as the gates see it. -/
theorem h1_apply (x : Vec Ideal S1x512x1024 .f32) (sc sh : Vec Ideal S1x1x1024 .f32) (s : Fin 512) (j : Fin 1024) :
    k0_pay5 (F := Ideal) x sc sh (ix2 s j)
      = modulate (fun d => x (ix3 0 s d)) (fun d => sc (ix3 0 0 d)) (fun d => sh (ix3 0 0 d)) j := by
  pointwise [k0_pay5, k0_pay4]
  rfl

/-- The first branch under its gate. -/
theorem first_apply (x : Vec Ideal S1x512x1024 .f32) (sc sh : Vec Ideal S1x1x1024 .f32) (wg : Vec Ideal S1024x1024 .bf16)
    (o : Vec Ideal S1x512x384 .bf16) (w : Vec Ideal S384x1024 .bf16) (s : Fin 512) (j : Fin 1024) :
    k0_pay6 (F := Ideal) x sc sh wg o w (ix2 s j)
      = gate (modulate (fun d => x (ix3 0 s d)) (fun d => sc (ix3 0 0 d)) (fun d => sh (ix3 0 0 d))) (fun k => wg (ix2 k j))
          * ∑ i, o (ix3 0 s i) * w (ix2 i j) := by
  pointwise [k0_pay6, k0_pay5, k0_pay4]
  simp only [zero_sub]
  rfl

/-- The other two branches under their gates, added to the first. -/
theorem merged_apply (h : FVec Ideal S512x1024 .bf16) (p : FVec Ideal S512x1024 .f32) (w1 : FVec Ideal S1024x1024 .bf16)
    (ob : Vec Ideal S1x512x256 .bf16) (wb : Vec Ideal S256x1024 .bf16) (w2 : Vec Ideal S1024x1024 .bf16)
    (oc : Vec Ideal S1x512x384 .bf16) (wc : Vec Ideal S384x1024 .bf16) (s : Fin 512) (j : Fin 1024) :
    k0_pay8 (F := Ideal) h p w1 ob wb w2 oc wc (ix2 s j)
      = p (ix2 s j) + gate (fun k => h (ix2 s k)) (fun k => w1 (ix2 k j)) * (∑ i, ob (ix3 0 s i) * wb (ix2 i j))
        + gate (fun k => h (ix2 s k)) (fun k => w2 (ix2 k j)) * (∑ i, oc (ix3 0 s i) * wc (ix2 i j)) := by
  pointwise [k0_pay8]
  simp only [zero_sub]
  rfl

/-- The residual sum's layer norm. -/
theorem norm_apply (x : FVec Ideal S512x1024 .f32) (m : FVec Ideal S512x1024 .bf16) (w : FVec Ideal S1024x1024 .bf16)
    (g1 : Vec Ideal S1x1x1024 .f32) (lg lb : Vec Ideal S1x1024 .f32) (s : Fin 512) (j : Fin 1024) :
    k0_pay10 (F := Ideal) x m w (constant S512x1024 .f32 0x00000000#32) g1 lg lb (ix2 s j)
      = norm (fun d => Ideal.ofBits FTy.f32 0x3FB504F3#32 * x (ix2 s d) + g1 (ix3 0 0 d) * ∑ k, m (ix2 s k) * w (ix2 k d))
          (fun d => lg (ix2 0 d)) (fun d => lb (ix2 0 d)) j := by
  pointwise [k0_pay10]
  rfl

/-- The second modulation. -/
theorem h2_apply (x : FVec Ideal S512x1024 .f32) (c : Vec Ideal S1x1x1024 .f32) (sh : Vec Ideal S1x1x1024 .f32) (s : Fin 512) (j : Fin 1024) :
    k0_pay1 (F := Ideal) x (k0_pay12 c) sh (ix2 s j)
      = modulate (fun d => x (ix2 s d)) (fun d => c (ix3 0 0 d)) (fun d => sh (ix3 0 0 d)) j := by
  pointwise [k0_pay1, k0_pay12]
  rfl

/-- The masked lanes' value is minus infinity. -/
theorem mask_eq : Named.named (F := Ideal) κ "mask" (φ := .f32) 0xF149F2CA#32 = ⊥ :=
  IdealRules.named_const.ideal_named_scalar _ _ _ _ rfl

/-- The bit pattern of minus infinity denotes `⊥`. -/
theorem negInf : Ideal.ofBits FTy.f32 0xFF800000#32 = ⊥ := by
  simp [Ideal.ofBits, Ideal.ieee]

/-- Which lanes are experts. -/
theorem keep (d : Fin 128) (a b : EReal) :
    Scalar.select (IntOp.cmpi CmpIPredicate.slt (BitVec.ofNat 32 d.val) 16#32) a b = if d.val < 16 then a else b := by
  have key : ∀ d : Fin 128, IntOp.cmpi CmpIPredicate.slt (BitVec.ofNat 32 d.val) 16#32
      = if d.val < 16 then 1#1 else 0#1 := by decide +kernel
  rw [key d]
  split_ifs <;> rfl

/-- The affinities: the softmax of the logits, minus infinity past the experts. -/
theorem aff_apply (x : FVec Ideal S512x1024 .f32) (c : Vec Ideal S1x1x1024 .f32) (sh : Vec Ideal S1x1x1024 .f32)
    (w : Vec Ideal S1024x128 .bf16) (s : Fin 512) (j : Fin 128) :
    k0_pay3 (F := Ideal) x (k0_pay12 c) sh w (ix3 0 s j)
      = soft (fun i => if i.val < 16 then
          ∑ k, modulate (fun d => x (ix2 s d)) (fun d => c (ix3 0 0 d)) (fun d => sh (ix3 0 0 d)) k * w (ix2 k i) else ⊥) j := by
  pointwise [k0_pay3, k0_pay1, k0_pay12]
  simp only [keep, mask_eq, negInf, fold_eq_sup]
  rfl

variable (x0 : Vec Ideal S1x512x384 .bf16) (x1 : Vec Ideal S1x512x256 .bf16) (x2 : Vec Ideal S1x512x384 .bf16) (x3 : Vec Ideal S1x512x1024 .f32)
  (x4 x5 x6 x7 x8 : Vec Ideal S1x1x1024 .f32) (x9 x10 : Vec Ideal S1x1024 .f32) (x11 : Vec Ideal S1024x3072 .bf16)
  (x12 : Vec Ideal S384x1024 .bf16) (x13 : Vec Ideal S256x1024 .bf16) (x14 : Vec Ideal S384x1024 .bf16) (x15 : Vec Ideal S1024x1024 .bf16)
  (x16 : Vec Ideal S1024x128 .bf16)

/-- Token `s` of a block, as a row. -/
def brow (s : Fin 512) : Row where
  pa d := ∑ i, x0 (ix3 0 s i) * x12 (ix2 i d)
  pb d := ∑ i, x1 (ix3 0 s i) * x13 (ix2 i d)
  pc d := ∑ i, x2 (ix3 0 s i) * x14 (ix2 i d)
  x d := x3 (ix3 0 s d)
  sc1 d := x4 (ix3 0 0 d)
  sh1 d := x5 (ix3 0 0 d)
  g1 d := x6 (ix3 0 0 d)
  sc2 d := x7 (ix3 0 0 d)
  sh2 d := x8 (ix3 0 0 d)
  lg d := x9 (ix2 0 d)
  lb d := x10 (ix2 0 d)
  wg k j := x11 (ix2 k j)
  wo k d := x15 (ix2 k d)
  wr k e := x16 (ix2 k ⟨e.val, by omega⟩)

/-- Three zero offsets are the zero offsets. -/
theorem hz3 : (![0, 0, 0] : Fin 3 → Nat) = fun _ => 0 := funext fun a => by fin_cases a <;> rfl

/-- Two are. -/
theorem hz2 : (![0, 0] : Fin 2 → Nat) = fun _ => 0 := funext fun a => by fin_cases a <;> rfl

/-- A whole block, as loaded. -/
theorem ld_0 (x : Vec Ideal S1x512x1024 .f32) : View.ld x r0_0 = x := by rw [View.ld_unit_zero hz3]

/-- A whole block, as loaded. -/
theorem ld_1 (x : Vec Ideal S1x1x1024 .f32) : View.ld x r0_1 = x := by rw [View.ld_unit_zero hz3]

/-- A whole block, as loaded. -/
theorem ld_3 (x : Vec Ideal S1x512x384 .bf16) : View.ld x r0_3 = x := by rw [View.ld_unit_zero hz3]

/-- A whole block, as loaded. -/
theorem ld_4 (x : Vec Ideal S384x1024 .bf16) : View.ld x r0_4 = x := by rw [View.ld_unit_zero hz2]

/-- A whole block, as loaded. -/
theorem ld_6 (x : Vec Ideal S1x512x256 .bf16) : View.ld x r0_6 = x := by rw [View.ld_unit_zero hz3]

/-- A whole block, as loaded. -/
theorem ld_7 (x : Vec Ideal S256x1024 .bf16) : View.ld x r0_7 = x := by rw [View.ld_unit_zero hz2]

/-- A whole block, as loaded. -/
theorem ld_9 (x : Vec Ideal S1024x1024 .bf16) : View.ld x r0_9 = x := by rw [View.ld_unit_zero hz2]

/-- A whole block, as loaded. -/
theorem ld_10 (x : Vec Ideal S1x1024 .f32) : View.ld x r0_10 = x := by rw [View.ld_unit_zero hz2]

/-- A whole block, as loaded. -/
theorem ld_11 (x : Vec Ideal S1024x128 .bf16) : View.ld x r0_11 = x := by rw [View.ld_unit_zero hz2]

/-- A third of the gates' weights, as loaded. -/
theorem ld_wg (o : Nat) (inb) (k d : Fin 1024) (h : o + d.val < 3072) :
    View.ld x11 (Rect.unit (s := S1024x3072) ![0, o] S1024x1024.size inb) (ix2 k d) = x11 (ix2 k ⟨o + d.val, h⟩) := by
  refine Idealize.ShloMosaic.View.ld_unit_apply_of _ _ _ _ _ _ fun a => ?_
  fin_cases a <;> simp [ix2]

/-- Casting a matrix to its own shape does nothing. -/
theorem same_apply (w : Vec Ideal S1024x1024 .bf16) (i j : Fin 1024) : k0_pay7 (F := Ideal) w (ix2 i j) = w (ix2 i j) := by
  pointwise [k0_pay7]

/-- Nor does it here. -/
theorem same_apply' (w : Vec Ideal S1024x1024 .bf16) (i j : Fin 1024) : k0_pay9 (F := Ideal) w (ix2 i j) = w (ix2 i j) := by
  pointwise [k0_pay9]

/-- A token's row, its leading one dropped. -/
theorem token_apply (x : Vec Ideal S1x512x1024 .f32) (s : Fin 512) (d : Fin 1024) : k0_pay4 (F := Ideal) x (ix2 s d) = x (ix3 0 s d) := by
  pointwise [k0_pay4]

/-- The branches' gated sum, at an index. -/
theorem pay15_apply (s : Fin 512) (d : Fin 1024) :
    k0_pay15 (F := Ideal) x0 x1 x2 x3 x4 x5 x6 x7 x8 x9 x10 x11 x12 x13 x14 x15 x16 (ix2 s d)
      = (brow x0 x1 x2 x3 x4 x5 x6 x7 x8 x9 x10 x11 x12 x13 x14 x15 x16 s).merged d := by
  have l0 : ∀ k : Fin 1024, View.ld x11 r0_2 (ix2 k d) = x11 (ix2 k ⟨0 + d.val, by omega⟩) := fun k => ld_wg x11 0 _ k d (by omega)
  have l1 : ∀ k : Fin 1024, View.ld x11 r0_5 (ix2 k d) = x11 (ix2 k ⟨1024 + d.val, by omega⟩) := fun k => ld_wg x11 1024 _ k d (by omega)
  have l2 : ∀ k : Fin 1024, View.ld x11 r0_8 (ix2 k d) = x11 (ix2 k ⟨2048 + d.val, by omega⟩) := fun k => ld_wg x11 2048 _ k d (by omega)
  unfold k0_pay15
  rw [ld_0 x3, ld_1 x4, ld_1 x5, ld_3 x0, ld_3 x2, ld_4 x12, ld_4 x14, ld_6 x1, ld_7 x13, merged_apply, first_apply]
  simp only [h1_apply, same_apply, l0, l1, l2, Nat.zero_add]
  rfl

/-- The first result before its layout, at an index. -/
theorem pay17_apply (s : Fin 512) (d : Fin 1024) :
    k0_pay17 (F := Ideal) x0 x1 x2 x3 x4 x5 x6 x7 x8 x9 x10 x11 x12 x13 x14 x15 x16 (ix2 s d)
      = (brow x0 x1 x2 x3 x4 x5 x6 x7 x8 x9 x10 x11 x12 x13 x14 x15 x16 s).x1 d := by
  unfold k0_pay17 k0_pay14 k0_pay13 k0_pay16
  rw [ld_0 x3, ld_1 x6, ld_9 x15, ld_10 x9, ld_10 x10, norm_apply]
  simp only [pay15_apply, same_apply', token_apply]
  rfl

/-- A block's first result. -/
theorem out17_apply (s : Fin 512) (d : Fin 1024) :
    out0_17 (F := Ideal) x0 x1 x2 x3 x4 x5 x6 x7 x8 x9 x10 x11 x12 x13 x14 x15 x16 (ix3 0 s d)
      = (brow x0 x1 x2 x3 x4 x5 x6 x7 x8 x9 x10 x11 x12 x13 x14 x15 x16 s).x1 d := by
  have e := pay17_apply x0 x1 x2 x3 x4 x5 x6 x7 x8 x9 x10 x11 x12 x13 x14 x15 x16 s d
  unfold k0_pay17 at e
  unfold out0_17
  rw [View.canon_unit_zero hz3]
  refine Eq.trans ?_ e
  pointwise [k0_pay11]

/-- A block's second result. -/
theorem out18_apply (s : Fin 512) (d : Fin 1024) :
    out0_18 (F := Ideal) x0 x1 x2 x3 x4 x5 x6 x7 x8 x9 x10 x11 x12 x13 x14 x15 x16 (ix3 0 s d)
      = (brow x0 x1 x2 x3 x4 x5 x6 x7 x8 x9 x10 x11 x12 x13 x14 x15 x16 s).h2 d := by
  unfold out0_18 k0_pay18
  rw [View.canon_unit_zero hz3]
  have e : ∀ (a : FVec Ideal S512x1024 .f32) (b : FVec Ideal S1x1024 .f32) (c : Vec Ideal S1x1x1024 .f32),
      k0_pay2 (F := Ideal) a b c (ix3 0 s d) = k0_pay1 (F := Ideal) a b c (ix2 s d) := by
    intro a b c
    unfold k0_pay2
    pointwise
  rw [ld_1 x7, ld_1 x8, e, h2_apply]
  simp only [pay17_apply]
  rfl

/-- A block's third result. -/
theorem out19_apply (s : Fin 512) (j : Fin 128) :
    out0_19 (F := Ideal) x0 x1 x2 x3 x4 x5 x6 x7 x8 x9 x10 x11 x12 x13 x14 x15 x16 (ix3 0 s j)
      = (brow x0 x1 x2 x3 x4 x5 x6 x7 x8 x9 x10 x11 x12 x13 x14 x15 x16 s).aff j := by
  unfold out0_19 k0_pay18
  rw [View.canon_unit_zero hz3, ld_1 x7, ld_1 x8, ld_11 x16, aff_apply]
  simp only [pay17_apply]
  unfold Row.aff
  congr 1

end Cert.Merge

end
-- ==== Proof.Merge.Args.lean ====
/- The rows over the arguments as numbers. -/
module

public import proofs.«01_k».proof.Proof.Merge.Row
public import proofs.«01_k».proof.KernelMIdeal
public import Idealize.ShloMosaic.Lib.Pointwise

@[expose] public section

set_option maxRecDepth 16384

noncomputable section

namespace Cert.Merge

open Cert.KernelMIdeal Idealize.ShloMosaic

/-- The arguments, in their order. -/
structure Args where
  oa : Fin 16 → Fin 2048 → Fin 384 → EReal
  ob : Fin 16 → Fin 2048 → Fin 256 → EReal
  oc : Fin 16 → Fin 2048 → Fin 384 → EReal
  x : Fin 16 → Fin 2048 → Fin 1024 → EReal
  sh1 : Fin 16 → Fin 1024 → EReal
  sc1 : Fin 16 → Fin 1024 → EReal
  g1 : Fin 16 → Fin 1024 → EReal
  sh2 : Fin 16 → Fin 1024 → EReal
  sc2 : Fin 16 → Fin 1024 → EReal
  lg : Fin 1024 → EReal
  lb : Fin 1024 → EReal
  wg : Fin 1024 → Fin 3072 → EReal
  wbr : Fin 1024 → Fin 1024 → EReal
  wo : Fin 1024 → Fin 1024 → EReal
  wr : Fin 1024 → Fin 16 → EReal

/-- Token `n` of sample `b`, as a row. -/
def Args.row (a : Args) (b : Fin 16) (n : Fin 2048) : Row where
  pa d := ∑ i : Fin 384, a.oa b n i * a.wbr ⟨i.val, by omega⟩ d
  pb d := ∑ i : Fin 256, a.ob b n i * a.wbr ⟨384 + i.val, by omega⟩ d
  pc d := ∑ i : Fin 384, a.oc b n i * a.wbr ⟨640 + i.val, by omega⟩ d
  x := a.x b n
  sc1 := a.sc1 b
  sh1 := a.sh1 b
  g1 := a.g1 b
  sc2 := a.sc2 b
  sh2 := a.sh2 b
  lg := a.lg
  lb := a.lb
  wg := a.wg
  wo := a.wo
  wr := a.wr

/-- The first result's array. -/
def Args.x1 (a : Args) : FVec Ideal S16x2048x1024 .f32 := fun i => (a.row (i 0) (i 1)).x1 (i 2)

/-- The second result's. -/
def Args.h2 (a : Args) : FVec Ideal S16x2048x1024 .bf16 := fun i => (a.row (i 0) (i 1)).h2 (i 2)

/-- The third's. -/
def Args.aff (a : Args) : FVec Ideal S16x2048x128 .f32 := fun i => (a.row (i 0) (i 1)).aff (i 2)

/-- The arguments' numbers, from their arrays. -/
def pack (oa : FVec Ideal S16x2048x384 .f32) (ob : FVec Ideal S16x2048x256 .f32) (oc : FVec Ideal S16x2048x384 .f32) (x : FVec Ideal S16x2048x1024 .f32) (sh1 : FVec Ideal S16x1024 .f32) (sc1 : FVec Ideal S16x1024 .f32) (g1 : FVec Ideal S16x1024 .f32) (sh2 : FVec Ideal S16x1024 .f32) (sc2 : FVec Ideal S16x1024 .f32) (lg : FVec Ideal S1024 .f32) (lb : FVec Ideal S1024 .f32) (wg : FVec Ideal S1024x3072 .f32) (wbr : FVec Ideal S1024x1024 .f32) (wo : FVec Ideal S1024x1024 .f32) (wr : FVec Ideal S1024x16 .f32) : Args where
  oa i j k := oa (ix3 i j k)
  ob i j k := ob (ix3 i j k)
  oc i j k := oc (ix3 i j k)
  x i j k := x (ix3 i j k)
  sh1 i j := sh1 (ix2 i j)
  sc1 i j := sc1 (ix2 i j)
  g1 i j := g1 (ix2 i j)
  sh2 i j := sh2 (ix2 i j)
  sc2 i j := sc2 (ix2 i j)
  lg i := lg (ix1 i)
  lb i := lb (ix1 i)
  wg i j := wg (ix2 i j)
  wbr i j := wbr (ix2 i j)
  wo i j := wo (ix2 i j)
  wr i j := wr (ix2 i j)

/-- The lane of a head's result that the kernel's lane `j` holds: its heads lie in the other order. -/
def lane (j : Fin 384) : Fin 384 := ⟨j.val / 64 % 2 * 192 + j.val / 128 * 64 + j.val % 64, by omega⟩

/-- Where a lane of a head's result lies. -/
def unlane (i : Fin 384) : Fin 384 := ⟨i.val / 64 % 3 * 128 + i.val / 192 * 64 + i.val % 64, by omega⟩

/-- The one undoes the other. -/
theorem unlane_lane : ∀ j : Fin 384, unlane (lane j) = j := by decide +kernel

/-- And the other way round. -/
theorem lane_unlane : ∀ i : Fin 384, lane (unlane i) = i := by decide +kernel

/-- The order of the lanes is a rearrangement. -/
def lanes : Fin 384 ≃ Fin 384 := ⟨lane, unlane, unlane_lane, lane_unlane⟩

/-- A sum over the lanes does not depend on their order. -/
theorem lane_sum (f : Fin 384 → EReal) : ∑ j, f (lane j) = ∑ i, f i := Equiv.sum_comp lanes f

end Cert.Merge

end
-- ==== Proof.Merge.Window.lean ====
/- The merge kernel's windows at each point, as rows over its arguments. -/
module

public import proofs.«01_k».proof.Proof.Merge.Block
public import proofs.«01_k».proof.Proof.Merge.Args
public import Idealize.ShloMosaic.Lib.Pipeline.ValueKit
public import Idealize.ShloMosaic.Lib.Claim

@[expose] public section

set_option maxRecDepth 16384

noncomputable section

namespace Cert.Merge

open Cert.KernelMIdeal Cert.KernelMIdeal.Gen Idealize.ShloMosaic Idealize.ShloMosaic.TcCoe Idealize.SL.Sem
open Idealize.ShloMosaic.Pipeline (Dat)

variable (m : (ℓ : Loc nD τ sig) → Buf (Elt Ideal) ℓ)

/-- The windows' block indices at grid point `t`, decided: the tokens'. -/
theorem idxT : ∀ t : Fin cfg0.N, win0_0.index t = ![t.val / 4, t.val % 4, 0] ∧ win0_1.index t = ![t.val / 4, t.val % 4, 0] ∧ win0_2.index t = ![t.val / 4, t.val % 4, 0] ∧ win0_3.index t = ![t.val / 4, t.val % 4, 0] ∧ win0_17.index t = ![t.val / 4, t.val % 4, 0] ∧ win0_18.index t = ![t.val / 4, t.val % 4, 0] ∧ win0_19.index t = ![t.val / 4, t.val % 4, 0] ∧ t.val / 4 < 16 :=
  (by decide +kernel : ∀ t : Fin grid0.N, _)

/-- The samples'. -/
theorem idxS : ∀ t : Fin cfg0.N, win0_4.index t = ![t.val / 4, 0, 0] ∧ win0_5.index t = ![t.val / 4, 0, 0] ∧ win0_6.index t = ![t.val / 4, 0, 0] ∧ win0_7.index t = ![t.val / 4, 0, 0] ∧ win0_8.index t = ![t.val / 4, 0, 0] ∧ t.val / 4 < 16 :=
  (by decide +kernel : ∀ t : Fin grid0.N, _)

/-- The whole arrays'. -/
theorem idxW : ∀ t : Fin cfg0.N, win0_9.index t = ![0, 0] ∧ win0_10.index t = ![0, 0] ∧ win0_11.index t = ![0, 0] ∧ win0_12.index t = ![0, 0] ∧ win0_13.index t = ![0, 0] ∧ win0_14.index t = ![0, 0] ∧ win0_15.index t = ![0, 0] ∧ win0_16.index t = ![0, 0] :=
  (by decide +kernel : ∀ t : Fin grid0.N, _)

/-- The sample at point `t`. -/
def smp (t : Fin cfg0.N) : Fin 16 := ⟨t.val / 4, (idxS t).2.2.2.2.2⟩

/-- The token at point `t` and block row `s`. -/
def tok (t : Fin cfg0.N) (s : Fin 512) : Fin 2048 := ⟨512 * (t.val % 4) + s.val, by omega⟩

/-- The first branch's array as the region finds it. -/
theorem V_oa (c : Dev nD) (A : FVec Ideal S16x2048x384 .f32) (hA : m ((c : Thread nD τ).loc main_arg0) = A) (b : Fin 16) (n : Fin 2048) (j : Fin 384) :
    (V m c main_v4 : FVec Ideal S16x2048x384 .bf16) (ix3 b n j) = A (ix3 b n (lane j)) := by
  unfold V
  simp only [hostOps0, hostOps0_1, hostOps0_2, List.flatten_cons, List.flatten_nil, List.append_nil, List.cons_append, List.nil_append]
  entry_read
  rw [hA]
  pointwise
  rfl

/-- The second branch's array as the region finds it. -/
theorem V_ob (c : Dev nD) (A : FVec Ideal S16x2048x256 .f32) (hA : m ((c : Thread nD τ).loc main_arg1) = A) (b : Fin 16) (n : Fin 2048) (j : Fin 256) :
    (V m c main_v5 : FVec Ideal S16x2048x256 .bf16) (ix3 b n j) = A (ix3 b n j) := by
  unfold V
  simp only [hostOps0, hostOps0_1, hostOps0_2, List.flatten_cons, List.flatten_nil, List.append_nil, List.cons_append, List.nil_append]
  entry_read
  rw [hA]
  pointwise

/-- The third branch's array as the region finds it. -/
theorem V_oc (c : Dev nD) (A : FVec Ideal S16x2048x384 .f32) (hA : m ((c : Thread nD τ).loc main_arg2) = A) (b : Fin 16) (n : Fin 2048) (j : Fin 384) :
    (V m c main_v9 : FVec Ideal S16x2048x384 .bf16) (ix3 b n j) = A (ix3 b n (lane j)) := by
  unfold V
  simp only [hostOps0, hostOps0_1, hostOps0_2, List.flatten_cons, List.flatten_nil, List.append_nil, List.cons_append, List.nil_append]
  entry_read
  rw [hA]
  pointwise
  rfl

/-- The first scale's array as the region finds it. -/
theorem V_sc1 (c : Dev nD) (A : FVec Ideal S16x1024 .f32) (hA : m ((c : Thread nD τ).loc main_arg5) = A) (b : Fin 16) (d : Fin 1024) :
    (V m c main_v10 : FVec Ideal S16x1x1024 .f32) (ix3 b 0 d) = A (ix2 b d) := by
  unfold V
  simp only [hostOps0, hostOps0_1, hostOps0_2, List.flatten_cons, List.flatten_nil, List.append_nil, List.cons_append, List.nil_append]
  entry_read
  rw [hA]
  pointwise

/-- The first shift's array as the region finds it. -/
theorem V_sh1 (c : Dev nD) (A : FVec Ideal S16x1024 .f32) (hA : m ((c : Thread nD τ).loc main_arg4) = A) (b : Fin 16) (d : Fin 1024) :
    (V m c main_v11 : FVec Ideal S16x1x1024 .f32) (ix3 b 0 d) = A (ix2 b d) := by
  unfold V
  simp only [hostOps0, hostOps0_1, hostOps0_2, List.flatten_cons, List.flatten_nil, List.append_nil, List.cons_append, List.nil_append]
  entry_read
  rw [hA]
  pointwise

/-- The residual gate's array as the region finds it. -/
theorem V_g1 (c : Dev nD) (A : FVec Ideal S16x1024 .f32) (hA : m ((c : Thread nD τ).loc main_arg6) = A) (b : Fin 16) (d : Fin 1024) :
    (V m c main_v12 : FVec Ideal S16x1x1024 .f32) (ix3 b 0 d) = A (ix2 b d) := by
  unfold V
  simp only [hostOps0, hostOps0_1, hostOps0_2, List.flatten_cons, List.flatten_nil, List.append_nil, List.cons_append, List.nil_append]
  entry_read
  rw [hA]
  pointwise

/-- The second scale's array as the region finds it. -/
theorem V_sc2 (c : Dev nD) (A : FVec Ideal S16x1024 .f32) (hA : m ((c : Thread nD τ).loc main_arg8) = A) (b : Fin 16) (d : Fin 1024) :
    (V m c main_v13 : FVec Ideal S16x1x1024 .f32) (ix3 b 0 d) = A (ix2 b d) := by
  unfold V
  simp only [hostOps0, hostOps0_1, hostOps0_2, List.flatten_cons, List.flatten_nil, List.append_nil, List.cons_append, List.nil_append]
  entry_read
  rw [hA]
  pointwise

/-- The second shift's array as the region finds it. -/
theorem V_sh2 (c : Dev nD) (A : FVec Ideal S16x1024 .f32) (hA : m ((c : Thread nD τ).loc main_arg7) = A) (b : Fin 16) (d : Fin 1024) :
    (V m c main_v14 : FVec Ideal S16x1x1024 .f32) (ix3 b 0 d) = A (ix2 b d) := by
  unfold V
  simp only [hostOps0, hostOps0_1, hostOps0_2, List.flatten_cons, List.flatten_nil, List.append_nil, List.cons_append, List.nil_append]
  entry_read
  rw [hA]
  pointwise

/-- The layer norm's gain's array as the region finds it. -/
theorem V_lg (c : Dev nD) (A : FVec Ideal S1024 .f32) (hA : m ((c : Thread nD τ).loc main_arg9) = A) (d : Fin 1024) :
    (V m c main_v15 : FVec Ideal S1x1024 .f32) (ix2 0 d) = A (ix1 d) := by
  unfold V
  simp only [hostOps0, hostOps0_1, hostOps0_2, List.flatten_cons, List.flatten_nil, List.append_nil, List.cons_append, List.nil_append]
  entry_read
  rw [hA]
  pointwise

/-- The layer norm's bias's array as the region finds it. -/
theorem V_lb (c : Dev nD) (A : FVec Ideal S1024 .f32) (hA : m ((c : Thread nD τ).loc main_arg10) = A) (d : Fin 1024) :
    (V m c main_v16 : FVec Ideal S1x1024 .f32) (ix2 0 d) = A (ix1 d) := by
  unfold V
  simp only [hostOps0, hostOps0_1, hostOps0_2, List.flatten_cons, List.flatten_nil, List.append_nil, List.cons_append, List.nil_append]
  entry_read
  rw [hA]
  pointwise

/-- The gates' weights' array as the region finds it. -/
theorem V_wg (c : Dev nD) (A : FVec Ideal S1024x3072 .f32) (hA : m ((c : Thread nD τ).loc main_arg11) = A) (k : Fin 1024) (j : Fin 3072) :
    (V m c main_v17 : FVec Ideal S1024x3072 .bf16) (ix2 k j) = A (ix2 k j) := by
  unfold V
  simp only [hostOps0, hostOps0_1, hostOps0_2, List.flatten_cons, List.flatten_nil, List.append_nil, List.cons_append, List.nil_append]
  entry_read
  rw [hA]
  pointwise

/-- The first branch's weights' array as the region finds it. -/
theorem V_wa (c : Dev nD) (A : FVec Ideal S1024x1024 .f32) (hA : m ((c : Thread nD τ).loc main_arg12) = A) (j : Fin 384) (d : Fin 1024) :
    (V m c main_v21 : FVec Ideal S384x1024 .bf16) (ix2 j d) = A (ix2 ⟨(lane j).val, by omega⟩ d) := by
  unfold V
  simp only [hostOps0, hostOps0_1, hostOps0_2, List.flatten_cons, List.flatten_nil, List.append_nil, List.cons_append, List.nil_append]
  entry_read
  rw [hA]
  pointwise
  rfl

/-- The second branch's weights' array as the region finds it. -/
theorem V_wb (c : Dev nD) (A : FVec Ideal S1024x1024 .f32) (hA : m ((c : Thread nD τ).loc main_arg12) = A) (j : Fin 256) (d : Fin 1024) :
    (V m c main_v22 : FVec Ideal S256x1024 .bf16) (ix2 j d) = A (ix2 ⟨384 + j.val, by omega⟩ d) := by
  unfold V
  simp only [hostOps0, hostOps0_1, hostOps0_2, List.flatten_cons, List.flatten_nil, List.append_nil, List.cons_append, List.nil_append]
  entry_read
  rw [hA]
  pointwise

/-- The third branch's weights' array as the region finds it. -/
theorem V_wc (c : Dev nD) (A : FVec Ideal S1024x1024 .f32) (hA : m ((c : Thread nD τ).loc main_arg12) = A) (j : Fin 384) (d : Fin 1024) :
    (V m c main_v26 : FVec Ideal S384x1024 .bf16) (ix2 j d) = A (ix2 ⟨640 + (lane j).val, by omega⟩ d) := by
  unfold V
  simp only [hostOps0, hostOps0_1, hostOps0_2, List.flatten_cons, List.flatten_nil, List.append_nil, List.cons_append, List.nil_append]
  entry_read
  rw [hA]
  pointwise
  rfl

/-- The output's weights' array as the region finds it. -/
theorem V_wo (c : Dev nD) (A : FVec Ideal S1024x1024 .f32) (hA : m ((c : Thread nD τ).loc main_arg13) = A) (k d : Fin 1024) :
    (V m c main_v27 : FVec Ideal S1024x1024 .bf16) (ix2 k d) = A (ix2 k d) := by
  unfold V
  simp only [hostOps0, hostOps0_1, hostOps0_2, List.flatten_cons, List.flatten_nil, List.append_nil, List.cons_append, List.nil_append]
  entry_read
  rw [hA]
  pointwise

/-- The router's columns, zeros past the 16 experts. -/
theorem router (A : FVec Ideal S1024x16 .f32) (k : Fin 1024) (e : Fin 16) :
    pad S1024x128 ![0, 0] ![0, 112] ![0, 0] A (sitofp .f32 (constantI S_ 32 0#32) : FVec Ideal S_ .f32)
      pads_S1024x16_S1024x128_000_01120 h_S_ (ix2 k ⟨e.val, by omega⟩) = A (ix2 k e) := by
  pointwise

/-- The router's weights' array as the region finds it. -/
theorem V_wr (c : Dev nD) (A : FVec Ideal S1024x16 .f32) (hA : m ((c : Thread nD τ).loc main_arg14) = A) (k : Fin 1024) (e : Fin 16) :
    (V m c main_v29 : FVec Ideal S1024x128 .bf16) (ix2 k ⟨e.val, by omega⟩) = A (ix2 k e) := by
  unfold V
  simp only [hostOps0, hostOps0_1, hostOps0_2, List.flatten_cons, List.flatten_nil, List.append_nil, List.cons_append, List.nil_append]
  entry_read
  rw [hA]
  pointwise
  exact router A k e

/-- The first branch's block at point `t`. -/
theorem blk_oa (c : Dev nD) (t : Fin cfg0.N) (s : Fin 512) (j : Fin 384) :
    (iblk m c 0 t : FVec Ideal S1x512x384 .bf16) (ix3 0 s j) = (V m c main_v4 : FVec Ideal S16x2048x384 .bf16) (ix3 (smp t) (tok t s) j) := by
  blk_ext [iblk, smp, tok, idxT t]

/-- The second branch's block at point `t`. -/
theorem blk_ob (c : Dev nD) (t : Fin cfg0.N) (s : Fin 512) (j : Fin 256) :
    (iblk m c 1 t : FVec Ideal S1x512x256 .bf16) (ix3 0 s j) = (V m c main_v5 : FVec Ideal S16x2048x256 .bf16) (ix3 (smp t) (tok t s) j) := by
  blk_ext [iblk, smp, tok, idxT t]

/-- The third branch's block at point `t`. -/
theorem blk_oc (c : Dev nD) (t : Fin cfg0.N) (s : Fin 512) (j : Fin 384) :
    (iblk m c 2 t : FVec Ideal S1x512x384 .bf16) (ix3 0 s j) = (V m c main_v9 : FVec Ideal S16x2048x384 .bf16) (ix3 (smp t) (tok t s) j) := by
  blk_ext [iblk, smp, tok, idxT t]

/-- The tokens' block at point `t`. -/
theorem blk_x (c : Dev nD) (t : Fin cfg0.N) (s : Fin 512) (j : Fin 1024) :
    (iblk m c 3 t : FVec Ideal S1x512x1024 .f32) (ix3 0 s j) = (V m c main_arg3 : FVec Ideal S16x2048x1024 .f32) (ix3 (smp t) (tok t s) j) := by
  blk_ext [iblk, smp, tok, idxT t]

/-- The first scale's block at point `t`. -/
theorem blk_sc1 (c : Dev nD) (t : Fin cfg0.N) (d : Fin 1024) :
    (iblk m c 4 t : FVec Ideal S1x1x1024 .f32) (ix3 0 0 d) = (V m c main_v10 : FVec Ideal S16x1x1024 .f32) (ix3 (smp t) 0 d) := by
  blk_ext [iblk, smp, idxS t]

/-- The first shift's block at point `t`. -/
theorem blk_sh1 (c : Dev nD) (t : Fin cfg0.N) (d : Fin 1024) :
    (iblk m c 5 t : FVec Ideal S1x1x1024 .f32) (ix3 0 0 d) = (V m c main_v11 : FVec Ideal S16x1x1024 .f32) (ix3 (smp t) 0 d) := by
  blk_ext [iblk, smp, idxS t]

/-- The residual gate's block at point `t`. -/
theorem blk_g1 (c : Dev nD) (t : Fin cfg0.N) (d : Fin 1024) :
    (iblk m c 6 t : FVec Ideal S1x1x1024 .f32) (ix3 0 0 d) = (V m c main_v12 : FVec Ideal S16x1x1024 .f32) (ix3 (smp t) 0 d) := by
  blk_ext [iblk, smp, idxS t]

/-- The second scale's block at point `t`. -/
theorem blk_sc2 (c : Dev nD) (t : Fin cfg0.N) (d : Fin 1024) :
    (iblk m c 7 t : FVec Ideal S1x1x1024 .f32) (ix3 0 0 d) = (V m c main_v13 : FVec Ideal S16x1x1024 .f32) (ix3 (smp t) 0 d) := by
  blk_ext [iblk, smp, idxS t]

/-- The second shift's block at point `t`. -/
theorem blk_sh2 (c : Dev nD) (t : Fin cfg0.N) (d : Fin 1024) :
    (iblk m c 8 t : FVec Ideal S1x1x1024 .f32) (ix3 0 0 d) = (V m c main_v14 : FVec Ideal S16x1x1024 .f32) (ix3 (smp t) 0 d) := by
  blk_ext [iblk, smp, idxS t]

/-- The layer norm's gain's block at point `t`. -/
theorem blk_lg (c : Dev nD) (t : Fin cfg0.N) (j : Fin 1) (d : Fin 1024) :
    (iblk m c 9 t : FVec Ideal S1x1024 .f32) (ix2 j d) = (V m c main_v15 : FVec Ideal S1x1024 .f32) (ix2 j d) := by
  blk_ext [iblk, idxW t]

/-- The layer norm's bias's block at point `t`. -/
theorem blk_lb (c : Dev nD) (t : Fin cfg0.N) (j : Fin 1) (d : Fin 1024) :
    (iblk m c 10 t : FVec Ideal S1x1024 .f32) (ix2 j d) = (V m c main_v16 : FVec Ideal S1x1024 .f32) (ix2 j d) := by
  blk_ext [iblk, idxW t]

/-- The gates' weights' block at point `t`. -/
theorem blk_wg (c : Dev nD) (t : Fin cfg0.N) (j : Fin 1024) (d : Fin 3072) :
    (iblk m c 11 t : FVec Ideal S1024x3072 .bf16) (ix2 j d) = (V m c main_v17 : FVec Ideal S1024x3072 .bf16) (ix2 j d) := by
  blk_ext [iblk, idxW t]

/-- The first branch's weights' block at point `t`. -/
theorem blk_wa (c : Dev nD) (t : Fin cfg0.N) (j : Fin 384) (d : Fin 1024) :
    (iblk m c 12 t : FVec Ideal S384x1024 .bf16) (ix2 j d) = (V m c main_v21 : FVec Ideal S384x1024 .bf16) (ix2 j d) := by
  blk_ext [iblk, idxW t]

/-- The second branch's weights' block at point `t`. -/
theorem blk_wb (c : Dev nD) (t : Fin cfg0.N) (j : Fin 256) (d : Fin 1024) :
    (iblk m c 13 t : FVec Ideal S256x1024 .bf16) (ix2 j d) = (V m c main_v22 : FVec Ideal S256x1024 .bf16) (ix2 j d) := by
  blk_ext [iblk, idxW t]

/-- The third branch's weights' block at point `t`. -/
theorem blk_wc (c : Dev nD) (t : Fin cfg0.N) (j : Fin 384) (d : Fin 1024) :
    (iblk m c 14 t : FVec Ideal S384x1024 .bf16) (ix2 j d) = (V m c main_v26 : FVec Ideal S384x1024 .bf16) (ix2 j d) := by
  blk_ext [iblk, idxW t]

/-- The output's weights' block at point `t`. -/
theorem blk_wo (c : Dev nD) (t : Fin cfg0.N) (j : Fin 1024) (d : Fin 1024) :
    (iblk m c 15 t : FVec Ideal S1024x1024 .bf16) (ix2 j d) = (V m c main_v27 : FVec Ideal S1024x1024 .bf16) (ix2 j d) := by
  blk_ext [iblk, idxW t]

/-- The router's weights' block at point `t`. -/
theorem blk_wr (c : Dev nD) (t : Fin cfg0.N) (j : Fin 1024) (d : Fin 128) :
    (iblk m c 16 t : FVec Ideal S1024x128 .bf16) (ix2 j d) = (V m c main_v29 : FVec Ideal S1024x128 .bf16) (ix2 j d) := by
  blk_ext [iblk, idxW t]

/-- The arguments' numbers, from memory. -/
def args (c : Dev nD) : Args :=
  pack (m ((c : Thread nD τ).loc main_arg0))
    (m ((c : Thread nD τ).loc main_arg1))
    (m ((c : Thread nD τ).loc main_arg2))
    (m ((c : Thread nD τ).loc main_arg3))
    (m ((c : Thread nD τ).loc main_arg4))
    (m ((c : Thread nD τ).loc main_arg5))
    (m ((c : Thread nD τ).loc main_arg6))
    (m ((c : Thread nD τ).loc main_arg7))
    (m ((c : Thread nD τ).loc main_arg8))
    (m ((c : Thread nD τ).loc main_arg9))
    (m ((c : Thread nD τ).loc main_arg10))
    (m ((c : Thread nD τ).loc main_arg11))
    (m ((c : Thread nD τ).loc main_arg12))
    (m ((c : Thread nD τ).loc main_arg13))
    (m ((c : Thread nD τ).loc main_arg14))

/-- The row of token `s` of the block at point `t` is the arguments' row there. -/
theorem point (c : Dev nD) (t : Fin cfg0.N) (s : Fin 512) :
    brow (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) s
      = (args m c).row (smp t) (tok t s) := by
  unfold brow Args.row
  rw [Row.mk.injEq]
  refine ⟨funext fun d => ?_, funext fun d => ?_, funext fun d => ?_, funext fun d => ?_, funext fun d => ?_, funext fun d => ?_,
    funext fun d => ?_, funext fun d => ?_, funext fun d => ?_, funext fun d => ?_, funext fun d => ?_, funext fun k => funext fun j => ?_,
    funext fun k => funext fun d => ?_, funext fun k => funext fun e => ?_⟩
  · refine Eq.trans ?_ (lane_sum fun i => (args m c).oa (smp t) (tok t s) i * (args m c).wbr ⟨i.val, by omega⟩ d)
    refine Finset.sum_congr rfl fun i _ => ?_
    rw [blk_oa, blk_wa, V_oa m c _ rfl, V_wa m c _ rfl]
    rfl
  · refine Finset.sum_congr rfl fun i _ => ?_
    rw [blk_ob, blk_wb, V_ob m c _ rfl, V_wb m c _ rfl]
    rfl
  · refine Eq.trans ?_ (lane_sum fun i => (args m c).oc (smp t) (tok t s) i * (args m c).wbr ⟨640 + i.val, by omega⟩ d)
    refine Finset.sum_congr rfl fun i _ => ?_
    rw [blk_oc, blk_wc, V_oc m c _ rfl, V_wc m c _ rfl]
    rfl
  · rw [blk_x, V_main_arg3]
    rfl
  · rw [blk_sc1, V_sc1 m c _ rfl]
    rfl
  · rw [blk_sh1, V_sh1 m c _ rfl]
    rfl
  · rw [blk_g1, V_g1 m c _ rfl]
    rfl
  · rw [blk_sc2, V_sc2 m c _ rfl]
    rfl
  · rw [blk_sh2, V_sh2 m c _ rfl]
    rfl
  · rw [blk_lg, V_lg m c _ rfl]
    rfl
  · rw [blk_lb, V_lb m c _ rfl]
    rfl
  · rw [blk_wg, V_wg m c _ rfl]
    rfl
  · rw [blk_wo, V_wo m c _ rfl]
    rfl
  · rw [blk_wr, V_wr m c _ rfl]
    rfl

end Cert.Merge

end
-- ==== Proof.Merge.Array.lean ====
/- The merge kernel's result arrays. -/
module

public import proofs.«01_k».proof.Proof.Merge.Window

@[expose] public section

set_option maxRecDepth 16384

noncomputable section

namespace Cert.Merge

open Cert.KernelMIdeal Cert.KernelMIdeal.Gen Idealize.ShloMosaic Idealize.ShloMosaic.TcCoe Idealize.SL.Sem
open Idealize.ShloMosaic.Pipeline (Dat)

variable (m : (ℓ : Loc nD τ sig) → Buf (Elt Ideal) ℓ)

/-- The first result's array after the run. -/
theorem final_x1 (c : Dev nD) : (dats m 0 c).arrAt 17 (cfgs 0).N = (args m c).x1 := by
  refine (dats m 0 c).arrAt_eq_of_covers 17 _ (by decide +kernel) fun t _ y => ?_
  blk_simp
  rw [after0_17]
  have hy : y = (ix3 0 (y 1) (y 2) : (S1x512x1024).Idx) := by
    funext i
    fin_cases i
    · exact Subsingleton.elim (α := Fin 1) _ _
    · rfl
    · rfl
  have he : (win0_17.blk t).view.emb y = (ix3 (smp t) (tok t (y 1)) (y 2) : S16x2048x1024.Idx) := by
    blk_ext [smp, tok, idxT t]
  rw [he, hy]
  exact (out17_apply _ _ _ _ _ _ _ _ _ _ _ _ _ _ _ _ _ _ _).trans (congrArg (fun r : Row => r.x1 (y 2)) (point m c t (y 1)))

/-- The second result's array after the run. -/
theorem final_h2 (c : Dev nD) : (dats m 0 c).arrAt 18 (cfgs 0).N = (args m c).h2 := by
  refine (dats m 0 c).arrAt_eq_of_covers 18 _ (by decide +kernel) fun t _ y => ?_
  blk_simp
  rw [after0_18]
  have hy : y = (ix3 0 (y 1) (y 2) : (S1x512x1024).Idx) := by
    funext i
    fin_cases i
    · exact Subsingleton.elim (α := Fin 1) _ _
    · rfl
    · rfl
  have he : (win0_18.blk t).view.emb y = (ix3 (smp t) (tok t (y 1)) (y 2) : S16x2048x1024.Idx) := by
    blk_ext [smp, tok, idxT t]
  rw [he, hy]
  exact (out18_apply _ _ _ _ _ _ _ _ _ _ _ _ _ _ _ _ _ _ _).trans (congrArg (fun r : Row => r.h2 (y 2)) (point m c t (y 1)))

/-- The third result's array after the run. -/
theorem final_aff (c : Dev nD) : (dats m 0 c).arrAt 19 (cfgs 0).N = (args m c).aff := by
  refine (dats m 0 c).arrAt_eq_of_covers 19 _ (by decide +kernel) fun t _ y => ?_
  blk_simp
  rw [after0_19]
  have hy : y = (ix3 0 (y 1) (y 2) : (S1x512x128).Idx) := by
    funext i
    fin_cases i
    · exact Subsingleton.elim (α := Fin 1) _ _
    · rfl
    · rfl
  have he : (win0_19.blk t).view.emb y = (ix3 (smp t) (tok t (y 1)) (y 2) : S16x2048x128.Idx) := by
    blk_ext [smp, tok, idxT t]
  rw [he, hy]
  exact (out19_apply _ _ _ _ _ _ _ _ _ _ _ _ _ _ _ _ _ _ _).trans (congrArg (fun r : Row => r.aff (y 2)) (point m c t (y 1)))

end Cert.Merge

end
-- ==== Proof.Merge.Ref.lean ====
/- The reference merge, read at an index. -/
module

public import proofs.«01_k».proof.Proof.Gen.ReferenceMIdeal.Run
public import proofs.«01_k».proof.Proof.Merge.Args
public import proofs.«01_k».proof.Proof.Attn.Softmax
public import Idealize.ShloMosaic.Lib.Pointwise

@[expose] public section

set_option maxRecDepth 16384

noncomputable section

namespace Cert.Merge

open Cert.ReferenceMIdeal Cert.ReferenceMIdeal.Gen Idealize.ShloMosaic Cert.Attn

/-- A sample's row at each of its tokens. -/
def spread (s : FVec Ideal S16x1x1024 .f32) : FVec Ideal S16x2048x1024 .f32 :=
  broadcastInDim S16x2048x1024 ![0, 1, 2] bcast_S16x1x1024_S16x2048x1024_0_1_2 s

/-- A sample's row, with an axis of one token. -/
def lift (s : FVec Ideal S16x1024 .f32) : FVec Ideal S16x1x1024 .f32 :=
  broadcastInDim S16x1x1024 ![0, 2] bcast_S16x1024_S16x1x1024_0_2 s

/-- The rows scaled and moved. -/
def modulated (x : FVec Ideal S16x2048x1024 .f32) (sc sh : FVec Ideal S16x1024 .f32) : FVec Ideal S16x2048x1024 .f32 :=
  addf (mulf x (spread (addf (broadcastInDim S16x1x1024 ![] bcast_S_S16x1x1024 (constant S_ .f32 0x3F800000#32)) (lift sc)))) (spread (lift sh))

/-- The gates. -/
def gates (h : FVec Ideal S16x2048x1024 .f32) (w : FVec Ideal S1024x3072 .f32) : FVec Ideal S16x2048x3072 .f32 :=
  Host.divf (broadcastInDim S16x2048x3072 ![] bcast_S_S16x2048x3072 (constant S_ .f32 0x3F800000#32))
    (addf (broadcastInDim S16x2048x3072 ![] bcast_S_S16x2048x3072 (constant S_ .f32 0x3F800000#32))
      (Host.exp (Host.negf (Host.dotGeneral dot_S16x2048x1024_S1024x3072_S16x2048x3072_2_0_01_1_n_n none h w))))

/-- The branches' gated sum. -/
def gated (g : FVec Ideal S16x2048x3072 .f32) (oa : FVec Ideal S16x2048x384 .f32) (ob : FVec Ideal S16x2048x256 .f32)
    (oc : FVec Ideal S16x2048x384 .f32) (w : FVec Ideal S1024x1024 .f32) : FVec Ideal S16x2048x1024 .f32 :=
  addf (addf
    (mulf (extractStridedSlice S16x2048x1024 ![0, 0, 0] g slices_S16x2048x3072_S16x2048x1024_0_0_0)
      (Host.dotGeneral dot_S16x2048x384_S384x1024_S16x2048x1024_2_0_01_1_n_n none oa (extractStridedSlice S384x1024 ![0, 0] w slices_S1024x1024_S384x1024_0_0)))
    (mulf (extractStridedSlice S16x2048x1024 ![0, 0, 1024] g slices_S16x2048x3072_S16x2048x1024_0_0_1024)
      (Host.dotGeneral dot_S16x2048x256_S256x1024_S16x2048x1024_2_0_01_1_n_n none ob (extractStridedSlice S256x1024 ![384, 0] w slices_S1024x1024_S256x1024_384_0))))
    (mulf (extractStridedSlice S16x2048x1024 ![0, 0, 2048] g slices_S16x2048x3072_S16x2048x1024_0_0_2048)
      (Host.dotGeneral dot_S16x2048x384_S384x1024_S16x2048x1024_2_0_01_1_n_n none oc (extractStridedSlice S384x1024 ![640, 0] w slices_S1024x1024_S384x1024_640_0)))

/-- The residual sum. -/
def residual (x : FVec Ideal S16x2048x1024 .f32) (g1 : FVec Ideal S16x1024 .f32) (y : FVec Ideal S16x2048x1024 .f32)
    (w : FVec Ideal S1024x1024 .f32) : FVec Ideal S16x2048x1024 .f32 :=
  addf (mulf (broadcastInDim S16x2048x1024 ![] bcast_S_S16x2048x1024 (constant S_ .f32 0x3FB504F3#32)) x)
    (mulf (spread (lift g1)) (Host.dotGeneral dot_S16x2048x1024_S1024x1024_S16x2048x1024_2_0_01_1_n_n none y w))

/-- The rows' means. -/
def means (z : FVec Ideal S16x2048x1024 .f32) : FVec Ideal S16x2048x1 .f32 :=
  Host.divf (broadcastInDim S16x2048x1 ![0, 1] bcast_S16x2048_S16x2048x1_0_1
      (Host.reduceAdd z (constant S_ .f32 0x00000000#32) reducesTo_S16x2048x1024_S16x2048_d2 h_S_))
    (broadcastInDim S16x2048x1 ![] bcast_S_S16x2048x1 (constant S_ .f32 0x44800000#32))

/-- A token's number at each of its lanes. -/
def across (m : FVec Ideal S16x2048x1 .f32) : FVec Ideal S16x2048x1024 .f32 :=
  broadcastInDim S16x2048x1024 ![0, 1, 2] bcast_S16x2048x1_S16x2048x1024_0_1_2 m

/-- A row of the whole array's at each token. -/
def all (g : FVec Ideal S1024 .f32) : FVec Ideal S16x2048x1024 .f32 :=
  broadcastInDim S16x2048x1024 ![0, 1, 2] bcast_S1x1x1024_S16x2048x1024_0_1_2 (broadcastInDim S1x1x1024 ![2] bcast_S1024_S1x1x1024_2 g)

/-- The rows, their means taken off. -/
def centred (z : FVec Ideal S16x2048x1024 .f32) : FVec Ideal S16x2048x1024 .f32 := subf z (across (means z))

/-- The inverse roots of the rows' variances. -/
def spreads (d : FVec Ideal S16x2048x1024 .f32) : FVec Ideal S16x2048x1 .f32 :=
  Host.rsqrt (addf (means (mulf d d)) (broadcastInDim S16x2048x1 ![] bcast_S_S16x2048x1 (constant S_ .f32 0x3727C5AC#32)))

/-- The layer norm. -/
def normed (z : FVec Ideal S16x2048x1024 .f32) (g b : FVec Ideal S1024 .f32) : FVec Ideal S16x2048x1024 .f32 :=
  addf (mulf (mulf (centred z) (across (spreads (centred z)))) (all g)) (all b)

/-- The router's logits, minus infinity past the experts. -/
def logits (h : FVec Ideal S16x2048x1024 .f32) (w : FVec Ideal S1024x16 .f32) : FVec Ideal S16x2048x128 .f32 :=
  pad S16x2048x128 ![0, 0, 0] ![0, 0, 112] ![0, 0, 0] (Host.dotGeneral dot_S16x2048x1024_S1024x16_S16x2048x16_2_0_01_1_n_n none h w)
    (id (constant S_ .f32 0xFF800000#32)) pads_S16x2048x16_S16x2048x128_000_000_01120 h_S_

/-- The largest of each row. -/
def largest (S : FVec Ideal S16x2048x128 .f32) (i : FVec Ideal S_ .f32) : FVec Ideal S16x2048 .f32 :=
  Host.reduce FloatOps.maximumf S i reducesTo_S16x2048x128_S16x2048_d2 h_S_

/-- The larger of each number and minus infinity. -/
def floored (M : FVec Ideal S16x2048 .f32) : FVec Ideal S16x2048 .f32 :=
  maximumf (broadcastInDim S16x2048 ![] bcast_S_S16x2048 (constant S_ .f32 0xFF800000#32)) M

/-- A token's number at each of its 128 lanes. -/
def wide (M : FVec Ideal S16x2048 .f32) : FVec Ideal S16x2048x128 .f32 :=
  broadcastInDim S16x2048x128 ![0, 1, 2] bcast_S16x2048x1_S16x2048x128_0_1_2 (broadcastInDim S16x2048x1 ![0, 1] bcast_S16x2048_S16x2048x1_0_1 M)

/-- The exponentials, the largest taken off. -/
def exps (S : FVec Ideal S16x2048x128 .f32) : FVec Ideal S16x2048x128 .f32 :=
  Host.exp (subf S (wide (floored (largest S (constant S_ .f32 0xFF800000#32)))))

/-- The sum of each row. -/
def sums (E : FVec Ideal S16x2048x128 .f32) : FVec Ideal S16x2048 .f32 :=
  Host.reduceAdd E (constant S_ .f32 0x00000000#32) reducesTo_S16x2048x128_S16x2048_d2 h_S_

/-- The affinities. -/
def shares (E : FVec Ideal S16x2048x128 .f32) : FVec Ideal S16x2048x128 .f32 := Host.divf E (wide (sums E))

/-- The bit pattern of minus infinity denotes `⊥`. -/
theorem negInf' : Ideal.ofBits FTy.f32 0xFF800000#32 = ⊥ := by
  simp [Ideal.ofBits, Ideal.ieee]

/-- The rows scaled and moved, at an index. -/
theorem modulated_apply (x : FVec Ideal S16x2048x1024 .f32) (sc sh : FVec Ideal S16x1024 .f32) (b : Fin 16) (n : Fin 2048) (d : Fin 1024) :
    modulated x sc sh (ix3 b n d) = modulate (fun d => x (ix3 b n d)) (fun d => sc (ix2 b d)) (fun d => sh (ix2 b d)) d := by
  pointwise [modulated, spread, lift]
  rfl

/-- The gates at an index. -/
theorem gates_apply (h : FVec Ideal S16x2048x1024 .f32) (w : FVec Ideal S1024x3072 .f32) (b : Fin 16) (n : Fin 2048) (j : Fin 3072) :
    gates h w (ix3 b n j) = gate (fun k => h (ix3 b n k)) (fun k => w (ix2 k j)) := by
  pointwise [gates]
  rfl

/-- The branches' gated sum at an index. -/
theorem gated_apply (g : FVec Ideal S16x2048x3072 .f32) (oa : FVec Ideal S16x2048x384 .f32) (ob : FVec Ideal S16x2048x256 .f32)
    (oc : FVec Ideal S16x2048x384 .f32) (w : FVec Ideal S1024x1024 .f32) (b : Fin 16) (n : Fin 2048) (d : Fin 1024) :
    gated g oa ob oc w (ix3 b n d) = g (ix3 b n ⟨d.val, by omega⟩) * (∑ i : Fin 384, oa (ix3 b n i) * w (ix2 ⟨i.val, by omega⟩ d))
      + g (ix3 b n ⟨1024 + d.val, by omega⟩) * (∑ i : Fin 256, ob (ix3 b n i) * w (ix2 ⟨384 + i.val, by omega⟩ d))
      + g (ix3 b n ⟨2048 + d.val, by omega⟩) * (∑ i : Fin 384, oc (ix3 b n i) * w (ix2 ⟨640 + i.val, by omega⟩ d)) := by
  pointwise [gated]

/-- The residual sum at an index. -/
theorem residual_apply (x : FVec Ideal S16x2048x1024 .f32) (g1 : FVec Ideal S16x1024 .f32) (y : FVec Ideal S16x2048x1024 .f32)
    (w : FVec Ideal S1024x1024 .f32) (b : Fin 16) (n : Fin 2048) (d : Fin 1024) :
    residual x g1 y w (ix3 b n d)
      = Ideal.ofBits FTy.f32 0x3FB504F3#32 * x (ix3 b n d) + g1 (ix2 b d) * ∑ k, y (ix3 b n k) * w (ix2 k d) := by
  pointwise [residual, spread, lift]

/-- The rows' means at an index. -/
theorem means_apply (z : FVec Ideal S16x2048x1024 .f32) (b : Fin 16) (n : Fin 2048) :
    means z (ix3 b n 0) = mean fun k => z (ix3 b n k) := by
  pointwise [means]
  rfl

/-- A token's number at a lane. -/
theorem across_apply (m : FVec Ideal S16x2048x1 .f32) (b : Fin 16) (n : Fin 2048) (d : Fin 1024) : across m (ix3 b n d) = m (ix3 b n 0) := by
  pointwise [across]

/-- A row of the whole array's at a token. -/
theorem all_apply (g : FVec Ideal S1024 .f32) (b : Fin 16) (n : Fin 2048) (d : Fin 1024) : all g (ix3 b n d) = g (ix1 d) := by
  pointwise [all]

/-- The rows, their means taken off, at an index. -/
theorem centred_apply (z : FVec Ideal S16x2048x1024 .f32) (b : Fin 16) (n : Fin 2048) (d : Fin 1024) :
    centred z (ix3 b n d) = z (ix3 b n d) - mean fun k => z (ix3 b n k) := by
  pointwise [centred]
  rw [across_apply, means_apply]

/-- The inverse roots at an index. -/
theorem spreads_apply (d : FVec Ideal S16x2048x1024 .f32) (b : Fin 16) (n : Fin 2048) :
    spreads d (ix3 b n 0) = Ideal.rsqrt (mean (fun k => d (ix3 b n k) * d (ix3 b n k)) + Ideal.ofBits FTy.f32 0x3727C5AC#32) := by
  have e : ∀ k : Fin 1024, (mulf d d : FVec Ideal S16x2048x1024 .f32) (ix3 b n k) = d (ix3 b n k) * d (ix3 b n k) := by
    intro k
    pointwise
  pointwise [spreads]
  rw [means_apply]
  simp only [e]

/-- The layer norm at an index. -/
theorem normed_apply (z : FVec Ideal S16x2048x1024 .f32) (g b : FVec Ideal S1024 .f32) (s : Fin 16) (n : Fin 2048) (d : Fin 1024) :
    normed z g b (ix3 s n d) = norm (fun d => z (ix3 s n d)) (fun d => g (ix1 d)) (fun d => b (ix1 d)) d := by
  pointwise [normed]
  rw [across_apply, all_apply, all_apply, spreads_apply]
  simp only [centred_apply]
  rfl

/-- The logits at an index. -/
theorem logits_apply (h : FVec Ideal S16x2048x1024 .f32) (w : FVec Ideal S1024x16 .f32) (b : Fin 16) (n : Fin 2048) (j : Fin 128) :
    logits h w (ix3 b n j) = if e : j.val < 16 then ∑ k, h (ix3 b n k) * w (ix2 k ⟨j.val, e⟩) else ⊥ := by
  pointwise [logits]
  split_ifs
  · rfl
  · exact negInf'

/-- The largest of a row, at an index. -/
theorem largest_apply (S : FVec Ideal S16x2048x128 .f32) (i : FVec Ideal S_ .f32) (b : Fin 16) (n : Fin 2048) :
    largest S i (ix2 b n) = Finset.univ.fold max (i (Shape.Idx.first h_S_)) fun x : Fin 128 => S (ix3 b n x) := by
  unfold largest
  pointwise

/-- Nothing is below minus infinity. -/
theorem floored_apply (M : FVec Ideal S16x2048 .f32) (b : Fin 16) (n : Fin 2048) : floored M (ix2 b n) = M (ix2 b n) := by
  pointwise [floored]
  rw [negInf', max_eq_right bot_le]

/-- The largest of a row, taken from minus infinity. -/
theorem largest_sup (L : FVec Ideal S16x2048 .f32) (S : FVec Ideal S16x2048x128 .f32) (b : Fin 16) (n : Fin 2048)
    (hl : L (ix2 b n) = Finset.univ.fold max ((constant S_ .f32 0xFF800000#32 : FVec Ideal S_ .f32) (Shape.Idx.first h_S_))
      fun x : Fin 128 => S (ix3 b n x)) :
    L (ix2 b n) = Finset.univ.sup fun x : Fin 128 => S (ix3 b n x) := by
  rw [hl]
  pointwise
  rw [negInf', fold_eq_sup]

/-- A token's number at a lane of the 128. -/
theorem wide_apply (M : FVec Ideal S16x2048 .f32) (b : Fin 16) (n : Fin 2048) (j : Fin 128) : wide M (ix3 b n j) = M (ix2 b n) := by
  pointwise [wide]

/-- The exponentials at an index. -/
theorem exps_apply (S : FVec Ideal S16x2048x128 .f32) (b : Fin 16) (n : Fin 2048) (j : Fin 128) :
    exps S (ix3 b n j) = Ideal.exp (S (ix3 b n j) - Finset.univ.sup fun x : Fin 128 => S (ix3 b n x)) := by
  pointwise [exps]
  rw [wide_apply, floored_apply, largest_sup _ S b n (largest_apply S _ b n)]

/-- The sum of a row. -/
theorem sums_apply (E : FVec Ideal S16x2048x128 .f32) (b : Fin 16) (n : Fin 2048) : sums E (ix2 b n) = ∑ x : Fin 128, E (ix3 b n x) := by
  pointwise [sums]

/-- The affinities at an index. -/
theorem shares_apply (S : FVec Ideal S16x2048x128 .f32) (b : Fin 16) (n : Fin 2048) (j : Fin 128) :
    shares (exps S) (ix3 b n j) = soft (fun j => S (ix3 b n j)) j := by
  have hW : ∀ (E : FVec Ideal S16x2048x128 .f32), shares E (ix3 b n j) = Ideal.div (E (ix3 b n j)) (∑ y : Fin 128, E (ix3 b n y)) := by
    intro E
    pointwise [shares]
    rw [wide_apply, sums_apply]
  rw [hW]
  simp only [exps_apply]
  rfl

variable (oa : FVec Ideal S16x2048x384 .f32) (ob : FVec Ideal S16x2048x256 .f32) (oc : FVec Ideal S16x2048x384 .f32) (x : FVec Ideal S16x2048x1024 .f32) (sh1 : FVec Ideal S16x1024 .f32) (sc1 : FVec Ideal S16x1024 .f32) (g1 : FVec Ideal S16x1024 .f32) (sh2 : FVec Ideal S16x1024 .f32) (sc2 : FVec Ideal S16x1024 .f32) (lg : FVec Ideal S1024 .f32) (lb : FVec Ideal S1024 .f32) (wg : FVec Ideal S1024x3072 .f32) (wbr : FVec Ideal S1024x1024 .f32) (wo : FVec Ideal S1024x1024 .f32) (wr : FVec Ideal S1024x16 .f32)

/-- The reference's residual sum over its arguments. -/
def refTotal : FVec Ideal S16x2048x1024 .f32 :=
  residual x g1 (gated (gates (modulated x sc1 sh1) wg) oa ob oc wbr) wo

/-- The reference's first result. -/
def ref1 : FVec Ideal S16x2048x1024 .f32 := normed (refTotal oa ob oc x sh1 sc1 g1 wg wbr wo) lg lb

/-- The reference's second result before its cast. -/
def ref2 : FVec Ideal S16x2048x1024 .f32 := modulated (ref1 oa ob oc x sh1 sc1 g1 lg lb wg wbr wo) sc2 sh2

/-- The reference's third result. -/
def ref3 : FVec Ideal S16x2048x128 .f32 := shares (exps (logits (ref2 oa ob oc x sh1 sc1 g1 sh2 sc2 lg lb wg wbr wo) wr))

/-- The residual sum at an index. -/
theorem refTotal_apply (b : Fin 16) (n : Fin 2048) (d : Fin 1024) :
    refTotal oa ob oc x sh1 sc1 g1 wg wbr wo (ix3 b n d) = ((pack oa ob oc x sh1 sc1 g1 sh2 sc2 lg lb wg wbr wo wr).row b n).total d := by
  unfold refTotal
  rw [residual_apply]
  simp only [gated_apply, gates_apply, modulated_apply]
  rfl

/-- The first result at an index. -/
theorem ref1_apply (b : Fin 16) (n : Fin 2048) (d : Fin 1024) :
    ref1 oa ob oc x sh1 sc1 g1 lg lb wg wbr wo (ix3 b n d) = ((pack oa ob oc x sh1 sc1 g1 sh2 sc2 lg lb wg wbr wo wr).row b n).x1 d := by
  unfold ref1
  rw [normed_apply]
  simp only [refTotal_apply oa ob oc x sh1 sc1 g1 sh2 sc2 lg lb wg wbr wo wr]
  rfl

/-- The second result at an index. -/
theorem ref2_apply (b : Fin 16) (n : Fin 2048) (d : Fin 1024) :
    ref2 oa ob oc x sh1 sc1 g1 sh2 sc2 lg lb wg wbr wo (ix3 b n d) = ((pack oa ob oc x sh1 sc1 g1 sh2 sc2 lg lb wg wbr wo wr).row b n).h2 d := by
  unfold ref2
  rw [modulated_apply]
  simp only [ref1_apply oa ob oc x sh1 sc1 g1 sh2 sc2 lg lb wg wbr wo wr]
  rfl

/-- The third result at an index. -/
theorem ref3_apply (b : Fin 16) (n : Fin 2048) (j : Fin 128) :
    ref3 oa ob oc x sh1 sc1 g1 sh2 sc2 lg lb wg wbr wo wr (ix3 b n j) = ((pack oa ob oc x sh1 sc1 g1 sh2 sc2 lg lb wg wbr wo wr).row b n).aff j := by
  unfold ref3
  rw [shares_apply]
  simp only [logits_apply, ref2_apply oa ob oc x sh1 sc1 g1 sh2 sc2 lg lb wg wbr wo wr]
  rfl

/-- The first result is the rows' array. -/
theorem ref1_eq : ref1 oa ob oc x sh1 sc1 g1 lg lb wg wbr wo = (pack oa ob oc x sh1 sc1 g1 sh2 sc2 lg lb wg wbr wo wr).x1 := by
  funext i
  obtain ⟨b, n, d, rfl⟩ : ∃ (b : Fin 16) (n : Fin 2048) (d : Fin 1024), i = ix3 b n d :=
    ⟨i 0, i 1, i 2, by funext d; fin_cases d <;> rfl⟩
  exact ref1_apply oa ob oc x sh1 sc1 g1 sh2 sc2 lg lb wg wbr wo wr b n d

/-- So is the second, cast. -/
theorem ref2_eq : (truncf .bf16 (ref2 oa ob oc x sh1 sc1 g1 sh2 sc2 lg lb wg wbr wo) bitsLt_bf16_f32 : FVec Ideal S16x2048x1024 .bf16)
    = (pack oa ob oc x sh1 sc1 g1 sh2 sc2 lg lb wg wbr wo wr).h2 := by
  funext i
  obtain ⟨b, n, d, rfl⟩ : ∃ (b : Fin 16) (n : Fin 2048) (d : Fin 1024), i = ix3 b n d :=
    ⟨i 0, i 1, i 2, by funext d; fin_cases d <;> rfl⟩
  exact ref2_apply oa ob oc x sh1 sc1 g1 sh2 sc2 lg lb wg wbr wo wr b n d

/-- And the third. -/
theorem ref3_eq : ref3 oa ob oc x sh1 sc1 g1 sh2 sc2 lg lb wg wbr wo wr = (pack oa ob oc x sh1 sc1 g1 sh2 sc2 lg lb wg wbr wo wr).aff := by
  funext i
  obtain ⟨b, n, j, rfl⟩ : ∃ (b : Fin 16) (n : Fin 2048) (j : Fin 128), i = ix3 b n j :=
    ⟨i 0, i 1, i 2, by funext d; fin_cases d <;> rfl⟩
  exact ref3_apply oa ob oc x sh1 sc1 g1 sh2 sc2 lg lb wg wbr wo wr b n j

end Cert.Merge

end
-- ==== Proof.Merge.Claims.lean ====
/- The claims of the merge. -/
module

public import proofs.«01_k».proof.Defs
public import proofs.«01_k».proof.Proof.Merge.Array
public import proofs.«01_k».proof.Proof.Merge.Ref
public import proofs.«01_k».proof.Proof.Gen.KernelM.Frame
public import proofs.«01_k».proof.Proof.Gen.KernelMIdeal.Frame
public import proofs.«01_k».proof.Proof.Gen.KernelMIdeal.Value
public import proofs.«01_k».proof.Proof.Gen.ReferenceMIdeal.Run

@[expose] public section

noncomputable section

namespace Cert.Merge

open Idealize.ShloMosaic Idealize.SL.Sem

/-- The kernel runs, keeps its arguments and ends at rest. -/
theorem frame_p : Cert.quiescent_KernelM := fun m ρ _ => Cert.KernelM.Gen.frame m ρ

/-- So does the idealized kernel. -/
theorem frame_pi : Cert.quiescent_KernelMIdeal := fun m ρ _ => Cert.KernelMIdeal.Gen.frame m ρ

/-- The reference runs, keeps its arguments and ends at rest. -/
theorem frame_ri : Cert.quiescent_ReferenceMIdeal := fun m ρ _ =>
  (θ_run Cert.ReferenceMIdeal.defs _ _).mono (fun r h => ⟨fun c => (h c).2.2.2,
      Idealize.ShloMosaic.sem_eq_zero_of_no_sems (by decide) r.2⟩)
    (Cert.ReferenceMIdeal.Value.run (F := Ideal) m ρ)

/-- The named constant denotes its value. -/
theorem preserves : Cert.preserves_KernelM_KernelMIdeal :=
  IdealRules.named_const.statement Cert.KernelMIdeal.κ "mask" .f32 0xF149F2CA#32 (⊥ : EReal) rfl

/-- The kernel's three results are the reference's. -/
theorem algebraic : Cert.algebraic_KernelMIdeal_ReferenceMIdeal := by
  intro m ρ m' ρ' hpre hagree
  refine ⟨fun c => (args m c).x1, fun c => (args m c).h2, fun c => (args m c).aff, ?_, ?_⟩
  · exact (θ_run Cert.KernelMIdeal.defs _ _).mono
      (fun _ h c => ⟨(h c).1.trans (final_x1 m c), (h c).2.1.trans (final_h2 m c), (h c).2.2.1.trans (final_aff m c), (h c).2.2.2⟩)
      (Cert.KernelMIdeal.Value.run_blocks m ρ)
  have e : ∀ c, args m c = pack (m' ((c.tc : Thread Cert.ReferenceMIdeal.nD Cert.ReferenceMIdeal.τ).loc Cert.ReferenceMIdeal.main_arg0))
      (m' ((c.tc : Thread Cert.ReferenceMIdeal.nD Cert.ReferenceMIdeal.τ).loc Cert.ReferenceMIdeal.main_arg1))
      (m' ((c.tc : Thread Cert.ReferenceMIdeal.nD Cert.ReferenceMIdeal.τ).loc Cert.ReferenceMIdeal.main_arg2))
      (m' ((c.tc : Thread Cert.ReferenceMIdeal.nD Cert.ReferenceMIdeal.τ).loc Cert.ReferenceMIdeal.main_arg3))
      (m' ((c.tc : Thread Cert.ReferenceMIdeal.nD Cert.ReferenceMIdeal.τ).loc Cert.ReferenceMIdeal.main_arg4))
      (m' ((c.tc : Thread Cert.ReferenceMIdeal.nD Cert.ReferenceMIdeal.τ).loc Cert.ReferenceMIdeal.main_arg5))
      (m' ((c.tc : Thread Cert.ReferenceMIdeal.nD Cert.ReferenceMIdeal.τ).loc Cert.ReferenceMIdeal.main_arg6))
      (m' ((c.tc : Thread Cert.ReferenceMIdeal.nD Cert.ReferenceMIdeal.τ).loc Cert.ReferenceMIdeal.main_arg7))
      (m' ((c.tc : Thread Cert.ReferenceMIdeal.nD Cert.ReferenceMIdeal.τ).loc Cert.ReferenceMIdeal.main_arg8))
      (m' ((c.tc : Thread Cert.ReferenceMIdeal.nD Cert.ReferenceMIdeal.τ).loc Cert.ReferenceMIdeal.main_arg9))
      (m' ((c.tc : Thread Cert.ReferenceMIdeal.nD Cert.ReferenceMIdeal.τ).loc Cert.ReferenceMIdeal.main_arg10))
      (m' ((c.tc : Thread Cert.ReferenceMIdeal.nD Cert.ReferenceMIdeal.τ).loc Cert.ReferenceMIdeal.main_arg11))
      (m' ((c.tc : Thread Cert.ReferenceMIdeal.nD Cert.ReferenceMIdeal.τ).loc Cert.ReferenceMIdeal.main_arg12))
      (m' ((c.tc : Thread Cert.ReferenceMIdeal.nD Cert.ReferenceMIdeal.τ).loc Cert.ReferenceMIdeal.main_arg13))
      (m' ((c.tc : Thread Cert.ReferenceMIdeal.nD Cert.ReferenceMIdeal.τ).loc Cert.ReferenceMIdeal.main_arg14)) := by
    intro c
    obtain ⟨e0, e1, e2, e3, e4, e5, e6, e7, e8, e9, e10, e11, e12, e13, e14⟩ := hagree c
    rw [e0, e1, e2, e3, e4, e5, e6, e7, e8, e9, e10, e11, e12, e13, e14]
    rfl
  refine (θ_run Cert.ReferenceMIdeal.defs _ _).mono (fun _ h c => ⟨(h c).1.trans ?_, (h c).2.1.trans ?_, (h c).2.2.1.trans ?_, (h c).2.2.2⟩)
    (Cert.ReferenceMIdeal.Value.run (F := Ideal) m' ρ')
  · dsimp only
    rw [e c, ← ref1_eq]
    rfl
  · dsimp only
    rw [e c, ← ref2_eq]
    rfl
  · dsimp only
    rw [e c, ← ref3_eq]
    rfl

end Cert.Merge

end
-- ==== Proof.InProj.Row.lean ====
/- One token's row through the input projection: the branches' queries, keys and values from the projected row. -/
module

public import Idealize.ShloMosaic.PureOps.Ideal

@[expose] public section

noncomputable section

namespace Cert.InProj

open Idealize.ShloMosaic

/-- A row scaled by one plus `sc` and moved by `sh`. -/
def modulate (x sc sh : Fin 1024 → EReal) (d : Fin 1024) : EReal := x d * (1 + sc d) + sh d

/-- The lane turned together with lane `j`: the lanes go in pairs of runs of `q`. -/
def mate (N q : ℕ) (j : Fin N) : Fin N :=
  ⟨if j.val / q % 2 = 0 then (j.val + q) % N else (j.val + N - q) % N, by
    have := j.isLt
    split_ifs <;> exact Nat.mod_lt _ (by omega)⟩

/-- The lanes turned: each with its mate, by the cosines `c` and the signed sines `s`. -/
def turn {N : ℕ} (q : ℕ) (c s X : Fin N → EReal) (j : Fin N) : EReal := X j * c j + X (mate N q j) * s j

/-- The cosines along a head: the grid row's on the first half, the grid column's on the second, each twice. -/
def cosines {N : ℕ} (q : ℕ) (r c : Fin q → EReal) (hq : 0 < q) (d : Fin N) : EReal :=
  if d.val / q < 2 then r ⟨d.val % q, Nat.mod_lt _ hq⟩ else c ⟨d.val % q, Nat.mod_lt _ hq⟩

/-- The sines, with the sign of the turn. -/
def sines {N : ℕ} (q : ℕ) (r c : Fin q → EReal) (hq : 0 < q) (d : Fin N) : EReal :=
  if d.val / q % 2 = 0 then -cosines q r c hq d else cosines q r c hq d

/-- A row over the root of its mean square, the number of lanes being `n`, with gain `g`. -/
def rms {N : ℕ} (n : BitVec 32) (X g : Fin N → EReal) (d : Fin N) : EReal :=
  X d * Ideal.rsqrt (Ideal.div (∑ i, X i * X i) (Ideal.ofBits FTy.f32 n) + Ideal.ofBits FTy.f32 0x358637BD#32) * g d

/-- What one token's row is computed from: the projected row, the turns' cosines and sines, the gains, the up-projections. -/
structure Row where
  p : Fin 1696 → EReal
  c : Fin 64 → EReal
  s : Fin 64 → EReal
  cb : Fin 32 → EReal
  sb : Fin 32 → EReal
  gq : Fin 256 → EReal
  gkv : Fin 128 → EReal
  uq : Fin 256 → Fin 384 → EReal
  ukv : Fin 128 → Fin 512 → EReal
  gcq : Fin 64 → EReal
  gck : Fin 64 → EReal

/-- The source lane of lane `j` of the queries, the query heads of one key head set apart. -/
def lane (j : Fin 384) : Fin 384 := ⟨j.val / 64 % 2 * 192 + j.val / 128 * 64 + j.val % 64, by omega⟩

/-- The source lane of lane `d` of the head that lane `j` is in. -/
def headLane (j : Fin 384) (d : Fin 64) : Fin 384 := ⟨j.val / 64 % 2 * 192 + j.val / 128 * 64 + d.val, by omega⟩

/-- The lane within a head. -/
def within {N : ℕ} (j : Fin N) : Fin 64 := ⟨j.val % 64, by omega⟩

variable (r : Row)

/-- The first branch's queries. -/
def Row.qa (j : Fin 384) : EReal := turn 16 r.c r.s (fun d => r.p ⟨(headLane j d).val, by omega⟩) (within j)

/-- Its keys. -/
def Row.ka (j : Fin 128) : EReal := turn 16 r.c r.s (fun d => r.p ⟨384 + (j.val / 64 * 64 + d.val), by omega⟩) (within j)

/-- Its values. -/
def Row.va (j : Fin 128) : EReal := r.p ⟨512 + j.val, by omega⟩

/-- The second branch's queries before the turn: the normed latents up. -/
def Row.uqv (i : Fin 384) : EReal := ∑ k, rms 0x43800000#32 (fun k : Fin 256 => r.p ⟨640 + k.val, by omega⟩) r.gq k * r.uq k i

/-- Its keys and values before the turn. -/
def Row.ukvv (i : Fin 512) : EReal := ∑ k, rms 0x43000000#32 (fun k : Fin 128 => r.p ⟨896 + k.val, by omega⟩) r.gkv k * r.ukv k i

/-- The second branch's queries, a head on 128 lanes. -/
def Row.qb (j : Fin 512) : EReal :=
  if j.val % 128 < 64 then r.uqv ⟨j.val / 128 * 96 + j.val % 128 % 64, by omega⟩
  else if h : j.val % 128 < 96 then
    turn 8 r.cb r.sb (fun d => r.uqv ⟨j.val / 128 * 96 + 64 + d.val, by omega⟩) ⟨j.val % 32, by omega⟩
  else 0

/-- Its keys, the turned lanes the same for every head. -/
def Row.kb (j : Fin 512) : EReal :=
  if j.val % 128 < 64 then r.ukvv ⟨j.val, by omega⟩
  else if j.val % 128 < 96 then turn 8 r.cb r.sb (fun d => r.p ⟨1024 + d.val, by omega⟩) ⟨j.val % 32, by omega⟩
  else 0

/-- Its values. -/
def Row.vb (j : Fin 256) : EReal := r.ukvv ⟨j.val / 64 * 128 + 64 + j.val % 64, by omega⟩

/-- The third branch's queries, each head normed and turned. -/
def Row.qc (j : Fin 384) : EReal :=
  turn 16 r.c r.s (rms 0x42800000#32 (fun d => r.p ⟨1056 + (headLane j d).val, by omega⟩) r.gcq) (within j)

/-- Its keys. -/
def Row.kc (j : Fin 128) : EReal :=
  turn 16 r.c r.s (rms 0x42800000#32 (fun d => r.p ⟨1440 + (j.val / 64 * 64 + d.val), by omega⟩) r.gck) (within j)

/-- Its values. -/
def Row.vc (j : Fin 128) : EReal := r.p ⟨1568 + j.val, by omega⟩

/-! ## The same row as the kernel holds it -/

/-- The kernel's row: its projected row, tables, gains, up-projections and the matrix that averages over heads. -/
structure KRow where
  p : Fin 1792 → EReal
  c : Fin 128 → EReal
  s : Fin 128 → EReal
  cb : Fin 128 → EReal
  sb : Fin 128 → EReal
  gq : Fin 256 → EReal
  gkv : Fin 128 → EReal
  gc : Fin 512 → EReal
  uq : Fin 256 → Fin 512 → EReal
  uk : Fin 128 → Fin 768 → EReal
  bd : Fin 512 → Fin 512 → EReal

variable (κ : KRow)

/-- Lane `i` of the 128 that lane `j` is among. -/
def among {N : ℕ} (hN : N % 128 = 0) (j : Fin N) (i : Fin 128) : Fin N := ⟨j.val / 128 * 128 + i.val, by omega⟩

/-- Where lane `j` is among its 128. -/
def place {N : ℕ} (j : Fin N) : Fin 128 := ⟨j.val % 128, by omega⟩

/-- Lanes turned 128 at a time. -/
def turns {N : ℕ} (hN : N % 128 = 0) (q : ℕ) (c s : Fin 128 → EReal) (X : Fin N → EReal) (j : Fin N) : EReal :=
  turn q c s (fun i => X (among hN j i)) (place j)

/-- The third branch's lanes, normed. -/
def KRow.nc (j : Fin 512) : EReal :=
  κ.p ⟨512 + j.val, by omega⟩ * Ideal.rsqrt
    ((∑ i : Fin 512, κ.p ⟨512 + i.val, by omega⟩ * κ.p ⟨512 + i.val, by omega⟩ * κ.bd i j)
      + (∑ i : Fin 512, (κ.p ⟨512 + i.val, by omega⟩ * κ.p ⟨512 + i.val, by omega⟩ - κ.p ⟨512 + i.val, by omega⟩ * κ.p ⟨512 + i.val, by omega⟩) * κ.bd i j)
      + Ideal.ofBits FTy.f32 0x358637BD#32) * κ.gc j

/-- The second branch's queries before the turn. -/
def KRow.uqv (i : Fin 512) : EReal := ∑ l, rms 0x43800000#32 (fun l : Fin 256 => κ.p ⟨1280 + l.val, by omega⟩) κ.gq l * κ.uq l i

/-- Its keys and values before the turn. -/
def KRow.ukv (i : Fin 768) : EReal := ∑ l, rms 0x43000000#32 (fun l : Fin 128 => κ.p ⟨1536 + l.val, by omega⟩) κ.gkv l * κ.uk l i

/-- The first branch's queries and keys. -/
def KRow.a (j : Fin 512) : EReal := turns (by decide) 16 κ.c κ.s (fun i : Fin 512 => κ.p ⟨i.val, by omega⟩) j

/-- The third branch's. -/
def KRow.cc (j : Fin 512) : EReal := turns (by decide) 16 κ.c κ.s κ.nc j

/-- The second branch's queries. -/
def KRow.qb (j : Fin 512) : EReal := turns (by decide) 8 κ.cb κ.sb κ.uqv j

/-- The second branch's keys. -/
def KRow.kb (j : Fin 512) : EReal :=
  κ.ukv ⟨j.val, by omega⟩ + turn 8 κ.cb κ.sb (fun i => κ.p ⟨1664 + i.val, by omega⟩) (place j)

/-! ## The kernel's row from the row -/

/-- The kernel's columns from the source's: queries with their heads apart, then keys, then values, then the latents. -/
def spread (p : Fin 1696 → EReal) (j : Fin 1792) : EReal :=
  if h : j.val < 384 then p ⟨(lane ⟨j.val, h⟩).val, by omega⟩
  else if h : j.val < 512 then p ⟨j.val, by omega⟩
  else if h : j.val - 512 < 384 then p ⟨1056 + (lane ⟨j.val - 512, h⟩).val, by omega⟩
  else if h : j.val < 1024 then p ⟨1440 + (j.val - 896), by omega⟩
  else if h : j.val < 1152 then p ⟨512 + (j.val - 1024), by omega⟩
  else if h : j.val < 1280 then p ⟨1568 + (j.val - 1152), by omega⟩
  else if h : j.val < 1536 then p ⟨640 + (j.val - 1280), by omega⟩
  else if h : j.val < 1664 then p ⟨896 + (j.val - 1536), by omega⟩
  else if _h : j.val < 1728 then 0
  else if h : j.val < 1760 then p ⟨1024 + (j.val - 1728), by omega⟩
  else 0

/-- The kernel's row of a row. -/
def Row.k (r : Row) : KRow where
  p := spread r.p
  c j := r.c (within j)
  s j := r.s (within j)
  cb j := if j.val / 32 = 2 then r.cb ⟨j.val % 32, by omega⟩ else 1
  sb j := if j.val / 32 = 2 then r.sb ⟨j.val % 32, by omega⟩ else 0
  gq := r.gq
  gkv := r.gkv
  gc j := if j.val < 384 then r.gcq (within j) else r.gck (within j)
  uq l j := if h : j.val % 128 < 96 then r.uq l ⟨j.val / 128 * 96 + j.val % 128, by omega⟩ else 0
  uk l j := if h : j.val < 512 then (if j.val % 128 < 64 then r.ukv l ⟨j.val, h⟩ else 0)
    else r.ukv l ⟨(j.val - 512) / 64 * 128 + 64 + (j.val - 512) % 64, by omega⟩
  bd i j := if i.val / 64 = j.val / 64 then Ideal.ofBits FTy.f32 0x3C800000#32 else 0

end Cert.InProj

end
-- ==== Proof.InProj.Args.lean ====
/- The rows over the arguments as numbers. -/
module

public import proofs.«01_k».proof.Proof.InProj.Row
public import proofs.«01_k».proof.KernelIIdeal
public import Idealize.ShloMosaic.Lib.Pointwise

@[expose] public section

set_option maxRecDepth 16384

noncomputable section

namespace Cert.InProj

open Cert.KernelIIdeal Idealize.ShloMosaic

/-- The angle of frequency `i` at position `n`, the frequencies falling over `q` (a number's bits) steps. -/
def angle (q : BitVec 32) (n i : ℕ) : EReal :=
  FloatOps.sitofp (F := Ideal) FTy.f32 (BitVec.ofNat 32 n)
    * Ideal.pow (Ideal.ofBits FTy.f32 0x461C4000#32) (Ideal.div (-FloatOps.sitofp (F := Ideal) FTy.f32 (BitVec.ofNat 32 i)) (Ideal.ofBits FTy.f32 q))

/-- The cosines along a head of token `n`, its grid having rows of 64. -/
def cosTable {N : ℕ} (q : ℕ) (hq : 0 < q) (b : BitVec 32) (n : ℕ) : Fin N → EReal :=
  cosines q (fun i => Ideal.cos (angle b (n / 64) i.val)) (fun i => Ideal.cos (angle b (n % 64) i.val)) hq

/-- The signed sines. -/
def sinTable {N : ℕ} (q : ℕ) (hq : 0 < q) (b : BitVec 32) (n : ℕ) : Fin N → EReal :=
  sines q (fun i => Ideal.sin (angle b (n / 64) i.val)) (fun i => Ideal.sin (angle b (n % 64) i.val)) hq

/-- The arguments, in their order. -/
structure Args where
  x : Fin 16 → Fin 2048 → Fin 1024 → EReal
  sh : Fin 16 → Fin 1024 → EReal
  sc : Fin 16 → Fin 1024 → EReal
  w : Fin 1024 → Fin 1696 → EReal
  gq : Fin 256 → EReal
  gkv : Fin 128 → EReal
  uq : Fin 256 → Fin 384 → EReal
  ukv : Fin 128 → Fin 512 → EReal
  gcq : Fin 64 → EReal
  gck : Fin 64 → EReal

/-- Token `n` of sample `b`, as a row. -/
def Args.row (a : Args) (b : Fin 16) (n : Fin 2048) : Row where
  p i := ∑ k, modulate (a.x b n) (a.sc b) (a.sh b) k * a.w k i
  c := cosTable 16 (by decide) 0x41800000#32 n.val
  s := sinTable 16 (by decide) 0x41800000#32 n.val
  cb := cosTable 8 (by decide) 0x41000000#32 n.val
  sb := sinTable 8 (by decide) 0x41000000#32 n.val
  gq := a.gq
  gkv := a.gkv
  uq := a.uq
  ukv := a.ukv
  gcq := a.gcq
  gck := a.gck

/-- The nine results' arrays. -/
def Args.qa (a : Args) : FVec Ideal S16x2048x384 .bf16 := fun i => (a.row (i 0) (i 1)).qa (i 2)

/-- The second. -/
def Args.ka (a : Args) : FVec Ideal S16x2048x128 .bf16 := fun i => (a.row (i 0) (i 1)).ka (i 2)

/-- The third, its lanes first. -/
def Args.va (a : Args) : FVec Ideal S16x128x2048 .bf16 := fun i => (a.row (i 0) (i 2)).va (i 1)

/-- The fourth. -/
def Args.qb (a : Args) : FVec Ideal S16x2048x512 .bf16 := fun i => (a.row (i 0) (i 1)).qb (i 2)

/-- The fifth. -/
def Args.kb (a : Args) : FVec Ideal S16x2048x512 .bf16 := fun i => (a.row (i 0) (i 1)).kb (i 2)

/-- The sixth, its lanes first. -/
def Args.vb (a : Args) : FVec Ideal S16x256x2048 .bf16 := fun i => (a.row (i 0) (i 2)).vb (i 1)

/-- The seventh. -/
def Args.qc (a : Args) : FVec Ideal S16x2048x384 .bf16 := fun i => (a.row (i 0) (i 1)).qc (i 2)

/-- The eighth. -/
def Args.kc (a : Args) : FVec Ideal S16x2048x128 .bf16 := fun i => (a.row (i 0) (i 1)).kc (i 2)

/-- The ninth, its lanes first. -/
def Args.vc (a : Args) : FVec Ideal S16x128x2048 .bf16 := fun i => (a.row (i 0) (i 2)).vc (i 1)

/-- The arguments' numbers, from their arrays. -/
def pack (x : FVec Ideal S16x2048x1024 .f32) (sh sc : FVec Ideal S16x1024 .f32) (w : FVec Ideal S1024x1696 .f32) (gq : FVec Ideal S256 .f32)
    (gkv : FVec Ideal S128 .f32) (uq : FVec Ideal S256x384 .f32) (ukv : FVec Ideal S128x512 .f32) (gcq gck : FVec Ideal S64 .f32) : Args where
  x b n d := x (ix3 b n d)
  sh b d := sh (ix2 b d)
  sc b d := sc (ix2 b d)
  w k i := w (ix2 k i)
  gq i := gq (ix1 i)
  gkv i := gkv (ix1 i)
  uq k i := uq (ix2 k i)
  ukv k i := ukv (ix2 k i)
  gcq i := gcq (ix1 i)
  gck i := gck (ix1 i)

end Cert.InProj

end
-- ==== Proof.InProj.Finite.lean ====
/- The input projection of finite arguments is finite. -/
module

public import proofs.«01_k».proof.Proof.Attn.Finite
public import proofs.«01_k».proof.Proof.InProj.Args
public import proofs.«01_k».proof.Proof.Gen.Pre_finite_i

@[expose] public section

set_option maxRecDepth 16384

noncomputable section

namespace Cert.InProj

open Cert.Pre_finite_i Idealize.ShloMosaic

/-- The precondition's arguments hold reals. -/
theorem reals (x : FVec Ideal S16x2048x1024 .f32) (sh sc : FVec Ideal S16x1024 .f32) (w : FVec Ideal S1024x1696 .f32) (gq : FVec Ideal S256 .f32)
    (gkv : FVec Ideal S128 .f32) (uq : FVec Ideal S256x384 .f32) (ukv : FVec Ideal S128x512 .f32) (gcq gck : FVec Ideal S64 .f32)
    (h : Cert.Pre_finite_i.fn (F := Ideal) x sh sc w gq gkv uq ukv gcq gck = fun _ => 1#1) :
    (∀ i, ∃ r : ℝ, x i = r) ∧ (∀ i, ∃ r : ℝ, sh i = r) ∧ (∀ i, ∃ r : ℝ, sc i = r) ∧ ∀ i, ∃ r : ℝ, w i = r := by
  have e := congrFun h ix0
  obtain ⟨e, e4⟩ := IntOp.andi_eq_one.1 e
  obtain ⟨e, e3⟩ := IntOp.andi_eq_one.1 e
  obtain ⟨e1, e2⟩ := IntOp.andi_eq_one.1 e
  haveI : Subsingleton (Cert.Pre_finite_i.S_).Idx := ⟨fun a b => funext fun d => d.elim0⟩
  exact ⟨Attn.reals_of_all _ _ _ _ _ _ _ e1, Attn.reals_of_all _ _ _ _ _ _ _ e2, Attn.reals_of_all _ _ _ _ _ _ _ e3, Attn.reals_of_all _ _ _ _ _ _ _ e4⟩

/-- So the projection is real. -/
theorem row_real (x : FVec Ideal S16x2048x1024 .f32) (sh sc : FVec Ideal S16x1024 .f32) (w : FVec Ideal S1024x1696 .f32) (gq : FVec Ideal S256 .f32)
    (gkv : FVec Ideal S128 .f32) (uq : FVec Ideal S256x384 .f32) (ukv : FVec Ideal S128x512 .f32) (gcq gck : FVec Ideal S64 .f32)
    (h : Cert.Pre_finite_i.fn (F := Ideal) x sh sc w gq gkv uq ukv gcq gck = fun _ => 1#1) (b : Fin 16) (n : Fin 2048) (i : Fin 1696) :
    ∃ y : ℝ, ((pack x sh sc w gq gkv uq ukv gcq gck).row b n).p i = y := by
  obtain ⟨hx, hsh, hsc, hw⟩ := reals x sh sc w gq gkv uq ukv gcq gck h
  choose X hX using hx
  choose Sh hSh using hsh
  choose Sc hSc using hsc
  choose W hW using hw
  refine ⟨∑ k : Fin 1024, (X (ix3 b n k) * (1 + Sc (ix2 b k)) + Sh (ix2 b k)) * W (ix2 k i), ?_⟩
  show (∑ k : Fin 1024, (x (ix3 b n k) * (1 + sc (ix2 b k)) + sh (ix2 b k)) * w (ix2 k i) : EReal) = _
  rw [Attn.coe_sum]
  refine Finset.sum_congr rfl fun k _ => ?_
  rw [hX, hSh, hSc, hW]
  push_cast
  rfl

end Cert.InProj

end
-- ==== Proof.InProj.Turn.lean ====
/- The kernel's turns of a block's lanes, read at an index. -/
module

public import proofs.«01_k».proof.Proof.Gen.KernelIIdeal.Value
public import proofs.«01_k».proof.Proof.InProj.Row
public import Idealize.ShloMosaic.Lib.Pointwise
public import Idealize.ShloMosaic.Lib.KernelVsHost

@[expose] public section

set_option maxRecDepth 16384

noncomputable section

namespace Cert.InProj

open Cert.KernelIIdeal Cert.KernelIIdeal.Gen Idealize.ShloMosaic

/-- Lanes moved by 112, at an index. -/
theorem moved_112 (v : FVec Ideal S1024x128 .f32) (s : Fin 1024) (j : Fin 128) :
    dynamicRotate 1 112#32 none v rotates_S1024x128_d1 (ix2 s j) = v (ix2 s ⟨(j.val + 16) % 128, by omega⟩) := by
  refine dynamicRotate_apply 1 _ v _ _ _ fun b => ?_
  fin_cases b
  · rfl
  · show (j.val + 16) % 128 = (j.val + 128 - 112 % 128) % 128
    omega

/-- Lanes moved by 16. -/
theorem moved_16 (v : FVec Ideal S1024x128 .f32) (s : Fin 1024) (j : Fin 128) :
    dynamicRotate 1 16#32 none v rotates_S1024x128_d1 (ix2 s j) = v (ix2 s ⟨(j.val + 128 - 16) % 128, by omega⟩) := by
  refine dynamicRotate_apply 1 _ v _ _ _ fun b => ?_
  fin_cases b <;> rfl

/-- Lanes moved by 120. -/
theorem moved_120 (v : FVec Ideal S1024x128 .f32) (s : Fin 1024) (j : Fin 128) :
    dynamicRotate 1 120#32 none v rotates_S1024x128_d1 (ix2 s j) = v (ix2 s ⟨(j.val + 8) % 128, by omega⟩) := by
  refine dynamicRotate_apply 1 _ v _ _ _ fun b => ?_
  fin_cases b
  · rfl
  · show (j.val + 8) % 128 = (j.val + 128 - 120 % 128) % 128
    omega

/-- Lanes moved by 8. -/
theorem moved_8 (v : FVec Ideal S1024x128 .f32) (s : Fin 1024) (j : Fin 128) :
    dynamicRotate 1 8#32 none v rotates_S1024x128_d1 (ix2 s j) = v (ix2 s ⟨(j.val + 128 - 8) % 128, by omega⟩) := by
  refine dynamicRotate_apply 1 _ v _ _ _ fun b => ?_
  fin_cases b <;> rfl

/-- One where the lane's run of `q` is the first of its pair. -/
def Marks (q : ℕ) (mk : IVec S1024x128 1) : Prop := ∀ s j, mk (ix2 s j) = if j.val / q % 2 = 0 then 1#1 else 0#1

/-- A block's lanes turned with their mates 16 away. -/
def rot16 (mk : IVec S1024x128 1) (c sn v : FVec Ideal S1024x128 .f32) : FVec Ideal S1024x128 .f32 :=
  addf (mulf v c) (mulf (select mk (dynamicRotate 1 112#32 none v rotates_S1024x128_d1)
    (dynamicRotate 1 16#32 none v rotates_S1024x128_d1)) sn)

/-- With their mates 8 away. -/
def rot8 (mk : IVec S1024x128 1) (c sn v : FVec Ideal S1024x128 .f32) : FVec Ideal S1024x128 .f32 :=
  addf (mulf v c) (mulf (select mk (dynamicRotate 1 120#32 none v rotates_S1024x128_d1)
    (dynamicRotate 1 8#32 none v rotates_S1024x128_d1)) sn)

theorem rot16_apply (mk : IVec S1024x128 1) (h : Marks 16 mk) (c sn v : FVec Ideal S1024x128 .f32) (s : Fin 1024) (j : Fin 128) :
    rot16 mk c sn v (ix2 s j) = turn 16 (fun i => c (ix2 s i)) (fun i => sn (ix2 s i)) (fun i => v (ix2 s i)) j := by
  show v (ix2 s j) * c (ix2 s j) + Scalar.select (mk (ix2 s j)) (dynamicRotate 1 112#32 none v rotates_S1024x128_d1 (ix2 s j))
    (dynamicRotate 1 16#32 none v rotates_S1024x128_d1 (ix2 s j)) * sn (ix2 s j) = _
  rw [h s j, moved_112, moved_16]
  unfold turn mate
  by_cases e : j.val / 16 % 2 = 0
  · simp only [if_pos e]; rfl
  · simp only [if_neg e]; rfl

theorem rot8_apply (mk : IVec S1024x128 1) (h : Marks 8 mk) (c sn v : FVec Ideal S1024x128 .f32) (s : Fin 1024) (j : Fin 128) :
    rot8 mk c sn v (ix2 s j) = turn 8 (fun i => c (ix2 s i)) (fun i => sn (ix2 s i)) (fun i => v (ix2 s i)) j := by
  show v (ix2 s j) * c (ix2 s j) + Scalar.select (mk (ix2 s j)) (dynamicRotate 1 120#32 none v rotates_S1024x128_d1 (ix2 s j))
    (dynamicRotate 1 8#32 none v rotates_S1024x128_d1 (ix2 s j)) * sn (ix2 s j) = _
  rw [h s j, moved_120, moved_8]
  unfold turn mate
  by_cases e : j.val / 8 % 2 = 0
  · simp only [if_pos e]; rfl
  · simp only [if_neg e]; rfl

/-- Four blocks of 128 lanes side by side. -/
def four (f : FVec Ideal S1024x128 .f32 → FVec Ideal S1024x128 .f32) (v : FVec Ideal S1024x512 .f32) : FVec Ideal S1024x512 .f32 :=
  concatenate S1024x512 1 [⟨S1024x128, f (extractStridedSlice S1024x128 ![0, 0] v slices_S1024x512_o0_0_S1024x128)⟩,
    ⟨S1024x128, f (extractStridedSlice S1024x128 ![0, 128] v slices_S1024x512_o0_128_S1024x128)⟩,
    ⟨S1024x128, f (extractStridedSlice S1024x128 ![0, 256] v slices_S1024x512_o0_256_S1024x128)⟩,
    ⟨S1024x128, f (extractStridedSlice S1024x128 ![0, 384] v slices_S1024x512_o0_384_S1024x128)⟩]
    concatenates_S1024x128_S1024x128_S1024x128_S1024x128_S1024x512_d1

/-- The lanes of four blocks, each turned. -/
theorem four_apply (f : FVec Ideal S1024x128 .f32 → FVec Ideal S1024x128 .f32) (q : ℕ) (c sn : FVec Ideal S1024x128 .f32)
    (hf : ∀ v s j, f v (ix2 s j) = turn q (fun i => c (ix2 s i)) (fun i => sn (ix2 s i)) (fun i => v (ix2 s i)) j)
    (v : FVec Ideal S1024x512 .f32) (s : Fin 1024) (j : Fin 512) :
    four f v (ix2 s j) = turns (by decide) q (fun i => c (ix2 s i)) (fun i => sn (ix2 s i)) (fun i => v (ix2 s i)) j := by
  have hj := j.isLt
  have go : ∀ (w : FVec Ideal S1024x128 .f32) (i : Fin 128),
      (∀ l : Fin 128, w (ix2 s l) = v (ix2 s (among (by decide) j l))) → i = place j →
      f w (ix2 s i) = turns (by decide) q (fun i => c (ix2 s i)) (fun i => sn (ix2 s i)) (fun i => v (ix2 s i)) j := by
    intro w i hw hi
    rw [hf, hi]
    unfold turns
    congr 1
    exact funext hw
  pointwise [four]
  by_cases h1 : j.val < 128
  · rw [dif_pos h1]
    refine go _ _ (fun l => ?_) (Fin.ext ?_)
    · pointwise
      exact congrArg (fun a => v (ix2 s a)) (Fin.ext (by simp only [among]; omega))
    · simp only [place]; omega
  rw [dif_neg h1]
  by_cases h2 : j.val - 128 < 128
  · rw [dif_pos h2]
    refine go _ _ (fun l => ?_) (Fin.ext ?_)
    · pointwise
      exact congrArg (fun a => v (ix2 s a)) (Fin.ext (by simp only [among]; omega))
    · simp only [place]; omega
  rw [dif_neg h2]
  by_cases h3 : j.val - 128 - 128 < 128
  · rw [dif_pos h3]
    refine go _ _ (fun l => ?_) (Fin.ext ?_)
    · pointwise
      exact congrArg (fun a => v (ix2 s a)) (Fin.ext (by simp only [among]; omega))
    · simp only [place]; omega
  rw [dif_neg h3]
  refine go _ _ (fun l => ?_) (Fin.ext ?_)
  · pointwise
    exact congrArg (fun a => v (ix2 s a)) (Fin.ext (by simp only [among]; omega))
  · simp only [place]; omega

/-- The first branch's marks. -/
theorem marks_a : Marks 16 (k0_pay13 (iota .tc S1024x128 32 [1] iota_S1024x128_d1_w32) 16#32 k0_pay10 k0_pay11 k0_pay12) := by
  intro s j
  pointwise [k0_pay13, k0_pay10, k0_pay11, k0_pay12]
  clear s
  revert j
  decide +kernel

/-- The third branch's. -/
def mk_c : IVec S1024x128 1 :=
  cmpi .eq (select (andi k0_pay25 k0_pay24) (addi k0_pay23 (broadcast S1024x128 (Scalar.select (Scalar.cmpi .eq 2#32 0#32) 1#32 2#32))) k0_pay23)
    (broadcast S1024x128 0#32)

theorem marks_c : Marks 16 mk_c := by
  intro s j
  pointwise [mk_c, k0_pay25, k0_pay24, k0_pay23]
  clear s
  revert j
  decide +kernel

/-- The second branch's turned key lanes'. -/
def mk_k : IVec S1024x128 1 := cmpi .eq k0_pay40 (broadcast S1024x128 0#32)

theorem marks_k : Marks 8 mk_k := by
  intro s j
  pointwise [mk_k, k0_pay40]
  clear s
  revert j
  decide +kernel

/-- Its queries'. -/
def mk_b : IVec S1024x128 1 :=
  cmpi .eq (select (andi (xori (cmpi .slt k0_pay43 (broadcast S1024x128 0#32))
      (broadcastTo S1024x128 (broadcast S1024x128 (Scalar.cmpi .slt (Scalar.select (Scalar.cmpi .eq 2#32 0#32) 1#32 2#32) 0#32)) broadcasts_S1024x128_S1024x128)) k0_pay44)
    (addi k0_pay43 (broadcast S1024x128 (Scalar.select (Scalar.cmpi .eq 2#32 0#32) 1#32 2#32))) k0_pay43) (broadcast S1024x128 0#32)

theorem marks_b : Marks 8 mk_b := by
  intro s j
  pointwise [mk_b, k0_pay43, k0_pay44]
  clear s
  revert j
  decide +kernel

/-- The first branch's turned lanes. -/
theorem turned_a (c sn : FVec Ideal S1024x128 .f32) (v : FVec Ideal S1024x512 .f32) (s : Fin 1024) (j : Fin 512) :
    k0_pay17 (F := Ideal) c sn v (k0_pay13 (iota .tc S1024x128 32 [1] iota_S1024x128_d1_w32) 16#32 k0_pay10 k0_pay11 k0_pay12)
      (k0_pay14 c sn v (iota .tc S1024x128 32 [1] iota_S1024x128_d1_w32) 16#32 k0_pay10 k0_pay11 k0_pay12) (k0_pay15 v)
      (k0_pay16 v (iota .tc S1024x128 32 [1] iota_S1024x128_d1_w32) 16#32 k0_pay10 k0_pay11 k0_pay12) (ix2 s j)
      = turns (by decide) 16 (fun i => c (ix2 s i)) (fun i => sn (ix2 s i)) (fun i => v (ix2 s i)) j :=
  four_apply (rot16 _ c sn) 16 c sn (fun v s j => rot16_apply _ marks_a c sn v s j) v s j

/-- The third's. -/
theorem turned_c (c sn : FVec Ideal S1024x128 .f32) (v : FVec Ideal S1024x512 .f32) (s : Fin 1024) (j : Fin 512) :
    k0_pay26 (F := Ideal) c sn v (Scalar.select (Scalar.cmpi .eq 2#32 0#32) 1#32 2#32) k0_pay23 k0_pay24 k0_pay25 (ix2 s j)
      = turns (by decide) 16 (fun i => c (ix2 s i)) (fun i => sn (ix2 s i)) (fun i => v (ix2 s i)) j :=
  four_apply (rot16 mk_c c sn) 16 c sn (fun v s j => rot16_apply _ marks_c c sn v s j) v s j

/-- The second's queries. -/
theorem turned_b (c sn : FVec Ideal S1024x128 .f32) (v : FVec Ideal S1024x512 .f32) (s : Fin 1024) (j : Fin 512) :
    k0_pay45 (F := Ideal) c sn v (Scalar.select (Scalar.cmpi .eq 2#32 0#32) 1#32 2#32) k0_pay43 k0_pay44 0#32 (ix3 0 s j)
      = turns (by decide) 8 (fun i => c (ix2 s i)) (fun i => sn (ix2 s i)) (fun i => v (ix2 s i)) j := by
  have e : k0_pay45 (F := Ideal) c sn v (Scalar.select (Scalar.cmpi .eq 2#32 0#32) 1#32 2#32) k0_pay43 k0_pay44 0#32
      = shapeCast S1x1024x512 (truncf .bf16 (four (rot8 mk_b c sn) v) bitsLt_bf16_f32) shapeCasts_S1024x512_S1x1024x512 := rfl
  rw [e]
  pointwise
  exact four_apply (rot8 mk_b c sn) 8 c sn (fun v s j => rot8_apply _ marks_b c sn v s j) v s j

/-- The second's key lanes. -/
theorem turned_k (c sn v : FVec Ideal S1024x128 .f32) (s : Fin 1024) (j : Fin 128) :
    k0_pay41 (F := Ideal) c sn v k0_pay40 (ix2 s j)
      = turn 8 (fun i => c (ix2 s i)) (fun i => sn (ix2 s i)) (fun i => v (ix2 s i)) j :=
  rot8_apply mk_k marks_k c sn v s j

end Cert.InProj

end
-- ==== Proof.InProj.Block.lean ====
/- One block of the input projection (1024 tokens of a sample), read at an index: each of its nine results is a token's row. -/
module

public import proofs.«01_k».proof.Proof.InProj.Turn
public import Idealize.ShloMosaic.Lib.Pipeline.ValueKit

@[expose] public section

set_option maxRecDepth 16384

noncomputable section

namespace Cert.InProj

open Cert.KernelIIdeal Cert.KernelIIdeal.Gen Idealize.ShloMosaic

/-- The projected rows. -/
theorem proj_apply (x : Vec Ideal S1x1024x1024 .f32) (sc sh : Vec Ideal S1x1x1024 .f32) (w : Vec Ideal S1024x1792 .bf16) (s : Fin 1024) (j : Fin 1792) :
    k0_pay8 (F := Ideal) x sc sh w (ix2 s j)
      = ∑ k, modulate (fun d => x (ix3 0 s d)) (fun d => sc (ix3 0 0 d)) (fun d => sh (ix3 0 0 d)) k * w (ix2 k j) := by
  pointwise [k0_pay8]
  rfl

/-- The third branch's lanes, normed. -/
theorem normed_apply (p : FVec Ideal S1024x1792 .f32) (m1 m2 : Vec Ideal S512x512 .bf16) (g : Vec Ideal S1x512 .f32) (s : Fin 1024) (j : Fin 512) :
    k0_pay22 (F := Ideal) (k0_pay20 p) (k0_pay21 p m1 m2) (Scalar.ofBits .f32 0x358637BD#32) g (ix2 s j)
      = p (ix2 s ⟨512 + j.val, by omega⟩) * Ideal.rsqrt
        ((∑ i : Fin 512, p (ix2 s ⟨512 + i.val, by omega⟩) * p (ix2 s ⟨512 + i.val, by omega⟩) * m1 (ix2 i j))
          + (∑ i : Fin 512, (p (ix2 s ⟨512 + i.val, by omega⟩) * p (ix2 s ⟨512 + i.val, by omega⟩)
              - p (ix2 s ⟨512 + i.val, by omega⟩) * p (ix2 s ⟨512 + i.val, by omega⟩)) * m2 (ix2 i j))
          + Ideal.ofBits FTy.f32 0x358637BD#32) * g (ix2 0 j) := by
  pointwise [k0_pay22, k0_pay21, k0_pay20]

/-- The second branch's queries before the turn. -/
theorem uq_apply (p : FVec Ideal S1024x1792 .f32) (g : Vec Ideal S1x256 .f32) (w : Vec Ideal S256x512 .bf16) (s : Fin 1024) (j : Fin 512) :
    k0_pay42 (F := Ideal) (k0_pay34 p g) w (ix2 s j)
      = ∑ l, rms 0x43800000#32 (fun l : Fin 256 => p (ix2 s ⟨1280 + l.val, by omega⟩)) (fun l => g (ix2 0 l)) l * w (ix2 l j) := by
  pointwise [k0_pay42, k0_pay34, k0_pay33]
  rfl

/-- The normed latents of its keys and values. -/
theorem ckv_apply (p : FVec Ideal S1024x1792 .f32) (g : Vec Ideal S1x128 .f32) (s : Fin 1024) (l : Fin 128) :
    k0_pay38 (F := Ideal) (k0_pay35 p) (k0_pay36 g) (k0_pay37 p) (ix2 s l)
      = rms 0x43000000#32 (fun l : Fin 128 => p (ix2 s ⟨1536 + l.val, by omega⟩)) (fun l => g (ix2 0 l)) l := by
  pointwise [k0_pay38, k0_pay37, k0_pay36, k0_pay35, k0_pay33]
  simp only [← Nat.add_assoc, Nat.reduceAdd]
  rfl

/-- Its keys. -/
theorem kb_apply (v : FVec Ideal S1024x128 .bf16) (y : FVec Ideal S1024x128 .f32) (w : Vec Ideal S128x768 .bf16) (s : Fin 1024) (j : Fin 512) :
    k0_pay2 (F := Ideal) v y w (ix3 0 s j) = (∑ l, v (ix2 s l) * w (ix2 l ⟨j.val, by omega⟩)) + y (ix2 s (place j)) := by
  pointwise [k0_pay2, k0_pay1]
  congr 1
  have e : ∀ (a : ℕ) (ha : a < 128), a = j.val % 128 → y (ix2 s ⟨a, ha⟩) = y (ix2 s (place j)) :=
    fun a ha h => congrArg (fun i => y (ix2 s i)) (Fin.ext h)
  have hj := j.isLt
  by_cases h1 : j.val < 128
  · rw [dif_pos h1]; exact e _ _ (by omega)
  rw [dif_neg h1]
  by_cases h2 : j.val - 128 < 128
  · rw [dif_pos h2]; exact e _ _ (by omega)
  rw [dif_neg h2]
  by_cases h3 : j.val - 128 - 128 < 128
  · rw [dif_pos h3]; exact e _ _ (by omega)
  rw [dif_neg h3]; exact e _ _ (by omega)

/-- Its values. -/
theorem vb_apply (v : FVec Ideal S1024x128 .bf16) (w : Vec Ideal S128x768 .bf16) (s : Fin 1024) (j : Fin 256) :
    k0_pay3 (F := Ideal) v w (ix3 0 j s) = ∑ l, v (ix2 s l) * w (ix2 l ⟨512 + j.val, by omega⟩) := by
  pointwise [k0_pay3, k0_pay1]

/-- The tables as they are loaded. -/
theorem table_4 (x : Vec Ideal S1024x128 .f32) (s : Fin 1024) (j : Fin 128) : k0_pay4 (F := Ideal) x (ix2 s j) = x (ix2 s j) := by
  pointwise [k0_pay4]

theorem table_5 (x : Vec Ideal S1024x128 .f32) (s : Fin 1024) (j : Fin 128) : k0_pay5 (F := Ideal) x (ix2 s j) = x (ix2 s j) := by
  pointwise [k0_pay5]

theorem table_6 (x : Vec Ideal S1024x128 .f32) (s : Fin 1024) (j : Fin 128) : k0_pay6 (F := Ideal) x (ix2 s j) = x (ix2 s j) := by
  pointwise [k0_pay6]

theorem table_7 (x : Vec Ideal S1024x128 .f32) (s : Fin 1024) (j : Fin 128) : k0_pay7 (F := Ideal) x (ix2 s j) = x (ix2 s j) := by
  pointwise [k0_pay7]

variable (x0 : Vec Ideal S1x1024x1024 .f32) (x1 x2 : Vec Ideal S1x1x1024 .f32) (x3 : Vec Ideal S1024x1792 .bf16) (x4 : Vec Ideal S256x512 .bf16)
  (x5 : Vec Ideal S128x768 .bf16) (x6 : Vec Ideal S512x512 .bf16) (x7 : Vec Ideal S1x256 .f32) (x8 : Vec Ideal S1x128 .f32) (x9 : Vec Ideal S1x512 .f32)
  (x10 x11 x12 x13 : Vec Ideal S1024x128 .f32)

/-- Token `s` of a block, as a row. -/
def brow (s : Fin 1024) : KRow where
  p j := ∑ k, modulate (fun d => x0 (ix3 0 s d)) (fun d => x1 (ix3 0 0 d)) (fun d => x2 (ix3 0 0 d)) k * x3 (ix2 k j)
  c j := x10 (ix2 s j)
  s j := x11 (ix2 s j)
  cb j := x12 (ix2 s j)
  sb j := x13 (ix2 s j)
  gq j := x7 (ix2 0 j)
  gkv j := x8 (ix2 0 j)
  gc j := x9 (ix2 0 j)
  uq l j := x4 (ix2 l j)
  uk l j := x5 (ix2 l j)
  bd i j := x6 (ix2 i j)

/-- Three zero offsets are the zero offsets. -/
theorem hz3 : (![0, 0, 0] : Fin 3 → Nat) = fun _ => 0 := funext fun a => by fin_cases a <;> rfl

/-- Two are. -/
theorem hz2 : (![0, 0] : Fin 2 → Nat) = fun _ => 0 := funext fun a => by fin_cases a <;> rfl

/-- A whole block, as loaded. -/
theorem ld_0 (x : Vec Ideal S1x1024x1024 .f32) : View.ld x r0_0 = x := by rw [View.ld_unit_zero hz3]

theorem ld_1 (x : Vec Ideal S1x1x1024 .f32) : View.ld x r0_1 = x := by rw [View.ld_unit_zero hz3]

theorem ld_2 (x : Vec Ideal S1024x128 .f32) : View.ld x r0_2 = x := by rw [View.ld_unit_zero hz2]

theorem ld_3 (x : Vec Ideal S1024x1792 .bf16) : View.ld x r0_3 = x := by rw [View.ld_unit_zero hz2]

theorem ld_6 (x : Vec Ideal S512x512 .bf16) : View.ld x r0_6 = x := by rw [View.ld_unit_zero hz2]

theorem ld_7 (x : Vec Ideal S1x512 .f32) : View.ld x r0_7 = x := by rw [View.ld_unit_zero hz2]

theorem ld_9 (x : Vec Ideal S1x256 .f32) : View.ld x r0_9 = x := by rw [View.ld_unit_zero hz2]

theorem ld_10 (x : Vec Ideal S1x128 .f32) : View.ld x r0_10 = x := by rw [View.ld_unit_zero hz2]

theorem ld_11 (x : Vec Ideal S256x512 .bf16) : View.ld x r0_11 = x := by rw [View.ld_unit_zero hz2]

theorem ld_13 (x : Vec Ideal S128x768 .bf16) : View.ld x r0_13 = x := by rw [View.ld_unit_zero hz2]

/-- The projected row of the block's token. -/
theorem proj_eq (s : Fin 1024) (j : Fin 1792) :
    k0_pay51 (F := Ideal) x0 x1 x2 x3 x4 x5 x6 x7 x8 x9 x10 x11 x12 x13 (ix2 s j) = (brow x0 x1 x2 x3 x4 x5 x6 x7 x8 x9 x10 x11 x12 x13 s).p j := by
  unfold k0_pay51
  rw [ld_0, ld_1, ld_1, ld_3]
  exact proj_apply _ _ _ _ s j

/-- Lanes turned, equal when the numbers are. -/
theorem turns_congr {N : ℕ} (hN : N % 128 = 0) (q : ℕ) {c c' s s' : Fin 128 → EReal} {X X' : Fin N → EReal}
    (hc : ∀ i, c i = c' i) (hs : ∀ i, s i = s' i) (hX : ∀ i, X i = X' i) (j : Fin N) : turns hN q c s X j = turns hN q c' s' X' j := by
  rw [funext hc, funext hs, funext hX]

/-- The first branch's turned lanes of the block's token. -/
theorem a_eq (s : Fin 1024) (j : Fin 512) :
    k0_pay17 (F := Ideal) (k0_pay47 x0 x1 x2 x3 x4 x5 x6 x7 x8 x9 x10 x11 x12 x13) (k0_pay48 x0 x1 x2 x3 x4 x5 x6 x7 x8 x9 x10 x11 x12 x13)
      (k0_pay52 x0 x1 x2 x3 x4 x5 x6 x7 x8 x9 x10 x11 x12 x13) (k0_pay56 x0 x1 x2 x3 x4 x5 x6 x7 x8 x9 x10 x11 x12 x13)
      (k0_pay57 x0 x1 x2 x3 x4 x5 x6 x7 x8 x9 x10 x11 x12 x13) (k0_pay58 x0 x1 x2 x3 x4 x5 x6 x7 x8 x9 x10 x11 x12 x13)
      (k0_pay59 x0 x1 x2 x3 x4 x5 x6 x7 x8 x9 x10 x11 x12 x13) (ix2 s j)
      = (brow x0 x1 x2 x3 x4 x5 x6 x7 x8 x9 x10 x11 x12 x13 s).a j := by
  refine (turned_a _ _ _ s j).trans (turns_congr _ _ (fun i => ?_) (fun i => ?_) (fun i => ?_) j)
  · unfold k0_pay47
    rw [ld_2]
    exact table_4 _ _ _
  · unfold k0_pay48
    rw [ld_2]
    exact table_5 _ _ _
  · unfold k0_pay52
    rw [ld_0, ld_1, ld_1, ld_3]
    pointwise [k0_pay9]
    exact proj_apply _ _ _ _ s _

/-- The third branch's normed lanes. -/
theorem nc_eq (s : Fin 1024) (j : Fin 512) :
    k0_pay60 (F := Ideal) x0 x1 x2 x3 x4 x5 x6 x7 x8 x9 x10 x11 x12 x13 (ix2 s j) = (brow x0 x1 x2 x3 x4 x5 x6 x7 x8 x9 x10 x11 x12 x13 s).nc j := by
  unfold k0_pay60
  rw [ld_6, ld_7]
  refine (normed_apply _ _ _ _ s j).trans ?_
  simp only [proj_eq]
  rfl

/-- Its turned lanes. -/
theorem c_eq (s : Fin 1024) (j : Fin 512) :
    k0_pay26 (F := Ideal) (k0_pay47 x0 x1 x2 x3 x4 x5 x6 x7 x8 x9 x10 x11 x12 x13) (k0_pay48 x0 x1 x2 x3 x4 x5 x6 x7 x8 x9 x10 x11 x12 x13)
      (k0_pay60 x0 x1 x2 x3 x4 x5 x6 x7 x8 x9 x10 x11 x12 x13) (Scalar.select (Scalar.cmpi .eq 2#32 0#32) 1#32 2#32)
      (k0_pay61 x0 x1 x2 x3 x4 x5 x6 x7 x8 x9 x10 x11 x12 x13) (k0_pay62 x0 x1 x2 x3 x4 x5 x6 x7 x8 x9 x10 x11 x12 x13)
      (k0_pay63 x0 x1 x2 x3 x4 x5 x6 x7 x8 x9 x10 x11 x12 x13) (ix2 s j)
      = (brow x0 x1 x2 x3 x4 x5 x6 x7 x8 x9 x10 x11 x12 x13 s).cc j := by
  refine (turned_c _ _ _ s j).trans (turns_congr _ _ (fun i => ?_) (fun i => ?_) (fun i => ?_) j)
  · unfold k0_pay47
    rw [ld_2]
    exact table_4 _ _ _
  · unfold k0_pay48
    rw [ld_2]
    exact table_5 _ _ _
  · exact nc_eq _ _ _ _ _ _ _ _ _ _ _ _ _ _ s i

/-- The first result. -/
theorem out14_apply (s : Fin 1024) (j : Fin 384) :
    out0_14 (F := Ideal) x0 x1 x2 x3 x4 x5 x6 x7 x8 x9 x10 x11 x12 x13 (ix3 0 s j)
      = (brow x0 x1 x2 x3 x4 x5 x6 x7 x8 x9 x10 x11 x12 x13 s).a ⟨j.val, by omega⟩ := by
  unfold out0_14
  rw [View.canon_unit_zero hz3]
  pointwise [k0_pay18]
  exact a_eq _ _ _ _ _ _ _ _ _ _ _ _ _ _ s _

/-- The second. -/
theorem out15_apply (s : Fin 1024) (j : Fin 128) :
    out0_15 (F := Ideal) x0 x1 x2 x3 x4 x5 x6 x7 x8 x9 x10 x11 x12 x13 (ix3 0 s j)
      = (brow x0 x1 x2 x3 x4 x5 x6 x7 x8 x9 x10 x11 x12 x13 s).a ⟨384 + j.val, by omega⟩ := by
  unfold out0_15
  rw [View.canon_unit_zero hz3]
  pointwise [k0_pay19]
  exact a_eq _ _ _ _ _ _ _ _ _ _ _ _ _ _ s _

/-- The third. -/
theorem out16_apply (s : Fin 1024) (j : Fin 128) :
    out0_16 (F := Ideal) x0 x1 x2 x3 x4 x5 x6 x7 x8 x9 x10 x11 x12 x13 (ix3 0 j s)
      = (brow x0 x1 x2 x3 x4 x5 x6 x7 x8 x9 x10 x11 x12 x13 s).p ⟨1024 + j.val, by omega⟩ := by
  unfold out0_16
  rw [View.canon_unit_zero hz3]
  pointwise [k0_pay31, k0_pay30]
  exact proj_eq _ _ _ _ _ _ _ _ _ _ _ _ _ _ s _

/-- The fourth. -/
theorem out17_apply (s : Fin 1024) (j : Fin 512) :
    out0_17 (F := Ideal) x0 x1 x2 x3 x4 x5 x6 x7 x8 x9 x10 x11 x12 x13 (ix3 0 s j)
      = (brow x0 x1 x2 x3 x4 x5 x6 x7 x8 x9 x10 x11 x12 x13 s).qb j := by
  unfold out0_17
  rw [View.canon_unit_zero hz3]
  refine (turned_b _ _ _ s j).trans (turns_congr _ _ (fun i => ?_) (fun i => ?_) (fun i => ?_) j)
  · unfold k0_pay49
    rw [ld_2]
    exact table_6 _ _ _
  · unfold k0_pay50
    rw [ld_2]
    exact table_7 _ _ _
  · rw [ld_9, ld_11]
    refine (uq_apply _ _ _ s i).trans ?_
    simp only [proj_eq]
    rfl

/-- The normed latents of the second branch's keys and values. -/
theorem ckv_eq (s : Fin 1024) (l : Fin 128) :
    k0_pay64 (F := Ideal) x0 x1 x2 x3 x4 x5 x6 x7 x8 x9 x10 x11 x12 x13 (ix2 s l)
      = rms 0x43000000#32 (fun l : Fin 128 => (brow x0 x1 x2 x3 x4 x5 x6 x7 x8 x9 x10 x11 x12 x13 s).p ⟨1536 + l.val, by omega⟩)
          (brow x0 x1 x2 x3 x4 x5 x6 x7 x8 x9 x10 x11 x12 x13 s).gkv l := by
  unfold k0_pay64
  rw [ld_10]
  refine (ckv_apply _ _ s l).trans ?_
  simp only [proj_eq]
  rfl

/-- The fifth. -/
theorem out18_apply (s : Fin 1024) (j : Fin 512) :
    out0_18 (F := Ideal) x0 x1 x2 x3 x4 x5 x6 x7 x8 x9 x10 x11 x12 x13 (ix3 0 s j)
      = (brow x0 x1 x2 x3 x4 x5 x6 x7 x8 x9 x10 x11 x12 x13 s).kb j := by
  unfold out0_18
  rw [View.canon_unit_zero hz3, ld_13]
  refine (kb_apply _ _ _ s j).trans ?_
  simp only [ckv_eq]
  unfold KRow.kb
  congr 1
  refine (turned_k _ _ _ s _).trans ?_
  unfold k0_pay49 k0_pay50
  rw [ld_2, ld_2]
  simp only [table_6, table_7]
  congr 1
  funext i
  pointwise [k0_pay39, k0_pay33]
  simp only [← Nat.add_assoc, Nat.reduceAdd]
  exact proj_eq _ _ _ _ _ _ _ _ _ _ _ _ _ _ s _

/-- The sixth. -/
theorem out19_apply (s : Fin 1024) (j : Fin 256) :
    out0_19 (F := Ideal) x0 x1 x2 x3 x4 x5 x6 x7 x8 x9 x10 x11 x12 x13 (ix3 0 j s)
      = (brow x0 x1 x2 x3 x4 x5 x6 x7 x8 x9 x10 x11 x12 x13 s).ukv ⟨512 + j.val, by omega⟩ := by
  unfold out0_19
  rw [View.canon_unit_zero hz3, ld_13]
  refine (vb_apply _ _ s j).trans ?_
  simp only [ckv_eq]
  rfl

/-- The seventh. -/
theorem out20_apply (s : Fin 1024) (j : Fin 384) :
    out0_20 (F := Ideal) x0 x1 x2 x3 x4 x5 x6 x7 x8 x9 x10 x11 x12 x13 (ix3 0 s j)
      = (brow x0 x1 x2 x3 x4 x5 x6 x7 x8 x9 x10 x11 x12 x13 s).cc ⟨j.val, by omega⟩ := by
  unfold out0_20
  rw [View.canon_unit_zero hz3]
  pointwise [k0_pay27]
  exact c_eq _ _ _ _ _ _ _ _ _ _ _ _ _ _ s _

/-- The eighth. -/
theorem out21_apply (s : Fin 1024) (j : Fin 128) :
    out0_21 (F := Ideal) x0 x1 x2 x3 x4 x5 x6 x7 x8 x9 x10 x11 x12 x13 (ix3 0 s j)
      = (brow x0 x1 x2 x3 x4 x5 x6 x7 x8 x9 x10 x11 x12 x13 s).cc ⟨384 + j.val, by omega⟩ := by
  unfold out0_21
  rw [View.canon_unit_zero hz3]
  pointwise [k0_pay29, k0_pay28]
  exact c_eq _ _ _ _ _ _ _ _ _ _ _ _ _ _ s _

/-- The ninth. -/
theorem out22_apply (s : Fin 1024) (j : Fin 128) :
    out0_22 (F := Ideal) x0 x1 x2 x3 x4 x5 x6 x7 x8 x9 x10 x11 x12 x13 (ix3 0 j s)
      = (brow x0 x1 x2 x3 x4 x5 x6 x7 x8 x9 x10 x11 x12 x13 s).p ⟨1152 + j.val, by omega⟩ := by
  unfold out0_22
  rw [View.canon_unit_zero hz3]
  pointwise [k0_pay32, k0_pay30]
  simp only [← Nat.add_assoc, Nat.reduceAdd]
  exact proj_eq _ _ _ _ _ _ _ _ _ _ _ _ _ _ s _

end Cert.InProj

end
-- ==== Proof.InProj.Convert.lean ====
/- The kernel's row computes the row's results. -/
module

public import proofs.«01_k».proof.Proof.InProj.Row
public import proofs.«01_k».proof.Proof.Attn.Finite

@[expose] public section

set_option maxRecDepth 16384

noncomputable section

namespace Cert.InProj

open Idealize.ShloMosaic

/-- Mates by 16 stay in their head of 64 lanes. -/
theorem mate_16 : ∀ j : Fin 128, (mate 128 16 j).val = j.val / 64 * 64 + (mate 64 16 (within j)).val := by decide +kernel

/-- Mates by 8 of the lanes from 64 to 95 stay there. -/
theorem mate_8 : ∀ j : Fin 128, j.val / 32 = 2 → (mate 128 8 j).val = 64 + (mate 32 8 (⟨j.val % 32, by omega⟩ : Fin 32)).val := by decide +kernel

/-- Lanes turned 128 at a time by tables that repeat after 64 are heads turned. -/
theorem turns_16 {N : ℕ} (hN : N % 128 = 0) (c s : Fin 64 → EReal) (X : Fin N → EReal) (j : Fin N) :
    turns hN 16 (fun i => c (within i)) (fun i => s (within i)) X j
      = turn 16 c s (fun d : Fin 64 => X ⟨j.val / 64 * 64 + d.val, by omega⟩) (within j) := by
  have hw : within (place j) = within j := Fin.ext (by simp only [within, place]; omega)
  have hm := mate_16 (place j)
  rw [hw] at hm
  show X (among hN j (place j)) * c (within (place j)) + X (among hN j (mate 128 16 (place j))) * s (within (place j)) = _
  rw [hw]
  unfold turn
  congr 2
  · exact congrArg X (Fin.ext (by simp only [among, place, within]; omega))
  · refine congrArg X (Fin.ext ?_)
    show j.val / 128 * 128 + (mate 128 16 (place j)).val = j.val / 64 * 64 + (mate 64 16 (within j)).val
    rw [hm]
    simp only [place]
    omega

/-- 128 lanes turned by tables that are one and zero outside the lanes from 64 to 95. -/
theorem turn_8 (c s : Fin 32 → EReal) (X : Fin 128 → EReal) (j : Fin 128) :
    turn 8 (fun i : Fin 128 => if i.val / 32 = 2 then c ⟨i.val % 32, by omega⟩ else 1)
        (fun i => if i.val / 32 = 2 then s ⟨i.val % 32, by omega⟩ else 0) X j
      = if j.val / 32 = 2 then turn 8 c s (fun d : Fin 32 => X ⟨64 + d.val, by omega⟩) ⟨j.val % 32, by omega⟩ else X j := by
  by_cases h : j.val / 32 = 2
  · unfold turn
    simp only [if_pos h]
    congr 2
    · exact congrArg X (Fin.ext (by simp only []; omega))
    · exact congrArg X (Fin.ext (mate_8 j h))
  · unfold turn
    simp only [if_neg h, mul_one, mul_zero, add_zero]

variable (r : Row)

/-- The kernel's columns, read by their ranges. -/
theorem spread_aq (p : Fin 1696 → EReal) (j : Fin 1792) (h : j.val < 384) : spread p j = p ⟨(lane ⟨j.val, h⟩).val, by omega⟩ := by
  unfold spread
  rw [dif_pos h]

theorem spread_ak (p : Fin 1696 → EReal) (j : Fin 1792) (h0 : ¬j.val < 384) (h : j.val < 512) : spread p j = p ⟨j.val, by omega⟩ := by
  unfold spread
  rw [dif_neg h0, dif_pos h]

theorem spread_cq (p : Fin 1696 → EReal) (i : Fin 384) : spread p ⟨512 + i.val, by omega⟩ = p ⟨1056 + (lane i).val, by omega⟩ := by
  unfold spread
  have hi := i.isLt
  rw [dif_neg (by simp only []; omega), dif_neg (by simp only []; omega), dif_pos (by simp only []; omega)]
  exact congrArg p (Fin.ext (by simp only [lane]; omega))

theorem spread_ck (p : Fin 1696 → EReal) (i : Fin 128) : spread p ⟨896 + i.val, by omega⟩ = p ⟨1440 + i.val, by omega⟩ := by
  unfold spread
  have hi := i.isLt
  rw [dif_neg (by simp only []; omega), dif_neg (by simp only []; omega), dif_neg (by simp only []; omega), dif_pos (by simp only []; omega)]
  exact congrArg p (Fin.ext (by simp only []; omega))

theorem spread_av (p : Fin 1696 → EReal) (i : Fin 128) : spread p ⟨1024 + i.val, by omega⟩ = p ⟨512 + i.val, by omega⟩ := by
  unfold spread
  have hi := i.isLt
  rw [dif_neg (by simp only []; omega), dif_neg (by simp only []; omega), dif_neg (by simp only []; omega), dif_neg (by simp only []; omega),
    dif_pos (by simp only []; omega)]
  exact congrArg p (Fin.ext (by simp only []; omega))

theorem spread_cv (p : Fin 1696 → EReal) (i : Fin 128) : spread p ⟨1152 + i.val, by omega⟩ = p ⟨1568 + i.val, by omega⟩ := by
  unfold spread
  have hi := i.isLt
  rw [dif_neg (by simp only []; omega), dif_neg (by simp only []; omega), dif_neg (by simp only []; omega), dif_neg (by simp only []; omega),
    dif_neg (by simp only []; omega), dif_pos (by simp only []; omega)]
  exact congrArg p (Fin.ext (by simp only []; omega))

theorem spread_bq (p : Fin 1696 → EReal) (i : Fin 256) : spread p ⟨1280 + i.val, by omega⟩ = p ⟨640 + i.val, by omega⟩ := by
  unfold spread
  have hi := i.isLt
  rw [dif_neg (by simp only []; omega), dif_neg (by simp only []; omega), dif_neg (by simp only []; omega), dif_neg (by simp only []; omega),
    dif_neg (by simp only []; omega), dif_neg (by simp only []; omega), dif_pos (by simp only []; omega)]
  exact congrArg p (Fin.ext (by simp only []; omega))

theorem spread_bkv (p : Fin 1696 → EReal) (i : Fin 128) : spread p ⟨1536 + i.val, by omega⟩ = p ⟨896 + i.val, by omega⟩ := by
  unfold spread
  have hi := i.isLt
  rw [dif_neg (by simp only []; omega), dif_neg (by simp only []; omega), dif_neg (by simp only []; omega), dif_neg (by simp only []; omega),
    dif_neg (by simp only []; omega), dif_neg (by simp only []; omega), dif_neg (by simp only []; omega), dif_pos (by simp only []; omega)]
  exact congrArg p (Fin.ext (by simp only []; omega))

theorem spread_kr (p : Fin 1696 → EReal) (i : Fin 32) : spread p ⟨1728 + i.val, by omega⟩ = p ⟨1024 + i.val, by omega⟩ := by
  unfold spread
  have hi := i.isLt
  rw [dif_neg (by simp only []; omega), dif_neg (by simp only []; omega), dif_neg (by simp only []; omega), dif_neg (by simp only []; omega),
    dif_neg (by simp only []; omega), dif_neg (by simp only []; omega), dif_neg (by simp only []; omega), dif_neg (by simp only []; omega),
    dif_neg (by simp only []; omega), dif_pos (by simp only []; omega)]
  exact congrArg p (Fin.ext (by simp only []; omega))

theorem spread_zero (p : Fin 1696 → EReal) (j : Fin 1792) (h : 1664 ≤ j.val) (h' : j.val < 1728 ∨ 1760 ≤ j.val) : spread p j = 0 := by
  unfold spread
  rw [dif_neg (by omega), dif_neg (by omega), dif_neg (by omega), dif_neg (by omega),
    dif_neg (by omega), dif_neg (by omega), dif_neg (by omega), dif_neg (by omega)]
  by_cases h1 : j.val < 1728
  · rw [dif_pos h1]
  · rw [dif_neg h1, dif_neg (by omega)]

/-- Each of the kernel's columns is a source's column or zero. -/
theorem spread_form (j : Fin 1792) : (∃ i, ∀ p, spread p j = p i) ∨ (∀ p, spread p j = 0) := by
  have hj := j.isLt
  by_cases h1 : j.val < 384
  · exact .inl ⟨_, fun p => spread_aq p j h1⟩
  by_cases h2 : j.val < 512
  · exact .inl ⟨_, fun p => spread_ak p j h1 h2⟩
  by_cases h3 : j.val < 896
  · have e : j = ⟨512 + (⟨j.val - 512, by omega⟩ : Fin 384).val, by simp only []; omega⟩ := Fin.ext (by simp only []; omega)
    exact .inl ⟨_, fun p => (congrArg (spread p) e).trans (spread_cq p _)⟩
  by_cases h4 : j.val < 1024
  · have e : j = ⟨896 + (⟨j.val - 896, by omega⟩ : Fin 128).val, by simp only []; omega⟩ := Fin.ext (by simp only []; omega)
    exact .inl ⟨_, fun p => (congrArg (spread p) e).trans (spread_ck p _)⟩
  by_cases h5 : j.val < 1152
  · have e : j = ⟨1024 + (⟨j.val - 1024, by omega⟩ : Fin 128).val, by simp only []; omega⟩ := Fin.ext (by simp only []; omega)
    exact .inl ⟨_, fun p => (congrArg (spread p) e).trans (spread_av p _)⟩
  by_cases h6 : j.val < 1280
  · have e : j = ⟨1152 + (⟨j.val - 1152, by omega⟩ : Fin 128).val, by simp only []; omega⟩ := Fin.ext (by simp only []; omega)
    exact .inl ⟨_, fun p => (congrArg (spread p) e).trans (spread_cv p _)⟩
  by_cases h7 : j.val < 1536
  · have e : j = ⟨1280 + (⟨j.val - 1280, by omega⟩ : Fin 256).val, by simp only []; omega⟩ := Fin.ext (by simp only []; omega)
    exact .inl ⟨_, fun p => (congrArg (spread p) e).trans (spread_bq p _)⟩
  by_cases h8 : j.val < 1664
  · have e : j = ⟨1536 + (⟨j.val - 1536, by omega⟩ : Fin 128).val, by simp only []; omega⟩ := Fin.ext (by simp only []; omega)
    exact .inl ⟨_, fun p => (congrArg (spread p) e).trans (spread_bkv p _)⟩
  by_cases h9 : 1728 ≤ j.val ∧ j.val < 1760
  · have e : j = ⟨1728 + (⟨j.val - 1728, by omega⟩ : Fin 32).val, by simp only []; omega⟩ := Fin.ext (by simp only []; omega)
    exact .inl ⟨_, fun p => (congrArg (spread p) e).trans (spread_kr p _)⟩
  · exact .inr fun p => spread_zero p j (by omega) (by omega)

/-- The columns of a product are the product's columns. -/
theorem spread_sum (f : Fin 1024 → EReal) (w : Fin 1024 → Fin 1696 → EReal) (j : Fin 1792) :
    ∑ k, f k * spread (w k) j = spread (fun i => ∑ k, f k * w k i) j := by
  rcases spread_form j with ⟨i, h⟩ | h
  · simp only [h]
  · simp only [h, mul_zero]
    exact Finset.sum_const_zero

/-- The first branch's queries. -/
theorem k_qa (j : Fin 384) : r.k.a ⟨j.val, by omega⟩ = r.qa j := by
  refine (turns_16 _ r.c r.s _ _).trans ?_
  unfold Row.qa
  congr 1
  funext d
  have hd := d.isLt
  have hj := j.isLt
  refine (spread_aq r.p _ (by simp only []; omega)).trans (congrArg r.p (Fin.ext ?_))
  simp only [lane, headLane]
  omega

/-- Its keys. -/
theorem k_ka (j : Fin 128) : r.k.a ⟨384 + j.val, by omega⟩ = r.ka j := by
  refine (turns_16 _ r.c r.s _ _).trans ?_
  have hw : (within (⟨384 + j.val, by omega⟩ : Fin 512)) = within j := Fin.ext (by simp only [within]; omega)
  rw [hw]
  unfold Row.ka
  congr 1
  funext d
  have hd := d.isLt
  have hj := j.isLt
  refine (spread_ak r.p _ (by simp only []; omega) (by simp only []; omega)).trans (congrArg r.p (Fin.ext ?_))
  simp only []
  omega

/-- Its values. -/
theorem k_va (j : Fin 128) : r.k.p ⟨1024 + j.val, by omega⟩ = r.va j := spread_av r.p j

/-- The third branch's values. -/
theorem k_vc (j : Fin 128) : r.k.p ⟨1152 + j.val, by omega⟩ = r.vc j := spread_cv r.p j

/-- The second branch's queries before the turn, on lanes below 96 of a head. -/
theorem k_uqv (j : Fin 512) (h : j.val % 128 < 96) : r.k.uqv j = r.uqv ⟨j.val / 128 * 96 + j.val % 128, by omega⟩ := by
  unfold KRow.uqv Row.uqv
  refine Finset.sum_congr rfl fun l _ => ?_
  have hp : (fun l : Fin 256 => r.k.p ⟨1280 + l.val, by omega⟩) = fun l => r.p ⟨640 + l.val, by omega⟩ := funext fun l => spread_bq r.p l
  rw [hp]
  show _ * (if h : j.val % 128 < 96 then r.uq l ⟨j.val / 128 * 96 + j.val % 128, by omega⟩ else 0) = _
  rw [dif_pos h]
  rfl

/-- On the others they are zero. -/
theorem k_uqv_zero (j : Fin 512) (h : ¬j.val % 128 < 96) : r.k.uqv j = 0 := by
  unfold KRow.uqv
  refine Finset.sum_eq_zero fun l _ => ?_
  show _ * (if h : j.val % 128 < 96 then r.uq l ⟨j.val / 128 * 96 + j.val % 128, by omega⟩ else 0) = _
  rw [dif_neg h, mul_zero]

/-- The second branch's queries. -/
theorem k_qb (j : Fin 512) : r.k.qb j = r.qb j := by
  have hj := j.isLt
  refine (turn_8 r.cb r.sb (fun i => r.k.uqv (among (by decide) j i)) (place j)).trans ?_
  have hs : among (by decide) j (place j) = j := Fin.ext (by simp only [among, place]; omega)
  unfold Row.qb
  by_cases h1 : j.val % 128 < 64
  · rw [if_neg (by simp only [place]; omega), if_pos h1, hs, k_uqv r j (by omega)]
    exact congrArg r.uqv (Fin.ext (by simp only []; omega))
  rw [if_neg h1]
  by_cases h2 : j.val % 128 < 96
  · rw [if_pos (by simp only [place]; omega), dif_pos h2]
    have hm : (⟨(place j).val % 32, by omega⟩ : Fin 32) = ⟨j.val % 32, by omega⟩ := Fin.ext (by simp only [place]; omega)
    rw [hm]
    congr 1
    funext d
    have hd := d.isLt
    refine (k_uqv r _ (by simp only [among]; omega)).trans (congrArg r.uqv (Fin.ext ?_))
    simp only [among]
    omega
  · rw [if_neg (by simp only [place]; omega), dif_neg h2, hs]
    exact k_uqv_zero r j h2

/-- The second branch's keys before the turned part. -/
theorem k_ukv (j : Fin 512) : r.k.ukv ⟨j.val, by omega⟩ = if j.val % 128 < 64 then r.ukvv j else 0 := by
  unfold KRow.ukv Row.ukvv
  have hp : (fun l : Fin 128 => r.k.p ⟨1536 + l.val, by omega⟩) = fun l => r.p ⟨896 + l.val, by omega⟩ := funext fun l => spread_bkv r.p l
  rw [hp]
  have hu : ∀ l, r.k.uk l ⟨j.val, by omega⟩ = if j.val % 128 < 64 then r.ukv l j else 0 := fun l => dif_pos j.isLt
  by_cases h : j.val % 128 < 64
  · rw [if_pos h]
    refine Finset.sum_congr rfl fun l _ => ?_
    rw [hu, if_pos h]
    rfl
  · rw [if_neg h]
    refine Finset.sum_eq_zero fun l _ => ?_
    rw [hu, if_neg h, mul_zero]

/-- The second branch's keys. -/
theorem k_kb (j : Fin 512) : r.k.kb j = r.kb j := by
  have hj := j.isLt
  unfold KRow.kb Row.kb
  rw [k_ukv]
  have ht := turn_8 r.cb r.sb (fun i => r.k.p ⟨1664 + i.val, by omega⟩) (place j)
  refine (congrArg (_ + ·) ht).trans ?_
  by_cases h1 : j.val % 128 < 64
  · rw [if_pos h1, if_pos h1, if_neg (by simp only [place]; omega)]
    refine Eq.trans (congrArg (_ + ·) (spread_zero r.p _ (by simp only [place]; omega) (.inl (by simp only [place]; omega)))) ?_
    exact add_zero _
  rw [if_neg h1, if_neg h1, zero_add]
  by_cases h2 : j.val % 128 < 96
  · rw [if_pos (by simp only [place]; omega), if_pos h2]
    have hm : (⟨(place j).val % 32, by omega⟩ : Fin 32) = ⟨j.val % 32, by omega⟩ := Fin.ext (by simp only [place]; omega)
    rw [hm]
    congr 1
    funext d
    refine Eq.trans ?_ (spread_kr r.p d)
    exact congrArg (spread r.p) (Fin.ext (by simp only []; omega))
  · rw [if_neg (by simp only [place]; omega), if_neg h2]
    exact spread_zero r.p _ (by simp only [place]; omega) (.inr (by simp only [place]; omega))

/-- The second branch's values. -/
theorem k_vb (j : Fin 256) : r.k.ukv ⟨512 + j.val, by omega⟩ = r.vb j := by
  unfold KRow.ukv Row.vb Row.ukvv
  have hp : (fun l : Fin 128 => r.k.p ⟨1536 + l.val, by omega⟩) = fun l => r.p ⟨896 + l.val, by omega⟩ := funext fun l => spread_bkv r.p l
  rw [hp]
  refine Finset.sum_congr rfl fun l _ => ?_
  refine congrArg (_ * ·) ((dif_neg (by simp only []; omega)).trans (congrArg (r.ukv l) (Fin.ext ?_)))
  simp only []
  omega

/-- A sum over the lanes of one head among eight. -/
theorem head_sum (f : Fin 512 → EReal) (j : Fin 512) (z : EReal) :
    (∑ i : Fin 512, f i * (if i.val / 64 = j.val / 64 then z else 0)) = ∑ d : Fin 64, f ⟨j.val / 64 * 64 + d.val, by omega⟩ * z := by
  have hj := j.isLt
  rw [← (finProdFinEquiv (m := 8) (n := 64)).sum_comp, Fintype.sum_prod_type]
  rw [Finset.sum_eq_single (⟨j.val / 64, by omega⟩ : Fin 8)]
  · refine Finset.sum_congr rfl fun d _ => ?_
    have hd := d.isLt
    have hv : ((finProdFinEquiv (m := 8) (n := 64)) (⟨j.val / 64, by omega⟩, d)).val = d.val + 64 * (j.val / 64) := rfl
    rw [if_pos (by rw [hv]; omega)]
    exact congrArg (f · * z) (Fin.ext (by rw [hv]; simp only []; omega))
  · intro b _ hb
    refine Finset.sum_eq_zero fun d _ => ?_
    have hd := d.isLt
    have hv : ((finProdFinEquiv (m := 8) (n := 64)) (b, d)).val = d.val + 64 * b.val := rfl
    rw [if_neg, mul_zero]
    rw [hv]
    intro e
    exact hb (Fin.ext (by simp only []; omega))
  · intro h
    exact absurd (Finset.mem_univ _) h

/-- The bits of a sixty-fourth, and of 64. -/
theorem bits_64th : Ideal.ofBits FTy.f32 0x3C800000#32 = (((64 : ℝ)⁻¹ : ℝ) : EReal) := by
  rw [Ideal.ofBits]
  simp [Ideal.ieee]
  rw [← EReal.coe_mul]
  norm_num

theorem bits_64 : Ideal.ofBits FTy.f32 0x42800000#32 = ((64 : ℝ) : EReal) := by
  rw [Ideal.ofBits]
  simp [Ideal.ieee]
  rw [← EReal.coe_mul]
  norm_num

/-- The mean over a head, as the kernel takes it. -/
theorem head_mean (X : Fin 64 → EReal) (h : ∀ d, ∃ x : ℝ, X d = x) :
    (∑ d, X d * X d * Ideal.ofBits FTy.f32 0x3C800000#32) = Ideal.div (∑ d, X d * X d) (Ideal.ofBits FTy.f32 0x42800000#32) := by
  choose x hx using h
  obtain rfl : X = fun d => ((x d : ℝ) : EReal) := funext hx
  rw [bits_64th, bits_64]
  have h64 : ((64 : ℝ) : EReal) ≠ 0 := by
    rw [← EReal.coe_zero]
    exact fun e => absurd (EReal.coe_eq_coe_iff.mp e) (by norm_num)
  unfold Ideal.div
  rw [if_neg h64]
  simp only [← EReal.coe_mul, ← EReal.coe_inv]
  rw [← Attn.coe_sum, ← Attn.coe_sum, ← EReal.coe_mul, Finset.sum_mul]

/-- The third branch's lanes, normed head by head. -/
theorem k_nc (hp : ∀ i, ∃ x : ℝ, r.p i = x) (j : Fin 512) (X : Fin 64 → EReal) (g : Fin 64 → EReal)
    (hX : ∀ d : Fin 64, r.k.p ⟨512 + (j.val / 64 * 64 + d.val), by omega⟩ = X d) (hXr : ∀ d, ∃ x : ℝ, X d = x)
    (hg : r.k.gc j = g (within j)) :
    r.k.nc j = rms 0x42800000#32 X g (within j) := by
  have hj := j.isLt
  have hk : ∀ i : Fin 512, ∃ x : ℝ, r.k.p ⟨512 + i.val, by omega⟩ = x := by
    intro i
    by_cases h : i.val < 384
    · rw [show r.k.p ⟨512 + i.val, by omega⟩ = r.p ⟨1056 + (lane ⟨i.val, h⟩).val, by omega⟩ from spread_cq r.p ⟨i.val, h⟩]
      exact hp _
    · have hi := i.isLt
      rw [show r.k.p ⟨512 + i.val, by omega⟩ = r.p ⟨1440 + (i.val - 384), by omega⟩ from
        (congrArg (spread r.p) (Fin.ext (by simp only []; omega))).trans (spread_ck r.p ⟨i.val - 384, by omega⟩)]
      exact hp _
  have hz : (∑ i : Fin 512, (r.k.p ⟨512 + i.val, by omega⟩ * r.k.p ⟨512 + i.val, by omega⟩ - r.k.p ⟨512 + i.val, by omega⟩ * r.k.p ⟨512 + i.val, by omega⟩) * r.k.bd i j) = 0 := by
    refine Finset.sum_eq_zero fun i _ => ?_
    obtain ⟨x, hx⟩ := hk i
    rw [hx, ← EReal.coe_mul, ← EReal.coe_sub, sub_self, EReal.coe_zero, zero_mul]
  have hs : (∑ i : Fin 512, r.k.p ⟨512 + i.val, by omega⟩ * r.k.p ⟨512 + i.val, by omega⟩ * r.k.bd i j)
      = Ideal.div (∑ d, X d * X d) (Ideal.ofBits FTy.f32 0x42800000#32) := by
    refine (head_sum (fun i => r.k.p ⟨512 + i.val, by omega⟩ * r.k.p ⟨512 + i.val, by omega⟩) j _).trans ?_
    simp only [hX]
    exact head_mean X hXr
  have hself : r.k.p ⟨512 + j.val, by omega⟩ = X (within j) := by
    rw [← hX]
    exact congrArg r.k.p (Fin.ext (by simp only [within]; omega))
  unfold KRow.nc
  rw [hz, hs, add_zero, hself, hg]
  rfl

/-- The third branch's queries. -/
theorem k_qc (hp : ∀ i, ∃ x : ℝ, r.p i = x) (j : Fin 384) : r.k.cc ⟨j.val, by omega⟩ = r.qc j := by
  refine (turns_16 _ r.c r.s _ _).trans ?_
  unfold Row.qc
  congr 1
  funext d
  have hd := d.isLt
  have hj := j.isLt
  have hw : within (⟨j.val / 64 * 64 + d.val, by omega⟩ : Fin 512) = d := Fin.ext (by simp only [within]; omega)
  refine (k_nc r hp _ (fun d => r.p ⟨1056 + (headLane j d).val, by omega⟩) r.gcq (fun e => ?_) (fun e => hp _) (if_pos (by simp only []; omega))).trans ?_
  · have he := e.isLt
    refine Eq.trans ?_ ((spread_cq r.p ⟨j.val / 64 * 64 + e.val, by omega⟩).trans ?_)
    · exact congrArg (spread r.p) (Fin.ext (by simp only []; omega))
    · exact congrArg r.p (Fin.ext (by simp only [lane, headLane]; omega))
  · rw [hw]

/-- Its keys. -/
theorem k_kc (hp : ∀ i, ∃ x : ℝ, r.p i = x) (j : Fin 128) : r.k.cc ⟨384 + j.val, by omega⟩ = r.kc j := by
  refine (turns_16 _ r.c r.s _ _).trans ?_
  have hw' : (within (⟨384 + j.val, by omega⟩ : Fin 512)) = within j := Fin.ext (by simp only [within]; omega)
  rw [hw']
  unfold Row.kc
  congr 1
  funext d
  have hd := d.isLt
  have hj := j.isLt
  have hw : within (⟨(384 + j.val) / 64 * 64 + d.val, by omega⟩ : Fin 512) = d := Fin.ext (by simp only [within]; omega)
  refine (k_nc r hp _ (fun d => r.p ⟨1440 + (j.val / 64 * 64 + d.val), by omega⟩) r.gck (fun e => ?_) (fun e => hp _) (if_neg (by simp only []; omega))).trans ?_
  · have he := e.isLt
    refine Eq.trans ?_ (spread_ck r.p ⟨j.val / 64 * 64 + e.val, by omega⟩)
    exact congrArg (spread r.p) (Fin.ext (by simp only []; omega))
  · rw [hw]

end Cert.InProj

end
-- ==== Proof.InProj.Cat.lean ====
/- Tables side by side, read at an index. -/
module

public import proofs.«01_k».proof.Proof.InProj.Block
public import proofs.«01_k».proof.Proof.InProj.Args
public import proofs.«01_k».proof.Proof.InProj.Convert
public import Idealize.ShloMosaic.Lib.Pipeline.ValueKit
public import Idealize.ShloMosaic.Lib.StableHlo.ReadAt
public import Idealize.ShloMosaic.Lib.Claim

@[expose] public section

set_option maxRecDepth 16384
set_option maxHeartbeats 1000000

noncomputable section

namespace Cert.InProj

open Cert.KernelIIdeal Cert.KernelIIdeal.Gen Idealize.ShloMosaic Idealize.ShloMosaic.TcCoe Idealize.SL.Sem
open Idealize.ShloMosaic.Pipeline (Dat)

variable (m : (ℓ : Loc nD τ sig) → Buf (Elt Ideal) ℓ)

/-- Eight tables of sixteen side by side. -/
theorem cat8 (X0 X1 X2 X3 X4 X5 X6 X7 : FVec Ideal S2048x16 .f32) (hc : Shape.Concatenates [S2048x16, S2048x16, S2048x16, S2048x16, S2048x16, S2048x16, S2048x16, S2048x16] S2048x128 1)
    (n : Fin 2048) (j : Fin 128) (G : ℕ → ℕ → EReal)
    (h0 : ∀ i : Fin 16, X0 (ix2 n i) = G 0 i.val) (h1 : ∀ i : Fin 16, X1 (ix2 n i) = G 1 i.val) (h2 : ∀ i : Fin 16, X2 (ix2 n i) = G 2 i.val)
    (h3 : ∀ i : Fin 16, X3 (ix2 n i) = G 3 i.val) (h4 : ∀ i : Fin 16, X4 (ix2 n i) = G 4 i.val) (h5 : ∀ i : Fin 16, X5 (ix2 n i) = G 5 i.val)
    (h6 : ∀ i : Fin 16, X6 (ix2 n i) = G 6 i.val) (h7 : ∀ i : Fin 16, X7 (ix2 n i) = G 7 i.val) :
    concatenate S2048x128 1 [⟨S2048x16, X0⟩, ⟨S2048x16, X1⟩, ⟨S2048x16, X2⟩, ⟨S2048x16, X3⟩, ⟨S2048x16, X4⟩, ⟨S2048x16, X5⟩, ⟨S2048x16, X6⟩, ⟨S2048x16, X7⟩] hc (ix2 n j)
      = G (j.val / 16) (j.val % 16) := by
  pointwise
  simp only [h0, h1, h2, h3, h4, h5, h6, h7]
  have hj := j.isLt
  have hG : ∀ a b a' b' : ℕ, a = a' → b = b' → G a b = G a' b' := fun _ _ _ _ e e' => by rw [e, e']
  by_cases c0 : j.val < 16
  · simp only [c0, dite_true]
    exact hG _ _ _ _ (by omega) (by omega)
  by_cases c1 : j.val - 16 < 16
  · simp only [c1, c0, dite_true, dite_false]
    exact hG _ _ _ _ (by omega) (by omega)
  by_cases c2 : j.val - 16 - 16 < 16
  · simp only [c2, c0, c1, dite_true, dite_false]
    exact hG _ _ _ _ (by omega) (by omega)
  by_cases c3 : j.val - 16 - 16 - 16 < 16
  · simp only [c3, c0, c1, c2, dite_true, dite_false]
    exact hG _ _ _ _ (by omega) (by omega)
  by_cases c4 : j.val - 16 - 16 - 16 - 16 < 16
  · simp only [c4, c0, c1, c2, c3, dite_true, dite_false]
    exact hG _ _ _ _ (by omega) (by omega)
  by_cases c5 : j.val - 16 - 16 - 16 - 16 - 16 < 16
  · simp only [c5, c0, c1, c2, c3, c4, dite_true, dite_false]
    exact hG _ _ _ _ (by omega) (by omega)
  by_cases c6 : j.val - 16 - 16 - 16 - 16 - 16 - 16 < 16
  · simp only [c6, c0, c1, c2, c3, c4, c5, dite_true, dite_false]
    exact hG _ _ _ _ (by omega) (by omega)
  simp only [c0, c1, c2, c3, c4, c5, c6, dite_false]
  exact hG _ _ _ _ (by omega) (by omega)

/-- A table of 64 lanes, four of eight, and one of 32, side by side. -/
theorem cat6 (X0 : FVec Ideal S2048x64 .f32) (X1 X2 X3 X4 : FVec Ideal S2048x8 .f32) (X5 : FVec Ideal S2048x32 .f32)
    (hc : Shape.Concatenates [S2048x64, S2048x8, S2048x8, S2048x8, S2048x8, S2048x32] S2048x128 1)
    (n : Fin 2048) (j : Fin 128) (o : EReal) (G : ℕ → ℕ → EReal)
    (h0 : ∀ i : Fin 64, X0 (ix2 n i) = o) (h1 : ∀ i : Fin 8, X1 (ix2 n i) = G 0 i.val) (h2 : ∀ i : Fin 8, X2 (ix2 n i) = G 1 i.val)
    (h3 : ∀ i : Fin 8, X3 (ix2 n i) = G 2 i.val) (h4 : ∀ i : Fin 8, X4 (ix2 n i) = G 3 i.val) (h5 : ∀ i : Fin 32, X5 (ix2 n i) = o) :
    concatenate S2048x128 1 [⟨S2048x64, X0⟩, ⟨S2048x8, X1⟩, ⟨S2048x8, X2⟩, ⟨S2048x8, X3⟩, ⟨S2048x8, X4⟩, ⟨S2048x32, X5⟩] hc (ix2 n j)
      = if j.val / 32 = 2 then G (j.val % 32 / 8) (j.val % 8) else o := by
  pointwise
  simp only [h0, h1, h2, h3, h4, h5]
  have hj := j.isLt
  have hG : ∀ a b a' b' : ℕ, a = a' → b = b' → G a b = G a' b' := fun _ _ _ _ e e' => by rw [e, e']
  by_cases c0 : j.val < 64
  · have b : ¬ j.val / 32 = 2 := by omega
    simp only [c0, b, dite_true, if_false]
  by_cases c1 : j.val - 64 < 8
  · have b : j.val / 32 = 2 := by omega
    simp only [c1, c0, b, dite_true, dite_false, if_true]
    exact hG _ _ _ _ (by omega) (by omega)
  by_cases c2 : j.val - 64 - 8 < 8
  · have b : j.val / 32 = 2 := by omega
    simp only [c2, c0, c1, b, dite_true, dite_false, if_true]
    exact hG _ _ _ _ (by omega) (by omega)
  by_cases c3 : j.val - 64 - 8 - 8 < 8
  · have b : j.val / 32 = 2 := by omega
    simp only [c3, c0, c1, c2, b, dite_true, dite_false, if_true]
    exact hG _ _ _ _ (by omega) (by omega)
  by_cases c4 : j.val - 64 - 8 - 8 - 8 < 8
  · have b : j.val / 32 = 2 := by omega
    simp only [c4, c0, c1, c2, c3, b, dite_true, dite_false, if_true]
    exact hG _ _ _ _ (by omega) (by omega)
  have b : ¬ j.val / 32 = 2 := by omega
  simp only [c0, c1, c2, c3, c4, b, dite_false, if_false]

end Cert.InProj

end
-- ==== Proof.InProj.Tables.lean ====
/- The turns' arrays as the region finds them. -/
module

public import proofs.«01_k».proof.Proof.InProj.Cat

@[expose] public section

set_option maxRecDepth 16384
set_option maxHeartbeats 1000000

noncomputable section

namespace Cert.InProj

open Cert.KernelIIdeal Cert.KernelIIdeal.Gen Idealize.ShloMosaic Idealize.ShloMosaic.TcCoe Idealize.SL.Sem
open Idealize.ShloMosaic.Pipeline (Dat)

variable (m : (ℓ : Loc nD τ sig) → Buf (Elt Ideal) ℓ)

/-- The cosines' array as the region finds it. -/
theorem V_c (c : Dev nD) (n : Fin 2048) (j : Fin 128) :
    (V m c main_v102 : FVec Ideal S2048x128 .f32) (ix2 n j) = cosTable 16 (by decide) 0x41800000#32 n.val (within j) := by
  unfold V
  after_reads_simp
  try simp -implicitDefEqProofs only [StableHlo.TRef.toBuf, StableHlo.TRef.ofBuf, cast_cast, cast_eq]
  clean_types
  dsimp only [Matrix.cons_val]
  generalize h76 : HloOp.result _ _ (Proc.devRef .tc main_v76) = X76
  generalize h77 : HloOp.result _ _ (Proc.devRef .tc main_v77) = X77
  have e76 : ∀ i : Fin 16, X76 (ix2 n i) = Ideal.cos (angle 0x41800000#32 (n.val / 64) i.val) := by
    intro i
    rw [← h76]
    clear h76 h77
    after_reads_at
    rfl
  have e77 : ∀ i : Fin 16, X77 (ix2 n i) = Ideal.cos (angle 0x41800000#32 (n.val % 64) i.val) := by
    intro i
    rw [← h77]
    clear h76 h77
    after_reads_at
    rfl
  clear h76 h77
  refine (cat8 X76 X76 X77 X77 X76 X76 X77 X77 _ n j
    (fun k i => if k % 4 < 2 then Ideal.cos (angle 0x41800000#32 (n.val / 64) i) else Ideal.cos (angle 0x41800000#32 (n.val % 64) i))
    (fun i => (e76 i).trans (if_pos (by decide)).symm)
    (fun i => (e76 i).trans (if_pos (by decide)).symm)
    (fun i => (e77 i).trans (if_neg (by decide)).symm)
    (fun i => (e77 i).trans (if_neg (by decide)).symm)
    (fun i => (e76 i).trans (if_pos (by decide)).symm)
    (fun i => (e76 i).trans (if_pos (by decide)).symm)
    (fun i => (e77 i).trans (if_neg (by decide)).symm)
    (fun i => (e77 i).trans (if_neg (by decide)).symm)).trans ?_
  have e1 : j.val / 16 % 4 = j.val % 64 / 16 := by omega
  have e2 : j.val % 16 = j.val % 64 % 16 := by omega
  simp only [cosTable, cosines, within, e1]
  rw [e2]
  rfl

/-- The signed sines' array. -/
theorem V_s (c : Dev nD) (n : Fin 2048) (j : Fin 128) :
    (V m c main_v103 : FVec Ideal S2048x128 .f32) (ix2 n j) = sinTable 16 (by decide) 0x41800000#32 n.val (within j) := by
  unfold V
  after_reads_simp
  try simp -implicitDefEqProofs only [StableHlo.TRef.toBuf, StableHlo.TRef.ofBuf, cast_cast, cast_eq]
  clean_types
  dsimp only [Matrix.cons_val]
  generalize h80 : HloOp.result _ _ (Proc.devRef .tc main_v80) = X80
  generalize h78 : HloOp.result _ _ (Proc.devRef .tc main_v78) = X78
  generalize h81 : HloOp.result _ _ (Proc.devRef .tc main_v81) = X81
  generalize h79 : HloOp.result _ _ (Proc.devRef .tc main_v79) = X79
  have e80 : ∀ i : Fin 16, X80 (ix2 n i) = -Ideal.sin (angle 0x41800000#32 (n.val / 64) i.val) := by
    intro i
    rw [← h80]
    clear h80 h78 h81 h79
    after_reads_at
    rfl
  have e78 : ∀ i : Fin 16, X78 (ix2 n i) = Ideal.sin (angle 0x41800000#32 (n.val / 64) i.val) := by
    intro i
    rw [← h78]
    clear h80 h78 h81 h79
    after_reads_at
    rfl
  have e81 : ∀ i : Fin 16, X81 (ix2 n i) = -Ideal.sin (angle 0x41800000#32 (n.val % 64) i.val) := by
    intro i
    rw [← h81]
    clear h80 h78 h81 h79
    after_reads_at
    rfl
  have e79 : ∀ i : Fin 16, X79 (ix2 n i) = Ideal.sin (angle 0x41800000#32 (n.val % 64) i.val) := by
    intro i
    rw [← h79]
    clear h80 h78 h81 h79
    after_reads_at
    rfl
  clear h80 h78 h81 h79
  refine (cat8 X80 X78 X81 X79 X80 X78 X81 X79 _ n j
    (fun k i => if k % 2 = 0 then -(if k % 4 < 2 then Ideal.sin (angle 0x41800000#32 (n.val / 64) i) else Ideal.sin (angle 0x41800000#32 (n.val % 64) i)) else (if k % 4 < 2 then Ideal.sin (angle 0x41800000#32 (n.val / 64) i) else Ideal.sin (angle 0x41800000#32 (n.val % 64) i)))
    (fun i => (e80 i).trans (by rfl))
    (fun i => (e78 i).trans (by rfl))
    (fun i => (e81 i).trans (by rfl))
    (fun i => (e79 i).trans (by rfl))
    (fun i => (e80 i).trans (by rfl))
    (fun i => (e78 i).trans (by rfl))
    (fun i => (e81 i).trans (by rfl))
    (fun i => (e79 i).trans (by rfl))).trans ?_
  have e1 : j.val / 16 % 4 = j.val % 64 / 16 := by omega
  have e2 : j.val % 16 = j.val % 64 % 16 := by omega
  have e3 : j.val / 16 % 2 = j.val % 64 / 16 % 2 := by omega
  simp only [sinTable, sines, cosines, within, e1, e3]
  rw [e2]
  rfl

/-- The shared key's cosines', ones elsewhere. -/
theorem V_cb (c : Dev nD) (n : Fin 2048) (j : Fin 128) :
    (V m c main_v106 : FVec Ideal S2048x128 .f32) (ix2 n j) = if j.val / 32 = 2 then cosTable 8 (by decide) 0x41000000#32 n.val (⟨j.val % 32, by omega⟩ : Fin 32) else 1 := by
  unfold V
  after_reads_simp
  try simp -implicitDefEqProofs only [StableHlo.TRef.toBuf, StableHlo.TRef.ofBuf, cast_cast, cast_eq]
  clean_types
  dsimp only [Matrix.cons_val]
  generalize h104 : HloOp.result _ _ (Proc.devRef .tc main_v104) = X104
  generalize h96 : HloOp.result _ _ (Proc.devRef .tc main_v96) = X96
  generalize h97 : HloOp.result _ _ (Proc.devRef .tc main_v97) = X97
  generalize h105 : HloOp.result _ _ (Proc.devRef .tc main_v105) = X105
  have e104 : ∀ i : Fin 64, X104 (ix2 n i) = (1 : EReal) := by
    intro i
    rw [← h104]
    clear h104 h96 h97 h105
    after_reads_at
  have e96 : ∀ i : Fin 8, X96 (ix2 n i) = Ideal.cos (angle 0x41000000#32 (n.val / 64) i.val) := by
    intro i
    rw [← h96]
    clear h104 h96 h97 h105
    after_reads_at
    rfl
  have e97 : ∀ i : Fin 8, X97 (ix2 n i) = Ideal.cos (angle 0x41000000#32 (n.val % 64) i.val) := by
    intro i
    rw [← h97]
    clear h104 h96 h97 h105
    after_reads_at
    rfl
  have e105 : ∀ i : Fin 32, X105 (ix2 n i) = (1 : EReal) := by
    intro i
    rw [← h105]
    clear h104 h96 h97 h105
    after_reads_at
  clear h104 h96 h97 h105
  refine (cat6 X104 X96 X96 X97 X97 X105 _ n j 1
    (fun k i => if k < 2 then Ideal.cos (angle 0x41000000#32 (n.val / 64) i) else Ideal.cos (angle 0x41000000#32 (n.val % 64) i))
    e104
    (fun i => (e96 i).trans (by rfl))
    (fun i => (e96 i).trans (by rfl))
    (fun i => (e97 i).trans (by rfl))
    (fun i => (e97 i).trans (by rfl))
    e105).trans ?_
  have e2 : j.val % 8 = j.val % 32 % 8 := by omega
  simp only [cosTable, cosines]
  rw [e2]

/-- The shared key's signed sines', zeros elsewhere. -/
theorem V_sb (c : Dev nD) (n : Fin 2048) (j : Fin 128) :
    (V m c main_v109 : FVec Ideal S2048x128 .f32) (ix2 n j) = if j.val / 32 = 2 then sinTable 8 (by decide) 0x41000000#32 n.val (⟨j.val % 32, by omega⟩ : Fin 32) else 0 := by
  unfold V
  after_reads_simp
  try simp -implicitDefEqProofs only [StableHlo.TRef.toBuf, StableHlo.TRef.ofBuf, cast_cast, cast_eq]
  clean_types
  dsimp only [Matrix.cons_val]
  generalize h107 : HloOp.result _ _ (Proc.devRef .tc main_v107) = X107
  generalize h100 : HloOp.result _ _ (Proc.devRef .tc main_v100) = X100
  generalize h98 : HloOp.result _ _ (Proc.devRef .tc main_v98) = X98
  generalize h101 : HloOp.result _ _ (Proc.devRef .tc main_v101) = X101
  generalize h99 : HloOp.result _ _ (Proc.devRef .tc main_v99) = X99
  generalize h108 : HloOp.result _ _ (Proc.devRef .tc main_v108) = X108
  have e107 : ∀ i : Fin 64, X107 (ix2 n i) = (0 : EReal) := by
    intro i
    rw [← h107]
    clear h107 h100 h98 h101 h99 h108
    after_reads_at
  have e100 : ∀ i : Fin 8, X100 (ix2 n i) = -Ideal.sin (angle 0x41000000#32 (n.val / 64) i.val) := by
    intro i
    rw [← h100]
    clear h107 h100 h98 h101 h99 h108
    after_reads_at
    rfl
  have e98 : ∀ i : Fin 8, X98 (ix2 n i) = Ideal.sin (angle 0x41000000#32 (n.val / 64) i.val) := by
    intro i
    rw [← h98]
    clear h107 h100 h98 h101 h99 h108
    after_reads_at
    rfl
  have e101 : ∀ i : Fin 8, X101 (ix2 n i) = -Ideal.sin (angle 0x41000000#32 (n.val % 64) i.val) := by
    intro i
    rw [← h101]
    clear h107 h100 h98 h101 h99 h108
    after_reads_at
    rfl
  have e99 : ∀ i : Fin 8, X99 (ix2 n i) = Ideal.sin (angle 0x41000000#32 (n.val % 64) i.val) := by
    intro i
    rw [← h99]
    clear h107 h100 h98 h101 h99 h108
    after_reads_at
    rfl
  have e108 : ∀ i : Fin 32, X108 (ix2 n i) = (0 : EReal) := by
    intro i
    rw [← h108]
    clear h107 h100 h98 h101 h99 h108
    after_reads_at
  clear h107 h100 h98 h101 h99 h108
  refine (cat6 X107 X100 X98 X101 X99 X108 _ n j 0
    (fun k i => if k % 2 = 0 then -(if k < 2 then Ideal.sin (angle 0x41000000#32 (n.val / 64) i) else Ideal.sin (angle 0x41000000#32 (n.val % 64) i)) else (if k < 2 then Ideal.sin (angle 0x41000000#32 (n.val / 64) i) else Ideal.sin (angle 0x41000000#32 (n.val % 64) i)))
    e107
    (fun i => (e100 i).trans (by rfl))
    (fun i => (e98 i).trans (by rfl))
    (fun i => (e101 i).trans (by rfl))
    (fun i => (e99 i).trans (by rfl))
    e108).trans ?_
  have e2 : j.val % 8 = j.val % 32 % 8 := by omega
  simp only [sinTable, sines, cosines]
  rw [e2]

end Cert.InProj

end
-- ==== Proof.InProj.Weights.lean ====
/- The weights' arrays as the region finds them. -/
module

public import proofs.«01_k».proof.Proof.InProj.Cat

@[expose] public section

set_option maxRecDepth 16384
set_option maxHeartbeats 1000000

noncomputable section

namespace Cert.InProj

open Cert.KernelIIdeal Cert.KernelIIdeal.Gen Idealize.ShloMosaic Idealize.ShloMosaic.TcCoe Idealize.SL.Sem
open Idealize.ShloMosaic.Pipeline (Dat)

variable (m : (ℓ : Loc nD τ sig) → Buf (Elt Ideal) ℓ)

/-- The last columns' five pieces side by side. -/
theorem cat5 (X3 : FVec Ideal S1024x256 .f32) (X4 : FVec Ideal S1024x128 .f32) (X18 : FVec Ideal S1024x64 .f32) (X5 X19 : FVec Ideal S1024x32 .f32)
    (hc : Shape.Concatenates [S1024x256, S1024x128, S1024x64, S1024x32, S1024x32] S1024x512 1) (k : Fin 1024) (f : Fin 1696 → EReal)
    (h3 : ∀ i : Fin 256, X3 (ix2 k i) = f ⟨640 + i.val, by omega⟩) (h4 : ∀ i : Fin 128, X4 (ix2 k i) = f ⟨896 + i.val, by omega⟩) (h18 : ∀ i : Fin 64, X18 (ix2 k i) = 0)
    (h5 : ∀ i : Fin 32, X5 (ix2 k i) = f ⟨1024 + i.val, by omega⟩) (h19 : ∀ i : Fin 32, X19 (ix2 k i) = 0) (a : ℕ) (ha : a < 512) :
    concatenate S1024x512 1 [⟨S1024x256, X3⟩, ⟨S1024x128, X4⟩, ⟨S1024x64, X18⟩, ⟨S1024x32, X5⟩, ⟨S1024x32, X19⟩] hc (ix2 k ⟨a, ha⟩)
      = if h : a < 256 then f ⟨640 + a, by omega⟩ else if h : a < 384 then f ⟨896 + (a - 256), by omega⟩ else if h : a < 448 then 0
        else if h : a < 480 then f ⟨1024 + (a - 448), by omega⟩ else 0 := by
  have hf : ∀ (x y : ℕ) (hx : x < 1696) (hy : y < 1696), x = y → f ⟨x, hx⟩ = f ⟨y, hy⟩ := fun _ _ _ _ e => congrArg f (Fin.ext e)
  pointwise
  simp only [h3, h4, h18, h5, h19]
  by_cases c0 : a < 256
  · simp only [c0, dite_true]
  by_cases c1 : a - 256 < 128
  · have d1 : a < 384 := by omega
    simp only [c0, c1, d1, dite_true, dite_false]
  have d1 : ¬ a < 384 := by omega
  by_cases c2 : a - 256 - 128 < 64
  · have d2 : a < 448 := by omega
    simp only [c0, c1, c2, d1, d2, dite_true, dite_false]
  have d2 : ¬ a < 448 := by omega
  by_cases c3 : a - 256 - 128 - 64 < 32
  · have d3 : a < 480 := by omega
    simp only [c0, c1, c2, c3, d1, d2, d3, dite_true, dite_false]
    exact hf _ _ _ _ (by omega)
  have d3 : ¬ a < 480 := by omega
  simp only [c0, c1, c2, c3, d1, d2, d3, dite_false]

/-- The integer zero, as a float. -/
theorem zero_word : FloatOps.sitofp (F := Ideal) FTy.f32 0#32 = 0 := by
  show (((0#32).toInt : ℝ) : EReal) = 0
  simp

/-- The input projection's, its columns in the kernel's order. -/
theorem V_w (c : Dev nD) (A : FVec Ideal S1024x1696 .f32) (hA : m ((c : Thread nD τ).loc main_arg3) = A) (k : Fin 1024) (j : Fin 1792) :
    (V m c main_v49 : FVec Ideal S1024x1792 .bf16) (ix2 k j) = spread (fun i => A (ix2 k i)) j := by
  unfold V
  subst hA
  have fin : ∀ (a b : ℕ) (ha : a < 1696) (hb : b < 1696), a = b → m (c, Proc.devRef .tc main_arg3) (ix2 k ⟨a, ha⟩) = m ((c : Thread nD τ).loc main_arg3) (ix2 k ⟨b, hb⟩) :=
    fun a b ha hb e => congrArg (fun i => m ((c : Thread nD τ).loc main_arg3) (ix2 k i)) (Fin.ext e)
  after_reads_simp
  try simp -implicitDefEqProofs only [StableHlo.TRef.toBuf, StableHlo.TRef.ofBuf, cast_cast, cast_eq]
  clean_types
  dsimp only [Matrix.cons_val]
  generalize h12 : StableHlo.upto _ _ 58 (Proc.devRef .tc main_v12) = X12
  generalize h16 : StableHlo.upto _ _ 58 (Proc.devRef .tc main_v16) = X16
  generalize h17 : StableHlo.upto _ _ 58 (Proc.devRef .tc main_v17) = X17
  generalize h20 : StableHlo.upto _ _ 58 (Proc.devRef .tc main_v20) = X20
  pointwise
  have hj := j.isLt
  by_cases g1 : j.val < 512
  · simp only [g1, dite_true]
    rw [← h12]
    clear h12 h16 h17 h20
    after_reads_at
    by_cases q : j.val < 384
    · simp only [q, dite_true, spread]
      exact fin _ _ _ _ rfl
    · simp only [q, g1, dite_true, dite_false, spread]
      exact fin _ _ _ _ (by omega)
  by_cases g2 : j.val - 512 < 512
  · simp only [g1, g2, dite_true, dite_false]
    rw [← h16]
    clear h12 h16 h17 h20
    after_reads_at
    have n1 : ¬ j.val < 384 := by omega
    by_cases q : j.val - 512 < 384
    · simp only [q, g1, n1, dite_true, dite_false, spread]
      exact fin _ _ _ _ rfl
    · have n2 : j.val < 1024 := by omega
      simp only [q, g1, n1, n2, dite_true, dite_false, spread]
      exact fin _ _ _ _ (by omega)
  by_cases g3 : j.val - 512 - 512 < 256
  · simp only [g1, g2, g3, dite_true, dite_false]
    rw [← h17]
    clear h12 h16 h17 h20
    after_reads_at
    have n1 : ¬ j.val < 384 := by omega
    have n2 : ¬ j.val - 512 < 384 := by omega
    have n3 : ¬ j.val < 1024 := by omega
    by_cases q : j.val - 512 - 512 < 128
    · have n4 : j.val < 1152 := by omega
      simp only [q, g1, n1, n2, n3, n4, dite_true, dite_false, spread]
      exact fin _ _ _ _ (by omega)
    · have n4 : ¬ j.val < 1152 := by omega
      have n5 : j.val < 1280 := by omega
      simp only [q, g1, n1, n2, n3, n4, n5, dite_true, dite_false, spread]
      exact fin _ _ _ _ (by omega)
  · simp only [g1, g2, g3, dite_true, dite_false]
    have n1 : ¬ j.val < 384 := by omega
    have n2 : ¬ j.val - 512 < 384 := by omega
    have n3 : ¬ j.val < 1024 := by omega
    have n4 : ¬ j.val < 1152 := by omega
    have n5 : ¬ j.val < 1280 := by omega
    simp only [g1, n1, n2, n3, n4, n5, dite_false, spread]
    rw [← h20]
    clear h12 h16 h17 h20
    after_reads_simp
    try simp -implicitDefEqProofs only [StableHlo.TRef.toBuf, StableHlo.TRef.ofBuf, cast_cast, cast_eq]
    clean_types
    dsimp only [Matrix.cons_val]
    generalize h3 : HloOp.result _ _ (Proc.devRef .tc main_v3) = X3
    generalize h4 : HloOp.result _ _ (Proc.devRef .tc main_v4) = X4
    generalize h18 : HloOp.result _ _ (Proc.devRef .tc main_v18) = X18
    generalize h5 : HloOp.result _ _ (Proc.devRef .tc main_v5) = X5
    generalize h19 : HloOp.result _ _ (Proc.devRef .tc main_v19) = X19
    have e3 : ∀ i : Fin 256, X3 (ix2 k i) = m (c, Proc.devRef .tc main_arg3) (ix2 k ⟨640 + i.val, by omega⟩) := by
      intro i
      rw [← h3]
      clear h3 h4 h18 h5 h19
      after_reads_at
    have e4 : ∀ i : Fin 128, X4 (ix2 k i) = m (c, Proc.devRef .tc main_arg3) (ix2 k ⟨896 + i.val, by omega⟩) := by
      intro i
      rw [← h4]
      clear h3 h4 h18 h5 h19
      after_reads_at
    have e18 : ∀ i : Fin 64, X18 (ix2 k i) = (0 : EReal) := by
      intro i
      rw [← h18]
      clear h3 h4 h18 h5 h19
      after_reads_at
      try simp [Ideal.ofBits, Ideal.ieee]
    have e5 : ∀ i : Fin 32, X5 (ix2 k i) = m (c, Proc.devRef .tc main_arg3) (ix2 k ⟨1024 + i.val, by omega⟩) := by
      intro i
      rw [← h5]
      clear h3 h4 h18 h5 h19
      after_reads_at
    have e19 : ∀ i : Fin 32, X19 (ix2 k i) = (0 : EReal) := by
      intro i
      rw [← h19]
      clear h3 h4 h18 h5 h19
      after_reads_at
      try simp [Ideal.ofBits, Ideal.ieee]
    clear h3 h4 h18 h5 h19
    refine (cat5 X3 X4 X18 X5 X19 _ k (fun i => m (c, Proc.devRef .tc main_arg3) (ix2 k i)) e3 e4 e18 e5 e19 _ (by omega)).trans ?_
    have q1 : (j.val - 512 - 512 - 256 < 256) = (j.val < 1536) := by apply propext; omega
    have q2 : (j.val - 512 - 512 - 256 < 384) = (j.val < 1664) := by apply propext; omega
    have q3 : (j.val - 512 - 512 - 256 < 448) = (j.val < 1728) := by apply propext; omega
    have q4 : (j.val - 512 - 512 - 256 < 480) = (j.val < 1760) := by apply propext; omega
    by_cases y1 : j.val < 1536
    · simp only [q1, y1, dite_true]
      exact fin _ _ _ _ (by omega)
    by_cases y2 : j.val < 1664
    · simp only [q1, q2, y1, y2, dite_true, dite_false]
      exact fin _ _ _ _ (by omega)
    by_cases y3 : j.val < 1728
    · simp only [q1, q2, q3, y1, y2, y3, dite_true, dite_false]
    by_cases y4 : j.val < 1760
    · simp only [q1, q2, q3, q4, y1, y2, y3, y4, dite_true, dite_false]
      exact fin _ _ _ _ (by omega)
    simp only [q1, q2, q3, q4, y1, y2, y3, y4, dite_false]

/-- The queries' up-projection's. -/
theorem V_uq (c : Dev nD) (A : FVec Ideal S256x384 .f32) (hA : m ((c : Thread nD τ).loc main_arg6) = A) (l : Fin 256) (j : Fin 512) :
    (V m c main_v50 : FVec Ideal S256x512 .bf16) (ix2 l j)
      = if h : j.val % 128 < 96 then A (ix2 l ⟨j.val / 128 * 96 + j.val % 128, by omega⟩) else 0 := by
  unfold V
  subst hA
  after_reads_at
  have hj := j.isLt
  by_cases h : j.val % 128 < 96
  · simp only [h, and_true, dite_true, show j.val / 128 < 4 by omega]
  · simp only [h, and_false, dite_false, zero_word]

/-- The keys' and values' up-projection's. -/
theorem V_uk (c : Dev nD) (A : FVec Ideal S128x512 .f32) (hA : m ((c : Thread nD τ).loc main_arg7) = A) (l : Fin 128) (j : Fin 768) :
    (V m c main_v51 : FVec Ideal S128x768 .bf16) (ix2 l j)
      = if h : j.val < 512 then (if j.val % 128 < 64 then A (ix2 l ⟨j.val, h⟩) else 0)
        else A (ix2 l ⟨(j.val - 512) / 64 * 128 + 64 + (j.val - 512) % 64, by omega⟩) := by
  unfold V
  subst hA
  after_reads_simp
  try simp -implicitDefEqProofs only [StableHlo.TRef.toBuf, StableHlo.TRef.ofBuf, cast_cast, cast_eq]
  clean_types
  generalize h27 : StableHlo.upto _ _ 36 (Proc.devRef .tc main_v27) = X27
  generalize h29 : StableHlo.upto _ _ 36 (Proc.devRef .tc main_v29) = X29
  pointwise
  have hj := j.isLt
  by_cases h : j.val < 512
  · rw [dif_pos h, dif_pos h, ← h27]
    clear h27 h29
    after_reads_at
    by_cases h2 : j.val % 128 < 64
    · simp only [h2, and_true, if_true, dite_true, show j.val / 128 < 4 by omega]
      exact congrArg (fun i => m ((c : Thread nD τ).loc main_arg7) (ix2 l i)) (Fin.ext (by simp only []; omega))
    · simp only [h2, and_false, if_false, dite_false, zero_word]
  · rw [dif_neg h, dif_neg h, ← h29]
    clear h27 h29
    after_reads_at
    exact congrArg (fun i => m ((c : Thread nD τ).loc main_arg7) (ix2 l i)) (Fin.ext (by simp only []; omega))

end Cert.InProj

end
-- ==== Proof.InProj.Window.lean ====
/- The input projection's windows at each point, as rows over its arguments. -/
module

public import proofs.«01_k».proof.Proof.InProj.Tables
public import proofs.«01_k».proof.Proof.InProj.Weights
public import Idealize.ShloMosaic.Lib.Pipeline.ValueKit
public import Idealize.ShloMosaic.Lib.StableHlo.ReadAt
public import Idealize.ShloMosaic.Lib.Claim

@[expose] public section

set_option maxRecDepth 16384
set_option maxHeartbeats 1000000

noncomputable section

namespace Cert.InProj

open Cert.KernelIIdeal Cert.KernelIIdeal.Gen Idealize.ShloMosaic Idealize.ShloMosaic.TcCoe Idealize.SL.Sem
open Idealize.ShloMosaic.Pipeline (Dat)

variable (m : (ℓ : Loc nD τ sig) → Buf (Elt Ideal) ℓ)

/-- The windows' block indices at grid point `t`, decided: the tokens' and the samples'. -/
theorem idxT : ∀ t : Fin cfg0.N, win0_0.index t = ![t.val % 16, t.val / 16, 0] ∧ win0_1.index t = ![t.val % 16, 0, 0] ∧ win0_2.index t = ![t.val % 16, 0, 0]
    ∧ win0_10.index t = ![t.val / 16, 0] ∧ win0_11.index t = ![t.val / 16, 0] ∧ win0_12.index t = ![t.val / 16, 0] ∧ win0_13.index t = ![t.val / 16, 0]
    ∧ t.val / 16 < 2 :=
  (by decide +kernel : ∀ t : Fin grid0.N, _)

/-- The results'. -/
theorem idxO : ∀ t : Fin cfg0.N, win0_14.index t = ![t.val % 16, t.val / 16, 0] ∧ win0_15.index t = ![t.val % 16, t.val / 16, 0]
    ∧ win0_16.index t = ![t.val % 16, 0, t.val / 16] ∧ win0_17.index t = ![t.val % 16, t.val / 16, 0] ∧ win0_18.index t = ![t.val % 16, t.val / 16, 0]
    ∧ win0_19.index t = ![t.val % 16, 0, t.val / 16] ∧ win0_20.index t = ![t.val % 16, t.val / 16, 0] ∧ win0_21.index t = ![t.val % 16, t.val / 16, 0]
    ∧ win0_22.index t = ![t.val % 16, 0, t.val / 16] :=
  (by decide +kernel : ∀ t : Fin grid0.N, _)

/-- The whole arrays'. -/
theorem idxW : ∀ t : Fin cfg0.N, win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] :=
  (by decide +kernel : ∀ t : Fin grid0.N, _)

/-- The sample at point `t`. -/
def smp (t : Fin cfg0.N) : Fin 16 := ⟨t.val % 16, by omega⟩

/-- The token at point `t` and block row `s`. -/
def tok (t : Fin cfg0.N) (s : Fin 1024) : Fin 2048 := ⟨1024 * (t.val / 16) + s.val, by have := (idxT t).2.2.2.2.2.2.2; omega⟩

/-- The scales' array as the region finds it. -/
theorem V_sc (c : Dev nD) (A : FVec Ideal S16x1024 .f32) (hA : m ((c : Thread nD τ).loc main_arg2) = A) (b : Fin 16) (d : Fin 1024) :
    (V m c main_v54 : FVec Ideal S16x1x1024 .f32) (ix3 b 0 d) = A (ix2 b d) := by
  unfold V
  subst hA
  after_reads_at

/-- The shifts' array. -/
theorem V_sh (c : Dev nD) (A : FVec Ideal S16x1024 .f32) (hA : m ((c : Thread nD τ).loc main_arg1) = A) (b : Fin 16) (d : Fin 1024) :
    (V m c main_v55 : FVec Ideal S16x1x1024 .f32) (ix3 b 0 d) = A (ix2 b d) := by
  unfold V
  subst hA
  after_reads_at

/-- The first gain's array. -/
theorem V_gq (c : Dev nD) (A : FVec Ideal S256 .f32) (hA : m ((c : Thread nD τ).loc main_arg4) = A) (d : Fin 256) :
    (V m c main_v52 : FVec Ideal S1x256 .f32) (ix2 0 d) = A (ix1 d) := by
  unfold V
  subst hA
  after_reads_at

/-- The second's array. -/
theorem V_gkv (c : Dev nD) (A : FVec Ideal S128 .f32) (hA : m ((c : Thread nD τ).loc main_arg5) = A) (d : Fin 128) :
    (V m c main_v53 : FVec Ideal S1x128 .f32) (ix2 0 d) = A (ix1 d) := by
  unfold V
  subst hA
  after_reads_at

/-- The heads' gains' array. -/
theorem V_gc (c : Dev nD) (A B : FVec Ideal S64 .f32) (hA : m ((c : Thread nD τ).loc main_arg8) = A) (hB : m ((c : Thread nD τ).loc main_arg9) = B) (j : Fin 512) :
    (V m c main_v47 : FVec Ideal S1x512 .f32) (ix2 0 j) = if j.val < 384 then A (ix1 (within j)) else B (ix1 (within j)) := by
  unfold V
  subst hA
  subst hB
  after_reads_at
  by_cases h : j.val < 384
  · rw [dif_pos h, if_pos h]
    after_reads_at
    rfl
  · rw [dif_neg h, if_neg h]
    after_reads_at
    exact congrArg (fun i => m ((c : Thread nD τ).loc main_arg9) (ix1 i)) (Fin.ext (by simp only [within]; omega))

/-- The matrix of means' array. -/
theorem V_bd (c : Dev nD) (i j : Fin 512) :
    (V m c main_v39 : FVec Ideal S512x512 .bf16) (ix2 i j) = if i.val / 64 = j.val / 64 then Ideal.ofBits FTy.f32 0x3C800000#32 else 0 := by
  unfold V
  after_reads_at
  have key : ∀ a b : Fin 8, IntOp.cmpi CmpIPredicate.eq (BitVec.ofNat 32 a.val) (BitVec.ofNat 32 b.val) = if a.val = b.val then 1#1 else 0#1 := by
    decide +kernel
  have hi := i.isLt
  have hj := j.isLt
  have k := key ⟨i.val / 64, by omega⟩ ⟨j.val / 64, by omega⟩
  simp only [] at k
  rw [k]
  split_ifs <;> rfl

/-- The tokens' block at point `t`. -/
theorem blk_x (c : Dev nD) (t : Fin cfg0.N) (s : Fin 1024) (j : Fin 1024) :
    (iblk m c 0 t : FVec Ideal S1x1024x1024 .f32) (ix3 0 s j) = (V m c main_arg0 : FVec Ideal S16x2048x1024 .f32) (ix3 (smp t) (tok t s) j) := by
  blk_ext [iblk, smp, tok, idxT t]

/-- The scale's block at point `t`. -/
theorem blk_sc (c : Dev nD) (t : Fin cfg0.N) (d : Fin 1024) :
    (iblk m c 1 t : FVec Ideal S1x1x1024 .f32) (ix3 0 0 d) = (V m c main_v54 : FVec Ideal S16x1x1024 .f32) (ix3 (smp t) 0 d) := by
  blk_ext [iblk, smp, idxT t]

/-- The shift's block at point `t`. -/
theorem blk_sh (c : Dev nD) (t : Fin cfg0.N) (d : Fin 1024) :
    (iblk m c 2 t : FVec Ideal S1x1x1024 .f32) (ix3 0 0 d) = (V m c main_v55 : FVec Ideal S16x1x1024 .f32) (ix3 (smp t) 0 d) := by
  blk_ext [iblk, smp, idxT t]

/-- The projection's weights' block at point `t`. -/
theorem blk_w (c : Dev nD) (t : Fin cfg0.N) (k : Fin 1024) (j : Fin 1792) :
    (iblk m c 3 t : FVec Ideal S1024x1792 .bf16) (ix2 k j) = (V m c main_v49 : FVec Ideal S1024x1792 .bf16) (ix2 k j) := by
  blk_ext [iblk, idxW t]

/-- The queries' weights' block at point `t`. -/
theorem blk_uq (c : Dev nD) (t : Fin cfg0.N) (k : Fin 256) (j : Fin 512) :
    (iblk m c 4 t : FVec Ideal S256x512 .bf16) (ix2 k j) = (V m c main_v50 : FVec Ideal S256x512 .bf16) (ix2 k j) := by
  blk_ext [iblk, idxW t]

/-- The keys' and values' weights' block at point `t`. -/
theorem blk_uk (c : Dev nD) (t : Fin cfg0.N) (k : Fin 128) (j : Fin 768) :
    (iblk m c 5 t : FVec Ideal S128x768 .bf16) (ix2 k j) = (V m c main_v51 : FVec Ideal S128x768 .bf16) (ix2 k j) := by
  blk_ext [iblk, idxW t]

/-- The matrix of means' block at point `t`. -/
theorem blk_bd (c : Dev nD) (t : Fin cfg0.N) (k : Fin 512) (j : Fin 512) :
    (iblk m c 6 t : FVec Ideal S512x512 .bf16) (ix2 k j) = (V m c main_v39 : FVec Ideal S512x512 .bf16) (ix2 k j) := by
  blk_ext [iblk, idxW t]

/-- The first gain's block at point `t`. -/
theorem blk_gq (c : Dev nD) (t : Fin cfg0.N) (k : Fin 1) (j : Fin 256) :
    (iblk m c 7 t : FVec Ideal S1x256 .f32) (ix2 k j) = (V m c main_v52 : FVec Ideal S1x256 .f32) (ix2 k j) := by
  blk_ext [iblk, idxW t]

/-- The second gain's block at point `t`. -/
theorem blk_gkv (c : Dev nD) (t : Fin cfg0.N) (k : Fin 1) (j : Fin 128) :
    (iblk m c 8 t : FVec Ideal S1x128 .f32) (ix2 k j) = (V m c main_v53 : FVec Ideal S1x128 .f32) (ix2 k j) := by
  blk_ext [iblk, idxW t]

/-- The heads' gains' block at point `t`. -/
theorem blk_gc (c : Dev nD) (t : Fin cfg0.N) (k : Fin 1) (j : Fin 512) :
    (iblk m c 9 t : FVec Ideal S1x512 .f32) (ix2 k j) = (V m c main_v47 : FVec Ideal S1x512 .f32) (ix2 k j) := by
  blk_ext [iblk, idxW t]

/-- The cosines' block at point `t`. -/
theorem blk_c (c : Dev nD) (t : Fin cfg0.N) (s : Fin 1024) (j : Fin 128) :
    (iblk m c 10 t : FVec Ideal S1024x128 .f32) (ix2 s j) = (V m c main_v102 : FVec Ideal S2048x128 .f32) (ix2 (tok t s) j) := by
  blk_ext [iblk, tok, idxT t]

/-- The signed sines' block at point `t`. -/
theorem blk_s (c : Dev nD) (t : Fin cfg0.N) (s : Fin 1024) (j : Fin 128) :
    (iblk m c 11 t : FVec Ideal S1024x128 .f32) (ix2 s j) = (V m c main_v103 : FVec Ideal S2048x128 .f32) (ix2 (tok t s) j) := by
  blk_ext [iblk, tok, idxT t]

/-- The shared key's cosines' block at point `t`. -/
theorem blk_cb (c : Dev nD) (t : Fin cfg0.N) (s : Fin 1024) (j : Fin 128) :
    (iblk m c 12 t : FVec Ideal S1024x128 .f32) (ix2 s j) = (V m c main_v106 : FVec Ideal S2048x128 .f32) (ix2 (tok t s) j) := by
  blk_ext [iblk, tok, idxT t]

/-- The shared key's sines' block at point `t`. -/
theorem blk_sb (c : Dev nD) (t : Fin cfg0.N) (s : Fin 1024) (j : Fin 128) :
    (iblk m c 13 t : FVec Ideal S1024x128 .f32) (ix2 s j) = (V m c main_v109 : FVec Ideal S2048x128 .f32) (ix2 (tok t s) j) := by
  blk_ext [iblk, tok, idxT t]

/-- The arguments' numbers, from memory. -/
def args (c : Dev nD) : Args :=
  pack (m ((c : Thread nD τ).loc main_arg0))
    (m ((c : Thread nD τ).loc main_arg1))
    (m ((c : Thread nD τ).loc main_arg2))
    (m ((c : Thread nD τ).loc main_arg3))
    (m ((c : Thread nD τ).loc main_arg4))
    (m ((c : Thread nD τ).loc main_arg5))
    (m ((c : Thread nD τ).loc main_arg6))
    (m ((c : Thread nD τ).loc main_arg7))
    (m ((c : Thread nD τ).loc main_arg8))
    (m ((c : Thread nD τ).loc main_arg9))

/-- The row of token `s` of the block at point `t` is the arguments' row there. -/
theorem point (c : Dev nD) (t : Fin cfg0.N) (s : Fin 1024) :
    brow (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) s
      = ((args m c).row (smp t) (tok t s)).k := by
  unfold brow Row.k
  rw [KRow.mk.injEq]
  refine ⟨funext fun j => ?_, funext fun j => ?_, funext fun j => ?_, funext fun j => ?_, funext fun j => ?_, funext fun j => ?_, funext fun j => ?_,
    funext fun j => ?_, funext fun l => funext fun j => ?_, funext fun l => funext fun j => ?_, funext fun i => funext fun j => ?_⟩
  · refine Eq.trans ?_ (spread_sum (modulate ((args m c).x (smp t) (tok t s)) ((args m c).sc (smp t)) ((args m c).sh (smp t))) (args m c).w j)
    refine Finset.sum_congr rfl fun k _ => ?_
    rw [blk_w, V_w m c _ rfl]
    refine congrArg₂ (· * ·) ?_ rfl
    unfold modulate
    beta_reduce
    rw [blk_x, blk_sc, blk_sh, V_main_arg0, V_sc m c _ rfl, V_sh m c _ rfl]
    rfl
  · rw [blk_c, V_c m c]
    rfl
  · rw [blk_s, V_s m c]
    rfl
  · rw [blk_cb, V_cb m c]
    rfl
  · rw [blk_sb, V_sb m c]
    rfl
  · rw [blk_gq, V_gq m c _ rfl]
    rfl
  · rw [blk_gkv, V_gkv m c _ rfl]
    rfl
  · rw [blk_gc, V_gc m c _ _ rfl rfl]
    rfl
  · rw [blk_uq, V_uq m c _ rfl]
    rfl
  · rw [blk_uk, V_uk m c _ rfl]
    rfl
  · rw [blk_bd, V_bd m c]

end Cert.InProj

end
-- ==== Proof.InProj.Array.lean ====
/- The input projection kernel's result arrays. -/
module

public import proofs.«01_k».proof.Proof.InProj.Window
public import proofs.«01_k».proof.Proof.InProj.Convert

@[expose] public section

set_option maxRecDepth 16384

noncomputable section

namespace Cert.InProj

open Cert.KernelIIdeal Cert.KernelIIdeal.Gen Idealize.ShloMosaic Idealize.ShloMosaic.TcCoe Idealize.SL.Sem
open Idealize.ShloMosaic.Pipeline (Dat)

variable (m : (ℓ : Loc nD τ sig) → Buf (Elt Ideal) ℓ)

/-- The first result's array after the run. -/
theorem final_qa (c : Dev nD) : (dats m 0 c).arrAt 14 (cfgs 0).N = (args m c).qa := by
  refine (dats m 0 c).arrAt_eq_of_covers 14 _ (by decide +kernel) fun t _ y => ?_
  blk_simp
  rw [after0_14]
  have hy : y = (ix3 0 (y 1) (y 2) : (S1x1024x384).Idx) := by
    funext i
    fin_cases i
    · exact Subsingleton.elim (α := Fin 1) _ _
    · rfl
    · rfl
  have he : (win0_14.blk t).view.emb y = (ix3 (smp t) (tok t (y 1)) (y 2) : S16x2048x384.Idx) := by
    blk_ext [smp, tok, idxO t]
  rw [he, hy]
  exact (out14_apply _ _ _ _ _ _ _ _ _ _ _ _ _ _ _ _).trans ((congrArg (fun r : KRow => (fun j : Fin 384 => r.a ⟨j.val, by omega⟩) (y 2)) (point m c t (y 1))).trans
    (k_qa ((args m c).row (smp t) (tok t (y 1))) (y 2)))

/-- The second result's array after the run. -/
theorem final_ka (c : Dev nD) : (dats m 0 c).arrAt 15 (cfgs 0).N = (args m c).ka := by
  refine (dats m 0 c).arrAt_eq_of_covers 15 _ (by decide +kernel) fun t _ y => ?_
  blk_simp
  rw [after0_15]
  have hy : y = (ix3 0 (y 1) (y 2) : (S1x1024x128).Idx) := by
    funext i
    fin_cases i
    · exact Subsingleton.elim (α := Fin 1) _ _
    · rfl
    · rfl
  have he : (win0_15.blk t).view.emb y = (ix3 (smp t) (tok t (y 1)) (y 2) : S16x2048x128.Idx) := by
    blk_ext [smp, tok, idxO t]
  rw [he, hy]
  exact (out15_apply _ _ _ _ _ _ _ _ _ _ _ _ _ _ _ _).trans ((congrArg (fun r : KRow => (fun j : Fin 128 => r.a ⟨384 + j.val, by omega⟩) (y 2)) (point m c t (y 1))).trans
    (k_ka ((args m c).row (smp t) (tok t (y 1))) (y 2)))

/-- The third result's array after the run. -/
theorem final_va (c : Dev nD) : (dats m 0 c).arrAt 16 (cfgs 0).N = (args m c).va := by
  refine (dats m 0 c).arrAt_eq_of_covers 16 _ (by decide +kernel) fun t _ y => ?_
  blk_simp
  rw [after0_16]
  have hy : y = (ix3 0 (y 1) (y 2) : (S1x128x1024).Idx) := by
    funext i
    fin_cases i
    · exact Subsingleton.elim (α := Fin 1) _ _
    · rfl
    · rfl
  have he : (win0_16.blk t).view.emb y = (ix3 (smp t) (y 1) (tok t (y 2)) : S16x128x2048.Idx) := by
    blk_ext [smp, tok, idxO t]
  rw [he, hy]
  exact (out16_apply _ _ _ _ _ _ _ _ _ _ _ _ _ _ _ _).trans ((congrArg (fun r : KRow => (fun j : Fin 128 => r.p ⟨1024 + j.val, by omega⟩) (y 1)) (point m c t (y 2))).trans
    (k_va ((args m c).row (smp t) (tok t (y 2))) (y 1)))

/-- The fourth result's array after the run. -/
theorem final_qb (c : Dev nD) : (dats m 0 c).arrAt 17 (cfgs 0).N = (args m c).qb := by
  refine (dats m 0 c).arrAt_eq_of_covers 17 _ (by decide +kernel) fun t _ y => ?_
  blk_simp
  rw [after0_17]
  have hy : y = (ix3 0 (y 1) (y 2) : (S1x1024x512).Idx) := by
    funext i
    fin_cases i
    · exact Subsingleton.elim (α := Fin 1) _ _
    · rfl
    · rfl
  have he : (win0_17.blk t).view.emb y = (ix3 (smp t) (tok t (y 1)) (y 2) : S16x2048x512.Idx) := by
    blk_ext [smp, tok, idxO t]
  rw [he, hy]
  exact (out17_apply _ _ _ _ _ _ _ _ _ _ _ _ _ _ _ _).trans ((congrArg (fun r : KRow => (fun j : Fin 512 => r.qb j) (y 2)) (point m c t (y 1))).trans
    (k_qb ((args m c).row (smp t) (tok t (y 1))) (y 2)))

/-- The fifth result's array after the run. -/
theorem final_kb (c : Dev nD) : (dats m 0 c).arrAt 18 (cfgs 0).N = (args m c).kb := by
  refine (dats m 0 c).arrAt_eq_of_covers 18 _ (by decide +kernel) fun t _ y => ?_
  blk_simp
  rw [after0_18]
  have hy : y = (ix3 0 (y 1) (y 2) : (S1x1024x512).Idx) := by
    funext i
    fin_cases i
    · exact Subsingleton.elim (α := Fin 1) _ _
    · rfl
    · rfl
  have he : (win0_18.blk t).view.emb y = (ix3 (smp t) (tok t (y 1)) (y 2) : S16x2048x512.Idx) := by
    blk_ext [smp, tok, idxO t]
  rw [he, hy]
  exact (out18_apply _ _ _ _ _ _ _ _ _ _ _ _ _ _ _ _).trans ((congrArg (fun r : KRow => (fun j : Fin 512 => r.kb j) (y 2)) (point m c t (y 1))).trans
    (k_kb ((args m c).row (smp t) (tok t (y 1))) (y 2)))

/-- The sixth result's array after the run. -/
theorem final_vb (c : Dev nD) : (dats m 0 c).arrAt 19 (cfgs 0).N = (args m c).vb := by
  refine (dats m 0 c).arrAt_eq_of_covers 19 _ (by decide +kernel) fun t _ y => ?_
  blk_simp
  rw [after0_19]
  have hy : y = (ix3 0 (y 1) (y 2) : (S1x256x1024).Idx) := by
    funext i
    fin_cases i
    · exact Subsingleton.elim (α := Fin 1) _ _
    · rfl
    · rfl
  have he : (win0_19.blk t).view.emb y = (ix3 (smp t) (y 1) (tok t (y 2)) : S16x256x2048.Idx) := by
    blk_ext [smp, tok, idxO t]
  rw [he, hy]
  exact (out19_apply _ _ _ _ _ _ _ _ _ _ _ _ _ _ _ _).trans ((congrArg (fun r : KRow => (fun j : Fin 256 => r.ukv ⟨512 + j.val, by omega⟩) (y 1)) (point m c t (y 2))).trans
    (k_vb ((args m c).row (smp t) (tok t (y 2))) (y 1)))

/-- The seventh result's array after the run. -/
theorem final_qc (c : Dev nD) (hp : ∀ b n i, ∃ x : ℝ, ((args m c).row b n).p i = x) : (dats m 0 c).arrAt 20 (cfgs 0).N = (args m c).qc := by
  refine (dats m 0 c).arrAt_eq_of_covers 20 _ (by decide +kernel) fun t _ y => ?_
  blk_simp
  rw [after0_20]
  have hy : y = (ix3 0 (y 1) (y 2) : (S1x1024x384).Idx) := by
    funext i
    fin_cases i
    · exact Subsingleton.elim (α := Fin 1) _ _
    · rfl
    · rfl
  have he : (win0_20.blk t).view.emb y = (ix3 (smp t) (tok t (y 1)) (y 2) : S16x2048x384.Idx) := by
    blk_ext [smp, tok, idxO t]
  rw [he, hy]
  exact (out20_apply _ _ _ _ _ _ _ _ _ _ _ _ _ _ _ _).trans ((congrArg (fun r : KRow => (fun j : Fin 384 => r.cc ⟨j.val, by omega⟩) (y 2)) (point m c t (y 1))).trans
    (k_qc ((args m c).row (smp t) (tok t (y 1))) (hp _ _) (y 2)))

/-- The eighth result's array after the run. -/
theorem final_kc (c : Dev nD) (hp : ∀ b n i, ∃ x : ℝ, ((args m c).row b n).p i = x) : (dats m 0 c).arrAt 21 (cfgs 0).N = (args m c).kc := by
  refine (dats m 0 c).arrAt_eq_of_covers 21 _ (by decide +kernel) fun t _ y => ?_
  blk_simp
  rw [after0_21]
  have hy : y = (ix3 0 (y 1) (y 2) : (S1x1024x128).Idx) := by
    funext i
    fin_cases i
    · exact Subsingleton.elim (α := Fin 1) _ _
    · rfl
    · rfl
  have he : (win0_21.blk t).view.emb y = (ix3 (smp t) (tok t (y 1)) (y 2) : S16x2048x128.Idx) := by
    blk_ext [smp, tok, idxO t]
  rw [he, hy]
  exact (out21_apply _ _ _ _ _ _ _ _ _ _ _ _ _ _ _ _).trans ((congrArg (fun r : KRow => (fun j : Fin 128 => r.cc ⟨384 + j.val, by omega⟩) (y 2)) (point m c t (y 1))).trans
    (k_kc ((args m c).row (smp t) (tok t (y 1))) (hp _ _) (y 2)))

/-- The ninth result's array after the run. -/
theorem final_vc (c : Dev nD) : (dats m 0 c).arrAt 22 (cfgs 0).N = (args m c).vc := by
  refine (dats m 0 c).arrAt_eq_of_covers 22 _ (by decide +kernel) fun t _ y => ?_
  blk_simp
  rw [after0_22]
  have hy : y = (ix3 0 (y 1) (y 2) : (S1x128x1024).Idx) := by
    funext i
    fin_cases i
    · exact Subsingleton.elim (α := Fin 1) _ _
    · rfl
    · rfl
  have he : (win0_22.blk t).view.emb y = (ix3 (smp t) (y 1) (tok t (y 2)) : S16x128x2048.Idx) := by
    blk_ext [smp, tok, idxO t]
  rw [he, hy]
  exact (out22_apply _ _ _ _ _ _ _ _ _ _ _ _ _ _ _ _).trans ((congrArg (fun r : KRow => (fun j : Fin 128 => r.p ⟨1152 + j.val, by omega⟩) (y 1)) (point m c t (y 2))).trans
    (k_vc ((args m c).row (smp t) (tok t (y 2))) (y 1)))

end Cert.InProj

end
-- ==== Proof.InProj.RefBase.lean ====
/- The reference's input projection, read at an index. -/
module

public import proofs.«01_k».proof.Proof.Gen.ReferenceIIdeal.Run
public import proofs.«01_k».proof.Proof.InProj.Args
public import Idealize.ShloMosaic.Lib.Pointwise

@[expose] public section

set_option maxRecDepth 16384
set_option maxHeartbeats 400000

noncomputable section

namespace Cert.InProj

open Cert.ReferenceIIdeal Cert.ReferenceIIdeal.Gen Cert.ReferenceIIdeal.Value Idealize.ShloMosaic

variable (V0 : Valuation τ sig (Elt Ideal))

/-- The arguments' numbers, from the reference's valuation. -/
def refArgs : Args :=
  pack (V0 (Proc.devRef .tc main_arg0)) (V0 (Proc.devRef .tc main_arg1)) (V0 (Proc.devRef .tc main_arg2)) (V0 (Proc.devRef .tc main_arg3)) (V0 (Proc.devRef .tc main_arg4))
    (V0 (Proc.devRef .tc main_arg5)) (V0 (Proc.devRef .tc main_arg6)) (V0 (Proc.devRef .tc main_arg7)) (V0 (Proc.devRef .tc main_arg8)) (V0 (Proc.devRef .tc main_arg9))

/-- Cosines of the grid row's angles, 16 of them. -/
theorem t17 (n : Fin 2048) (i : Fin 16) : (res_main_v17 V0 : FVec Ideal S2048x1x16 .f32) (ix3 n 0 i) = Ideal.cos (angle 0x41800000#32 (n.val / 64) i.val) := by
  pointwise [res_main_v17, res_main_v15, res_main_v9]
  rfl

/-- Sines of the grid row's angles, 16 of them. -/
theorem t19 (n : Fin 2048) (i : Fin 16) : (res_main_v19 V0 : FVec Ideal S2048x1x16 .f32) (ix3 n 0 i) = Ideal.sin (angle 0x41800000#32 (n.val / 64) i.val) := by
  pointwise [res_main_v19, res_main_v15, res_main_v9]
  rfl

/-- Cosines of the grid column's angles, 16 of them. -/
theorem t27 (n : Fin 2048) (i : Fin 16) : (res_main_v27 V0 : FVec Ideal S2048x1x16 .f32) (ix3 n 0 i) = Ideal.cos (angle 0x41800000#32 (n.val % 64) i.val) := by
  pointwise [res_main_v27, res_main_v25, res_main_v9]
  rfl

/-- Sines of the grid column's angles, 16 of them. -/
theorem t29 (n : Fin 2048) (i : Fin 16) : (res_main_v29 V0 : FVec Ideal S2048x1x16 .f32) (ix3 n 0 i) = Ideal.sin (angle 0x41800000#32 (n.val % 64) i.val) := by
  pointwise [res_main_v29, res_main_v25, res_main_v9]
  rfl

/-- Cosines of the grid row's angles, 8 of them. -/
theorem t47 (n : Fin 2048) (i : Fin 8) : (res_main_v47 V0 : FVec Ideal S2048x1x8 .f32) (ix3 n 0 i) = Ideal.cos (angle 0x41000000#32 (n.val / 64) i.val) := by
  pointwise [res_main_v47, res_main_v45, res_main_v39]
  rfl

/-- Sines of the grid row's angles, 8 of them. -/
theorem t49 (n : Fin 2048) (i : Fin 8) : (res_main_v49 V0 : FVec Ideal S2048x1x8 .f32) (ix3 n 0 i) = Ideal.sin (angle 0x41000000#32 (n.val / 64) i.val) := by
  pointwise [res_main_v49, res_main_v45, res_main_v39]
  rfl

/-- Cosines of the grid column's angles, 8 of them. -/
theorem t57 (n : Fin 2048) (i : Fin 8) : (res_main_v57 V0 : FVec Ideal S2048x1x8 .f32) (ix3 n 0 i) = Ideal.cos (angle 0x41000000#32 (n.val % 64) i.val) := by
  pointwise [res_main_v57, res_main_v55, res_main_v39]
  rfl

/-- Sines of the grid column's angles, 8 of them. -/
theorem t59 (n : Fin 2048) (i : Fin 8) : (res_main_v59 V0 : FVec Ideal S2048x1x8 .f32) (ix3 n 0 i) = Ideal.sin (angle 0x41000000#32 (n.val % 64) i.val) := by
  pointwise [res_main_v59, res_main_v55, res_main_v39]
  rfl

/-- The projected rows. -/
theorem t68 (b : Fin 16) (n : Fin 2048) (i : Fin 1696) : (res_main_v68 V0 : FVec Ideal S16x2048x1696 .f32) (ix3 b n i) = ((refArgs V0).row b n).p i := by
  pointwise [res_main_v68]
  rfl

end Cert.InProj

end
-- ==== Proof.InProj.Rope.lean ====
/- The reference's input projection, its turns. -/
module

public import proofs.«01_k».proof.Proof.Gen.ReferenceIIdeal.Run
public import proofs.«01_k».proof.Proof.InProj.Args
public import Idealize.ShloMosaic.Lib.Pointwise

@[expose] public section

set_option maxRecDepth 16384
set_option maxHeartbeats 400000

noncomputable section

namespace Cert.InProj

open Cert.ReferenceIIdeal Cert.ReferenceIIdeal.Gen Cert.ReferenceIIdeal.Value Idealize.ShloMosaic

/-- A head of 64 lanes turned, as the reference turns it: each half by its own angle. -/
theorem rope64 (n : ℕ) (x : Fin 64 → EReal) (y0 y1 y2 y3 c0 s0 c1 s1 : Fin 16 → EReal)
    (h0 : ∀ i, y0 i = x ⟨i.val, by omega⟩) (h1 : ∀ i, y1 i = x ⟨16 + i.val, by omega⟩) (h2 : ∀ i, y2 i = x ⟨32 + i.val, by omega⟩)
    (h3 : ∀ i, y3 i = x ⟨48 + i.val, by omega⟩) (k0 : ∀ i, c0 i = Ideal.cos (angle 0x41800000#32 (n / 64) i.val)) (l0 : ∀ i, s0 i = Ideal.sin (angle 0x41800000#32 (n / 64) i.val))
    (k1 : ∀ i, c1 i = Ideal.cos (angle 0x41800000#32 (n % 64) i.val)) (l1 : ∀ i, s1 i = Ideal.sin (angle 0x41800000#32 (n % 64) i.val)) (a : ℕ) (ha : a < 64) :
    (if h : a < 32 then
        if h' : a < 16 then y0 ⟨a, h'⟩ * c0 ⟨a, h'⟩ - y1 ⟨a, h'⟩ * s0 ⟨a, h'⟩
        else y0 ⟨a - 16, by omega⟩ * s0 ⟨a - 16, by omega⟩ + y1 ⟨a - 16, by omega⟩ * c0 ⟨a - 16, by omega⟩
      else if h' : a - 32 < 16 then y2 ⟨a - 32, h'⟩ * c1 ⟨a - 32, h'⟩ - y3 ⟨a - 32, h'⟩ * s1 ⟨a - 32, h'⟩
        else y2 ⟨a - 32 - 16, by omega⟩ * s1 ⟨a - 32 - 16, by omega⟩ + y3 ⟨a - 32 - 16, by omega⟩ * c1 ⟨a - 32 - 16, by omega⟩)
      = turn 16 (cosTable 16 (by decide) 0x41800000#32 n) (sinTable 16 (by decide) 0x41800000#32 n) x ⟨a, ha⟩ := by
  have hx : ∀ (u v : ℕ) (hu : u < 64) (hv : v < 64), u = v → x ⟨u, hu⟩ = x ⟨v, hv⟩ := fun _ _ _ _ e => congrArg x (Fin.ext e)
  simp only [h0, h1, h2, h3, k0, l0, k1, l1, turn, cosTable, sinTable, sines, cosines, mate]
  by_cases g : a < 32
  · by_cases g' : a < 16
    · have e1 : a / 16 = 0 := by omega
      have e2 : a % 16 = a := by omega
      have e3 : (a + 16) % 64 = 16 + (a) := by omega
      simp only [g, g', dite_true, e1, e2, e3, Nat.zero_mod, if_true, Nat.zero_lt_succ, Nat.reduceLT, sub_eq_add_neg, mul_neg]
    · have e1 : a / 16 = 1 := by omega
      have e2 : a % 16 = a - 16 := by omega
      have e3 : (a + 64 - 16) % 64 = a - 16 := by omega
      simp only [g, g', dite_true, dite_false, e1, e2, e3, Nat.reduceMod, one_ne_zero, if_false, if_true, Nat.reduceLT]
      rw [add_comm]
      refine congrArg (fun u => u * _ + _) (hx _ _ _ _ (by omega))
  · by_cases g' : a - 32 < 16
    · have e1 : a / 16 = 2 := by omega
      have e2 : a % 16 = a - 32 := by omega
      have e3 : (a + 16) % 64 = 48 + (a - 32) := by omega
      simp only [g, g', dite_true, dite_false, e1, e2, e3, Nat.reduceMod, if_true, if_false, Nat.reduceLT, lt_irrefl, sub_eq_add_neg, mul_neg]
      refine congrArg (fun u => u * _ + _) (hx _ _ _ _ (by omega))
    · have e1 : a / 16 = 3 := by omega
      have e2 : a % 16 = a - 48 := by omega
      have e3 : (a + 64 - 16) % 64 = 32 + (a - 48) := by omega
      simp only [g, g', dite_true, dite_false, e1, e2, e3, Nat.reduceMod, one_ne_zero, if_true, if_false, Nat.reduceLT, Nat.sub_sub, Nat.reduceAdd]
      rw [add_comm]
      refine congrArg (fun u => u * _ + _) (hx _ _ _ _ (by omega))

/-- A head of 32 lanes turned, as the reference turns it: each half by its own angle. -/
theorem rope32 (n : ℕ) (x : Fin 32 → EReal) (y0 y1 y2 y3 c0 s0 c1 s1 : Fin 8 → EReal)
    (h0 : ∀ i, y0 i = x ⟨i.val, by omega⟩) (h1 : ∀ i, y1 i = x ⟨8 + i.val, by omega⟩) (h2 : ∀ i, y2 i = x ⟨16 + i.val, by omega⟩)
    (h3 : ∀ i, y3 i = x ⟨24 + i.val, by omega⟩) (k0 : ∀ i, c0 i = Ideal.cos (angle 0x41000000#32 (n / 64) i.val)) (l0 : ∀ i, s0 i = Ideal.sin (angle 0x41000000#32 (n / 64) i.val))
    (k1 : ∀ i, c1 i = Ideal.cos (angle 0x41000000#32 (n % 64) i.val)) (l1 : ∀ i, s1 i = Ideal.sin (angle 0x41000000#32 (n % 64) i.val)) (a : ℕ) (ha : a < 32) :
    (if h : a < 16 then
        if h' : a < 8 then y0 ⟨a, h'⟩ * c0 ⟨a, h'⟩ - y1 ⟨a, h'⟩ * s0 ⟨a, h'⟩
        else y0 ⟨a - 8, by omega⟩ * s0 ⟨a - 8, by omega⟩ + y1 ⟨a - 8, by omega⟩ * c0 ⟨a - 8, by omega⟩
      else if h' : a - 16 < 8 then y2 ⟨a - 16, h'⟩ * c1 ⟨a - 16, h'⟩ - y3 ⟨a - 16, h'⟩ * s1 ⟨a - 16, h'⟩
        else y2 ⟨a - 16 - 8, by omega⟩ * s1 ⟨a - 16 - 8, by omega⟩ + y3 ⟨a - 16 - 8, by omega⟩ * c1 ⟨a - 16 - 8, by omega⟩)
      = turn 8 (cosTable 8 (by decide) 0x41000000#32 n) (sinTable 8 (by decide) 0x41000000#32 n) x ⟨a, ha⟩ := by
  have hx : ∀ (u v : ℕ) (hu : u < 32) (hv : v < 32), u = v → x ⟨u, hu⟩ = x ⟨v, hv⟩ := fun _ _ _ _ e => congrArg x (Fin.ext e)
  simp only [h0, h1, h2, h3, k0, l0, k1, l1, turn, cosTable, sinTable, sines, cosines, mate]
  by_cases g : a < 16
  · by_cases g' : a < 8
    · have e1 : a / 8 = 0 := by omega
      have e2 : a % 8 = a := by omega
      have e3 : (a + 8) % 32 = 8 + (a) := by omega
      simp only [g, g', dite_true, e1, e2, e3, Nat.zero_mod, if_true, Nat.zero_lt_succ, Nat.reduceLT, sub_eq_add_neg, mul_neg]
    · have e1 : a / 8 = 1 := by omega
      have e2 : a % 8 = a - 8 := by omega
      have e3 : (a + 32 - 8) % 32 = a - 8 := by omega
      simp only [g, g', dite_true, dite_false, e1, e2, e3, Nat.reduceMod, one_ne_zero, if_false, if_true, Nat.reduceLT]
      rw [add_comm]
      refine congrArg (fun u => u * _ + _) (hx _ _ _ _ (by omega))
  · by_cases g' : a - 16 < 8
    · have e1 : a / 8 = 2 := by omega
      have e2 : a % 8 = a - 16 := by omega
      have e3 : (a + 8) % 32 = 24 + (a - 16) := by omega
      simp only [g, g', dite_true, dite_false, e1, e2, e3, Nat.reduceMod, if_true, if_false, Nat.reduceLT, lt_irrefl, sub_eq_add_neg, mul_neg]
      refine congrArg (fun u => u * _ + _) (hx _ _ _ _ (by omega))
    · have e1 : a / 8 = 3 := by omega
      have e2 : a % 8 = a - 24 := by omega
      have e3 : (a + 32 - 8) % 32 = 16 + (a - 24) := by omega
      simp only [g, g', dite_true, dite_false, e1, e2, e3, Nat.reduceMod, one_ne_zero, if_true, if_false, Nat.reduceLT, Nat.sub_sub, Nat.reduceAdd]
      rw [add_comm]
      refine congrArg (fun u => u * _ + _) (hx _ _ _ _ (by omega))

end Cert.InProj

end
-- ==== Proof.InProj.HeadsA.lean ====
/- The reference's input projection, read at an index. -/
module

public import proofs.«01_k».proof.Proof.Gen.ReferenceIIdeal.Run
public import proofs.«01_k».proof.Proof.InProj.RefBase
public import proofs.«01_k».proof.Proof.InProj.Rope
public import Idealize.ShloMosaic.Lib.Pointwise

@[expose] public section

set_option maxRecDepth 16384
set_option maxHeartbeats 400000

noncomputable section

namespace Cert.InProj

open Cert.ReferenceIIdeal Cert.ReferenceIIdeal.Gen Cert.ReferenceIIdeal.Value Idealize.ShloMosaic

variable (V0 : Valuation τ sig (Elt Ideal))

/-- The first queries' lanes, run 0. -/
theorem x80 (b : Fin 16) (n : Fin 2048) (h : Fin 6) (i : Fin 16) : (res_main_v80 V0 : FVec Ideal S16x2048x6x16 .f32) (ix4 b n h i) = ((refArgs V0).row b n).p ⟨h.val * 64 + (i.val), by omega⟩ := by
  pointwise [res_main_v80, res_main_v79, res_main_v78]
  exact (t68 V0 b n _).trans (congrArg _ (Fin.ext (by first | (simp only []; done) | (simp only []; omega))))

/-- The first queries' lanes, run 1. -/
theorem x81 (b : Fin 16) (n : Fin 2048) (h : Fin 6) (i : Fin 16) : (res_main_v81 V0 : FVec Ideal S16x2048x6x16 .f32) (ix4 b n h i) = ((refArgs V0).row b n).p ⟨h.val * 64 + (16 + i.val), by omega⟩ := by
  pointwise [res_main_v81, res_main_v79, res_main_v78]
  exact (t68 V0 b n _).trans (congrArg _ (Fin.ext (by first | (simp only []; done) | (simp only []; omega))))

/-- The first queries' lanes, run 2. -/
theorem x98 (b : Fin 16) (n : Fin 2048) (h : Fin 6) (i : Fin 16) : (res_main_v98 V0 : FVec Ideal S16x2048x6x16 .f32) (ix4 b n h i) = ((refArgs V0).row b n).p ⟨h.val * 64 + (32 + i.val), by omega⟩ := by
  pointwise [res_main_v98, res_main_v97, res_main_v78]
  exact (t68 V0 b n _).trans (congrArg _ (Fin.ext (by first | (simp only []; done) | (simp only []; omega))))

/-- The first queries' lanes, run 3. -/
theorem x99 (b : Fin 16) (n : Fin 2048) (h : Fin 6) (i : Fin 16) : (res_main_v99 V0 : FVec Ideal S16x2048x6x16 .f32) (ix4 b n h i) = ((refArgs V0).row b n).p ⟨h.val * 64 + (48 + i.val), by omega⟩ := by
  pointwise [res_main_v99, res_main_v97, res_main_v78]
  exact (t68 V0 b n _).trans (congrArg _ (Fin.ext (by first | (simp only []; done) | (simp only []; omega))))

/-- The first keys' lanes, run 0. -/
theorem x119 (b : Fin 16) (n : Fin 2048) (h : Fin 2) (i : Fin 16) : (res_main_v119 V0 : FVec Ideal S16x2048x2x16 .f32) (ix4 b n h i) = ((refArgs V0).row b n).p ⟨384 + (h.val * 64 + (i.val)), by omega⟩ := by
  pointwise [res_main_v119, res_main_v118, res_main_v117]
  exact (t68 V0 b n _).trans (congrArg _ (Fin.ext (by first | (simp only []; done) | (simp only []; omega))))

/-- The first keys' lanes, run 1. -/
theorem x120 (b : Fin 16) (n : Fin 2048) (h : Fin 2) (i : Fin 16) : (res_main_v120 V0 : FVec Ideal S16x2048x2x16 .f32) (ix4 b n h i) = ((refArgs V0).row b n).p ⟨384 + (h.val * 64 + (16 + i.val)), by omega⟩ := by
  pointwise [res_main_v120, res_main_v118, res_main_v117]
  exact (t68 V0 b n _).trans (congrArg _ (Fin.ext (by first | (simp only []; done) | (simp only []; omega))))

/-- The first keys' lanes, run 2. -/
theorem x137 (b : Fin 16) (n : Fin 2048) (h : Fin 2) (i : Fin 16) : (res_main_v137 V0 : FVec Ideal S16x2048x2x16 .f32) (ix4 b n h i) = ((refArgs V0).row b n).p ⟨384 + (h.val * 64 + (32 + i.val)), by omega⟩ := by
  pointwise [res_main_v137, res_main_v136, res_main_v117]
  exact (t68 V0 b n _).trans (congrArg _ (Fin.ext (by first | (simp only []; done) | (simp only []; omega))))

/-- The first keys' lanes, run 3. -/
theorem x138 (b : Fin 16) (n : Fin 2048) (h : Fin 2) (i : Fin 16) : (res_main_v138 V0 : FVec Ideal S16x2048x2x16 .f32) (ix4 b n h i) = ((refArgs V0).row b n).p ⟨384 + (h.val * 64 + (48 + i.val)), by omega⟩ := by
  pointwise [res_main_v138, res_main_v136, res_main_v117]
  exact (t68 V0 b n _).trans (congrArg _ (Fin.ext (by first | (simp only []; done) | (simp only []; omega))))

end Cert.InProj

end
-- ==== Proof.InProj.Perm.lean ====
/- The reference's input projection, read at an index. -/
module

public import proofs.«01_k».proof.Proof.Gen.ReferenceIIdeal.Run
public import proofs.«01_k».proof.Proof.InProj.RefBase
public import proofs.«01_k».proof.Proof.InProj.Rope
public import Idealize.ShloMosaic.Lib.Pointwise

@[expose] public section

set_option maxRecDepth 16384
set_option maxHeartbeats 400000

noncomputable section

namespace Cert.InProj

open Cert.ReferenceIIdeal Cert.ReferenceIIdeal.Gen Cert.ReferenceIIdeal.Value Idealize.ShloMosaic

/-- A flat array's lane is a group's, a half's and a place's. -/
theorem flat_of_parts (Z : FVec Ideal S16x2048x3x2x64 .f32) (b : Fin 16) (n : Fin 2048) (j : Fin 384) :
    shapeCast S16x2048x384 Z shapeCasts_S16x2048x3x2x64_S16x2048x384 (ix3 b n j)
      = Z (ix5 b n (⟨j.val / 128, by omega⟩ : Fin 3) (⟨j.val / 64 % 2, by omega⟩ : Fin 2) (⟨j.val % 64, by omega⟩ : Fin 64)) := by
  pointwise

/-- A half's group is a head. -/
theorem parts_of_heads (Y : FVec Ideal S16x2048x6x64 .f32) (b : Fin 16) (n : Fin 2048) (g : Fin 2) (i : Fin 3) (d : Fin 64) :
    shapeCast S16x2048x2x3x64 Y shapeCasts_S16x2048x6x64_S16x2048x2x3x64 (ix5 b n g i d) = Y (ix4 b n (⟨g.val * 3 + i.val, by omega⟩ : Fin 6) d) := by
  pointwise

/-- The two dimensions exchanged. -/
theorem exchanged (X : FVec Ideal S16x2048x2x3x64 .f32) (b : Fin 16) (n : Fin 2048) (i : Fin 3) (g : Fin 2) (d : Fin 64) :
    transpose S16x2048x3x2x64 [0, 1, 3, 2, 4] X transposes_S16x2048x2x3x64_S16x2048x3x2x64_0_1_3_2_4 (ix5 b n i g d) = X (ix5 b n g i d) := by
  pointwise

/-- The heads' order in the results, an array whose lane is a head's place. -/
theorem flat_of_heads (Y : FVec Ideal S16x2048x6x64 .f32) (b : Fin 16) (n : Fin 2048) (j : Fin 384) :
    shapeCast S16x2048x384 (transpose S16x2048x3x2x64 [0, 1, 3, 2, 4]
        (shapeCast S16x2048x2x3x64 Y shapeCasts_S16x2048x6x64_S16x2048x2x3x64) transposes_S16x2048x2x3x64_S16x2048x3x2x64_0_1_3_2_4)
        shapeCasts_S16x2048x3x2x64_S16x2048x384 (ix3 b n j)
      = Y (ix4 b n (⟨j.val / 64 % 2 * 3 + j.val / 128, by omega⟩ : Fin 6) (⟨j.val % 64, by omega⟩ : Fin 64)) :=
  (flat_of_parts _ b n j).trans ((exchanged _ b n _ _ _).trans (parts_of_heads Y b n _ _ _))

end Cert.InProj

end
-- ==== Proof.InProj.RefA.lean ====
/- The reference's input projection, read at an index. -/
module

public import proofs.«01_k».proof.Proof.Gen.ReferenceIIdeal.Run
public import proofs.«01_k».proof.Proof.InProj.HeadsA
public import proofs.«01_k».proof.Proof.InProj.Perm
public import proofs.«01_k».proof.Proof.InProj.Rope
public import Idealize.ShloMosaic.Lib.Pointwise

@[expose] public section

set_option maxRecDepth 16384
set_option maxHeartbeats 400000

noncomputable section

namespace Cert.InProj

open Cert.ReferenceIIdeal Cert.ReferenceIIdeal.Gen Cert.ReferenceIIdeal.Value Idealize.ShloMosaic

variable (V0 : Valuation τ sig (Elt Ideal))

/-- The first branch's queries. -/
theorem ref_qa (b : Fin 16) (n : Fin 2048) (j : Fin 384) : (val7 V0 (Proc.devRef .tc main_v374) : FVec Ideal S16x2048x384 .bf16) (ix3 b n j) = ((refArgs V0).row b n).qa j := by
  rw [val7_main_v374]
  generalize hY : concatenate S16x2048x6x64 3 _ _ = Y
  have hy : ∀ (h : Fin 6) (d : Fin 64), Y (ix4 b n h d) = turn 16 (cosTable 16 (by decide) 0x41800000#32 n.val) (sinTable 16 (by decide) 0x41800000#32 n.val) (fun d => ((refArgs V0).row b n).p ⟨h.val * 64 + d.val, by omega⟩) d := by
    intro h d
    rw [← hY]
    clear hY
    pointwise
    exact rope64 n.val (fun d => ((refArgs V0).row b n).p ⟨h.val * 64 + d.val, by omega⟩)
      (fun i => (res_main_v80 V0 : FVec Ideal S16x2048x6x16 .f32) (ix4 b n h i)) (fun i => (res_main_v81 V0 : FVec Ideal S16x2048x6x16 .f32) (ix4 b n h i)) (fun i => (res_main_v98 V0 : FVec Ideal S16x2048x6x16 .f32) (ix4 b n h i)) (fun i => (res_main_v99 V0 : FVec Ideal S16x2048x6x16 .f32) (ix4 b n h i))
      (fun i => (res_main_v17 V0 : FVec Ideal S2048x1x16 .f32) (ix3 n 0 i)) (fun i => (res_main_v19 V0 : FVec Ideal S2048x1x16 .f32) (ix3 n 0 i)) (fun i => (res_main_v27 V0 : FVec Ideal S2048x1x16 .f32) (ix3 n 0 i)) (fun i => (res_main_v29 V0 : FVec Ideal S2048x1x16 .f32) (ix3 n 0 i))
      (fun i => x80 V0 b n h i) (fun i => x81 V0 b n h i) (fun i => x98 V0 b n h i) (fun i => x99 V0 b n h i)
      (fun i => t17 V0 n i) (fun i => t19 V0 n i) (fun i => t27 V0 n i) (fun i => t29 V0 n i) d.val d.isLt
  clear hY
  refine (flat_of_heads Y b n j).trans ((hy _ _).trans ?_)
  have e : ∀ d : Fin 64, (j.val / 64 % 2 * 3 + j.val / 128) * 64 + d.val = j.val / 64 % 2 * 192 + j.val / 128 * 64 + d.val := fun d => by omega
  unfold Row.qa
  simp only [e]
  rfl

/-- The first branch's keys. -/
theorem ref_ka (b : Fin 16) (n : Fin 2048) (j : Fin 128) : (val7 V0 (Proc.devRef .tc main_v376) : FVec Ideal S16x2048x128 .bf16) (ix3 b n j) = ((refArgs V0).row b n).ka j := by
  rw [val7_main_v376]
  generalize hY : concatenate S16x2048x2x64 3 _ _ = Y
  have hy : ∀ (h : Fin 2) (d : Fin 64), Y (ix4 b n h d) = turn 16 (cosTable 16 (by decide) 0x41800000#32 n.val) (sinTable 16 (by decide) 0x41800000#32 n.val) (fun d => ((refArgs V0).row b n).p ⟨384 + (h.val * 64 + d.val), by omega⟩) d := by
    intro h d
    rw [← hY]
    clear hY
    pointwise
    exact rope64 n.val (fun d => ((refArgs V0).row b n).p ⟨384 + (h.val * 64 + d.val), by omega⟩)
      (fun i => (res_main_v119 V0 : FVec Ideal S16x2048x2x16 .f32) (ix4 b n h i)) (fun i => (res_main_v120 V0 : FVec Ideal S16x2048x2x16 .f32) (ix4 b n h i)) (fun i => (res_main_v137 V0 : FVec Ideal S16x2048x2x16 .f32) (ix4 b n h i)) (fun i => (res_main_v138 V0 : FVec Ideal S16x2048x2x16 .f32) (ix4 b n h i))
      (fun i => (res_main_v17 V0 : FVec Ideal S2048x1x16 .f32) (ix3 n 0 i)) (fun i => (res_main_v19 V0 : FVec Ideal S2048x1x16 .f32) (ix3 n 0 i)) (fun i => (res_main_v27 V0 : FVec Ideal S2048x1x16 .f32) (ix3 n 0 i)) (fun i => (res_main_v29 V0 : FVec Ideal S2048x1x16 .f32) (ix3 n 0 i))
      (fun i => x119 V0 b n h i) (fun i => x120 V0 b n h i) (fun i => x137 V0 b n h i) (fun i => x138 V0 b n h i)
      (fun i => t17 V0 n i) (fun i => t19 V0 n i) (fun i => t27 V0 n i) (fun i => t29 V0 n i) d.val d.isLt
  clear hY
  pointwise
  exact hy _ _

/-- The first branch's values. -/
theorem ref_va (b : Fin 16) (j : Fin 128) (n : Fin 2048) : (val7 V0 (Proc.devRef .tc main_v379) : FVec Ideal S16x128x2048 .bf16) (ix3 b j n) = ((refArgs V0).row b n).va j := by
  rw [val7_main_v379]
  pointwise
  exact t68 V0 b n _

/-- As an array. -/
theorem ref_qa_eq : (val7 V0 (Proc.devRef .tc main_v374) : FVec Ideal S16x2048x384 .bf16) = (refArgs V0).qa := by
  funext i
  have hi : i = (ix3 (i 0) (i 1) (i 2) : S16x2048x384.Idx) := by
    funext k
    fin_cases k <;> rfl
  rw [hi]
  exact ref_qa V0 _ _ _

/-- As an array. -/
theorem ref_ka_eq : (val7 V0 (Proc.devRef .tc main_v376) : FVec Ideal S16x2048x128 .bf16) = (refArgs V0).ka := by
  funext i
  have hi : i = (ix3 (i 0) (i 1) (i 2) : S16x2048x128.Idx) := by
    funext k
    fin_cases k <;> rfl
  rw [hi]
  exact ref_ka V0 _ _ _

/-- As an array. -/
theorem ref_va_eq : (val7 V0 (Proc.devRef .tc main_v379) : FVec Ideal S16x128x2048 .bf16) = (refArgs V0).va := by
  funext i
  have hi : i = (ix3 (i 0) (i 1) (i 2) : S16x128x2048.Idx) := by
    funext k
    fin_cases k <;> rfl
  rw [hi]
  exact ref_va V0 _ _ _

end Cert.InProj

end
-- ==== Proof.InProj.RefB.lean ====
/- The reference's input projection, read at an index. -/
module

public import proofs.«01_k».proof.Proof.Gen.ReferenceIIdeal.Run
public import proofs.«01_k».proof.Proof.InProj.RefBase
public import proofs.«01_k».proof.Proof.InProj.Rope
public import Idealize.ShloMosaic.Lib.Pointwise

@[expose] public section

set_option maxRecDepth 16384
set_option maxHeartbeats 400000

noncomputable section

namespace Cert.InProj

open Cert.ReferenceIIdeal Cert.ReferenceIIdeal.Gen Cert.ReferenceIIdeal.Value Idealize.ShloMosaic

variable (V0 : Valuation τ sig (Elt Ideal))

/-- The second queries before the turn. -/
theorem t170 (b : Fin 16) (n : Fin 2048) (h : Fin 4) (i : Fin 96) : (res_main_v170 V0 : FVec Ideal S16x2048x4x96 .f32) (ix4 b n h i) = ((refArgs V0).row b n).uqv ⟨h.val * 96 + i.val, by omega⟩ := by
  pointwise [res_main_v170, res_main_v72]
  simp only [t68]
  rfl

/-- The second keys and values before the turn. -/
theorem t225 (b : Fin 16) (n : Fin 2048) (h : Fin 4) (i : Fin 128) : (res_main_v225 V0 : FVec Ideal S16x2048x4x128 .f32) (ix4 b n h i) = ((refArgs V0).row b n).ukvv ⟨h.val * 128 + i.val, by omega⟩ := by
  pointwise [res_main_v225, res_main_v73]
  simp only [t68]
  rfl

/-- The second queries' turned lanes, run 0. -/
theorem x174 (b : Fin 16) (n : Fin 2048) (h : Fin 4) (i : Fin 8) : (res_main_v174 V0 : FVec Ideal S16x2048x4x8 .f32) (ix4 b n h i) = ((refArgs V0).row b n).uqv ⟨h.val * 96 + 64 + (i.val), by omega⟩ := by
  pointwise [res_main_v174, res_main_v173, res_main_v172]
  exact (t170 V0 b n h _).trans (congrArg _ (Fin.ext (by first | (simp only []; done) | (simp only []; omega))))

/-- The second queries' turned lanes, run 1. -/
theorem x175 (b : Fin 16) (n : Fin 2048) (h : Fin 4) (i : Fin 8) : (res_main_v175 V0 : FVec Ideal S16x2048x4x8 .f32) (ix4 b n h i) = ((refArgs V0).row b n).uqv ⟨h.val * 96 + 64 + (8 + i.val), by omega⟩ := by
  pointwise [res_main_v175, res_main_v173, res_main_v172]
  exact (t170 V0 b n h _).trans (congrArg _ (Fin.ext (by first | (simp only []; done) | (simp only []; omega))))

/-- The second queries' turned lanes, run 2. -/
theorem x192 (b : Fin 16) (n : Fin 2048) (h : Fin 4) (i : Fin 8) : (res_main_v192 V0 : FVec Ideal S16x2048x4x8 .f32) (ix4 b n h i) = ((refArgs V0).row b n).uqv ⟨h.val * 96 + 64 + (16 + i.val), by omega⟩ := by
  pointwise [res_main_v192, res_main_v191, res_main_v172]
  exact (t170 V0 b n h _).trans (congrArg _ (Fin.ext (by first | (simp only []; done) | (simp only []; omega))))

/-- The second queries' turned lanes, run 3. -/
theorem x193 (b : Fin 16) (n : Fin 2048) (h : Fin 4) (i : Fin 8) : (res_main_v193 V0 : FVec Ideal S16x2048x4x8 .f32) (ix4 b n h i) = ((refArgs V0).row b n).uqv ⟨h.val * 96 + 64 + (24 + i.val), by omega⟩ := by
  pointwise [res_main_v193, res_main_v191, res_main_v172]
  exact (t170 V0 b n h _).trans (congrArg _ (Fin.ext (by first | (simp only []; done) | (simp only []; omega))))

/-- The shared key's lanes, run 0. -/
theorem x228 (b : Fin 16) (n : Fin 2048) (i : Fin 8) : (res_main_v228 V0 : FVec Ideal S16x2048x1x8 .f32) (ix4 b n 0 i) = ((refArgs V0).row b n).p ⟨1024 + (i.val), by omega⟩ := by
  pointwise [res_main_v228, res_main_v227, res_main_v226]
  exact (t68 V0 b n _).trans (congrArg _ (Fin.ext (by first | (simp only []; done) | (simp only []; omega))))

/-- The shared key's lanes, run 1. -/
theorem x229 (b : Fin 16) (n : Fin 2048) (i : Fin 8) : (res_main_v229 V0 : FVec Ideal S16x2048x1x8 .f32) (ix4 b n 0 i) = ((refArgs V0).row b n).p ⟨1024 + (8 + i.val), by omega⟩ := by
  pointwise [res_main_v229, res_main_v227, res_main_v226]
  exact (t68 V0 b n _).trans (congrArg _ (Fin.ext (by first | (simp only []; done) | (simp only []; omega))))

/-- The shared key's lanes, run 2. -/
theorem x246 (b : Fin 16) (n : Fin 2048) (i : Fin 8) : (res_main_v246 V0 : FVec Ideal S16x2048x1x8 .f32) (ix4 b n 0 i) = ((refArgs V0).row b n).p ⟨1024 + (16 + i.val), by omega⟩ := by
  pointwise [res_main_v246, res_main_v245, res_main_v226]
  exact (t68 V0 b n _).trans (congrArg _ (Fin.ext (by first | (simp only []; done) | (simp only []; omega))))

/-- The shared key's lanes, run 3. -/
theorem x247 (b : Fin 16) (n : Fin 2048) (i : Fin 8) : (res_main_v247 V0 : FVec Ideal S16x2048x1x8 .f32) (ix4 b n 0 i) = ((refArgs V0).row b n).p ⟨1024 + (24 + i.val), by omega⟩ := by
  pointwise [res_main_v247, res_main_v245, res_main_v226]
  exact (t68 V0 b n _).trans (congrArg _ (Fin.ext (by first | (simp only []; done) | (simp only []; omega))))

/-- The integer zero is the number zero. -/
theorem zero_of_word : FloatOps.sitofp (F := Ideal) FTy.f32 0#32 = 0 := by
  show (((0#32).toInt : ℝ) : EReal) = 0
  simp

/-- The second branch's queries. -/
theorem ref_qb (b : Fin 16) (n : Fin 2048) (j : Fin 512) : (val7 V0 (Proc.devRef .tc main_v382) : FVec Ideal S16x2048x512 .bf16) (ix3 b n j) = ((refArgs V0).row b n).qb j := by
  rw [val7_main_v382]
  pointwise
  have q : j.val / 128 < 4 := by omega
  unfold Row.qb
  by_cases a1 : j.val % 128 < 64
  · have a2 : j.val % 128 < 96 := by omega
    simp only [q, a1, a2, and_true, dite_true, if_true]
    exact (t170 V0 b n _ _).trans (congrArg _ (Fin.ext (by first | (simp only []; done) | (simp only []; omega))))
  by_cases a2 : j.val % 128 < 96
  · simp only [q, a1, a2, and_true, dite_true, dite_false, if_false, if_true]
    refine (rope32 n.val (fun d => ((refArgs V0).row b n).uqv ⟨j.val / 128 * 96 + 64 + d.val, by omega⟩)
      (fun i => (res_main_v174 V0 : FVec Ideal S16x2048x4x8 .f32) (ix4 b n ⟨j.val / 128, by omega⟩ i)) (fun i => (res_main_v175 V0 : FVec Ideal S16x2048x4x8 .f32) (ix4 b n ⟨j.val / 128, by omega⟩ i)) (fun i => (res_main_v192 V0 : FVec Ideal S16x2048x4x8 .f32) (ix4 b n ⟨j.val / 128, by omega⟩ i)) (fun i => (res_main_v193 V0 : FVec Ideal S16x2048x4x8 .f32) (ix4 b n ⟨j.val / 128, by omega⟩ i))
      (fun i => (res_main_v47 V0 : FVec Ideal S2048x1x8 .f32) (ix3 n 0 i)) (fun i => (res_main_v49 V0 : FVec Ideal S2048x1x8 .f32) (ix3 n 0 i)) (fun i => (res_main_v57 V0 : FVec Ideal S2048x1x8 .f32) (ix3 n 0 i)) (fun i => (res_main_v59 V0 : FVec Ideal S2048x1x8 .f32) (ix3 n 0 i))
      (fun i => x174 V0 b n ⟨j.val / 128, by omega⟩ i) (fun i => x175 V0 b n ⟨j.val / 128, by omega⟩ i) (fun i => x192 V0 b n ⟨j.val / 128, by omega⟩ i) (fun i => x193 V0 b n ⟨j.val / 128, by omega⟩ i)
      (fun i => t47 V0 n i) (fun i => t49 V0 n i) (fun i => t57 V0 n i) (fun i => t59 V0 n i) (j.val % 128 - 64) (by omega)).trans ?_
    exact congrArg _ (Fin.ext (by first | (simp only []; done) | (simp only []; omega)))
  · simp only [q, a1, a2, and_false, dite_false, if_false]
    exact zero_of_word

/-- The second branch's keys. -/
theorem ref_kb (b : Fin 16) (n : Fin 2048) (j : Fin 512) : (val7 V0 (Proc.devRef .tc main_v385) : FVec Ideal S16x2048x512 .bf16) (ix3 b n j) = ((refArgs V0).row b n).kb j := by
  rw [val7_main_v385]
  pointwise
  have q : j.val / 128 < 4 := by omega
  unfold Row.kb
  by_cases a1 : j.val % 128 < 64
  · have a2 : j.val % 128 < 96 := by omega
    simp only [q, a1, a2, and_true, dite_true, if_true]
    exact (t225 V0 b n _ _).trans (congrArg _ (Fin.ext (by first | (simp only []; done) | (simp only []; omega))))
  by_cases a2 : j.val % 128 < 96
  · simp only [q, a1, a2, and_true, dite_true, dite_false, if_false, if_true]
    refine (rope32 n.val (fun d => ((refArgs V0).row b n).p ⟨1024 + d.val, by omega⟩)
      (fun i => (res_main_v228 V0 : FVec Ideal S16x2048x1x8 .f32) (ix4 b n 0 i)) (fun i => (res_main_v229 V0 : FVec Ideal S16x2048x1x8 .f32) (ix4 b n 0 i)) (fun i => (res_main_v246 V0 : FVec Ideal S16x2048x1x8 .f32) (ix4 b n 0 i)) (fun i => (res_main_v247 V0 : FVec Ideal S16x2048x1x8 .f32) (ix4 b n 0 i))
      (fun i => (res_main_v47 V0 : FVec Ideal S2048x1x8 .f32) (ix3 n 0 i)) (fun i => (res_main_v49 V0 : FVec Ideal S2048x1x8 .f32) (ix3 n 0 i)) (fun i => (res_main_v57 V0 : FVec Ideal S2048x1x8 .f32) (ix3 n 0 i)) (fun i => (res_main_v59 V0 : FVec Ideal S2048x1x8 .f32) (ix3 n 0 i))
      (fun i => x228 V0 b n i) (fun i => x229 V0 b n i) (fun i => x246 V0 b n i) (fun i => x247 V0 b n i)
      (fun i => t47 V0 n i) (fun i => t49 V0 n i) (fun i => t57 V0 n i) (fun i => t59 V0 n i) (j.val % 128 - 64) (by omega)).trans ?_
    exact congrArg _ (Fin.ext (by first | (simp only []; done) | (simp only []; omega)))
  · simp only [q, a1, a2, and_false, dite_false, if_false]
    exact zero_of_word

/-- The second branch's values. -/
theorem ref_vb (b : Fin 16) (j : Fin 256) (n : Fin 2048) : (val7 V0 (Proc.devRef .tc main_v388) : FVec Ideal S16x256x2048 .bf16) (ix3 b j n) = ((refArgs V0).row b n).vb j := by
  rw [val7_main_v388]
  pointwise
  exact (t225 V0 b n _ _).trans (congrArg _ (Fin.ext (by first | (simp only []; done) | (simp only []; omega))))

/-- As an array. -/
theorem ref_qb_eq : (val7 V0 (Proc.devRef .tc main_v382) : FVec Ideal S16x2048x512 .bf16) = (refArgs V0).qb := by
  funext i
  have hi : i = (ix3 (i 0) (i 1) (i 2) : S16x2048x512.Idx) := by
    funext k
    fin_cases k <;> rfl
  rw [hi]
  exact ref_qb V0 _ _ _

/-- As an array. -/
theorem ref_kb_eq : (val7 V0 (Proc.devRef .tc main_v385) : FVec Ideal S16x2048x512 .bf16) = (refArgs V0).kb := by
  funext i
  have hi : i = (ix3 (i 0) (i 1) (i 2) : S16x2048x512.Idx) := by
    funext k
    fin_cases k <;> rfl
  rw [hi]
  exact ref_kb V0 _ _ _

/-- As an array. -/
theorem ref_vb_eq : (val7 V0 (Proc.devRef .tc main_v388) : FVec Ideal S16x256x2048 .bf16) = (refArgs V0).vb := by
  funext i
  have hi : i = (ix3 (i 0) (i 1) (i 2) : S16x256x2048.Idx) := by
    funext k
    fin_cases k <;> rfl
  rw [hi]
  exact ref_vb V0 _ _ _

end Cert.InProj

end
-- ==== Proof.InProj.HeadsC.lean ====
/- The reference's input projection, read at an index. -/
module

public import proofs.«01_k».proof.Proof.Gen.ReferenceIIdeal.Run
public import proofs.«01_k».proof.Proof.InProj.RefBase
public import proofs.«01_k».proof.Proof.InProj.Rope
public import Idealize.ShloMosaic.Lib.Pointwise

@[expose] public section

set_option maxRecDepth 16384
set_option maxHeartbeats 400000

noncomputable section

namespace Cert.InProj

open Cert.ReferenceIIdeal Cert.ReferenceIIdeal.Gen Cert.ReferenceIIdeal.Value Idealize.ShloMosaic

variable (V0 : Valuation τ sig (Elt Ideal))

/-- The third queries' heads, normed. -/
theorem t281 (b : Fin 16) (n : Fin 2048) (h : Fin 6) (d : Fin 64) : (res_main_v281 V0 : FVec Ideal S16x2048x6x64 .f32) (ix4 b n h d)
    = rms 0x42800000#32 (fun d : Fin 64 => ((refArgs V0).row b n).p ⟨1056 + (h.val * 64 + d.val), by omega⟩) ((refArgs V0).row b n).gcq d := by
  pointwise [res_main_v281, res_main_v268]
  simp only [t68]
  rfl

/-- The third keys' heads, normed. -/
theorem t333 (b : Fin 16) (n : Fin 2048) (h : Fin 2) (d : Fin 64) : (res_main_v333 V0 : FVec Ideal S16x2048x2x64 .f32) (ix4 b n h d)
    = rms 0x42800000#32 (fun d : Fin 64 => ((refArgs V0).row b n).p ⟨1440 + (h.val * 64 + d.val), by omega⟩) ((refArgs V0).row b n).gck d := by
  pointwise [res_main_v333, res_main_v320]
  simp only [t68]
  rfl

/-- The third queries' lanes, run 0. -/
theorem x283 (b : Fin 16) (n : Fin 2048) (h : Fin 6) (i : Fin 16) : (res_main_v283 V0 : FVec Ideal S16x2048x6x16 .f32) (ix4 b n h i) = rms 0x42800000#32 (fun d : Fin 64 => ((refArgs V0).row b n).p ⟨1056 + (h.val * 64 + d.val), by omega⟩) ((refArgs V0).row b n).gcq ⟨i.val, by omega⟩ := by
  pointwise [res_main_v283, res_main_v282]
  exact (t281 V0 b n h _).trans (congrArg _ (Fin.ext (by first | (simp only []; done) | (simp only []; omega))))

/-- The third queries' lanes, run 1. -/
theorem x284 (b : Fin 16) (n : Fin 2048) (h : Fin 6) (i : Fin 16) : (res_main_v284 V0 : FVec Ideal S16x2048x6x16 .f32) (ix4 b n h i) = rms 0x42800000#32 (fun d : Fin 64 => ((refArgs V0).row b n).p ⟨1056 + (h.val * 64 + d.val), by omega⟩) ((refArgs V0).row b n).gcq ⟨16 + i.val, by omega⟩ := by
  pointwise [res_main_v284, res_main_v282]
  exact (t281 V0 b n h _).trans (congrArg _ (Fin.ext (by first | (simp only []; done) | (simp only []; omega))))

/-- The third queries' lanes, run 2. -/
theorem x301 (b : Fin 16) (n : Fin 2048) (h : Fin 6) (i : Fin 16) : (res_main_v301 V0 : FVec Ideal S16x2048x6x16 .f32) (ix4 b n h i) = rms 0x42800000#32 (fun d : Fin 64 => ((refArgs V0).row b n).p ⟨1056 + (h.val * 64 + d.val), by omega⟩) ((refArgs V0).row b n).gcq ⟨32 + i.val, by omega⟩ := by
  pointwise [res_main_v301, res_main_v300]
  exact (t281 V0 b n h _).trans (congrArg _ (Fin.ext (by first | (simp only []; done) | (simp only []; omega))))

/-- The third queries' lanes, run 3. -/
theorem x302 (b : Fin 16) (n : Fin 2048) (h : Fin 6) (i : Fin 16) : (res_main_v302 V0 : FVec Ideal S16x2048x6x16 .f32) (ix4 b n h i) = rms 0x42800000#32 (fun d : Fin 64 => ((refArgs V0).row b n).p ⟨1056 + (h.val * 64 + d.val), by omega⟩) ((refArgs V0).row b n).gcq ⟨48 + i.val, by omega⟩ := by
  pointwise [res_main_v302, res_main_v300]
  exact (t281 V0 b n h _).trans (congrArg _ (Fin.ext (by first | (simp only []; done) | (simp only []; omega))))

/-- The third keys' lanes, run 0. -/
theorem x335 (b : Fin 16) (n : Fin 2048) (h : Fin 2) (i : Fin 16) : (res_main_v335 V0 : FVec Ideal S16x2048x2x16 .f32) (ix4 b n h i) = rms 0x42800000#32 (fun d : Fin 64 => ((refArgs V0).row b n).p ⟨1440 + (h.val * 64 + d.val), by omega⟩) ((refArgs V0).row b n).gck ⟨i.val, by omega⟩ := by
  pointwise [res_main_v335, res_main_v334]
  exact (t333 V0 b n h _).trans (congrArg _ (Fin.ext (by first | (simp only []; done) | (simp only []; omega))))

/-- The third keys' lanes, run 1. -/
theorem x336 (b : Fin 16) (n : Fin 2048) (h : Fin 2) (i : Fin 16) : (res_main_v336 V0 : FVec Ideal S16x2048x2x16 .f32) (ix4 b n h i) = rms 0x42800000#32 (fun d : Fin 64 => ((refArgs V0).row b n).p ⟨1440 + (h.val * 64 + d.val), by omega⟩) ((refArgs V0).row b n).gck ⟨16 + i.val, by omega⟩ := by
  pointwise [res_main_v336, res_main_v334]
  exact (t333 V0 b n h _).trans (congrArg _ (Fin.ext (by first | (simp only []; done) | (simp only []; omega))))

/-- The third keys' lanes, run 2. -/
theorem x353 (b : Fin 16) (n : Fin 2048) (h : Fin 2) (i : Fin 16) : (res_main_v353 V0 : FVec Ideal S16x2048x2x16 .f32) (ix4 b n h i) = rms 0x42800000#32 (fun d : Fin 64 => ((refArgs V0).row b n).p ⟨1440 + (h.val * 64 + d.val), by omega⟩) ((refArgs V0).row b n).gck ⟨32 + i.val, by omega⟩ := by
  pointwise [res_main_v353, res_main_v352]
  exact (t333 V0 b n h _).trans (congrArg _ (Fin.ext (by first | (simp only []; done) | (simp only []; omega))))

/-- The third keys' lanes, run 3. -/
theorem x354 (b : Fin 16) (n : Fin 2048) (h : Fin 2) (i : Fin 16) : (res_main_v354 V0 : FVec Ideal S16x2048x2x16 .f32) (ix4 b n h i) = rms 0x42800000#32 (fun d : Fin 64 => ((refArgs V0).row b n).p ⟨1440 + (h.val * 64 + d.val), by omega⟩) ((refArgs V0).row b n).gck ⟨48 + i.val, by omega⟩ := by
  pointwise [res_main_v354, res_main_v352]
  exact (t333 V0 b n h _).trans (congrArg _ (Fin.ext (by first | (simp only []; done) | (simp only []; omega))))

end Cert.InProj

end
-- ==== Proof.InProj.RefC.lean ====
/- The reference's input projection, read at an index. -/
module

public import proofs.«01_k».proof.Proof.Gen.ReferenceIIdeal.Run
public import proofs.«01_k».proof.Proof.InProj.HeadsC
public import proofs.«01_k».proof.Proof.InProj.Perm
public import proofs.«01_k».proof.Proof.InProj.Rope
public import Idealize.ShloMosaic.Lib.Pointwise

@[expose] public section

set_option maxRecDepth 16384
set_option maxHeartbeats 400000

noncomputable section

namespace Cert.InProj

open Cert.ReferenceIIdeal Cert.ReferenceIIdeal.Gen Cert.ReferenceIIdeal.Value Idealize.ShloMosaic

variable (V0 : Valuation τ sig (Elt Ideal))

/-- The third branch's queries. -/
theorem ref_qc (b : Fin 16) (n : Fin 2048) (j : Fin 384) : (val7 V0 (Proc.devRef .tc main_v391) : FVec Ideal S16x2048x384 .bf16) (ix3 b n j) = ((refArgs V0).row b n).qc j := by
  rw [val7_main_v391]
  generalize hY : concatenate S16x2048x6x64 3 _ _ = Y
  have hy : ∀ (h : Fin 6) (d : Fin 64), Y (ix4 b n h d) = turn 16 (cosTable 16 (by decide) 0x41800000#32 n.val) (sinTable 16 (by decide) 0x41800000#32 n.val) (rms 0x42800000#32 (fun d : Fin 64 => ((refArgs V0).row b n).p ⟨1056 + (h.val * 64 + d.val), by omega⟩) ((refArgs V0).row b n).gcq) d := by
    intro h d
    rw [← hY]
    clear hY
    pointwise
    exact rope64 n.val (rms 0x42800000#32 (fun d : Fin 64 => ((refArgs V0).row b n).p ⟨1056 + (h.val * 64 + d.val), by omega⟩) ((refArgs V0).row b n).gcq)
      (fun i => (res_main_v283 V0 : FVec Ideal S16x2048x6x16 .f32) (ix4 b n h i)) (fun i => (res_main_v284 V0 : FVec Ideal S16x2048x6x16 .f32) (ix4 b n h i)) (fun i => (res_main_v301 V0 : FVec Ideal S16x2048x6x16 .f32) (ix4 b n h i)) (fun i => (res_main_v302 V0 : FVec Ideal S16x2048x6x16 .f32) (ix4 b n h i))
      (fun i => (res_main_v17 V0 : FVec Ideal S2048x1x16 .f32) (ix3 n 0 i)) (fun i => (res_main_v19 V0 : FVec Ideal S2048x1x16 .f32) (ix3 n 0 i)) (fun i => (res_main_v27 V0 : FVec Ideal S2048x1x16 .f32) (ix3 n 0 i)) (fun i => (res_main_v29 V0 : FVec Ideal S2048x1x16 .f32) (ix3 n 0 i))
      (fun i => x283 V0 b n h i) (fun i => x284 V0 b n h i) (fun i => x301 V0 b n h i) (fun i => x302 V0 b n h i)
      (fun i => t17 V0 n i) (fun i => t19 V0 n i) (fun i => t27 V0 n i) (fun i => t29 V0 n i) d.val d.isLt
  clear hY
  refine (flat_of_heads Y b n j).trans ((hy _ _).trans ?_)
  have e : ∀ d : Fin 64, (j.val / 64 % 2 * 3 + j.val / 128) * 64 + d.val = j.val / 64 % 2 * 192 + j.val / 128 * 64 + d.val := fun d => by omega
  unfold Row.qc
  simp only [e]
  rfl

/-- The third branch's keys. -/
theorem ref_kc (b : Fin 16) (n : Fin 2048) (j : Fin 128) : (val7 V0 (Proc.devRef .tc main_v393) : FVec Ideal S16x2048x128 .bf16) (ix3 b n j) = ((refArgs V0).row b n).kc j := by
  rw [val7_main_v393]
  generalize hY : concatenate S16x2048x2x64 3 _ _ = Y
  have hy : ∀ (h : Fin 2) (d : Fin 64), Y (ix4 b n h d) = turn 16 (cosTable 16 (by decide) 0x41800000#32 n.val) (sinTable 16 (by decide) 0x41800000#32 n.val) (rms 0x42800000#32 (fun d : Fin 64 => ((refArgs V0).row b n).p ⟨1440 + (h.val * 64 + d.val), by omega⟩) ((refArgs V0).row b n).gck) d := by
    intro h d
    rw [← hY]
    clear hY
    pointwise
    exact rope64 n.val (rms 0x42800000#32 (fun d : Fin 64 => ((refArgs V0).row b n).p ⟨1440 + (h.val * 64 + d.val), by omega⟩) ((refArgs V0).row b n).gck)
      (fun i => (res_main_v335 V0 : FVec Ideal S16x2048x2x16 .f32) (ix4 b n h i)) (fun i => (res_main_v336 V0 : FVec Ideal S16x2048x2x16 .f32) (ix4 b n h i)) (fun i => (res_main_v353 V0 : FVec Ideal S16x2048x2x16 .f32) (ix4 b n h i)) (fun i => (res_main_v354 V0 : FVec Ideal S16x2048x2x16 .f32) (ix4 b n h i))
      (fun i => (res_main_v17 V0 : FVec Ideal S2048x1x16 .f32) (ix3 n 0 i)) (fun i => (res_main_v19 V0 : FVec Ideal S2048x1x16 .f32) (ix3 n 0 i)) (fun i => (res_main_v27 V0 : FVec Ideal S2048x1x16 .f32) (ix3 n 0 i)) (fun i => (res_main_v29 V0 : FVec Ideal S2048x1x16 .f32) (ix3 n 0 i))
      (fun i => x335 V0 b n h i) (fun i => x336 V0 b n h i) (fun i => x353 V0 b n h i) (fun i => x354 V0 b n h i)
      (fun i => t17 V0 n i) (fun i => t19 V0 n i) (fun i => t27 V0 n i) (fun i => t29 V0 n i) d.val d.isLt
  clear hY
  pointwise
  exact hy _ _

/-- The third branch's values. -/
theorem ref_vc (b : Fin 16) (j : Fin 128) (n : Fin 2048) : (val7 V0 (Proc.devRef .tc main_v396) : FVec Ideal S16x128x2048 .bf16) (ix3 b j n) = ((refArgs V0).row b n).vc j := by
  rw [val7_main_v396]
  pointwise
  exact t68 V0 b n _

/-- As an array. -/
theorem ref_qc_eq : (val7 V0 (Proc.devRef .tc main_v391) : FVec Ideal S16x2048x384 .bf16) = (refArgs V0).qc := by
  funext i
  have hi : i = (ix3 (i 0) (i 1) (i 2) : S16x2048x384.Idx) := by
    funext k
    fin_cases k <;> rfl
  rw [hi]
  exact ref_qc V0 _ _ _

/-- As an array. -/
theorem ref_kc_eq : (val7 V0 (Proc.devRef .tc main_v393) : FVec Ideal S16x2048x128 .bf16) = (refArgs V0).kc := by
  funext i
  have hi : i = (ix3 (i 0) (i 1) (i 2) : S16x2048x128.Idx) := by
    funext k
    fin_cases k <;> rfl
  rw [hi]
  exact ref_kc V0 _ _ _

/-- As an array. -/
theorem ref_vc_eq : (val7 V0 (Proc.devRef .tc main_v396) : FVec Ideal S16x128x2048 .bf16) = (refArgs V0).vc := by
  funext i
  have hi : i = (ix3 (i 0) (i 1) (i 2) : S16x128x2048.Idx) := by
    funext k
    fin_cases k <;> rfl
  rw [hi]
  exact ref_vc V0 _ _ _

end Cert.InProj

end
-- ==== Proof.InProj.Claims.lean ====
/- The claims of the input projection. -/
module

public import proofs.«01_k».proof.Defs
public import proofs.«01_k».proof.Proof.InProj.Finite
public import proofs.«01_k».proof.Proof.InProj.Array
public import proofs.«01_k».proof.Proof.InProj.RefA
public import proofs.«01_k».proof.Proof.InProj.RefB
public import proofs.«01_k».proof.Proof.InProj.RefC
public import proofs.«01_k».proof.Proof.Gen.KernelI.Frame
public import proofs.«01_k».proof.Proof.Gen.KernelIIdeal.Frame
public import proofs.«01_k».proof.Proof.Gen.KernelIIdeal.Value
public import proofs.«01_k».proof.Proof.Gen.ReferenceIIdeal.Run

@[expose] public section

set_option maxRecDepth 16384

noncomputable section

namespace Cert.InProj

open Idealize.ShloMosaic Idealize.SL.Sem

/-- The kernel runs, keeps its arguments and ends at rest. -/
theorem frame_p : Cert.quiescent_KernelI := fun m ρ _ => Cert.KernelI.Gen.frame m ρ

/-- So does the idealized kernel. -/
theorem frame_pi : Cert.quiescent_KernelIIdeal := fun m ρ _ => Cert.KernelIIdeal.Gen.frame m ρ

/-- So does it under the precondition. -/
theorem frame_pi_pre : Cert.quiescent_KernelIIdeal_pre_finite_i := fun m ρ _ => Cert.KernelIIdeal.Gen.frame m ρ

/-- The reference runs, keeps its arguments and ends at rest. -/
theorem frame_ri : Cert.quiescent_ReferenceIIdeal := fun m ρ _ =>
  (θ_run Cert.ReferenceIIdeal.defs _ _).mono (fun r h => ⟨fun c => (h c).2.2.2.2.2.2.2.2.2,
      Idealize.ShloMosaic.sem_eq_zero_of_no_sems (by decide) r.2⟩)
    (Cert.ReferenceIIdeal.Value.run (F := Ideal) m ρ)

/-- So does it under the precondition. -/
theorem frame_ri_pre : Cert.quiescent_ReferenceIIdeal_pre_finite_i := fun m ρ _ => frame_ri m ρ trivial

/-- No constant is renamed. -/
theorem preserves : Cert.preserves_KernelI_KernelIIdeal := trivial

/-- The kernel's nine results are the reference's. -/
theorem algebraic : Cert.algebraic_KernelIIdeal_ReferenceIIdeal_pre_finite_i := by
  intro m ρ m' ρ' hpre hagree
  have hp : ∀ c b n i, ∃ y : ℝ, ((args m c).row b n).p i = y := fun c => row_real _ _ _ _ _ _ _ _ _ _ (hpre c)
  refine ⟨fun c => (args m c).qa, fun c => (args m c).ka, fun c => (args m c).va, fun c => (args m c).qb, fun c => (args m c).kb, fun c => (args m c).vb, fun c => (args m c).qc, fun c => (args m c).kc, fun c => (args m c).vc, ?_, ?_⟩
  · exact (θ_run Cert.KernelIIdeal.defs _ _).mono
      (fun _ h c => ⟨(h c).1.trans (final_qa m c), (h c).2.1.trans (final_ka m c), (h c).2.2.1.trans (final_va m c), (h c).2.2.2.1.trans (final_qb m c), (h c).2.2.2.2.1.trans (final_kb m c), (h c).2.2.2.2.2.1.trans (final_vb m c), (h c).2.2.2.2.2.2.1.trans (final_qc m c (hp c)), (h c).2.2.2.2.2.2.2.1.trans (final_kc m c (hp c)), (h c).2.2.2.2.2.2.2.2.1.trans (final_vc m c), (h c).2.2.2.2.2.2.2.2.2⟩)
      (Cert.KernelIIdeal.Value.run_blocks m ρ)
  have e : ∀ c, args m c = pack (m' ((c.tc : Thread Cert.ReferenceIIdeal.nD Cert.ReferenceIIdeal.τ).loc Cert.ReferenceIIdeal.main_arg0))
      (m' ((c.tc : Thread Cert.ReferenceIIdeal.nD Cert.ReferenceIIdeal.τ).loc Cert.ReferenceIIdeal.main_arg1))
      (m' ((c.tc : Thread Cert.ReferenceIIdeal.nD Cert.ReferenceIIdeal.τ).loc Cert.ReferenceIIdeal.main_arg2))
      (m' ((c.tc : Thread Cert.ReferenceIIdeal.nD Cert.ReferenceIIdeal.τ).loc Cert.ReferenceIIdeal.main_arg3))
      (m' ((c.tc : Thread Cert.ReferenceIIdeal.nD Cert.ReferenceIIdeal.τ).loc Cert.ReferenceIIdeal.main_arg4))
      (m' ((c.tc : Thread Cert.ReferenceIIdeal.nD Cert.ReferenceIIdeal.τ).loc Cert.ReferenceIIdeal.main_arg5))
      (m' ((c.tc : Thread Cert.ReferenceIIdeal.nD Cert.ReferenceIIdeal.τ).loc Cert.ReferenceIIdeal.main_arg6))
      (m' ((c.tc : Thread Cert.ReferenceIIdeal.nD Cert.ReferenceIIdeal.τ).loc Cert.ReferenceIIdeal.main_arg7))
      (m' ((c.tc : Thread Cert.ReferenceIIdeal.nD Cert.ReferenceIIdeal.τ).loc Cert.ReferenceIIdeal.main_arg8))
      (m' ((c.tc : Thread Cert.ReferenceIIdeal.nD Cert.ReferenceIIdeal.τ).loc Cert.ReferenceIIdeal.main_arg9)) := by
    intro c
    obtain ⟨e0, e1, e2, e3, e4, e5, e6, e7, e8, e9⟩ := hagree c
    rw [e0, e1, e2, e3, e4, e5, e6, e7, e8, e9]
    rfl
  refine (θ_run Cert.ReferenceIIdeal.defs _ _).mono (fun _ h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2.1.trans ?_, (h c).2.2.2.2.2.2.2.2.2⟩)
    (Cert.ReferenceIIdeal.Value.run (F := Ideal) m' ρ')
  · dsimp only
    rw [e c]
    exact (Cert.ReferenceIIdeal.Value.val7_main_v374 _).symm.trans (ref_qa_eq _)
  · dsimp only
    rw [e c]
    exact (Cert.ReferenceIIdeal.Value.val7_main_v376 _).symm.trans (ref_ka_eq _)
  · dsimp only
    rw [e c]
    exact (Cert.ReferenceIIdeal.Value.val7_main_v379 _).symm.trans (ref_va_eq _)
  · dsimp only
    rw [e c]
    exact (Cert.ReferenceIIdeal.Value.val7_main_v382 _).symm.trans (ref_qb_eq _)
  · dsimp only
    rw [e c]
    exact (Cert.ReferenceIIdeal.Value.val7_main_v385 _).symm.trans (ref_kb_eq _)
  · dsimp only
    rw [e c]
    exact (Cert.ReferenceIIdeal.Value.val7_main_v388 _).symm.trans (ref_vb_eq _)
  · dsimp only
    rw [e c]
    exact (Cert.ReferenceIIdeal.Value.val7_main_v391 _).symm.trans (ref_qc_eq _)
  · dsimp only
    rw [e c]
    exact (Cert.ReferenceIIdeal.Value.val7_main_v393 _).symm.trans (ref_kc_eq _)
  · dsimp only
    rw [e c]
    exact (Cert.ReferenceIIdeal.Value.val7_main_v396 _).symm.trans (ref_vc_eq _)

end Cert.InProj

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelB
public import proofs.«01_k».proof.Proof.Gen.KernelB.Skeleton
public import proofs.«01_k».proof.Proof.Gen.KernelB.Launch
public import proofs.«01_k».proof.Proof.Gen.KernelB.Points
public import proofs.«01_k».proof.Proof.Gen.KernelB.Frame
public import proofs.«01_k».proof.Proof.Gen.KernelBIdeal
public import proofs.«01_k».proof.Proof.Gen.KernelBIdeal.Skeleton
public import proofs.«01_k».proof.Proof.Gen.KernelBIdeal.Launch
public import proofs.«01_k».proof.Proof.Gen.KernelBIdeal.Points
public import proofs.«01_k».proof.Proof.Gen.KernelBIdeal.Frame
public import proofs.«01_k».proof.Proof.Gen.ReferenceBIdeal
public import proofs.«01_k».proof.Proof.Gen.KernelA
public import proofs.«01_k».proof.Proof.Gen.KernelA.Skeleton
public import proofs.«01_k».proof.Proof.Gen.KernelA.Launch
public import proofs.«01_k».proof.Proof.Gen.KernelA.Points
public import proofs.«01_k».proof.Proof.Gen.KernelA.Frame
public import proofs.«01_k».proof.Proof.Gen.KernelAIdeal
public import proofs.«01_k».proof.Proof.Gen.KernelAIdeal.Skeleton
public import proofs.«01_k».proof.Proof.Gen.KernelAIdeal.Launch
public import proofs.«01_k».proof.Proof.Gen.KernelAIdeal.Points
public import proofs.«01_k».proof.Proof.Gen.KernelAIdeal.Frame
public import proofs.«01_k».proof.Proof.Gen.ReferenceAIdeal
public import proofs.«01_k».proof.Proof.Gen.KernelM
public import proofs.«01_k».proof.Proof.Gen.KernelM.Skeleton
public import proofs.«01_k».proof.Proof.Gen.KernelM.Launch
public import proofs.«01_k».proof.Proof.Gen.KernelM.Points
public import proofs.«01_k».proof.Proof.Gen.KernelM.Frame
public import proofs.«01_k».proof.Proof.Gen.KernelMIdeal
public import proofs.«01_k».proof.Proof.Gen.KernelMIdeal.Skeleton
public import proofs.«01_k».proof.Proof.Gen.KernelMIdeal.Launch
public import proofs.«01_k».proof.Proof.Gen.KernelMIdeal.Points
public import proofs.«01_k».proof.Proof.Gen.KernelMIdeal.Frame
public import proofs.«01_k».proof.Proof.Gen.ReferenceMIdeal
public import proofs.«01_k».proof.Proof.Gen.Pre_finite_c
public import proofs.«01_k».proof.Proof.Gen.Pre_finite_b
public import proofs.«01_k».proof.Proof.Gen.KernelIdeal.Value
public import proofs.«01_k».proof.Proof.Gen.ReferenceIdeal.Run
public import proofs.«01_k».proof.Proof.Gen.KernelAIdeal.Value
public import proofs.«01_k».proof.Proof.Gen.ReferenceAIdeal.Run
public import proofs.«01_k».proof.Proof.Gen.KernelBIdeal.Value
public import proofs.«01_k».proof.Proof.Gen.ReferenceBIdeal.Run
public import proofs.«01_k».proof.Proof.Gen.KernelMIdeal.Value
public import proofs.«01_k».proof.Proof.Gen.ReferenceMIdeal.Run
public import proofs.«01_k».proof.Proof.Gen.KernelI
public import proofs.«01_k».proof.Proof.Gen.KernelI.Skeleton
public import proofs.«01_k».proof.Proof.Gen.KernelI.Launch
public import proofs.«01_k».proof.Proof.Gen.KernelI.Points
public import proofs.«01_k».proof.Proof.Gen.KernelI.Frame
public import proofs.«01_k».proof.Proof.Gen.KernelIIdeal
public import proofs.«01_k».proof.Proof.Gen.KernelIIdeal.Skeleton
public import proofs.«01_k».proof.Proof.Gen.KernelIIdeal.Launch
public import proofs.«01_k».proof.Proof.Gen.KernelIIdeal.Points
public import proofs.«01_k».proof.Proof.Gen.KernelIIdeal.Frame
public import proofs.«01_k».proof.Proof.Gen.ReferenceIIdeal
public import proofs.«01_k».proof.Proof.Gen.Pre_finite_i
public import proofs.«01_k».proof.Proof.Gen.KernelIIdeal.Value
public import proofs.«01_k».proof.Proof.Gen.ReferenceIIdeal.Run
public import proofs.«01_k».proof.Proof.AttnC.Claims
public import proofs.«01_k».proof.Proof.AttnB.Claims
public import proofs.«01_k».proof.Proof.AttnA.Claims
public import proofs.«01_k».proof.Proof.Merge.Claims
public import proofs.«01_k».proof.Proof.InProj.Claims
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim := ⟨Cert.Kernel.Gen.facts, Cert.KernelIdeal.Gen.facts, Cert.ReferenceIdeal.Gen.facts, Cert.KernelB.Gen.facts, Cert.KernelBIdeal.Gen.facts, Cert.ReferenceBIdeal.Gen.facts, Cert.KernelA.Gen.facts, Cert.KernelAIdeal.Gen.facts, Cert.ReferenceAIdeal.Gen.facts, Cert.KernelM.Gen.facts, Cert.KernelMIdeal.Gen.facts, Cert.ReferenceMIdeal.Gen.facts, Cert.KernelI.Gen.facts, Cert.KernelIIdeal.Gen.facts, Cert.ReferenceIIdeal.Gen.facts, Cert.Pre_finite_c.Gen.facts, Cert.Pre_finite_b.Gen.facts, Cert.Pre_finite_i.Gen.facts,
  AttnC.frame_p, AttnC.frame_pi, AttnC.frame_pi_pre, AttnC.frame_ri, AttnC.frame_ri_pre, AttnB.frame_p, AttnB.frame_pi, AttnB.frame_pi_pre, AttnB.frame_ri, AttnB.frame_ri_pre, AttnA.frame_p, AttnA.frame_pi, AttnA.frame_ri,
  Merge.frame_p, Merge.frame_pi, Merge.frame_ri,
  InProj.frame_p, InProj.frame_pi, InProj.frame_pi_pre, InProj.frame_ri, InProj.frame_ri_pre,
  AttnC.preserves, AttnC.algebraic, AttnB.preserves, AttnB.algebraic, AttnA.preserves,
  Merge.preserves, Merge.algebraic, InProj.preserves, InProj.algebraic⟩

end Cert.Proof

end
